-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "dead" .f32 0xC2F00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v13) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10)) (v1 : (c : Dev Cert.Kernel5Ideal.nD) → Buf (Elt Ideal) ((c.tc : Thread Cert.Kernel5Ideal.nD Cert.Kernel5Ideal.τ).loc Cert.Kernel5Ideal.main_v11_0)) (v2 : (c : Dev Cert.Kernel5Ideal.nD) → Buf (Elt Ideal) ((c.tc : Thread Cert.Kernel5Ideal.nD Cert.Kernel5Ideal.τ).loc Cert.Kernel5Ideal.main_v11_1)) (v3 : (c : Dev Cert.Kernel5Ideal.nD) → Buf (Elt Ideal) ((c.tc : Thread Cert.Kernel5Ideal.nD Cert.Kernel5Ideal.τ).loc Cert.Kernel5Ideal.main_v12_0)) (v4 : (c : Dev Cert.Kernel5Ideal.nD) → Buf (Elt Ideal) ((c.tc : Thread Cert.Kernel5Ideal.nD Cert.Kernel5Ideal.τ).loc Cert.Kernel5Ideal.main_v12_1)) (v5 : (c : Dev Cert.Kernel5Ideal.nD) → Buf (Elt Ideal) ((c.tc : Thread Cert.Kernel5Ideal.nD Cert.Kernel5Ideal.τ).loc Cert.Kernel5Ideal.main_v13)) (v6 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_v11_0) = v1 c
          ∧ r.2.mem ((c.tc : Thread Cert.Kernel5Ideal.nD Cert.Kernel5Ideal.τ).loc Cert.Kernel5Ideal.main_v11_1) = v2 c
          ∧ r.2.mem ((c.tc : Thread Cert.Kernel5Ideal.nD Cert.Kernel5Ideal.τ).loc Cert.Kernel5Ideal.main_v12_0) = v3 c
          ∧ r.2.mem ((c.tc : Thread Cert.Kernel5Ideal.nD Cert.Kernel5Ideal.τ).loc Cert.Kernel5Ideal.main_v12_1) = v4 c
          ∧ r.2.mem ((c.tc : Thread Cert.Kernel5Ideal.nD Cert.Kernel5Ideal.τ).loc Cert.Kernel5Ideal.main_v13) = v5 c
          ∧ r.2.mem ((c.tc : Thread Cert.Kernel5Ideal.nD Cert.Kernel5Ideal.τ).loc Cert.Kernel5Ideal.main_v14) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_v25) = v4 c
          ∧ r.2.mem ((c.tc : Thread Cert.Reference5Ideal.nD Cert.Reference5Ideal.τ).loc Cert.Reference5Ideal.main_v26) = v5 c
          ∧ r.2.mem ((c.tc : Thread Cert.Reference5Ideal.nD Cert.Reference5Ideal.τ).loc Cert.Reference5Ideal.main_v27) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v6_0)) (v3 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v6_0) = v2 c
          ∧ r.2.mem ((c.tc : Thread Cert.Kernel6Ideal.nD Cert.Kernel6Ideal.τ).loc Cert.Kernel6Ideal.main_v6_1) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_v17) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16896x2048 : Shape := ⟨2, ![16896, 2048]⟩
abbrev S16x128 : Shape := ⟨2, ![16, 128]⟩
abbrev S8x2x128 : Shape := ⟨3, ![8, 2, 128]⟩
abbrev S512x256 : Shape := ⟨2, ![512, 256]⟩
abbrev S16896x256 : Shape := ⟨2, ![16896, 256]⟩
abbrev S1x2x128 : Shape := ⟨3, ![1, 2, 128]⟩
abbrev S256x256 : Shape := ⟨2, ![256, 256]⟩
abbrev S512x128 : Shape := ⟨2, ![512, 128]⟩
abbrev S512x1 : Shape := ⟨2, ![512, 1]⟩
abbrev S256x128 : Shape := ⟨2, ![256, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S1x1x128 : Shape := ⟨3, ![1, 1, 128]⟩
abbrev S1x128 : Shape := ⟨2, ![1, 128]⟩

abbrev nBuf : Space → Nat
  | .hbm => 6
  | .vmem => 11
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S16896x2048, .bf16⟩
  | .hbm, ⟨3, _⟩ => ⟨S16x128, .f32⟩
  | .hbm, ⟨4, _⟩ => ⟨S8x2x128, .f32⟩
  | .hbm, ⟨5, _⟩ => ⟨S16896x2048, .bf16⟩
  | .local _ .vmem, ⟨0, _⟩ => ⟨S512x256, .bf16⟩
  | .local _ .vmem, ⟨1, _⟩ => ⟨S512x256, .bf16⟩
  | .local _ .vmem, ⟨2, _⟩ => ⟨S16896x256, .bf16⟩
  | .local _ .vmem, ⟨3, _⟩ => ⟨S16896x256, .bf16⟩
  | .local _ .vmem, ⟨4, _⟩ => ⟨S16896x256, .bf16⟩
  | .local _ .vmem, ⟨5, _⟩ => ⟨S16896x256, .bf16⟩
  | .local _ .vmem, ⟨6, _⟩ => ⟨S1x2x128, .f32⟩
  | .local _ .vmem, ⟨7, _⟩ => ⟨S1x2x128, .f32⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 33], ![false, false]⟩

def k0_mult1 (i : grid0.Coords) : BitVec 32 :=
  let arg1 : BitVec 32 := BitVec.ofNat 32 (i 1).val
  let c2_i32 : BitVec 32 := 2#32
  let v7 : BitVec 32 := Scalar.muli arg1 c2_i32
  let c1_i32 : BitVec 32 := 1#32
  let v14 : BitVec 32 := Scalar.addi v7 c1_i32
  let c256_i32_5 : BitVec 32 := 256#32
  let v18 : BitVec 32 := Scalar.muli v14 c256_i32_5
  v18
def k0_off1 (i : grid0.Coords) (c1_i32 : BitVec 32) : Fin 2 → Nat :=
  let arg1 : BitVec 32 := BitVec.ofNat 32 (i 1).val
  let c2_i32 : BitVec 32 := 2#32
  let v7 : BitVec 32 := Scalar.muli arg1 c2_i32
  let v14 : BitVec 32 := Scalar.addi v7 c1_i32
  let c256_i32_5 : BitVec 32 := 256#32
  let v18 : BitVec 32 := Scalar.muli v14 c256_i32_5
  let v19 : BitVec 32 := v18
  let v20 : Index := Scalar.indexCast v19
  let c0_6 : Index := 0#32
  ![v20.toNat, 0]
def k0_off2 (i : grid0.Coords) (c1_i32 : BitVec 32) : Fin 2 → Nat :=
  let arg1 : BitVec 32 := BitVec.ofNat 32 (i 1).val
  let c2_i32 : BitVec 32 := 2#32
  let v7 : BitVec 32 := Scalar.muli arg1 c2_i32
  let v14 : BitVec 32 := Scalar.addi v7 c1_i32
  let c256_i32_5 : BitVec 32 := 256#32
  let v18 : BitVec 32 := Scalar.muli v14 c256_i32_5
  let v19 : BitVec 32 := v18
  let v61 : Index := Scalar.indexCast v19
  let c128_21 : Index := 128#32
  ![v61.toNat, 128]
def k0_mult2 (i : grid0.Coords) : BitVec 32 :=
  let arg1 : BitVec 32 := BitVec.ofNat 32 (i 1).val
  let c2_i32 : BitVec 32 := 2#32
  let v7 : BitVec 32 := Scalar.muli arg1 c2_i32
  let c0_i32 : BitVec 32 := 0#32
  let v102 : BitVec 32 := Scalar.addi v7 c0_i32
  let c256_i32_37 : BitVec 32 := 256#32
  let v106 : BitVec 32 := Scalar.muli v102 c256_i32_37
  v106
def k0_mult3 (i : grid0.Coords) (arg8 : BitVec 32) : BitVec 32 :=
  let arg1 : BitVec 32 := BitVec.ofNat 32 (i 1).val
  let c2_i32 : BitVec 32 := 2#32
  let v7 : BitVec 32 := Scalar.muli arg1 c2_i32
  let c1_i32_94 : BitVec 32 := 1#32
  let v236 : BitVec 32 := Scalar.subi v7 c1_i32_94
  let v237 : BitVec 32 := Scalar.subi v236 arg8
  let c256_i32_95 : BitVec 32 := 256#32
  let v238 : BitVec 32 := Scalar.muli v237 c256_i32_95
  v238

def k0_off3 (i : grid0.Coords) (arg8 : BitVec 32) : Fin 2 → Nat :=
  let arg1 : BitVec 32 := BitVec.ofNat 32 (i 1).val
  let c2_i32 : BitVec 32 := 2#32
  let v7 : BitVec 32 := Scalar.muli arg1 c2_i32
  let c1_i32_94 : BitVec 32 := 1#32
  let v236 : BitVec 32 := Scalar.subi v7 c1_i32_94
  let v237 : BitVec 32 := Scalar.subi v236 arg8
  let c256_i32_95 : BitVec 32 := 256#32
  let v238 : BitVec 32 := Scalar.muli v237 c256_i32_95
  let v239 : BitVec 32 := v238
  let v240 : Index := Scalar.indexCast v239
  let c0_96 : Index := 0#32
  ![v240.toNat, 0]
def k0_off4 (i : grid0.Coords) (arg8 : BitVec 32) : Fin 2 → Nat :=
  let arg1 : BitVec 32 := BitVec.ofNat 32 (i 1).val
  let c2_i32 : BitVec 32 := 2#32
  let v7 : BitVec 32 := Scalar.muli arg1 c2_i32
  let c1_i32_94 : BitVec 32 := 1#32
  let v236 : BitVec 32 := Scalar.subi v7 c1_i32_94
  let v237 : BitVec 32 := Scalar.subi v236 arg8
  let c256_i32_95 : BitVec 32 := 256#32
  let v238 : BitVec 32 := Scalar.muli v237 c256_i32_95
  let v239 : BitVec 32 := v238
  let v281 : Index := Scalar.indexCast v239
  let c128_111 : Index := 128#32
  ![v281.toNat, 128]

def k0_chk1 (i : grid0.Coords) (arg8 : BitVec 32) : Prop :=
  (256 ∣ (k0_mult3 i arg8).toNat) ∧
  (∀ a, (k0_off3 i arg8) a + S256x128.size a ≤ S16896x256.size a) ∧
  (∀ a, (k0_off4 i arg8) a + S256x128.size a ≤ S16896x256.size a)
theorem k0_mult3_dvd : ∀ (i : grid0.Coords) (arg8 : BitVec 32) (k0_hw1 : k0_chk1 i arg8), 256 ∣ (k0_mult3 i arg8).toNat := fun i arg8 k0_hw1 => k0_hw1.1
theorem k0_off3_inb : ∀ (i : grid0.Coords) (arg8 : BitVec 32) (k0_hw1 : k0_chk1 i arg8), ∀ a, (k0_off3 i arg8) a + S256x128.size a ≤ S16896x256.size a := fun i arg8 k0_hw1 => k0_hw1.2.1
theorem k0_off4_inb : ∀ (i : grid0.Coords) (arg8 : BitVec 32) (k0_hw1 : k0_chk1 i arg8), ∀ a, (k0_off4 i arg8) a + S256x128.size a ≤ S16896x256.size a := fun i arg8 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16896x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16896x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "dead" => some ⊥
  | _ => none
-- ==== ReferenceIdeal.lean ====
abbrev S16896x2048 : Shape := ⟨2, ![16896, 2048]⟩
abbrev S16x128 : Shape := ⟨2, ![16, 128]⟩
abbrev S16896x16x128 : Shape := ⟨3, ![16896, 16, 128]⟩
abbrev S16x16896x16896 : Shape := ⟨3, ![16, 16896, 16896]⟩
abbrev S_ : Shape := ⟨0, ![]⟩
abbrev S16896 : Shape := ⟨1, ![16896]⟩
abbrev S1x16896 : Shape := ⟨2, ![1, 16896]⟩
abbrev S16896x1 : Shape := ⟨2, ![16896, 1]⟩
abbrev S16896x16896 : Shape := ⟨2, ![16896, 16896]⟩
abbrev S1x16896x16896 : Shape := ⟨3, ![1, 16896, 16896]⟩
abbrev S16x128x16896 : Shape := ⟨3, ![16, 128, 16896]⟩
abbrev S16896x16 : Shape := ⟨2, ![16896, 16]⟩
abbrev S16896x16x1 : Shape := ⟨3, ![16896, 16, 1]⟩
abbrev S1x16x128 : Shape := ⟨3, ![1, 16, 128]⟩

abbrev nBuf : Space → Nat
  | .hbm => 78
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S16896x2048, .bf16⟩
  | .hbm, ⟨3, _⟩ => ⟨S16x128, .f32⟩
  | .hbm, ⟨4, _⟩ => ⟨S16896x2048, .f32⟩
  | .hbm, ⟨5, _⟩ => ⟨S16896x16x128, .f32⟩
  | .hbm, ⟨6, _⟩ => ⟨S16896x2048, .f32⟩
  | .hbm, ⟨7, _⟩ => ⟨S16896x16x128, .f32⟩
  | .hbm, ⟨8, _⟩ => ⟨S16896x2048, .f32⟩
  | .hbm, ⟨9, _⟩ => ⟨S16896x16x128, .f32⟩
  | .hbm, ⟨10, _⟩ => ⟨S16x16896x16896, .f32⟩
  | .hbm, ⟨11, _⟩ => ⟨S_, .f32⟩
  | .hbm, ⟨12, _⟩ => ⟨S16x16896x16896, .f32⟩
  | .hbm, ⟨13, _⟩ => ⟨S16x16896x16896, .f32⟩
  | .hbm, ⟨14, _⟩ => ⟨S16896, .i32⟩
  | .hbm, ⟨15, _⟩ => ⟨S1x16896, .i32⟩
  | .hbm, ⟨16, _⟩ => ⟨S16896x1, .i32⟩
  | .hbm, ⟨17, _⟩ => ⟨S16896x16896, .i32⟩
  | .hbm, ⟨18, _⟩ => ⟨S16896x16896, .i32⟩
  | .hbm, ⟨19, _⟩ => ⟨S16896x16896, .i1⟩
  | .hbm, ⟨20, _⟩ => ⟨S1x16896x16896, .i1⟩
  | .hbm, ⟨21, _⟩ => ⟨S16x16896x16896, .f32⟩
  | .hbm, ⟨22, _⟩ => ⟨S16x16896x16896, .f32⟩
  | .hbm, ⟨23, _⟩ => ⟨S_, .f32⟩
  | .hbm, ⟨24, _⟩ => ⟨S16x16896x16896, .f32⟩
  | .hbm, ⟨25, _⟩ => ⟨S16x16896x16896, .f32⟩
  | .hbm, ⟨26, _⟩ => ⟨S16x16896x16896, .f32⟩
  | .hbm, ⟨27, _⟩ => ⟨S16x16896x16896, .f32⟩
  | .hbm, ⟨28, _⟩ => ⟨S16x16896x16896, .i1⟩
  | .hbm, ⟨29, _⟩ => ⟨S16x16896x16896, .f32⟩
  | .hbm, ⟨30, _⟩ => ⟨S16x16896x16896, .f32⟩
  | .hbm, ⟨31, _⟩ => ⟨S16x16896x16896, .f32⟩
  | .hbm, ⟨32, _⟩ => ⟨S16x16896x16896, .f32⟩
  | .hbm, ⟨33, _⟩ => ⟨S16x16896x16896, .f32⟩
  | .hbm, ⟨34, _⟩ => ⟨S16x16896x16896, .f32⟩
  | .hbm, ⟨35, _⟩ => ⟨S16x16896x16896, .f32⟩
  | .hbm, ⟨36, _⟩ => ⟨S16x16896x16896, .f32⟩
  | .hbm, ⟨37, _⟩ => ⟨S16x16896x16896, .f32⟩
  | .hbm, ⟨38, _⟩ => ⟨S_, .f32⟩
  | .hbm, ⟨39, _⟩ => ⟨S_, .f32⟩
  | .hbm, ⟨40, _⟩ => ⟨S16x16896x16896, .i1⟩
  | .hbm, ⟨41, _⟩ => ⟨S16x16896x16896, .f32⟩
  | .hbm, ⟨42, _⟩ => ⟨S16x16896x16896, .f32⟩
  | .hbm, ⟨43, _⟩ => ⟨S16896x1, .i32⟩
  | .hbm, ⟨44, _⟩ => ⟨S1x16896, .i32⟩
  | .hbm, ⟨45, _⟩ => ⟨S16896x16896, .i32⟩
  | .hbm, ⟨46, _⟩ => ⟨S16896x16896, .i32⟩
  | .hbm, ⟨47, _⟩ => ⟨S16896x16896, .i1⟩
  | .hbm, ⟨48, _⟩ => ⟨S16896x16896, .f32⟩
  | .hbm, ⟨49, _⟩ => ⟨S16x16896x16896, .f32⟩
  | .hbm, ⟨50, _⟩ => ⟨S16x16896x16896, .f32⟩
  | .hbm, ⟨51, _⟩ => ⟨S16x16896x16896, .f32⟩
  | .hbm, ⟨52, _⟩ => ⟨S16x16896x16896, .f32⟩
  | .hbm, ⟨53, _⟩ => ⟨S_, .f32⟩
  | .hbm, ⟨54, _⟩ => ⟨S_, .f32⟩
  | .hbm, ⟨55, _⟩ => ⟨S16x16896x16896, .i1⟩
  | .hbm, ⟨56, _⟩ => ⟨S16x16896x16896, .f32⟩
  | .hbm, ⟨57, _⟩ => ⟨S16x16896x16896, .f32⟩
  | .hbm, ⟨58, _⟩ => ⟨S16x128x16896, .f32⟩
  | .hbm, ⟨59, _⟩ => ⟨S16896x16x128, .f32⟩
  | .hbm, ⟨60, _⟩ => ⟨S16896x16x128, .f32⟩
  | .hbm, ⟨61, _⟩ => ⟨S_, .f32⟩
  | .hbm, ⟨62, _⟩ => ⟨S16896x16, .f32⟩
  | .hbm, ⟨63, _⟩ => ⟨S16896x16x1, .f32⟩
  | .hbm, ⟨64, _⟩ => ⟨S_, .f32⟩
  | .hbm, ⟨65, _⟩ => ⟨S16896x16x1, .f32⟩
  | .hbm, ⟨66, _⟩ => ⟨S16896x16x1, .f32⟩
  | .hbm, ⟨67, _⟩ => ⟨S_, .f32⟩
  | .hbm, ⟨68, _⟩ => ⟨S16896x16x1, .f32⟩
  | .hbm, ⟨69, _⟩ => ⟨S16896x16x1, .f32⟩
  | .hbm, ⟨70, _⟩ => ⟨S16896x16x1, .f32⟩
  | .hbm, ⟨71, _⟩ => ⟨S16896x16x128, .f32⟩
  | .hbm, ⟨72, _⟩ => ⟨S16896x16x128, .f32⟩
  | .hbm, ⟨73, _⟩ => ⟨S1x16x128, .f32⟩
  | .hbm, ⟨74, _⟩ => ⟨S16896x16x128, .f32⟩
  | .hbm, ⟨75, _⟩ => ⟨S16896x16x128, .f32⟩
  | .hbm, ⟨76, _⟩ => ⟨S16896x2048, .f32⟩
  | .hbm, ⟨77, _⟩ => ⟨S16896x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_2 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== Kernel2.lean ====
abbrev S16896x11008 : Shape := ⟨2, ![16896, 11008]⟩
abbrev S11008x4096 : Shape := ⟨2, ![11008, 4096]⟩
abbrev S16896x4096 : Shape := ⟨2, ![16896, 4096]⟩
abbrev S4096 : Shape := ⟨1, ![4096]⟩
abbrev S16x11008x256 : Shape := ⟨3, ![16, 11008, 256]⟩
abbrev S2752x256 : Shape := ⟨2, ![2752, 256]⟩
abbrev S1x2752x256 : Shape := ⟨3, ![1, 2752, 256]⟩
abbrev S768x11008 : Shape := ⟨2, ![768, 11008]⟩
abbrev S1x11008x256 : Shape := ⟨3, ![1, 11008, 256]⟩
abbrev S768x256 : Shape := ⟨2, ![768, 256]⟩
abbrev S11008x256 : Shape := ⟨2, ![11008, 256]⟩
abbrev S1x4096 : Shape := ⟨2, ![1, 4096]⟩
abbrev S16384x4096 : Shape := ⟨2, ![16384, 4096]⟩
abbrev S256x4096 : Shape := ⟨2, ![256, 4096]⟩
abbrev S16x4096 : Shape := ⟨2, ![16, 4096]⟩
abbrev S240x4096 : Shape := ⟨2, ![240, 4096]⟩
abbrev S256 : Shape := ⟨1, ![256]⟩
abbrev S256x1 : Shape := ⟨2, ![256, 1]⟩

abbrev nBuf : Space → Nat
  | .hbm => 8
  | .vmem => 19
  | .smem => 0
  | _ => 0

abbrev bufTy : (tb : Table) → Fin (tcTables nBuf tb) → BufTy
  | .hbm, ⟨0, _⟩ => ⟨S16896x11008, .bf16⟩
  | .hbm, ⟨1, _⟩ => ⟨S11008x4096, .f32⟩
  | .hbm, ⟨2, _⟩ => ⟨S16896x4096, .f32⟩
  | .hbm, ⟨3, _⟩ => ⟨S4096, .f32⟩
  | .hbm, ⟨4, _⟩ => ⟨S16x11008x256, .bf16⟩
  | .hbm, ⟨5, _⟩ => ⟨S16896x4096, .f32⟩
  | .hbm, ⟨6, _⟩ => ⟨S1x4096, .f32⟩
  | .hbm, ⟨7, _⟩ => ⟨S16384x4096, .f32⟩
  | .local _ .vmem, ⟨0, _⟩ => ⟨S2752x256, .f32⟩
  | .local _ .vmem, ⟨1, _⟩ => ⟨S2752x256, .f32⟩
  | .local _ .vmem, ⟨2, _⟩ => ⟨S1x2752x256, .bf16⟩
  | .local _ .vmem, ⟨3, _⟩ => ⟨S1x2752x256, .bf16⟩
  | .local _ .vmem, ⟨4, _⟩ => ⟨S768x11008, .bf16⟩
  | .local _ .vmem, ⟨5, _⟩ => ⟨S768x11008, .bf16⟩
  | .local _ .vmem, ⟨6, _⟩ => ⟨S1x11008x256, .bf16⟩
  | .local _ .vmem, ⟨7, _⟩ => ⟨S1x11008x256, .bf16⟩
  | .local _ .vmem, ⟨8, _⟩ => ⟨S768x256, .f32⟩
  | .local _ .vmem, ⟨9, _⟩ => ⟨S768x256, .f32⟩
  | .local _ .vmem, ⟨10, _⟩ => ⟨S768x256, .f32⟩
  | .local _ .vmem, ⟨11, _⟩ => ⟨S768x256, .f32⟩
  | .local _ .vmem, ⟨12, _⟩ => ⟨S256x4096, .f32⟩
  | .local _ .vmem, ⟨13, _⟩ => ⟨S256x4096, .f32⟩
  | .local _ .vmem, ⟨14, _⟩ => ⟨S16x4096, .f32⟩
  | .local _ .vmem, ⟨15, _⟩ => ⟨S16x4096, .f32⟩
  | .local _ .vmem, ⟨16, _⟩ => ⟨S1x4096, .f32⟩
  | .local _ .vmem, ⟨17, _⟩ => ⟨S256x4096, .f32⟩
  | .local _ .vmem, ⟨18, _⟩ => ⟨S256x4096, .f32⟩
  | _, _ => ⟨S16896x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2752x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2752x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![22, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S768x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x11008x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S768x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S768x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== Reference2Ideal.lean ====
abbrev S16896x11008 : Shape := ⟨2, ![16896, 11008]⟩
abbrev S11008x4096 : Shape := ⟨2, ![11008, 4096]⟩
abbrev S16896x4096 : Shape := ⟨2, ![16896, 4096]⟩
abbrev S4096 : Shape := ⟨1, ![4096]⟩
abbrev S16400x11008 : Shape := ⟨2, ![16400, 11008]⟩
abbrev S16400x4096 : Shape := ⟨2, ![16400, 4096]⟩
abbrev S_ : Shape := ⟨0, ![]⟩
abbrev S16400 : Shape := ⟨1, ![16400]⟩
abbrev S16400x1 : Shape := ⟨2, ![16400, 1]⟩
abbrev S1x4096 : Shape := ⟨2, ![1, 4096]⟩
abbrev S16384x4096 : Shape := ⟨2, ![16384, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16896x11008, .bf16⟩
  | .hbm, ⟨1, _⟩ => ⟨S11008x4096, .f32⟩
  | .hbm, ⟨2, _⟩ => ⟨S16896x4096, .f32⟩
  | .hbm, ⟨3, _⟩ => ⟨S4096, .f32⟩
  | .hbm, ⟨4, _⟩ => ⟨S16400x11008, .bf16⟩
  | .hbm, ⟨5, _⟩ => ⟨S16400x11008, .f32⟩
  | .hbm, ⟨6, _⟩ => ⟨S16400x4096, .f32⟩
  | .hbm, ⟨7, _⟩ => ⟨S16400x4096, .f32⟩
  | .hbm, ⟨8, _⟩ => ⟨S16400x4096, .f32⟩
  | .hbm, ⟨9, _⟩ => ⟨S16400x4096, .f32⟩
  | .hbm, ⟨10, _⟩ => ⟨S_, .f32⟩
  | .hbm, ⟨11, _⟩ => ⟨S16400, .f32⟩
  | .hbm, ⟨12, _⟩ => ⟨S16400x1, .f32⟩
  | .hbm, ⟨13, _⟩ => ⟨S_, .f32⟩
  | .hbm, ⟨14, _⟩ => ⟨S16400x1, .f32⟩
  | .hbm, ⟨15, _⟩ => ⟨S16400x1, .f32⟩
  | .hbm, ⟨16, _⟩ => ⟨S_, .f32⟩
  | .hbm, ⟨17, _⟩ => ⟨S16400x1, .f32⟩
  | .hbm, ⟨18, _⟩ => ⟨S16400x1, .f32⟩
  | .hbm, ⟨19, _⟩ => ⟨S16400x1, .f32⟩
  | .hbm, ⟨20, _⟩ => ⟨S16400x4096, .f32⟩
  | .hbm, ⟨21, _⟩ => ⟨S16400x4096, .f32⟩
  | .hbm, ⟨22, _⟩ => ⟨S1x4096, .f32⟩
  | .hbm, ⟨23, _⟩ => ⟨S16400x4096, .f32⟩
  | .hbm, ⟨24, _⟩ => ⟨S16400x4096, .f32⟩
  | .hbm, ⟨25, _⟩ => ⟨S16384x4096, .f32⟩
  | _, _ => ⟨S16896x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S16896x4096 : Shape := ⟨2, ![16896, 4096]⟩
abbrev S4096 : Shape := ⟨1, ![4096]⟩
abbrev S4096x22016 : Shape := ⟨2, ![4096, 22016]⟩
abbrev S3x22016 : Shape := ⟨2, ![3, 22016]⟩
abbrev S4096x11008 : Shape := ⟨2, ![4096, 11008]⟩
abbrev S128x11008 : Shape := ⟨2, ![128, 11008]⟩
abbrev S3x11008 : Shape := ⟨2, ![3, 11008]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S16896x11008 : Shape := ⟨2, ![16896, 11008]⟩
abbrev S11x8x11008 : Shape := ⟨3, ![11, 8, 11008]⟩
abbrev S1536x4096 : Shape := ⟨2, ![1536, 4096]⟩
abbrev S4096x512 : Shape := ⟨2, ![4096, 512]⟩
abbrev S3x512 : Shape := ⟨2, ![3, 512]⟩
abbrev S1536x512 : Shape := ⟨2, ![1536, 512]⟩
abbrev S1x8x512 : Shape := ⟨3, ![1, 8, 512]⟩
abbrev S22x8x512 : Shape := ⟨3, ![22, 8, 512]⟩
abbrev S1x512 : Shape := ⟨2, ![1, 512]⟩
abbrev S8x512 : Shape := ⟨2, ![8, 512]⟩
abbrev S768x4096 : Shape := ⟨2, ![768, 4096]⟩
abbrev S768x512 : Shape := ⟨2, ![768, 512]⟩
abbrev S776x512 : Shape := ⟨2, ![776, 512]⟩
abbrev S1x8x11008 : Shape := ⟨3, ![1, 8, 11008]⟩
abbrev S8x11008 : Shape := ⟨2, ![8, 11008]⟩
abbrev S8x22016 : Shape := ⟨2, ![8, 22016]⟩
abbrev S2x22016 : Shape := ⟨2, ![2, 22016]⟩
abbrev S1x2x22016 : Shape := ⟨3, ![1, 2, 22016]⟩

abbrev nBuf : Space → Nat
  | .hbm => 20
  | .vmem => 31
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S4096x22016, .f32⟩
  | .hbm, ⟨3, _⟩ => ⟨S3x22016, .f32⟩
  | .hbm, ⟨4, _⟩ => ⟨S4096x11008, .bf16⟩
  | .hbm, ⟨5, _⟩ => ⟨S4096x11008, .bf16⟩
  | .hbm, ⟨6, _⟩ => ⟨S3x11008, .f32⟩
  | .hbm, ⟨7, _⟩ => ⟨S3x11008, .f32⟩
  | .hbm, ⟨8, _⟩ => ⟨S1x4096, .f32⟩
  | .hbm, ⟨9, _⟩ => ⟨S16896x4096, .bf16⟩
  | .hbm, ⟨10, _⟩ => ⟨S16896x11008, .bf16⟩
  | .hbm, ⟨11, _⟩ => ⟨S11x8x11008, .f32⟩
  | .hbm, ⟨12, _⟩ => ⟨S11x8x11008, .f32⟩
  | .hbm, ⟨13, _⟩ => ⟨S1x8x11008, .f32⟩
  | .hbm, ⟨14, _⟩ => ⟨S8x11008, .f32⟩
  | .hbm, ⟨15, _⟩ => ⟨S1x8x11008, .f32⟩
  | .hbm, ⟨16, _⟩ => ⟨S8x11008, .f32⟩
  | .hbm, ⟨17, _⟩ => ⟨S8x22016, .f32⟩
  | .hbm, ⟨18, _⟩ => ⟨S2x22016, .f32⟩
  | .hbm, ⟨19, _⟩ => ⟨S1x2x22016, .f32⟩
  | .local _ .vmem, ⟨0, _⟩ => ⟨S128x11008, .f32⟩
  | .local _ .vmem, ⟨1, _⟩ => ⟨S128x11008, .f32⟩
  | .local _ .vmem, ⟨2, _⟩ => ⟨S128x11008, .bf16⟩
  | .local _ .vmem, ⟨3, _⟩ => ⟨S128x11008, .bf16⟩
  | .local _ .vmem, ⟨4, _⟩ => ⟨S128x11008, .f32⟩
  | .local _ .vmem, ⟨5, _⟩ => ⟨S128x11008, .f32⟩
  | .local _ .vmem, ⟨6, _⟩ => ⟨S128x11008, .bf16⟩
  | .local _ .vmem, ⟨7, _⟩ => ⟨S128x11008, .bf16⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S1536x4096, .bf16⟩
  | .local _ .vmem, ⟨14, _⟩ => ⟨S1536x4096, .bf16⟩
  | .local _ .vmem, ⟨15, _⟩ => ⟨S4096x512, .bf16⟩
  | .local _ .vmem, ⟨16, _⟩ => ⟨S4096x512, .bf16⟩
  | .local _ .vmem, ⟨17, _⟩ => ⟨S4096x512, .bf16⟩
  | .local _ .vmem, ⟨18, _⟩ => ⟨S4096x512, .bf16⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S3x512, .f32⟩
  | .local _ .vmem, ⟨23, _⟩ => ⟨S1536x512, .bf16⟩
  | .local _ .vmem, ⟨24, _⟩ => ⟨S1536x512, .bf16⟩
  | .local _ .vmem, ⟨25, _⟩ => ⟨S1x8x512, .f32⟩
  | .local _ .vmem, ⟨26, _⟩ => ⟨S1x8x512, .f32⟩
  | .local _ .vmem, ⟨27, _⟩ => ⟨S1x8x512, .f32⟩
  | .local _ .vmem, ⟨28, _⟩ => ⟨S1x8x512, .f32⟩
  | .local _ .vmem, ⟨29, _⟩ => ⟨S22x8x512, .f32⟩
  | .local _ .vmem, ⟨30, _⟩ => ⟨S22x8x512, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc3_stg7_0 : Ref sig .tc := ⟨.vmem, 27, rfl⟩
abbrev cc3_stg7_1 : Ref sig .tc := ⟨.vmem, 28, rfl⟩
abbrev cc3_scratch0 : Ref sig .tc := ⟨.vmem, 29, rfl⟩
abbrev cc3_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem1_1 : DmaSem sig := 16
abbrev cc3_sem2_0 : DmaSem sig := 17
abbrev cc3_sem2_1 : DmaSem sig := 18
abbrev cc3_sem3_0 : DmaSem sig := 19
abbrev cc3_sem3_1 : DmaSem sig := 20
abbrev cc3_sem4_0 : DmaSem sig := 21
abbrev cc3_sem4_1 : DmaSem sig := 22
abbrev cc3_sem5_0 : DmaSem sig := 23
abbrev cc3_sem5_1 : DmaSem sig := 24
abbrev cc3_sem6_0 : DmaSem sig := 25
abbrev cc3_sem6_1 : DmaSem sig := 26
abbrev cc3_sem7_0 : DmaSem sig := 27
abbrev cc3_sem7_1 : DmaSem sig := 28

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![32, 1], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x11008 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![66], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![11, 22], ![false, false]⟩

def k3_off1 (i : grid3.Coords) : Fin 3 → Nat :=
  let arg1 : BitVec 32 := BitVec.ofNat 32 (i 1).val
  let v17 : Index := Scalar.indexCast arg1
  let c0_11 : Index := 0#32
  let c0_12 : Index := 0#32
  ![v17.toNat, 0, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1536x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S3x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S3x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1536x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x8x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x8x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]
-- ==== Reference3Ideal.lean ====
abbrev S16896x4096 : Shape := ⟨2, ![16896, 4096]⟩
abbrev S4096 : Shape := ⟨1, ![4096]⟩
abbrev S4096x22016 : Shape := ⟨2, ![4096, 22016]⟩
abbrev S3x22016 : Shape := ⟨2, ![3, 22016]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S16896x22016 : Shape := ⟨2, ![16896, 22016]⟩
abbrev S2x22016 : Shape := ⟨2, ![2, 22016]⟩
abbrev S16898x22016 : Shape := ⟨2, ![16898, 22016]⟩
abbrev S1x22016 : Shape := ⟨2, ![1, 22016]⟩
abbrev S22016 : Shape := ⟨1, ![22016]⟩
abbrev S16896x11008 : Shape := ⟨2, ![16896, 11008]⟩
abbrev S1x2x22016 : Shape := ⟨3, ![1, 2, 22016]⟩

abbrev nBuf : Space → Nat
  | .hbm => 59
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S4096x22016, .f32⟩
  | .hbm, ⟨3, _⟩ => ⟨S3x22016, .f32⟩
  | .hbm, ⟨4, _⟩ => ⟨S16896x4096, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x4096, .f32⟩
  | .hbm, ⟨16, _⟩ => ⟨S16896x4096, .f32⟩
  | .hbm, ⟨17, _⟩ => ⟨S1x4096, .f32⟩
  | .hbm, ⟨18, _⟩ => ⟨S16896x4096, .f32⟩
  | .hbm, ⟨19, _⟩ => ⟨S16896x4096, .f32⟩
  | .hbm, ⟨20, _⟩ => ⟨S16896x22016, .f32⟩
  | .hbm, ⟨21, _⟩ => ⟨S_, .f32⟩
  | .hbm, ⟨22, _⟩ => ⟨S2x22016, .f32⟩
  | .hbm, ⟨23, _⟩ => ⟨S16898x22016, .f32⟩
  | .hbm, ⟨24, _⟩ => ⟨S16896x22016, .f32⟩
  | .hbm, ⟨25, _⟩ => ⟨S1x22016, .f32⟩
  | .hbm, ⟨26, _⟩ => ⟨S22016, .f32⟩
  | .hbm, ⟨27, _⟩ => ⟨S1x22016, .f32⟩
  | .hbm, ⟨28, _⟩ => ⟨S16896x22016, .f32⟩
  | .hbm, ⟨29, _⟩ => ⟨S16896x22016, .f32⟩
  | .hbm, ⟨30, _⟩ => ⟨S16896x22016, .f32⟩
  | .hbm, ⟨31, _⟩ => ⟨S1x22016, .f32⟩
  | .hbm, ⟨32, _⟩ => ⟨S22016, .f32⟩
  | .hbm, ⟨33, _⟩ => ⟨S1x22016, .f32⟩
  | .hbm, ⟨34, _⟩ => ⟨S16896x22016, .f32⟩
  | .hbm, ⟨35, _⟩ => ⟨S16896x22016, .f32⟩
  | .hbm, ⟨36, _⟩ => ⟨S16896x22016, .f32⟩
  | .hbm, ⟨37, _⟩ => ⟨S16896x22016, .f32⟩
  | .hbm, ⟨38, _⟩ => ⟨S1x22016, .f32⟩
  | .hbm, ⟨39, _⟩ => ⟨S22016, .f32⟩
  | .hbm, ⟨40, _⟩ => ⟨S1x22016, .f32⟩
  | .hbm, ⟨41, _⟩ => ⟨S16896x22016, .f32⟩
  | .hbm, ⟨42, _⟩ => ⟨S16896x22016, .f32⟩
  | .hbm, ⟨43, _⟩ => ⟨S16896x22016, .f32⟩
  | .hbm, ⟨44, _⟩ => ⟨S16896x11008, .f32⟩
  | .hbm, ⟨45, _⟩ => ⟨S16896x11008, .f32⟩
  | .hbm, ⟨46, _⟩ => ⟨S16896x11008, .f32⟩
  | .hbm, ⟨47, _⟩ => ⟨S16896x11008, .f32⟩
  | .hbm, ⟨48, _⟩ => ⟨S_, .f32⟩
  | .hbm, ⟨49, _⟩ => ⟨S16896x11008, .f32⟩
  | .hbm, ⟨50, _⟩ => ⟨S16896x11008, .f32⟩
  | .hbm, ⟨51, _⟩ => ⟨S_, .f32⟩
  | .hbm, ⟨52, _⟩ => ⟨S16896x11008, .f32⟩
  | .hbm, ⟨53, _⟩ => ⟨S16896x11008, .f32⟩
  | .hbm, ⟨54, _⟩ => ⟨S16896x11008, .f32⟩
  | .hbm, ⟨55, _⟩ => ⟨S16896x11008, .f32⟩
  | .hbm, ⟨56, _⟩ => ⟨S16896x11008, .bf16⟩
  | .hbm, ⟨57, _⟩ => ⟨S2x22016, .f32⟩
  | .hbm, ⟨58, _⟩ => ⟨S1x2x22016, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel4.lean ====
abbrev S1024x11008 : Shape := ⟨2, ![1024, 11008]⟩
abbrev S11008x4096 : Shape := ⟨2, ![11008, 4096]⟩
abbrev S1024x4096 : Shape := ⟨2, ![1024, 4096]⟩
abbrev S4096 : Shape := ⟨1, ![4096]⟩
abbrev S16x11008x256 : Shape := ⟨3, ![16, 11008, 256]⟩
abbrev S2752x256 : Shape := ⟨2, ![2752, 256]⟩
abbrev S1x2752x256 : Shape := ⟨3, ![1, 2752, 256]⟩
abbrev S512x11008 : Shape := ⟨2, ![512, 11008]⟩
abbrev S1x11008x256 : Shape := ⟨3, ![1, 11008, 256]⟩
abbrev S512x256 : Shape := ⟨2, ![512, 256]⟩
abbrev S11008x256 : Shape := ⟨2, ![11008, 256]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 17
  | .smem => 0
  | _ => 0

abbrev bufTy : (tb : Table) → Fin (tcTables nBuf tb) → BufTy
  | .hbm, ⟨0, _⟩ => ⟨S1024x11008, .bf16⟩
  | .hbm, ⟨1, _⟩ => ⟨S11008x4096, .f32⟩
  | .hbm, ⟨2, _⟩ => ⟨S1024x4096, .f32⟩
  | .hbm, ⟨3, _⟩ => ⟨S4096, .f32⟩
  | .hbm, ⟨4, _⟩ => ⟨S16x11008x256, .bf16⟩
  | .hbm, ⟨5, _⟩ => ⟨S1024x4096, .f32⟩
  | .hbm, ⟨6, _⟩ => ⟨S1x4096, .f32⟩
  | .hbm, ⟨7, _⟩ => ⟨S1024x4096, .f32⟩
  | .local _ .vmem, ⟨0, _⟩ => ⟨S2752x256, .f32⟩
  | .local _ .vmem, ⟨1, _⟩ => ⟨S2752x256, .f32⟩
  | .local _ .vmem, ⟨2, _⟩ => ⟨S1x2752x256, .bf16⟩
  | .local _ .vmem, ⟨3, _⟩ => ⟨S1x2752x256, .bf16⟩
  | .local _ .vmem, ⟨4, _⟩ => ⟨S512x11008, .bf16⟩
  | .local _ .vmem, ⟨5, _⟩ => ⟨S512x11008, .bf16⟩
  | .local _ .vmem, ⟨6, _⟩ => ⟨S1x11008x256, .bf16⟩
  | .local _ .vmem, ⟨7, _⟩ => ⟨S1x11008x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S256x4096, .f32⟩
  | .local _ .vmem, ⟨13, _⟩ => ⟨S256x4096, .f32⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | _, _ => ⟨S1024x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2752x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2752x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x11008x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== Reference4Ideal.lean ====
abbrev S1024x11008 : Shape := ⟨2, ![1024, 11008]⟩
abbrev S11008x4096 : Shape := ⟨2, ![11008, 4096]⟩
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S1024x11008, .bf16⟩
  | .hbm, ⟨1, _⟩ => ⟨S11008x4096, .f32⟩
  | .hbm, ⟨2, _⟩ => ⟨S1024x4096, .f32⟩
  | .hbm, ⟨3, _⟩ => ⟨S4096, .f32⟩
  | .hbm, ⟨4, _⟩ => ⟨S1024x11008, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x4096, .f32⟩
  | .hbm, ⟨19, _⟩ => ⟨S1024x4096, .f32⟩
  | .hbm, ⟨20, _⟩ => ⟨S1x4096, .f32⟩
  | .hbm, ⟨21, _⟩ => ⟨S1024x4096, .f32⟩
  | .hbm, ⟨22, _⟩ => ⟨S1024x4096, .f32⟩
  | _, _ => ⟨S1024x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S16384x4096 : Shape := ⟨2, ![16384, 4096]⟩
abbrev S16x4096 : Shape := ⟨2, ![16, 4096]⟩
abbrev S4096 : Shape := ⟨1, ![4096]⟩
abbrev S4096x12296 : Shape := ⟨2, ![4096, 12296]⟩
abbrev S12296x4096 : Shape := ⟨2, ![12296, 4096]⟩
abbrev S4096x2048 : Shape := ⟨2, ![4096, 2048]⟩
abbrev S1024x512 : Shape := ⟨2, ![1024, 512]⟩
abbrev S512x1024 : Shape := ⟨2, ![512, 1024]⟩
abbrev S4096x6144 : Shape := ⟨2, ![4096, 6144]⟩
abbrev S8x4096 : Shape := ⟨2, ![8, 4096]⟩
abbrev S_ : Shape := ⟨0, ![]⟩
abbrev S128x4096 : Shape := ⟨2, ![128, 4096]⟩
abbrev S1x4096 : Shape := ⟨2, ![1, 4096]⟩
abbrev S16896x4096 : Shape := ⟨2, ![16896, 4096]⟩
abbrev S256x4096 : Shape := ⟨2, ![256, 4096]⟩
abbrev S240x4096 : Shape := ⟨2, ![240, 4096]⟩
abbrev S256x1 : Shape := ⟨2, ![256, 1]⟩
abbrev S256 : Shape := ⟨1, ![256]⟩
abbrev S16896x2048 : Shape := ⟨2, ![16896, 2048]⟩
abbrev S1536x4096 : Shape := ⟨2, ![1536, 4096]⟩
abbrev S4096x512 : Shape := ⟨2, ![4096, 512]⟩
abbrev S1536x512 : Shape := ⟨2, ![1536, 512]⟩
abbrev S16400x2048 : Shape := ⟨2, ![16400, 2048]⟩
abbrev S16896x6144 : Shape := ⟨2, ![16896, 6144]⟩
abbrev S16896x128 : Shape := ⟨2, ![16896, 128]⟩
abbrev S1536x128 : Shape := ⟨2, ![1536, 128]⟩

abbrev nBuf : Space → Nat
  | .hbm => 23
  | .vmem => 57
  | .smem => 0
  | _ => 0

abbrev bufTy : (tb : Table) → Fin (tcTables nBuf tb) → BufTy
  | .hbm, ⟨0, _⟩ => ⟨S16384x4096, .f32⟩
  | .hbm, ⟨1, _⟩ => ⟨S16x4096, .f32⟩
  | .hbm, ⟨2, _⟩ => ⟨S4096, .f32⟩
  | .hbm, ⟨3, _⟩ => ⟨S4096x12296, .f32⟩
  | .hbm, ⟨4, _⟩ => ⟨S12296x4096, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x6144, .bf16⟩
  | .hbm, ⟨9, _⟩ => ⟨S8x4096, .f32⟩
  | .hbm, ⟨10, _⟩ => ⟨S_, .i32⟩
  | .hbm, ⟨11, _⟩ => ⟨S_, .f32⟩
  | .hbm, ⟨12, _⟩ => ⟨S128x4096, .f32⟩
  | .hbm, ⟨13, _⟩ => ⟨S128x4096, .bf16⟩
  | .hbm, ⟨14, _⟩ => ⟨S1x4096, .f32⟩
  | .hbm, ⟨15, _⟩ => ⟨S16896x4096, .bf16⟩
  | .hbm, ⟨16, _⟩ => ⟨S16896x2048, .bf16⟩
  | .hbm, ⟨17, _⟩ => ⟨S16400x2048, .f32⟩
  | .hbm, ⟨18, _⟩ => ⟨S16896x2048, .bf16⟩
  | .hbm, ⟨19, _⟩ => ⟨S16400x2048, .f32⟩
  | .hbm, ⟨20, _⟩ => ⟨S16896x2048, .bf16⟩
  | .hbm, ⟨21, _⟩ => ⟨S16896x6144, .f32⟩
  | .hbm, ⟨22, _⟩ => ⟨S16896x128, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | .local _ .vmem, ⟨10, _⟩ => ⟨S512x1024, .bf16⟩
  | .local _ .vmem, ⟨11, _⟩ => ⟨S512x1024, .bf16⟩
  | .local _ .vmem, ⟨12, _⟩ => ⟨S1024x512, .f32⟩
  | .local _ .vmem, ⟨13, _⟩ => ⟨S1024x512, .f32⟩
  | .local _ .vmem, ⟨14, _⟩ => ⟨S512x1024, .bf16⟩
  | .local _ .vmem, ⟨15, _⟩ => ⟨S512x1024, .bf16⟩
  | .local _ .vmem, ⟨16, _⟩ => ⟨S256x4096, .f32⟩
  | .local _ .vmem, ⟨17, _⟩ => ⟨S256x4096, .f32⟩
  | .local _ .vmem, ⟨18, _⟩ => ⟨S16x4096, .f32⟩
  | .local _ .vmem, ⟨19, _⟩ => ⟨S16x4096, .f32⟩
  | .local _ .vmem, ⟨20, _⟩ => ⟨S16x4096, .f32⟩
  | .local _ .vmem, ⟨21, _⟩ => ⟨S1x4096, .f32⟩
  | .local _ .vmem, ⟨22, _⟩ => ⟨S256x4096, .bf16⟩
  | .local _ .vmem, ⟨23, _⟩ => ⟨S256x4096, .bf16⟩
  | .local _ .vmem, ⟨24, _⟩ => ⟨S1536x4096, .bf16⟩
  | .local _ .vmem, ⟨25, _⟩ => ⟨S1536x4096, .bf16⟩
  | .local _ .vmem, ⟨26, _⟩ => ⟨S4096x512, .bf16⟩
  | .local _ .vmem, ⟨27, _⟩ => ⟨S4096x512, .bf16⟩
  | .local _ .vmem, ⟨28, _⟩ => ⟨S1536x512, .bf16⟩
  | .local _ .vmem, ⟨29, _⟩ => ⟨S1536x512, .bf16⟩
  | .local _ .vmem, ⟨30, _⟩ => ⟨S1536x4096, .bf16⟩
  | .local _ .vmem, ⟨31, _⟩ => ⟨S1536x4096, .bf16⟩
  | .local _ .vmem, ⟨32, _⟩ => ⟨S4096x512, .bf16⟩
  | .local _ .vmem, ⟨33, _⟩ => ⟨S4096x512, .bf16⟩
  | .local _ .vmem, ⟨34, _⟩ => ⟨S1536x512, .f32⟩
  | .local _ .vmem, ⟨35, _⟩ => ⟨S1536x512, .f32⟩
  | .local _ .vmem, ⟨36, _⟩ => ⟨S1536x512, .bf16⟩
  | .local _ .vmem, ⟨37, _⟩ => ⟨S1536x512, .bf16⟩
  | .local _ .vmem, ⟨38, _⟩ => ⟨S1536x4096, .bf16⟩
  | .local _ .vmem, ⟨39, _⟩ => ⟨S1536x4096, .bf16⟩
  | .local _ .vmem, ⟨40, _⟩ => ⟨S4096x512, .bf16⟩
  | .local _ .vmem, ⟨41, _⟩ => ⟨S4096x512, .bf16⟩
  | .local _ .vmem, ⟨42, _⟩ => ⟨S1536x512, .f32⟩
  | .local _ .vmem, ⟨43, _⟩ => ⟨S1536x512, .f32⟩
  | .local _ .vmem, ⟨44, _⟩ => ⟨S1536x512, .bf16⟩
  | .local _ .vmem, ⟨45, _⟩ => ⟨S1536x512, .bf16⟩
  | .local _ .vmem, ⟨46, _⟩ => ⟨S1536x4096, .bf16⟩
  | .local _ .vmem, ⟨47, _⟩ => ⟨S1536x4096, .bf16⟩
  | .local _ .vmem, ⟨48, _⟩ => ⟨S4096x512, .bf16⟩
  | .local _ .vmem, ⟨49, _⟩ => ⟨S4096x512, .bf16⟩
  | .local _ .vmem, ⟨50, _⟩ => ⟨S1536x512, .f32⟩
  | .local _ .vmem, ⟨51, _⟩ => ⟨S1536x512, .f32⟩
  | .local _ .vmem, ⟨52, _⟩ => ⟨S1536x4096, .bf16⟩
  | .local _ .vmem, ⟨53, _⟩ => ⟨S1536x4096, .bf16⟩
  | .local _ .vmem, ⟨54, _⟩ => ⟨S128x4096, .bf16⟩
  | .local _ .vmem, ⟨55, _⟩ => ⟨S1536x128, .f32⟩
  | .local _ .vmem, ⟨56, _⟩ => ⟨S1536x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg3_0 : Ref sig .tc := ⟨.vmem, 21, rfl⟩
abbrev cc4_stg4_0 : Ref sig .tc := ⟨.vmem, 22, rfl⟩
abbrev cc4_stg4_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg2_1 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg2_1 : Ref sig .tc := ⟨.vmem, 43, rfl⟩
abbrev cc7_stg3_0 : Ref sig .tc := ⟨.vmem, 44, rfl⟩
abbrev cc7_stg3_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg1_1 : Ref sig .tc := ⟨.vmem, 49, rfl⟩
abbrev cc8_stg2_0 : Ref sig .tc := ⟨.vmem, 50, rfl⟩
abbrev cc8_stg2_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg2_0 : Ref sig .tc := ⟨.vmem, 55, rfl⟩
abbrev cc9_stg2_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem3_0 : DmaSem sig := 21
abbrev cc4_sem4_0 : DmaSem sig := 22
abbrev cc4_sem4_1 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem2_1 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43
abbrev cc7_sem3_0 : DmaSem sig := 44
abbrev cc7_sem3_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem2_0 : DmaSem sig := 55
abbrev cc9_sem2_1 : DmaSem sig := 56

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![8, 6], ![false, false]⟩

def cc3_transform_0 (i : grid3.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![v0.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨1, ![66], ![false]⟩

def cc4_transform_0 (i : grid4.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let c1023_i32 : BitVec 32 := 1023#32
  let v2 : BitVec 32 := Scalar.maxsi c0_i32 v1
  let v3 : BitVec 32 := Scalar.minsi c1023_i32 v2
  let c0_i32_0 : BitVec 32 := 0#32
  let c0_i32_1 : BitVec 32 := 0#32
  ![v3.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x4096 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x4096 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![11, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1536x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1536x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![11, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1536x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1536x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1536x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![11, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1536x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1536x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1536x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![11, 12], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1536x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1536x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![11], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1536x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x4096 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1536x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]
-- ==== Reference5Ideal.lean ====
abbrev S16384x4096 : Shape := ⟨2, ![16384, 4096]⟩
abbrev S16x4096 : Shape := ⟨2, ![16, 4096]⟩
abbrev S4096 : Shape := ⟨1, ![4096]⟩
abbrev S4096x12296 : Shape := ⟨2, ![4096, 12296]⟩
abbrev S16400x4096 : Shape := ⟨2, ![16400, 4096]⟩
abbrev S_ : Shape := ⟨0, ![]⟩
abbrev S16400 : Shape := ⟨1, ![16400]⟩
abbrev S16400x1 : Shape := ⟨2, ![16400, 1]⟩
abbrev S1x4096 : Shape := ⟨2, ![1, 4096]⟩
abbrev S16400x12296 : Shape := ⟨2, ![16400, 12296]⟩
abbrev S16400x2048 : Shape := ⟨2, ![16400, 2048]⟩
abbrev S16400x6144 : Shape := ⟨2, ![16400, 6144]⟩
abbrev S16400x8 : Shape := ⟨2, ![16400, 8]⟩
abbrev S16896x2048 : Shape := ⟨2, ![16896, 2048]⟩
abbrev S16896x6144 : Shape := ⟨2, ![16896, 6144]⟩
abbrev S16896x128 : Shape := ⟨2, ![16896, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16x4096, .f32⟩
  | .hbm, ⟨2, _⟩ => ⟨S4096, .f32⟩
  | .hbm, ⟨3, _⟩ => ⟨S4096x12296, .f32⟩
  | .hbm, ⟨4, _⟩ => ⟨S16400x4096, .f32⟩
  | .hbm, ⟨5, _⟩ => ⟨S16400x4096, .f32⟩
  | .hbm, ⟨6, _⟩ => ⟨S_, .f32⟩
  | .hbm, ⟨7, _⟩ => ⟨S16400, .f32⟩
  | .hbm, ⟨8, _⟩ => ⟨S16400x1, .f32⟩
  | .hbm, ⟨9, _⟩ => ⟨S_, .f32⟩
  | .hbm, ⟨10, _⟩ => ⟨S16400x1, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S16400x1, .f32⟩
  | .hbm, ⟨16, _⟩ => ⟨S16400x4096, .f32⟩
  | .hbm, ⟨17, _⟩ => ⟨S16400x4096, .f32⟩
  | .hbm, ⟨18, _⟩ => ⟨S1x4096, .f32⟩
  | .hbm, ⟨19, _⟩ => ⟨S16400x4096, .f32⟩
  | .hbm, ⟨20, _⟩ => ⟨S16400x4096, .f32⟩
  | .hbm, ⟨21, _⟩ => ⟨S16400x12296, .f32⟩
  | .hbm, ⟨22, _⟩ => ⟨S16400x2048, .f32⟩
  | .hbm, ⟨23, _⟩ => ⟨S16400x2048, .f32⟩
  | .hbm, ⟨24, _⟩ => ⟨S16400x2048, .f32⟩
  | .hbm, ⟨25, _⟩ => ⟨S16400x6144, .f32⟩
  | .hbm, ⟨26, _⟩ => ⟨S16400x8, .f32⟩
  | .hbm, ⟨27, _⟩ => ⟨S_, .i32⟩
  | .hbm, ⟨28, _⟩ => ⟨S_, .f32⟩
  | .hbm, ⟨29, _⟩ => ⟨S16896x2048, .f32⟩
  | .hbm, ⟨30, _⟩ => ⟨S16896x2048, .bf16⟩
  | .hbm, ⟨31, _⟩ => ⟨S_, .i32⟩
  | .hbm, ⟨32, _⟩ => ⟨S_, .f32⟩
  | .hbm, ⟨33, _⟩ => ⟨S16896x2048, .f32⟩
  | .hbm, ⟨34, _⟩ => ⟨S16896x2048, .bf16⟩
  | .hbm, ⟨35, _⟩ => ⟨S_, .i32⟩
  | .hbm, ⟨36, _⟩ => ⟨S_, .f32⟩
  | .hbm, ⟨37, _⟩ => ⟨S16896x2048, .f32⟩
  | .hbm, ⟨38, _⟩ => ⟨S16896x2048, .bf16⟩
  | .hbm, ⟨39, _⟩ => ⟨S_, .i32⟩
  | .hbm, ⟨40, _⟩ => ⟨S_, .f32⟩
  | .hbm, ⟨41, _⟩ => ⟨S16896x6144, .f32⟩
  | .hbm, ⟨42, _⟩ => ⟨S_, .i32⟩
  | .hbm, ⟨43, _⟩ => ⟨S_, .f32⟩
  | .hbm, ⟨44, _⟩ => ⟨S16896x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_call2_v0 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call3_v0 : Ref sig .tc := ⟨.hbm, 40, rfl⟩
abbrev main_v26 : Ref sig .tc := ⟨.hbm, 41, rfl⟩
abbrev main_c_5 : Ref sig .tc := ⟨.hbm, 42, rfl⟩
abbrev main_call4_v0 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel6.lean ====
abbrev S1024x4096 : Shape := ⟨2, ![1024, 4096]⟩
abbrev S4096 : Shape := ⟨1, ![4096]⟩
abbrev S4096x12296 : Shape := ⟨2, ![4096, 12296]⟩
abbrev S12296x4096 : Shape := ⟨2, ![12296, 4096]⟩
abbrev S4096x2048 : Shape := ⟨2, ![4096, 2048]⟩
abbrev S1024x512 : Shape := ⟨2, ![1024, 512]⟩
abbrev S512x1024 : Shape := ⟨2, ![512, 1024]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1024x2048 : Shape := ⟨2, ![1024, 2048]⟩
abbrev S4096x512 : Shape := ⟨2, ![4096, 512]⟩

abbrev nBuf : Space → Nat
  | .hbm => 12
  | .vmem => 27
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x12296, .f32⟩
  | .hbm, ⟨3, _⟩ => ⟨S12296x4096, .f32⟩
  | .hbm, ⟨4, _⟩ => ⟨S4096x2048, .bf16⟩
  | .hbm, ⟨5, _⟩ => ⟨S4096x2048, .bf16⟩
  | .hbm, ⟨6, _⟩ => ⟨S1x4096, .f32⟩
  | .hbm, ⟨7, _⟩ => ⟨S1024x4096, .bf16⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S1024x4096, .bf16⟩
  | .local _ .vmem, ⟨14, _⟩ => ⟨S4096x512, .bf16⟩
  | .local _ .vmem, ⟨15, _⟩ => ⟨S4096x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | .local _ .vmem, ⟨20, _⟩ => ⟨S1024x4096, .bf16⟩
  | .local _ .vmem, ⟨21, _⟩ => ⟨S4096x512, .bf16⟩
  | .local _ .vmem, ⟨22, _⟩ => ⟨S4096x512, .bf16⟩
  | .local _ .vmem, ⟨23, _⟩ => ⟨S1024x512, .f32⟩
  | .local _ .vmem, ⟨24, _⟩ => ⟨S1024x512, .f32⟩
  | .local _ .vmem, ⟨25, _⟩ => ⟨S1024x512, .bf16⟩
  | .local _ .vmem, ⟨26, _⟩ => ⟨S1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc4_sem3_0 : DmaSem sig := 25
abbrev cc4_sem3_1 : DmaSem sig := 26

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S1024x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== Reference6Ideal.lean ====
abbrev S1024x4096 : Shape := ⟨2, ![1024, 4096]⟩
abbrev S4096 : Shape := ⟨1, ![4096]⟩
abbrev S4096x12296 : Shape := ⟨2, ![4096, 12296]⟩
abbrev S_ : Shape := ⟨0, ![]⟩
abbrev S1024 : Shape := ⟨1, ![1024]⟩
abbrev S1024x1 : Shape := ⟨2, ![1024, 1]⟩
abbrev S1x4096 : Shape := ⟨2, ![1, 4096]⟩
abbrev S1024x12296 : Shape := ⟨2, ![1024, 12296]⟩
abbrev S1024x2048 : Shape := ⟨2, ![1024, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x12296, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1x4096, .f32⟩
  | .hbm, ⟨17, _⟩ => ⟨S1024x4096, .f32⟩
  | .hbm, ⟨18, _⟩ => ⟨S1024x4096, .f32⟩
  | .hbm, ⟨19, _⟩ => ⟨S1024x12296, .f32⟩
  | .hbm, ⟨20, _⟩ => ⟨S1024x2048, .f32⟩
  | .hbm, ⟨21, _⟩ => ⟨S1024x2048, .f32⟩
  | .hbm, ⟨22, _⟩ => ⟨S1024x2048, .bf16⟩
  | .hbm, ⟨23, _⟩ => ⟨S1024x2048, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S1024x4096 : Shape := ⟨2, ![1024, 4096]⟩
abbrev S4096 : Shape := ⟨1, ![4096]⟩
abbrev S4096x22016 : Shape := ⟨2, ![4096, 22016]⟩
abbrev S3x22016 : Shape := ⟨2, ![3, 22016]⟩
abbrev S32x2x22016 : Shape := ⟨3, ![32, 2, 22016]⟩
abbrev S4096x11008 : Shape := ⟨2, ![4096, 11008]⟩
abbrev S128x11008 : Shape := ⟨2, ![128, 11008]⟩
abbrev S3x11008 : Shape := ⟨2, ![3, 11008]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1024x11008 : Shape := ⟨2, ![1024, 11008]⟩
abbrev S32x2x11008 : Shape := ⟨3, ![32, 2, 11008]⟩
abbrev S32x2x256 : Shape := ⟨3, ![32, 2, 256]⟩
abbrev S4096x256 : Shape := ⟨2, ![4096, 256]⟩
abbrev S3x256 : Shape := ⟨2, ![3, 256]⟩
abbrev S1024x256 : Shape := ⟨2, ![1024, 256]⟩
abbrev S32x40x256 : Shape := ⟨3, ![32, 40, 256]⟩
abbrev S32x32x256 : Shape := ⟨3, ![32, 32, 256]⟩
abbrev S1x256 : Shape := ⟨2, ![1, 256]⟩
abbrev S1x1x256 : Shape := ⟨3, ![1, 1, 256]⟩
abbrev S1x32x256 : Shape := ⟨3, ![1, 32, 256]⟩
abbrev S32x256 : Shape := ⟨2, ![32, 256]⟩

abbrev nBuf : Space → Nat
  | .hbm => 15
  | .vmem => 34
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x22016, .f32⟩
  | .hbm, ⟨3, _⟩ => ⟨S3x22016, .f32⟩
  | .hbm, ⟨4, _⟩ => ⟨S32x2x22016, .f32⟩
  | .hbm, ⟨5, _⟩ => ⟨S4096x11008, .bf16⟩
  | .hbm, ⟨6, _⟩ => ⟨S4096x11008, .bf16⟩
  | .hbm, ⟨7, _⟩ => ⟨S3x11008, .f32⟩
  | .hbm, ⟨8, _⟩ => ⟨S3x11008, .f32⟩
  | .hbm, ⟨9, _⟩ => ⟨S1x4096, .f32⟩
  | .hbm, ⟨10, _⟩ => ⟨S1024x4096, .bf16⟩
  | .hbm, ⟨11, _⟩ => ⟨S1024x11008, .bf16⟩
  | .hbm, ⟨12, _⟩ => ⟨S32x2x11008, .f32⟩
  | .hbm, ⟨13, _⟩ => ⟨S32x2x11008, .f32⟩
  | .hbm, ⟨14, _⟩ => ⟨S32x2x22016, .f32⟩
  | .local _ .vmem, ⟨0, _⟩ => ⟨S128x11008, .f32⟩
  | .local _ .vmem, ⟨1, _⟩ => ⟨S128x11008, .f32⟩
  | .local _ .vmem, ⟨2, _⟩ => ⟨S128x11008, .bf16⟩
  | .local _ .vmem, ⟨3, _⟩ => ⟨S128x11008, .bf16⟩
  | .local _ .vmem, ⟨4, _⟩ => ⟨S128x11008, .f32⟩
  | .local _ .vmem, ⟨5, _⟩ => ⟨S128x11008, .f32⟩
  | .local _ .vmem, ⟨6, _⟩ => ⟨S128x11008, .bf16⟩
  | .local _ .vmem, ⟨7, _⟩ => ⟨S128x11008, .bf16⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S1024x4096, .bf16⟩
  | .local _ .vmem, ⟨14, _⟩ => ⟨S32x2x256, .f32⟩
  | .local _ .vmem, ⟨15, _⟩ => ⟨S32x2x256, .f32⟩
  | .local _ .vmem, ⟨16, _⟩ => ⟨S32x2x256, .f32⟩
  | .local _ .vmem, ⟨17, _⟩ => ⟨S32x2x256, .f32⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S3x256, .f32⟩
  | .local _ .vmem, ⟨23, _⟩ => ⟨S3x256, .f32⟩
  | .local _ .vmem, ⟨24, _⟩ => ⟨S3x256, .f32⟩
  | .local _ .vmem, ⟨25, _⟩ => ⟨S3x256, .f32⟩
  | .local _ .vmem, ⟨26, _⟩ => ⟨S1024x256, .bf16⟩
  | .local _ .vmem, ⟨27, _⟩ => ⟨S1024x256, .bf16⟩
  | .local _ .vmem, ⟨28, _⟩ => ⟨S32x2x256, .f32⟩
  | .local _ .vmem, ⟨29, _⟩ => ⟨S32x2x256, .f32⟩
  | .local _ .vmem, ⟨30, _⟩ => ⟨S32x2x256, .f32⟩
  | .local _ .vmem, ⟨31, _⟩ => ⟨S32x2x256, .f32⟩
  | .local _ .vmem, ⟨32, _⟩ => ⟨S32x40x256, .f32⟩
  | .local _ .vmem, ⟨33, _⟩ => ⟨S32x40x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_stg4_1 : Ref sig .tc := ⟨.vmem, 21, rfl⟩
abbrev cc3_stg5_0 : Ref sig .tc := ⟨.vmem, 22, rfl⟩
abbrev cc3_stg5_1 : Ref sig .tc := ⟨.vmem, 23, rfl⟩
abbrev cc3_stg6_0 : Ref sig .tc := ⟨.vmem, 24, rfl⟩
abbrev cc3_stg6_1 : Ref sig .tc := ⟨.vmem, 25, rfl⟩
abbrev cc3_stg7_0 : Ref sig .tc := ⟨.vmem, 26, rfl⟩
abbrev cc3_stg7_1 : Ref sig .tc := ⟨.vmem, 27, rfl⟩
abbrev cc3_stg8_0 : Ref sig .tc := ⟨.vmem, 28, rfl⟩
abbrev cc3_stg8_1 : Ref sig .tc := ⟨.vmem, 29, rfl⟩
abbrev cc3_stg9_0 : Ref sig .tc := ⟨.vmem, 30, rfl⟩
abbrev cc3_stg9_1 : Ref sig .tc := ⟨.vmem, 31, rfl⟩
abbrev cc3_scratch0 : Ref sig .tc := ⟨.vmem, 32, rfl⟩
abbrev cc3_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc3_sem4_0 : DmaSem sig := 20
abbrev cc3_sem4_1 : DmaSem sig := 21
abbrev cc3_sem5_0 : DmaSem sig := 22
abbrev cc3_sem5_1 : DmaSem sig := 23
abbrev cc3_sem6_0 : DmaSem sig := 24
abbrev cc3_sem6_1 : DmaSem sig := 25
abbrev cc3_sem7_0 : DmaSem sig := 26
abbrev cc3_sem7_1 : DmaSem sig := 27
abbrev cc3_sem8_0 : DmaSem sig := 28
abbrev cc3_sem8_1 : DmaSem sig := 29
abbrev cc3_sem9_0 : DmaSem sig := 30
abbrev cc3_sem9_1 : DmaSem sig := 31

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![32, 1], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x11008 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![43], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_2 (i : grid3.Coords) : Fin 3 → Nat :=
  let arg0 : BitVec 32 := BitVec.ofNat 32 (i 0).val
  let c43_i32 : BitVec 32 := 43#32
  let v0 : BitVec 32 := Scalar.addi c43_i32 arg0
  let c0_i32 : BitVec 32 := 0#32
  let c0_i32_0 : BitVec 32 := 0#32
  let c0_i32_1 : BitVec 32 := 0#32
  ![c0_i32.toNat, c0_i32_0.toNat, v0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S32x2x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S32x2x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S3x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S3x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1024x256 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S32x2x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S32x2x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== Reference7Ideal.lean ====
abbrev S1024x4096 : Shape := ⟨2, ![1024, 4096]⟩
abbrev S4096 : Shape := ⟨1, ![4096]⟩
abbrev S4096x22016 : Shape := ⟨2, ![4096, 22016]⟩
abbrev S3x22016 : Shape := ⟨2, ![3, 22016]⟩
abbrev S32x2x22016 : Shape := ⟨3, ![32, 2, 22016]⟩
abbrev S_ : Shape := ⟨0, ![]⟩
abbrev S1024 : Shape := ⟨1, ![1024]⟩
abbrev S1024x1 : Shape := ⟨2, ![1024, 1]⟩
abbrev S1x4096 : Shape := ⟨2, ![1, 4096]⟩
abbrev S1024x22016 : Shape := ⟨2, ![1024, 22016]⟩
abbrev S32x32x22016 : Shape := ⟨3, ![32, 32, 22016]⟩
abbrev S32x34x22016 : Shape := ⟨3, ![32, 34, 22016]⟩
abbrev S1x22016 : Shape := ⟨2, ![1, 22016]⟩
abbrev S22016 : Shape := ⟨1, ![22016]⟩
abbrev S1x1x22016 : Shape := ⟨3, ![1, 1, 22016]⟩
abbrev S32x32x11008 : Shape := ⟨3, ![32, 32, 11008]⟩
abbrev S1024x11008 : Shape := ⟨2, ![1024, 11008]⟩

abbrev nBuf : Space → Nat
  | .hbm => 59
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S4096x22016, .f32⟩
  | .hbm, ⟨3, _⟩ => ⟨S3x22016, .f32⟩
  | .hbm, ⟨4, _⟩ => ⟨S32x2x22016, .f32⟩
  | .hbm, ⟨5, _⟩ => ⟨S1024x4096, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x4096, .f32⟩
  | .hbm, ⟨17, _⟩ => ⟨S1024x4096, .f32⟩
  | .hbm, ⟨18, _⟩ => ⟨S1x4096, .f32⟩
  | .hbm, ⟨19, _⟩ => ⟨S1024x4096, .f32⟩
  | .hbm, ⟨20, _⟩ => ⟨S1024x4096, .f32⟩
  | .hbm, ⟨21, _⟩ => ⟨S1024x22016, .f32⟩
  | .hbm, ⟨22, _⟩ => ⟨S32x32x22016, .f32⟩
  | .hbm, ⟨23, _⟩ => ⟨S32x34x22016, .f32⟩
  | .hbm, ⟨24, _⟩ => ⟨S32x32x22016, .f32⟩
  | .hbm, ⟨25, _⟩ => ⟨S1x22016, .f32⟩
  | .hbm, ⟨26, _⟩ => ⟨S22016, .f32⟩
  | .hbm, ⟨27, _⟩ => ⟨S1x1x22016, .f32⟩
  | .hbm, ⟨28, _⟩ => ⟨S32x32x22016, .f32⟩
  | .hbm, ⟨29, _⟩ => ⟨S32x32x22016, .f32⟩
  | .hbm, ⟨30, _⟩ => ⟨S32x32x22016, .f32⟩
  | .hbm, ⟨31, _⟩ => ⟨S1x22016, .f32⟩
  | .hbm, ⟨32, _⟩ => ⟨S22016, .f32⟩
  | .hbm, ⟨33, _⟩ => ⟨S1x1x22016, .f32⟩
  | .hbm, ⟨34, _⟩ => ⟨S32x32x22016, .f32⟩
  | .hbm, ⟨35, _⟩ => ⟨S32x32x22016, .f32⟩
  | .hbm, ⟨36, _⟩ => ⟨S32x32x22016, .f32⟩
  | .hbm, ⟨37, _⟩ => ⟨S32x32x22016, .f32⟩
  | .hbm, ⟨38, _⟩ => ⟨S1x22016, .f32⟩
  | .hbm, ⟨39, _⟩ => ⟨S22016, .f32⟩
  | .hbm, ⟨40, _⟩ => ⟨S1x1x22016, .f32⟩
  | .hbm, ⟨41, _⟩ => ⟨S32x32x22016, .f32⟩
  | .hbm, ⟨42, _⟩ => ⟨S32x32x22016, .f32⟩
  | .hbm, ⟨43, _⟩ => ⟨S32x32x22016, .f32⟩
  | .hbm, ⟨44, _⟩ => ⟨S32x32x11008, .f32⟩
  | .hbm, ⟨45, _⟩ => ⟨S32x32x11008, .f32⟩
  | .hbm, ⟨46, _⟩ => ⟨S32x32x11008, .f32⟩
  | .hbm, ⟨47, _⟩ => ⟨S32x32x11008, .f32⟩
  | .hbm, ⟨48, _⟩ => ⟨S_, .f32⟩
  | .hbm, ⟨49, _⟩ => ⟨S32x32x11008, .f32⟩
  | .hbm, ⟨50, _⟩ => ⟨S32x32x11008, .f32⟩
  | .hbm, ⟨51, _⟩ => ⟨S_, .f32⟩
  | .hbm, ⟨52, _⟩ => ⟨S32x32x11008, .f32⟩
  | .hbm, ⟨53, _⟩ => ⟨S32x32x11008, .f32⟩
  | .hbm, ⟨54, _⟩ => ⟨S32x32x11008, .f32⟩
  | .hbm, ⟨55, _⟩ => ⟨S32x32x11008, .f32⟩
  | .hbm, ⟨56, _⟩ => ⟨S32x32x11008, .bf16⟩
  | .hbm, ⟨57, _⟩ => ⟨S1024x11008, .bf16⟩
  | .hbm, ⟨58, _⟩ => ⟨S32x2x22016, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel8.lean ====
abbrev S16896x2048 : Shape := ⟨2, ![16896, 2048]⟩
abbrev S4096x4096 : Shape := ⟨2, ![4096, 4096]⟩
abbrev S16384x4096 : Shape := ⟨2, ![16384, 4096]⟩
abbrev S16x4096 : Shape := ⟨2, ![16, 4096]⟩
abbrev S16896x4096 : Shape := ⟨2, ![16896, 4096]⟩
abbrev S1536x2048 : Shape := ⟨2, ![1536, 2048]⟩
abbrev S2048x512 : Shape := ⟨2, ![2048, 512]⟩
abbrev S1536x512 : Shape := ⟨2, ![1536, 512]⟩
abbrev S16x512 : Shape := ⟨2, ![16, 512]⟩
abbrev S1520x512 : Shape := ⟨2, ![1520, 512]⟩
abbrev S1536x1 : Shape := ⟨2, ![1536, 1]⟩

abbrev nBuf : Space → Nat
  | .hbm => 7
  | .vmem => 16
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S4096x4096, .f32⟩
  | .hbm, ⟨3, _⟩ => ⟨S16384x4096, .f32⟩
  | .hbm, ⟨4, _⟩ => ⟨S16x4096, .f32⟩
  | .hbm, ⟨5, _⟩ => ⟨S4096x4096, .bf16⟩
  | .hbm, ⟨6, _⟩ => ⟨S16896x4096, .f32⟩
  | .local _ .vmem, ⟨0, _⟩ => ⟨S1536x2048, .bf16⟩
  | .local _ .vmem, ⟨1, _⟩ => ⟨S1536x2048, .bf16⟩
  | .local _ .vmem, ⟨2, _⟩ => ⟨S1536x2048, .bf16⟩
  | .local _ .vmem, ⟨3, _⟩ => ⟨S1536x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1536x512, .f32⟩
  | .local _ .vmem, ⟨9, _⟩ => ⟨S1536x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S1536x512, .f32⟩
  | .local _ .vmem, ⟨15, _⟩ => ⟨S1536x512, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg0 c10_i32
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.muli arg0 c96_i32
  let c1_i32 : BitVec 32 := 1#32
  let v1 : BitVec 32 := Scalar.subi v0 c1_i32
  let c0_i32 : BitVec 32 := 0#32
  let c1023_i32 : BitVec 32 := 1023#32
  let v2 : BitVec 32 := Scalar.maxsi c0_i32 v1
  let v3 : BitVec 32 := Scalar.minsi c1023_i32 v2
  let c0_i32_0 : BitVec 32 := 0#32
  ![v3.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1536x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S16896x2048 : Shape := ⟨2, ![16896, 2048]⟩
abbrev S4096x4096 : Shape := ⟨2, ![4096, 4096]⟩
abbrev S16384x4096 : Shape := ⟨2, ![16384, 4096]⟩
abbrev S16x4096 : Shape := ⟨2, ![16, 4096]⟩
abbrev S16400x4096 : Shape := ⟨2, ![16400, 4096]⟩
abbrev S_ : Shape := ⟨0, ![]⟩
abbrev S16896x4096 : Shape := ⟨2, ![16896, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S4096x4096, .f32⟩
  | .hbm, ⟨3, _⟩ => ⟨S16384x4096, .f32⟩
  | .hbm, ⟨4, _⟩ => ⟨S16x4096, .f32⟩
  | .hbm, ⟨5, _⟩ => ⟨S16400x4096, .f32⟩
  | .hbm, ⟨6, _⟩ => ⟨S_, .i32⟩
  | .hbm, ⟨7, _⟩ => ⟨S_, .f32⟩
  | .hbm, ⟨8, _⟩ => ⟨S16896x4096, .f32⟩
  | .hbm, ⟨9, _⟩ => ⟨S16896x4096, .bf16⟩
  | .hbm, ⟨10, _⟩ => ⟨S16896x4096, .f32⟩
  | .hbm, ⟨11, _⟩ => ⟨S16896x4096, .f32⟩
  | .hbm, ⟨12, _⟩ => ⟨S16896x4096, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Proof.Sb.Access.lean ====
/-
  Loads and stores of a memref owned at known contents, stated on those contents: a load through a rectangle
  gives the contents at the rectangle's indices, a store replaces them there. And for a buffer of 512 x 256 used as two
  column halves of 512 x 128 each, `Halves`: the buffer held at two given halves, and the two loads and two stores on it.
-/
module

public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

noncomputable section

namespace Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Owned

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {sp : CoreSpace} {s : Shape} {e : EltTy}
variable {α : Type} {Q : α → sProp (MT nD τ sig Ix Val Name U Lvl)}

/-- A load of an owned memref gives its contents at the indices loaded, and leaves them. -/
theorem wp_load_owned {m : Memref sig c.2.kind sp s e} {r : LoadRect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (fun x => X (r.idx x))) Q)
        -∗ wp frame (wpE' defs 𝒱 c bd Γ) E (.op (.load m r hl) k) Q) := by
  unfold owns
  iintro ⟨%f, %hf, H⟩ Hk
  subst hf
  have hS : m.view.setOn r.set ⊆ m.view.set := Finset.map_subset_map.mpr (Finset.subset_univ _)
  iapply (wp_load 𝒱 c bd E (m := m) (r := r) (hl := hl) (k := k) hS) $$ H
  iintro H
  iapply Hk
  iexists f
  isplitr
  · ipureintro; rfl
  iexact H

/-- What a memref reads after a whole store through a rectangle: its contents overlaid by the value stored. -/
theorem read_store {κ : Kind} (m : Memref sig κ sp s e) (r : Rect s) (f : m.view.ty.Contents Val) (w : r.shape.Idx → Val e) :
    m.view.read Val ((m.access r).write Val f w Finset.univ) = r.overlay (m.view.read Val f) w := by
  funext y
  by_cases hy : y ∈ r.set
  · obtain ⟨i, rfl⟩ := r.exists_idx_of_mem hy
    exact (View.read_slice_write_emb r f w (Finset.mem_univ i)).trans (r.overlay_emb _ w i).symm
  · rw [Rect.overlay_of_not_mem _ _ _ hy]
    exact View.read_slice_write_of_not_mem r f w Finset.univ (by rw [Rect.map_emb_univ]; exact hy)

/-- A whole store through a rectangle of a fully owned memref overlays its contents by the value stored. -/
theorem wp_store_owned {m : Memref sig c.2.kind sp s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  subst hf
  have hS : (m.access r).setOn Finset.univ ⊆ m.view.set := View.set_slice_subset m.view r
  iapply (wp_store 𝒱 c bd E (m := m) (r := r) (w := w) (Mk := Finset.univ) (hx := hx) (hm := hm) (k := k) hS) $$ H
  iintro H
  iapply Hk
  iexists _
  isplitr
  swap
  · iexact H
  ipureintro; exact read_store m r f w

end Owned

/-! ## A block of two column halves -/

abbrev Full : Shape := ⟨2, ![512, 256]⟩
abbrev Half : Shape := ⟨2, ![512, 128]⟩

theorem inbL : ∀ a, (![0, 0] : Fin 2 → ℕ) a + Half.size a ≤ Full.size a := by decide
theorem inbR : ∀ a, (![0, 128] : Fin 2 → ℕ) a + Half.size a ≤ Full.size a := by decide
/-- Columns 0 to 127, and columns 128 to 255. -/
abbrev rL : Rect Full := Rect.unit (s := Full) ![0, 0] Half.size inbL
abbrev rR : Rect Full := Rect.unit (s := Full) ![0, 128] Half.size inbR

theorem halves_disjoint : Disjoint rL.set rR.set :=
  Rect.unit_disjoint (s := Full) (1 : Fin 2) (Or.inl (by decide))

section Contents
variable {α : Type} (X : Full.Idx → α) (w : Half.Idx → α)

theorem ld_overlay_self (r : Rect Full) (w : r.shape.Idx → α) : (fun i => r.overlay X w (r.emb i)) = w :=
  funext fun i => r.overlay_emb X w i

theorem overlay_L_at_L (i : Half.Idx) : rL.overlay X w (rL.emb i) = w i := rL.overlay_emb X w i
theorem overlay_R_at_R (i : Half.Idx) : rR.overlay X w (rR.emb i) = w i := rR.overlay_emb X w i
theorem overlay_L_at_R (i : Half.Idx) : rL.overlay X w (rR.emb i) = X (rR.emb i) :=
  rL.overlay_of_not_mem X w fun h =>
    Finset.disjoint_left.mp halves_disjoint h (rR.map_emb_univ ▸ Finset.mem_map_of_mem _ (Finset.mem_univ i))
theorem overlay_R_at_L (i : Half.Idx) : rR.overlay X w (rL.emb i) = X (rL.emb i) :=
  rR.overlay_of_not_mem X w fun h =>
    Finset.disjoint_left.mp halves_disjoint (rL.map_emb_univ ▸ Finset.mem_map_of_mem _ (Finset.mem_univ i)) h

end Contents

section Held

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

/-- The buffer owned, at contents whose two column halves are `a` and `b`. -/
def Halves (c : Thread nD τ) {sp : Space} {e : EltTy} (m : Memref sig c.2.kind sp Full e) (a b : Half.Idx → Val e) : sProp 𝕄 :=
  iprop(∃ X, ⌜(∀ i, X (rL.emb i) = a i) ∧ ∀ i, X (rR.emb i) = b i⌝ ∗ owns c m fullShare X)

variable [Preorder Lvl] {defs : Defs nD τ sig Val Λ} (𝒱 : Variants) (c : Thread nD τ)
  (bd : Option 𝒱.V) {Γ : PendingWaitsCtx sig Ix} (E : Set Name)
variable {sp : CoreSpace} {e : EltTy}
variable {α : Type} {Q : α → sProp (MT nD τ sig Ix Val Name U Lvl)}
variable {m : Memref sig c.2.kind sp Full e} {a b : Half.Idx → Val e}

theorem wp_loadL {hl : m.view.LoadsAt rL.toLoadRect} {k : (Half.Idx → Val e) → Prog (TpuEff nD τ sig Val Λ c.2) α} :
    (Halves c m a b : sProp 𝕄)
      ⊢ iprop((Halves c m a b -∗ wp frame (wpE' defs 𝒱 c bd Γ) E (k a) Q)
        -∗ wp frame (wpE' defs 𝒱 c bd Γ) E (.op (.load m rL.toLoadRect hl) k) Q) := by
  unfold Halves
  iintro ⟨%X, %hX, H⟩ Hk
  have hld : (fun x => X (rL.toLoadRect.idx x)) = a := funext fun i => hX.1 i
  iapply (wp_load_owned 𝒱 c bd E (m := m) (r := rL.toLoadRect) (hl := hl) (k := k)) $$ H
  iintro H
  rw [hld]
  iapply Hk
  iexists X
  isplitr
  · ipureintro; exact hX
  iexact H

theorem wp_loadR {hl : m.view.LoadsAt rR.toLoadRect} {k : (Half.Idx → Val e) → Prog (TpuEff nD τ sig Val Λ c.2) α} :
    (Halves c m a b : sProp 𝕄)
      ⊢ iprop((Halves c m a b -∗ wp frame (wpE' defs 𝒱 c bd Γ) E (k b) Q)
        -∗ wp frame (wpE' defs 𝒱 c bd Γ) E (.op (.load m rR.toLoadRect hl) k) Q) := by
  unfold Halves
  iintro ⟨%X, %hX, H⟩ Hk
  have hld : (fun x => X (rR.toLoadRect.idx x)) = b := funext fun i => hX.2 i
  iapply (wp_load_owned 𝒱 c bd E (m := m) (r := rR.toLoadRect) (hl := hl) (k := k)) $$ H
  iintro H
  rw [hld]
  iapply Hk
  iexists X
  isplitr
  · ipureintro; exact hX
  iexact H

theorem wp_storeL {w : Half.Idx → Val e} {hx : (m.access rL).Stores Finset.univ}
    {hm : (Finset.univ : Finset rL.shape.Idx) = Finset.univ ∨ ∀ a, rL.stride a = 1}
    {k : PUnit → Prog (TpuEff nD τ sig Val Λ c.2) α} :
    (Halves c m a b : sProp 𝕄)
      ⊢ iprop((Halves c m w b -∗ wp frame (wpE' defs 𝒱 c bd Γ) E (k ⟨⟩) Q)
        -∗ wp frame (wpE' defs 𝒱 c bd Γ) E (.op (.store m rL w Finset.univ hx hm) k) Q) := by
  unfold Halves
  iintro ⟨%X, %hX, H⟩ Hk
  iapply (wp_store_owned 𝒱 c bd E (m := m) (r := rL) (w := w) (hx := hx) (hm := hm) (k := k)) $$ H
  iintro H
  iapply Hk
  iexists _
  isplitr
  swap
  · iexact H
  ipureintro
  exact ⟨fun i => overlay_L_at_L X w i, fun i => (overlay_L_at_R X w i).trans (hX.2 i)⟩

theorem wp_storeR {w : Half.Idx → Val e} {hx : (m.access rR).Stores Finset.univ}
    {hm : (Finset.univ : Finset rR.shape.Idx) = Finset.univ ∨ ∀ a, rR.stride a = 1}
    {k : PUnit → Prog (TpuEff nD τ sig Val Λ c.2) α} :
    (Halves c m a b : sProp 𝕄)
      ⊢ iprop((Halves c m a w -∗ wp frame (wpE' defs 𝒱 c bd Γ) E (k ⟨⟩) Q)
        -∗ wp frame (wpE' defs 𝒱 c bd Γ) E (.op (.store m rR w Finset.univ hx hm) k) Q) := by
  unfold Halves
  iintro ⟨%X, %hX, H⟩ Hk
  iapply (wp_store_owned 𝒱 c bd E (m := m) (r := rR) (w := w) (hx := hx) (hm := hm) (k := k)) $$ H
  iintro H
  iapply Hk
  iexists _
  isplitr
  swap
  · iexact H
  ipureintro
  exact ⟨fun i => (overlay_R_at_L X w i).trans (hX.1 i), fun i => overlay_R_at_R X w i⟩

end Held

/-- The block with columns 0–127 from `a` and 128–255 from `b`. -/
def joinHalves {α : Type} (a b : Half.Idx → α) : Full.Idx → α := fun y =>
  if h : (y 1).val < 128 then a (fun | ⟨0, _⟩ => y 0 | ⟨1, _⟩ => ⟨(y 1).val, h⟩)
  else b (fun | ⟨0, _⟩ => y 0 | ⟨1, _⟩ => ⟨(y 1).val - 128, by have h2 : (y 1).val < 256 := (y 1).isLt; show (y 1).val - 128 < 128; omega⟩)

theorem eq_joinHalves {α : Type} {X : Full.Idx → α} {a b : Half.Idx → α}
    (hX : (∀ i, X (rL.emb i) = a i) ∧ ∀ i, X (rR.emb i) = b i) : X = joinHalves a b := by
  funext y
  unfold joinHalves
  have h2 : (y 1).val < 256 := (y 1).isLt
  split
  · rename_i h
    rw [← hX.1]
    congr 1
    funext d
    apply Fin.ext
    fin_cases d
    · show (y 0).val = 0 + 1 * (y 0).val; omega
    · show (y 1).val = 0 + 1 * (y 1).val; omega
  · rename_i h
    rw [← hX.2]
    congr 1
    funext d
    apply Fin.ext
    fin_cases d
    · show (y 0).val = 0 + 1 * (y 0).val; omega
    · show (y 1).val = 128 + 1 * ((y 1).val - 128); omega

end Cert.Proof.Sb

end
-- ==== Proof.SbIdeal.Body.lean ====
/-
  The body of `KernelIdeal`'s kernel at one grid point. The scratch block is held as two column halves, one for each of the
  two heads of the pair. Before the loop the kernel takes the two key blocks on the diagonal; the loop takes the key
  blocks below it one by one, downwards, until none is left or every carry of the point is at the threshold. What the
  loop leaves is `rest`: a recursion over the trips still to run, each `trip` one key block for both heads. The loop's
  label meets its specification by induction on the trips still to run.
-/
module

public import proofs.«01_k».proof.Proof.Sb.Access
public import proofs.«01_k».proof.Proof.Gen.KernelIdeal.Launch
public import proofs.«01_k».proof.Proof.Gen.KernelIdeal.Skeleton
public import proofs.«01_k».proof.Proof.Gen.KernelIdeal.Points

@[expose] public section

set_option maxRecDepth 16384

noncomputable section

namespace Cert.Proof.SbIdeal

open Cert.KernelIdeal Cert.KernelIdeal.Gen Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's calls are counted down in the naturals. -/
abbrev 𝒱₀ : Variants := Variants.nat

/-! ## What the kernel computes at a point -/

/-- 256 keys (or values) of one head, out of the staged column pair. -/
abbrev tile (X : Vec F S16896x256 .bf16) (off : Fin 2 → ℕ) (h : ∀ a, off a + S256x128.size a ≤ S16896x256.size a) :
    Vec F S256x128 .bf16 :=
  fun x => X ((Rect.unit (s := S16896x256) off S256x128.size h).toLoadRect.idx x)

/-- The two heads' halves of a 512 x 256 block. -/
abbrev lo (x0 : Vec F S512x256 .bf16) : Vec F S512x128 .bf16 := fun x => x0 (rL.toLoadRect.idx x)
abbrev hi (x0 : Vec F S512x256 .bf16) : Vec F S512x128 .bf16 := fun x => x0 (rR.toLoadRect.idx x)

variable (F) in
/-- What passes from one key block to the next: the two heads' accumulators and carries. -/
structure Carry where
  a : Vec F S512x128 .f32
  b : Vec F S512x128 .f32
  c0 : FVec F S512x1 .f32
  c1 : FVec F S512x1 .f32

/-- The word the loop tests: one exactly when some carry is above the threshold. -/
def alive (s : Carry F) : BitVec 32 := Scalar.extui (Scalar.cmpf .ogt (k0_pay3 s.c0 s.c1) (Named.named κ "dead" 0xC2F00000#32 : F .f32))

section Point
variable (i : grid0.Coords) (x0 : Vec F S512x256 .bf16) (x1 x2 : Vec F S16896x256 .bf16)

/-- One trip of the loop: key block `2 * i 1 - 1 - j`, for both heads. -/
def trip (j : ℕ) (h : k0_chk1 i (BitVec.ofNat 32 j)) (s : Carry F) : Carry F where
  a := k0_pay47 (k0_pay46 (lo x0) k0_pay4 s.c0 (tile x1 (k0_off3 i (.ofNat 32 j)) (k0_off3_inb i _ h)) (tile x2 (k0_off3 i (.ofNat 32 j)) (k0_off3_inb i _ h)) s.a)
  b := k0_pay52 k0_pay4 (hi x0) s.c1 (tile x1 (k0_off4 i (.ofNat 32 j)) (k0_off4_inb i _ h)) (tile x2 (k0_off4 i (.ofNat 32 j)) (k0_off4_inb i _ h)) s.b
  c0 := k0_pay45 (lo x0) s.c0 (tile x1 (k0_off3 i (.ofNat 32 j)) (k0_off3_inb i _ h))
  c1 := k0_pay51 (hi x0) s.c1 (tile x1 (k0_off4 i (.ofNat 32 j)) (k0_off4_inb i _ h))

/-- The loop from trip `j` with at most `k` trips to run, entered with the word `w`. -/
def rest : ℕ → ℕ → Carry F → BitVec 32 → Carry F
  | 0, _, s, _ => s
  | k + 1, j, s, w =>
    if Scalar.cmpi .sgt w 0#32 = 1#1 then
      if h : k0_chk1 i (BitVec.ofNat 32 j) then
        rest k (j + 1) (trip i x0 x1 x2 j h s) (alive (trip i x0 x1 x2 j h s))
      else s
    else s

/-- After the upper of the two diagonal key blocks. -/
def diag1 : Carry F where
  a := k0_pay14 k0_pay4 k0_pay5 k0_pay7 (tile x2 (k0_off1 i 1#32) (k0_off1_inb i 1)) (k0_pay9 (lo x0) (tile x1 (k0_off1 i 1#32) (k0_off1_inb i 1)))
    (k0_pay10 (lo x0) (tile x1 (k0_off1 i 1#32) (k0_off1_inb i 1))) k0_pay11
  b := k0_pay21 k0_pay4 k0_pay6 k0_pay7 (tile x2 (k0_off2 i 1#32) (k0_off2_inb i 1)) (k0_pay16 (hi x0) (tile x1 (k0_off2 i 1#32) (k0_off2_inb i 1)))
    (k0_pay17 (hi x0) k0_pay7 (tile x1 (k0_off2 i 1#32) (k0_off2_inb i 1))) (k0_pay18 (hi x0) k0_pay7 (tile x1 (k0_off2 i 1#32) (k0_off2_inb i 1)))
    (k0_pay19 (hi x0) k0_pay7 (tile x1 (k0_off2 i 1#32) (k0_off2_inb i 1)))
  c0 := k0_pay13 k0_pay5 k0_pay7 (k0_pay10 (lo x0) (tile x1 (k0_off1 i 1#32) (k0_off1_inb i 1))) k0_pay11
  c1 := k0_pay20 k0_pay6 (k0_pay17 (hi x0) k0_pay7 (tile x1 (k0_off2 i 1#32) (k0_off2_inb i 1)))

/-- The lower diagonal block's mask. -/
abbrev mask0 : IVec S512x256 1 :=
  k0_pay22 (iota .tc S512x256 32 [0] iota_S512x256_d0_w32) (iota .tc S512x256 32 [1] iota_S512x256_d1_w32)

/-- After both diagonal key blocks. -/
def diag0 : Carry F where
  a := k0_pay30 k0_pay4 (diag1 i x0 x1 x2).c0 mask0 (tile x2 (k0_off1 i 0#32) (k0_off1_inb i 0)) (k0_pay24 (lo x0) (tile x1 (k0_off1 i 0#32) (k0_off1_inb i 0)))
    (k0_pay26 (lo x0) (tile x1 (k0_off1 i 0#32) (k0_off1_inb i 0))) (k0_pay27 (lo x0) (tile x1 (k0_off1 i 0#32) (k0_off1_inb i 0))) (diag1 i x0 x1 x2).a
  b := k0_pay38 k0_pay4 (diag1 i x0 x1 x2).c1 mask0 (tile x2 (k0_off2 i 0#32) (k0_off2_inb i 0)) (k0_pay32 (hi x0) (tile x1 (k0_off2 i 0#32) (k0_off2_inb i 0)))
    (k0_pay34 (hi x0) (tile x1 (k0_off2 i 0#32) (k0_off2_inb i 0))) (k0_pay35 (hi x0) (tile x1 (k0_off2 i 0#32) (k0_off2_inb i 0))) (diag1 i x0 x1 x2).b
  c0 := k0_pay29 (diag1 i x0 x1 x2).c0 mask0 (k0_pay26 (lo x0) (tile x1 (k0_off1 i 0#32) (k0_off1_inb i 0))) (k0_pay27 (lo x0) (tile x1 (k0_off1 i 0#32) (k0_off1_inb i 0)))
  c1 := k0_pay37 (diag1 i x0 x1 x2).c1 mask0 (k0_pay34 (hi x0) (tile x1 (k0_off2 i 0#32) (k0_off2_inb i 0))) (k0_pay35 (hi x0) (tile x1 (k0_off2 i 0#32) (k0_off2_inb i 0)))

/-- The word the loop is entered with. -/
def alive0 : BitVec 32 :=
  Scalar.extui (Scalar.cmpf .ogt (k0_pay39 (diag1 i x0 x1 x2).c1 mask0 (diag0 i x0 x1 x2).c0
    (k0_pay34 (hi x0) (tile x1 (k0_off2 i 0#32) (k0_off2_inb i 0))) (k0_pay35 (hi x0) (tile x1 (k0_off2 i 0#32) (k0_off2_inb i 0)))) (Named.named κ "dead" 0xC2F00000#32 : F .f32))

/-- The accumulators when the loop has ended. -/
def done : Carry F := rest i x0 x1 x2 (2 * (i 1).val) 0 (diag0 i x0 x1 x2) (alive0 i x0 x1 x2)

variable (x3 : Vec F S1x2x128 .f32)

/-- One head's gain row. -/
abbrev gain0 : Vec F S1x1x128 .f32 :=
  fun x => x3 ((Rect.unit (s := S1x2x128) ![0, 0, 0] S1x1x128.size inb_S1x2x128_S1x1x128_0_0_0).toLoadRect.idx x)
abbrev gain1 : Vec F S1x1x128 .f32 :=
  fun x => x3 ((Rect.unit (s := S1x2x128) ![0, 1, 0] S1x1x128.size inb_S1x2x128_S1x1x128_0_1_0).toLoadRect.idx x)

/-- The block the kernel leaves. -/
def outBlock : Vec F S512x256 .bf16 :=
  joinHalves (k0_pay1 (done i x0 x1 x2).a (k0_pay40 (gain0 x3)) (k0_pay41 (done i x0 x1 x2).a)) (k0_pay2 (done i x0 x1 x2).b (gain1 x3))

end Point

/-! ## The loop's counter -/

/-- The rows of a trip's key block, for the two heads. -/
theorem off3_eq : ∀ i : grid0.Coords, ∀ j : ℕ, j < 2 * (i 1).val → k0_off3 i (.ofNat 32 j) = ![256 * (2 * (i 1).val - 1 - j), 0] := by
  have h : ∀ n : Fin 33, ∀ j : Fin 66, j.val < 2 * n.val →
      (Scalar.muli (Scalar.subi (Scalar.subi (Scalar.muli (BitVec.ofNat 32 n.val) 2#32) 1#32) (BitVec.ofNat 32 j.val)) 256#32).toNat
        = 256 * (2 * n.val - 1 - j.val) := by decide +kernel
  intro i j hj
  have hi : (i 1).val < 33 := (i 1).isLt
  have := h ⟨(i 1).val, hi⟩ ⟨j, by omega⟩ hj
  funext d
  fin_cases d
  · exact this
  · rfl

theorem off4_eq : ∀ i : grid0.Coords, ∀ j : ℕ, j < 2 * (i 1).val → k0_off4 i (.ofNat 32 j) = ![256 * (2 * (i 1).val - 1 - j), 128] := by
  intro i j hj
  have h3 := congrFun (off3_eq i j hj) 0
  funext d
  fin_cases d
  · exact h3
  · rfl

/-- The side condition a trip assumes holds at every trip the loop makes. -/
theorem chk_of_lt (i : grid0.Coords) (j : ℕ) (hj : j < 2 * (i 1).val) : k0_chk1 i (BitVec.ofNat 32 j) := by
  have hi : (i 1).val < 33 := (i 1).isLt
  refine ⟨?_, ?_, ?_⟩
  · have h := congrFun (off3_eq i j hj) 0
    have h' : (k0_mult3 i (BitVec.ofNat 32 j)).toNat = 256 * (2 * (i 1).val - 1 - j) := h
    rw [h']; exact ⟨_, rfl⟩
  · rw [off3_eq i j hj]; intro d
    fin_cases d
    · show 256 * (2 * (i 1).val - 1 - j) + 256 ≤ 16896; omega
    · show 0 + 128 ≤ 256; omega
  · rw [off4_eq i j hj]; intro d
    fin_cases d
    · show 256 * (2 * (i 1).val - 1 - j) + 256 ≤ 16896; omega
    · show 128 + 128 ≤ 256; omega

theorem slt_of_lt : ∀ i : grid0.Coords, ∀ j : ℕ, j < 2 * (i 1).val →
    Scalar.cmpi .slt (BitVec.ofNat 32 j) (Scalar.muli (BitVec.ofNat 32 (i 1).val) 2#32) = 1#1 := by
  have h : ∀ n : Fin 33, ∀ j : Fin 66, j.val < 2 * n.val →
      Scalar.cmpi .slt (BitVec.ofNat 32 j.val) (Scalar.muli (BitVec.ofNat 32 n.val) 2#32) = 1#1 := by decide +kernel
  intro i j hj
  have hi : (i 1).val < 33 := (i 1).isLt
  exact h ⟨(i 1).val, hi⟩ ⟨j, by omega⟩ hj

theorem slt_self : ∀ i : grid0.Coords,
    Scalar.cmpi .slt (BitVec.ofNat 32 (2 * (i 1).val)) (Scalar.muli (BitVec.ofNat 32 (i 1).val) 2#32) = 0#1 := by
  have h : ∀ n : Fin 33,
      Scalar.cmpi .slt (BitVec.ofNat 32 (2 * n.val)) (Scalar.muli (BitVec.ofNat 32 n.val) 2#32) = 0#1 := by decide +kernel
  intro i
  have hi : (i 1).val < 33 := (i 1).isLt
  exact h ⟨(i 1).val, hi⟩

theorem addi_succ (j : ℕ) : Scalar.addi (BitVec.ofNat 32 j) 1#32 = BitVec.ofNat 32 (j + 1) := by
  show BitVec.ofNat 32 j + BitVec.ofNat 32 1 = _
  rw [← BitVec.ofNat_add]

theorem andi_one_left (b : BitVec 1) : Scalar.andi 1#1 b = b := by revert b; decide
theorem andi_zero_left (b : BitVec 1) : Scalar.andi 0#1 b = 0#1 := by revert b; decide

/-! ## The loop -/

section Loop
variable (c : Dev nD) (i : grid0.Coords)
  (arg3 : Memref sig .tc .vmem S16896x256 .bf16) (harg3 : arg3.IsWhole) (arg4 : Memref sig .tc .vmem S16896x256 .bf16) (harg4 : arg4.IsWhole)
  (arg7 : Memref sig .tc .vmem S512x256 .f32) (harg7 : arg7.IsWhole)
  (x0 : Vec F S512x256 .bf16) (x1 x2 : Vec F S16896x256 .bf16)

/-- What a trip reads and writes: keys and values as staged, the accumulators at `s`. -/
def held (s : Carry F) : sProp 𝕄 :=
  iprop(owns c.tc arg3 fullShare x1 ∗ owns c.tc arg4 fullShare x2 ∗ Halves (c : Thread nD τ) arg7 s.a s.b)

/-- The loop with at most `k` trips after `j`: it returns something, the accumulators at `rest`. -/
def spec (j k : ℕ) (s : Carry F) (w : BitVec 32) : sWPT 𝕄 (BitVec 32 × FVec F S512x1 .f32 × FVec F S512x1 .f32 × BitVec 32) := do
  sWPT.consume (held c arg3 arg4 arg7 x1 x2 s)
  let r ← sWPT.arbitrary
  sWPT.produce (held c arg3 arg4 arg7 x1 x2 (rest i x0 x1 x2 k j s w))
  pure r

theorem spec_apply (j k : ℕ) (s : Carry F) (w : BitVec 32) (K : BitVec 32 × FVec F S512x1 .f32 × FVec F S512x1 .f32 × BitVec 32 → sProp 𝕄) :
    spec c i arg3 arg4 arg7 x0 x1 x2 j k s w K
      = iprop(held c arg3 arg4 arg7 x1 x2 s ∗ ∀ r : BitVec 32 × FVec F S512x1 .f32 × FVec F S512x1 .f32 × BitVec 32,
          (held c arg3 arg4 arg7 x1 x2 (rest i x0 x1 x2 k j s w) -∗ K r)) := rfl

theorem spec_le (E : Set ℕ) :
    ∀ k j, j + k = 2 * (i 1).val → ∀ (s : Carry F) (w : BitVec 32) K, spec c i arg3 arg4 arg7 x0 x1 x2 j k s w K
      ⊢ wp frame (wpE (defs₀ (F := F)) 𝒱₀ (c : Thread nD τ) (some k)) E
          (defs₀ (F := F) .tc 1 ⟨i, arg3, harg3, arg4, harg4, lo x0, k0_pay4, arg7, harg7, hi x0, BitVec.ofNat 32 j, s.c0, s.c1, w⟩) K := by
  intro k
  induction k with
  | zero =>
    intro j hj s w K
    rw [spec_apply]
    show _ ⊢ wp frame (wpE (defs₀ (F := F)) 𝒱₀ (c : Thread nD τ) (some 0)) E
      (cc0_while1 i arg3 harg3 arg4 harg4 (lo x0) k0_pay4 arg7 harg7 (hi x0) (BitVec.ofNat 32 j) s.c0 s.c1 w) K
    simp only [cc0_while1_eq_skeleton]; unfold cc0_while1_skel
    have hj' : j = 2 * (i 1).val := by omega
    have htest : Scalar.andi (Scalar.cmpi .slt (BitVec.ofNat 32 j) (Scalar.muli (BitVec.ofNat 32 (i 1).val) 2#32)) (Scalar.cmpi .sgt w 0#32) ≠ 1#1 := by
      rw [hj', slt_self, andi_zero_left]; decide
    simp only [htest, ↓reduceIte, Prog.pure_eq_ret]
    iintro ⟨H, Hk⟩
    rw [wp_ret]; imodintro
    iapply Hk
    simp only [rest]; iexact H
  | succ k ih =>
    intro j hj s w K
    rw [spec_apply]
    show _ ⊢ wp frame (wpE (defs₀ (F := F)) 𝒱₀ (c : Thread nD τ) (some (k + 1))) E
      (cc0_while1 i arg3 harg3 arg4 harg4 (lo x0) k0_pay4 arg7 harg7 (hi x0) (BitVec.ofNat 32 j) s.c0 s.c1 w) K
    simp only [cc0_while1_eq_skeleton]; unfold cc0_while1_skel
    have hlt : j < 2 * (i 1).val := by omega
    have hchk := chk_of_lt i j hlt
    by_cases hw : Scalar.cmpi .sgt w 0#32 = 1#1
    · have htest : Scalar.andi (Scalar.cmpi .slt (BitVec.ofNat 32 j) (Scalar.muli (BitVec.ofNat 32 (i 1).val) 2#32)) (Scalar.cmpi .sgt w 0#32) = 1#1 := by
        rw [slt_of_lt i j hlt, hw]; decide
      have hrest : rest i x0 x1 x2 (k + 1) j s w = rest i x0 x1 x2 k (j + 1) (trip i x0 x1 x2 j hchk s) (alive (trip i x0 x1 x2 j hchk s)) := by
        rw [rest, if_pos hw, dif_pos hchk]
      rw [hrest]
      simp only [htest, ↓reduceIte]
      simp only [k0_part6_eq_skeleton, k0_part7_eq_skeleton]; unfold k0_part6_skel k0_part7_skel
      simp only [Prog.lift, Prog.bind_op, Prog.bind_ret, Prog.pure_eq_ret]
      unfold held
      iintro ⟨⟨H3, H4, H7⟩, Hk⟩
      iapply (wp_assume 𝒱₀ (c : Thread nD τ) (some (k + 1)) E hchk)
      iapply (wp_load_owned _ _ _ _ (m := arg3)) $$ H3; iintro H3
      iapply (wp_load_owned _ _ _ _ (m := arg4)) $$ H4; iintro H4
      iapply (wp_loadL _ _ _ _ (m := arg7)) $$ H7; iintro H7
      iapply (wp_loadL _ _ _ _ (m := arg7)) $$ H7; iintro H7
      iapply (wp_storeL _ _ _ _ (m := arg7)) $$ H7; iintro H7
      iapply (wp_load_owned _ _ _ _ (m := arg3)) $$ H3; iintro H3
      iapply (wp_load_owned _ _ _ _ (m := arg4)) $$ H4; iintro H4
      iapply (wp_loadR _ _ _ _ (m := arg7)) $$ H7; iintro H7
      iapply (wp_loadR _ _ _ _ (m := arg7)) $$ H7; iintro H7
      iapply (wp_storeR _ _ _ _ (m := arg7)) $$ H7; iintro H7
      rw [addi_succ j]
      iapply (wp_call_spec 𝒱₀ (c : Thread nD τ) (some (k + 1)) E
        (spec c i arg3 arg4 arg7 x0 x1 x2 (j + 1) k (trip i x0 x1 x2 j hchk s) (alive (trip i x0 x1 x2 j hchk s))) k
        (fun u hu => by cases hu; exact Nat.lt_succ_self k)
        (ih (j + 1) (by omega) (trip i x0 x1 x2 j hchk s) (alive (trip i x0 x1 x2 j hchk s))))
      rw [spec_apply]; unfold held
      isplitl [H3 H4 H7]
      · isplitl [H3]; · iexact H3
        isplitl [H4]; · iexact H4
        iexact H7
      iintro %r H
      rw [wp_ret]; imodintro
      iapply Hk
      iexact H
    · have htest : Scalar.andi (Scalar.cmpi .slt (BitVec.ofNat 32 j) (Scalar.muli (BitVec.ofNat 32 (i 1).val) 2#32)) (Scalar.cmpi .sgt w 0#32) ≠ 1#1 := by
        rw [slt_of_lt i j hlt, andi_one_left]; exact hw
      simp only [htest, ↓reduceIte, Prog.pure_eq_ret]
      iintro ⟨H, Hk⟩
      rw [wp_ret]; imodintro
      iapply Hk
      rw [rest, if_neg hw]; iexact H

end Loop

/-! ## The whole body -/

/-- The kernel body on any staging buffers: it reads its inputs, and leaves the output block at `outBlock`. -/
theorem kernel_run (c : Dev nD) (i : grid0.Coords) (arg2 : Memref sig .tc .vmem S512x256 .bf16) (harg2 : arg2.IsWhole)
    (arg3 : Memref sig .tc .vmem S16896x256 .bf16) (harg3 : arg3.IsWhole) (arg4 : Memref sig .tc .vmem S16896x256 .bf16) (harg4 : arg4.IsWhole)
    (arg5 : Memref sig .tc .vmem S1x2x128 .f32) (harg5 : arg5.IsWhole) (arg6 : Memref sig .tc .vmem S512x256 .bf16) (harg6 : arg6.IsWhole)
    (arg7 : Memref sig .tc .vmem S512x256 .f32) (harg7 : arg7.IsWhole)
    (x0 : Vec F S512x256 .bf16) (x1 x2 : Vec F S16896x256 .bf16) (x3 : Vec F S1x2x128 .f32) (E : Set ℕ) (K : PUnit → sProp 𝕄) :
    iprop(owns c.tc arg2 fullShare x0 ∗ owns c.tc arg3 fullShare x1 ∗ owns c.tc arg4 fullShare x2
        ∗ owns c.tc arg5 fullShare x3 ∗ (∃ d, owns c.tc arg6 fullShare d) ∗ (∃ d, owns c.tc arg7 fullShare d)
        ∗ (iprop(owns c.tc arg2 fullShare x0 ∗ owns c.tc arg3 fullShare x1 ∗ owns c.tc arg4 fullShare x2
            ∗ owns c.tc arg5 fullShare x3 ∗ owns c.tc arg6 fullShare (outBlock i x0 x1 x2 x3)
            ∗ (∃ d, owns c.tc arg7 fullShare d)) -∗ K ⟨⟩))
      ⊢ wp frame (wpE (defs₀ (F := F)) 𝒱₀ (c : Thread nD τ) none) E
          (cc0_sb_prompt i arg2 harg2 arg3 harg3 arg4 harg4 arg5 harg5 arg6 harg6 arg7 harg7) K := by
  simp only [cc0_sb_prompt_eq_skeleton]; unfold cc0_sb_prompt_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iintro ⟨H2, H3, H4, H5, ⟨%d6, H6⟩, ⟨%d7, H7⟩, Hk⟩
  ihave H6' := (show owns c.tc arg6 fullShare d6 ⊢ (Halves (c : Thread nD τ) arg6 (fun i => d6 (rL.emb i)) (fun i => d6 (rR.emb i)) : sProp 𝕄) from by
    unfold Halves
    iintro H
    iexists d6
    isplitr
    · ipureintro; exact ⟨fun _ => rfl, fun _ => rfl⟩
    iexact H) $$ H6
  ihave H7' := (show owns c.tc arg7 fullShare d7 ⊢ (Halves (c : Thread nD τ) arg7 (fun i => d7 (rL.emb i)) (fun i => d7 (rR.emb i)) : sProp 𝕄) from by
    unfold Halves
    iintro H
    iexists d7
    isplitr
    · ipureintro; exact ⟨fun _ => rfl, fun _ => rfl⟩
    iexact H) $$ H7
  -- the two heads' queries, the upper diagonal block
  iapply (wp_load_owned _ _ _ _ (m := arg2)) $$ H2; iintro H2
  iapply (wp_load_owned _ _ _ _ (m := arg2)) $$ H2; iintro H2
  iapply (wp_load_owned _ _ _ _ (m := arg3)) $$ H3; iintro H3
  iapply (wp_load_owned _ _ _ _ (m := arg4)) $$ H4; iintro H4
  iapply (wp_loadL _ _ _ _ (m := arg7)) $$ H7'; iintro H7
  iapply (wp_storeL _ _ _ _ (m := arg7)) $$ H7; iintro H7
  iapply (wp_load_owned _ _ _ _ (m := arg3)) $$ H3; iintro H3
  iapply (wp_load_owned _ _ _ _ (m := arg4)) $$ H4; iintro H4
  iapply (wp_loadR _ _ _ _ (m := arg7)) $$ H7; iintro H7
  iapply (wp_storeR _ _ _ _ (m := arg7)) $$ H7; iintro H7
  -- the lower diagonal block
  iapply (wp_load_owned _ _ _ _ (m := arg3)) $$ H3; iintro H3
  iapply (wp_load_owned _ _ _ _ (m := arg4)) $$ H4; iintro H4
  iapply (wp_loadL _ _ _ _ (m := arg7)) $$ H7; iintro H7
  iapply (wp_loadL _ _ _ _ (m := arg7)) $$ H7; iintro H7
  iapply (wp_storeL _ _ _ _ (m := arg7)) $$ H7; iintro H7
  iapply (wp_load_owned _ _ _ _ (m := arg3)) $$ H3; iintro H3
  iapply (wp_load_owned _ _ _ _ (m := arg4)) $$ H4; iintro H4
  iapply (wp_loadR _ _ _ _ (m := arg7)) $$ H7; iintro H7
  iapply (wp_loadR _ _ _ _ (m := arg7)) $$ H7; iintro H7
  iapply (wp_storeR _ _ _ _ (m := arg7)) $$ H7; iintro H7
  -- the loop
  iapply (wp_call_spec 𝒱₀ (c : Thread nD τ) none E
    (spec c i arg3 arg4 arg7 x0 x1 x2 0 (2 * (i 1).val) (diag0 i x0 x1 x2) (alive0 i x0 x1 x2)) (2 * (i 1).val)
    (fun u hu => nomatch hu)
    (spec_le c i arg3 harg3 arg4 harg4 arg7 harg7 x0 x1 x2 E (2 * (i 1).val) 0 (by omega) (diag0 i x0 x1 x2) (alive0 i x0 x1 x2)))
  rw [spec_apply]; unfold held
  isplitl [H3 H4 H7]
  · isplitl [H3]; · iexact H3
    isplitl [H4]; · iexact H4
    iexact H7
  iintro %r ⟨H3, H4, H7⟩
  -- the norm of the two heads
  iapply (wp_loadL _ _ _ _ (m := arg7)) $$ H7; iintro H7
  iapply (wp_load_owned _ _ _ _ (m := arg5)) $$ H5; iintro H5
  iapply (wp_loadL _ _ _ _ (m := arg6)) $$ H6'; iintro H6
  iapply (wp_storeL _ _ _ _ (m := arg6)) $$ H6; iintro H6
  iapply (wp_loadR _ _ _ _ (m := arg7)) $$ H7; iintro H7
  iapply (wp_load_owned _ _ _ _ (m := arg5)) $$ H5; iintro H5
  iapply (wp_loadR _ _ _ _ (m := arg6)) $$ H6; iintro H6
  iapply (wp_storeR _ _ _ _ (m := arg6)) $$ H6; iintro H6
  rw [wp_ret]; imodintro
  unfold Halves
  icases H6 with ⟨%X6, %h6, H6⟩
  icases H7 with ⟨%X7, -, H7⟩
  have e6 : X6 = outBlock i x0 x1 x2 x3 := eq_joinHalves h6
  subst e6
  iapply Hk
  iframe H2 H3 H4 H5 H6
  iexists X7; iexact H7

end Cert.Proof.SbIdeal

end
-- ==== Proof.SbBits.Body.lean ====
/-
  The body of `Kernel`'s kernel at one grid point. The scratch block is held as two column halves, one for each of the
  two heads of the pair. Before the loop the kernel takes the two key blocks on the diagonal; the loop takes the key
  blocks below it one by one, downwards, until none is left or every carry of the point is at the threshold. What the
  loop leaves is `rest`: a recursion over the trips still to run, each `trip` one key block for both heads. The loop's
  label meets its specification by induction on the trips still to run.
-/
module

public import proofs.«01_k».proof.Proof.SbIdeal.Body
public import proofs.«01_k».proof.Proof.Gen.Kernel.Launch
public import proofs.«01_k».proof.Proof.Gen.Kernel.Skeleton
public import proofs.«01_k».proof.Proof.Gen.Kernel.Points

@[expose] public section

set_option maxRecDepth 16384

noncomputable section

namespace Cert.Proof.SbBits

open Cert.Kernel Cert.Kernel.Gen Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop's calls are counted down in the naturals. -/
abbrev 𝒱₀ : Variants := Variants.nat

/-! ## What the kernel computes at a point -/

/-- 256 keys (or values) of one head, out of the staged column pair. -/
abbrev tile (X : Vec F S16896x256 .bf16) (off : Fin 2 → ℕ) (h : ∀ a, off a + S256x128.size a ≤ S16896x256.size a) :
    Vec F S256x128 .bf16 :=
  fun x => X ((Rect.unit (s := S16896x256) off S256x128.size h).toLoadRect.idx x)

/-- The two heads' halves of a 512 x 256 block. -/
abbrev lo (x0 : Vec F S512x256 .bf16) : Vec F S512x128 .bf16 := fun x => x0 (rL.toLoadRect.idx x)
abbrev hi (x0 : Vec F S512x256 .bf16) : Vec F S512x128 .bf16 := fun x => x0 (rR.toLoadRect.idx x)

variable (F) in
/-- What passes from one key block to the next: the two heads' accumulators and carries. -/
structure Carry where
  a : Vec F S512x128 .f32
  b : Vec F S512x128 .f32
  c0 : FVec F S512x1 .f32
  c1 : FVec F S512x1 .f32

/-- The word the loop tests: one exactly when some carry is above the threshold. -/
def alive (s : Carry F) : BitVec 32 := Scalar.extui (Scalar.cmpf .ogt (k0_pay3 s.c0 s.c1) (Scalar.ofBits .f32 0xC2F00000#32 : F .f32))

section Point
variable (i : grid0.Coords) (x0 : Vec F S512x256 .bf16) (x1 x2 : Vec F S16896x256 .bf16)

/-- One trip of the loop: key block `2 * i 1 - 1 - j`, for both heads. -/
def trip (j : ℕ) (h : k0_chk1 i (BitVec.ofNat 32 j)) (s : Carry F) : Carry F where
  a := k0_pay47 (k0_pay46 (lo x0) k0_pay4 s.c0 (tile x1 (k0_off3 i (.ofNat 32 j)) (k0_off3_inb i _ h)) (tile x2 (k0_off3 i (.ofNat 32 j)) (k0_off3_inb i _ h)) s.a)
  b := k0_pay52 k0_pay4 (hi x0) s.c1 (tile x1 (k0_off4 i (.ofNat 32 j)) (k0_off4_inb i _ h)) (tile x2 (k0_off4 i (.ofNat 32 j)) (k0_off4_inb i _ h)) s.b
  c0 := k0_pay45 (lo x0) s.c0 (tile x1 (k0_off3 i (.ofNat 32 j)) (k0_off3_inb i _ h))
  c1 := k0_pay51 (hi x0) s.c1 (tile x1 (k0_off4 i (.ofNat 32 j)) (k0_off4_inb i _ h))

/-- The loop from trip `j` with at most `k` trips to run, entered with the word `w`. -/
def rest : ℕ → ℕ → Carry F → BitVec 32 → Carry F
  | 0, _, s, _ => s
  | k + 1, j, s, w =>
    if Scalar.cmpi .sgt w 0#32 = 1#1 then
      if h : k0_chk1 i (BitVec.ofNat 32 j) then
        rest k (j + 1) (trip i x0 x1 x2 j h s) (alive (trip i x0 x1 x2 j h s))
      else s
    else s

/-- After the upper of the two diagonal key blocks. -/
def diag1 : Carry F where
  a := k0_pay14 k0_pay4 k0_pay5 k0_pay7 (tile x2 (k0_off1 i 1#32) (k0_off1_inb i 1)) (k0_pay9 (lo x0) (tile x1 (k0_off1 i 1#32) (k0_off1_inb i 1)))
    (k0_pay10 (lo x0) (tile x1 (k0_off1 i 1#32) (k0_off1_inb i 1))) k0_pay11
  b := k0_pay21 k0_pay4 k0_pay6 k0_pay7 (tile x2 (k0_off2 i 1#32) (k0_off2_inb i 1)) (k0_pay16 (hi x0) (tile x1 (k0_off2 i 1#32) (k0_off2_inb i 1)))
    (k0_pay17 (hi x0) k0_pay7 (tile x1 (k0_off2 i 1#32) (k0_off2_inb i 1))) (k0_pay18 (hi x0) k0_pay7 (tile x1 (k0_off2 i 1#32) (k0_off2_inb i 1)))
    (k0_pay19 (hi x0) k0_pay7 (tile x1 (k0_off2 i 1#32) (k0_off2_inb i 1)))
  c0 := k0_pay13 k0_pay5 k0_pay7 (k0_pay10 (lo x0) (tile x1 (k0_off1 i 1#32) (k0_off1_inb i 1))) k0_pay11
  c1 := k0_pay20 k0_pay6 (k0_pay17 (hi x0) k0_pay7 (tile x1 (k0_off2 i 1#32) (k0_off2_inb i 1)))

/-- The lower diagonal block's mask. -/
abbrev mask0 : IVec S512x256 1 :=
  k0_pay22 (iota .tc S512x256 32 [0] iota_S512x256_d0_w32) (iota .tc S512x256 32 [1] iota_S512x256_d1_w32)

/-- After both diagonal key blocks. -/
def diag0 : Carry F where
  a := k0_pay30 k0_pay4 (diag1 i x0 x1 x2).c0 mask0 (tile x2 (k0_off1 i 0#32) (k0_off1_inb i 0)) (k0_pay24 (lo x0) (tile x1 (k0_off1 i 0#32) (k0_off1_inb i 0)))
    (k0_pay26 (lo x0) (tile x1 (k0_off1 i 0#32) (k0_off1_inb i 0))) (k0_pay27 (lo x0) (tile x1 (k0_off1 i 0#32) (k0_off1_inb i 0))) (diag1 i x0 x1 x2).a
  b := k0_pay38 k0_pay4 (diag1 i x0 x1 x2).c1 mask0 (tile x2 (k0_off2 i 0#32) (k0_off2_inb i 0)) (k0_pay32 (hi x0) (tile x1 (k0_off2 i 0#32) (k0_off2_inb i 0)))
    (k0_pay34 (hi x0) (tile x1 (k0_off2 i 0#32) (k0_off2_inb i 0))) (k0_pay35 (hi x0) (tile x1 (k0_off2 i 0#32) (k0_off2_inb i 0))) (diag1 i x0 x1 x2).b
  c0 := k0_pay29 (diag1 i x0 x1 x2).c0 mask0 (k0_pay26 (lo x0) (tile x1 (k0_off1 i 0#32) (k0_off1_inb i 0))) (k0_pay27 (lo x0) (tile x1 (k0_off1 i 0#32) (k0_off1_inb i 0)))
  c1 := k0_pay37 (diag1 i x0 x1 x2).c1 mask0 (k0_pay34 (hi x0) (tile x1 (k0_off2 i 0#32) (k0_off2_inb i 0))) (k0_pay35 (hi x0) (tile x1 (k0_off2 i 0#32) (k0_off2_inb i 0)))

/-- The word the loop is entered with. -/
def alive0 : BitVec 32 :=
  Scalar.extui (Scalar.cmpf .ogt (k0_pay39 (diag1 i x0 x1 x2).c1 mask0 (diag0 i x0 x1 x2).c0
    (k0_pay34 (hi x0) (tile x1 (k0_off2 i 0#32) (k0_off2_inb i 0))) (k0_pay35 (hi x0) (tile x1 (k0_off2 i 0#32) (k0_off2_inb i 0)))) (Scalar.ofBits .f32 0xC2F00000#32 : F .f32))

/-- The accumulators when the loop has ended. -/
def done : Carry F := rest i x0 x1 x2 (2 * (i 1).val) 0 (diag0 i x0 x1 x2) (alive0 i x0 x1 x2)

variable (x3 : Vec F S1x2x128 .f32)

/-- One head's gain row. -/
abbrev gain0 : Vec F S1x1x128 .f32 :=
  fun x => x3 ((Rect.unit (s := S1x2x128) ![0, 0, 0] S1x1x128.size inb_S1x2x128_S1x1x128_0_0_0).toLoadRect.idx x)
abbrev gain1 : Vec F S1x1x128 .f32 :=
  fun x => x3 ((Rect.unit (s := S1x2x128) ![0, 1, 0] S1x1x128.size inb_S1x2x128_S1x1x128_0_1_0).toLoadRect.idx x)

/-- The block the kernel leaves. -/
def outBlock : Vec F S512x256 .bf16 :=
  joinHalves (k0_pay1 (done i x0 x1 x2).a (k0_pay40 (gain0 x3)) (k0_pay41 (done i x0 x1 x2).a)) (k0_pay2 (done i x0 x1 x2).b (gain1 x3))

end Point

/-! ## The loop's counter -/

/-- The side condition a trip assumes holds at every trip the loop makes: as in the idealization. -/
theorem chk_of_lt (i : grid0.Coords) (j : ℕ) (hj : j < 2 * (i 1).val) : k0_chk1 i (BitVec.ofNat 32 j) := SbIdeal.chk_of_lt i j hj
theorem slt_of_lt (i : grid0.Coords) (j : ℕ) (hj : j < 2 * (i 1).val) :
    Scalar.cmpi .slt (BitVec.ofNat 32 j) (Scalar.muli (BitVec.ofNat 32 (i 1).val) 2#32) = 1#1 := SbIdeal.slt_of_lt i j hj
theorem slt_self (i : grid0.Coords) :
    Scalar.cmpi .slt (BitVec.ofNat 32 (2 * (i 1).val)) (Scalar.muli (BitVec.ofNat 32 (i 1).val) 2#32) = 0#1 := SbIdeal.slt_self i

open SbIdeal (addi_succ andi_one_left andi_zero_left)

/-! ## The loop -/

section Loop
variable (c : Dev nD) (i : grid0.Coords)
  (arg3 : Memref sig .tc .vmem S16896x256 .bf16) (harg3 : arg3.IsWhole) (arg4 : Memref sig .tc .vmem S16896x256 .bf16) (harg4 : arg4.IsWhole)
  (arg7 : Memref sig .tc .vmem S512x256 .f32) (harg7 : arg7.IsWhole)
  (x0 : Vec F S512x256 .bf16) (x1 x2 : Vec F S16896x256 .bf16)

/-- What a trip reads and writes: keys and values as staged, the accumulators at `s`. -/
def held (s : Carry F) : sProp 𝕄 :=
  iprop(owns c.tc arg3 fullShare x1 ∗ owns c.tc arg4 fullShare x2 ∗ Halves (c : Thread nD τ) arg7 s.a s.b)

/-- The loop with at most `k` trips after `j`: it returns something, the accumulators at `rest`. -/
def spec (j k : ℕ) (s : Carry F) (w : BitVec 32) : sWPT 𝕄 (BitVec 32 × FVec F S512x1 .f32 × FVec F S512x1 .f32 × BitVec 32) := do
  sWPT.consume (held c arg3 arg4 arg7 x1 x2 s)
  let r ← sWPT.arbitrary
  sWPT.produce (held c arg3 arg4 arg7 x1 x2 (rest i x0 x1 x2 k j s w))
  pure r

theorem spec_apply (j k : ℕ) (s : Carry F) (w : BitVec 32) (K : BitVec 32 × FVec F S512x1 .f32 × FVec F S512x1 .f32 × BitVec 32 → sProp 𝕄) :
    spec c i arg3 arg4 arg7 x0 x1 x2 j k s w K
      = iprop(held c arg3 arg4 arg7 x1 x2 s ∗ ∀ r : BitVec 32 × FVec F S512x1 .f32 × FVec F S512x1 .f32 × BitVec 32,
          (held c arg3 arg4 arg7 x1 x2 (rest i x0 x1 x2 k j s w) -∗ K r)) := rfl

theorem spec_le (E : Set ℕ) :
    ∀ k j, j + k = 2 * (i 1).val → ∀ (s : Carry F) (w : BitVec 32) K, spec c i arg3 arg4 arg7 x0 x1 x2 j k s w K
      ⊢ wp frame (wpE (defs₀ (F := F)) 𝒱₀ (c : Thread nD τ) (some k)) E
          (defs₀ (F := F) .tc 1 ⟨i, arg3, harg3, arg4, harg4, lo x0, k0_pay4, arg7, harg7, hi x0, BitVec.ofNat 32 j, s.c0, s.c1, w⟩) K := by
  intro k
  induction k with
  | zero =>
    intro j hj s w K
    rw [spec_apply]
    show _ ⊢ wp frame (wpE (defs₀ (F := F)) 𝒱₀ (c : Thread nD τ) (some 0)) E
      (cc0_while1 i arg3 harg3 arg4 harg4 (lo x0) k0_pay4 arg7 harg7 (hi x0) (BitVec.ofNat 32 j) s.c0 s.c1 w) K
    simp only [cc0_while1_eq_skeleton]; unfold cc0_while1_skel
    have hj' : j = 2 * (i 1).val := by omega
    have htest : Scalar.andi (Scalar.cmpi .slt (BitVec.ofNat 32 j) (Scalar.muli (BitVec.ofNat 32 (i 1).val) 2#32)) (Scalar.cmpi .sgt w 0#32) ≠ 1#1 := by
      rw [hj', slt_self, andi_zero_left]; decide
    simp only [htest, ↓reduceIte, Prog.pure_eq_ret]
    iintro ⟨H, Hk⟩
    rw [wp_ret]; imodintro
    iapply Hk
    simp only [rest]; iexact H
  | succ k ih =>
    intro j hj s w K
    rw [spec_apply]
    show _ ⊢ wp frame (wpE (defs₀ (F := F)) 𝒱₀ (c : Thread nD τ) (some (k + 1))) E
      (cc0_while1 i arg3 harg3 arg4 harg4 (lo x0) k0_pay4 arg7 harg7 (hi x0) (BitVec.ofNat 32 j) s.c0 s.c1 w) K
    simp only [cc0_while1_eq_skeleton]; unfold cc0_while1_skel
    have hlt : j < 2 * (i 1).val := by omega
    have hchk := chk_of_lt i j hlt
    by_cases hw : Scalar.cmpi .sgt w 0#32 = 1#1
    · have htest : Scalar.andi (Scalar.cmpi .slt (BitVec.ofNat 32 j) (Scalar.muli (BitVec.ofNat 32 (i 1).val) 2#32)) (Scalar.cmpi .sgt w 0#32) = 1#1 := by
        rw [slt_of_lt i j hlt, hw]; decide
      have hrest : rest i x0 x1 x2 (k + 1) j s w = rest i x0 x1 x2 k (j + 1) (trip i x0 x1 x2 j hchk s) (alive (trip i x0 x1 x2 j hchk s)) := by
        rw [rest, if_pos hw, dif_pos hchk]
      rw [hrest]
      simp only [htest, ↓reduceIte]
      simp only [k0_part6_eq_skeleton, k0_part7_eq_skeleton]; unfold k0_part6_skel k0_part7_skel
      simp only [Prog.lift, Prog.bind_op, Prog.bind_ret, Prog.pure_eq_ret]
      unfold held
      iintro ⟨⟨H3, H4, H7⟩, Hk⟩
      iapply (wp_assume 𝒱₀ (c : Thread nD τ) (some (k + 1)) E hchk)
      iapply (wp_load_owned _ _ _ _ (m := arg3)) $$ H3; iintro H3
      iapply (wp_load_owned _ _ _ _ (m := arg4)) $$ H4; iintro H4
      iapply (wp_loadL _ _ _ _ (m := arg7)) $$ H7; iintro H7
      iapply (wp_loadL _ _ _ _ (m := arg7)) $$ H7; iintro H7
      iapply (wp_storeL _ _ _ _ (m := arg7)) $$ H7; iintro H7
      iapply (wp_load_owned _ _ _ _ (m := arg3)) $$ H3; iintro H3
      iapply (wp_load_owned _ _ _ _ (m := arg4)) $$ H4; iintro H4
      iapply (wp_loadR _ _ _ _ (m := arg7)) $$ H7; iintro H7
      iapply (wp_loadR _ _ _ _ (m := arg7)) $$ H7; iintro H7
      iapply (wp_storeR _ _ _ _ (m := arg7)) $$ H7; iintro H7
      rw [addi_succ j]
      iapply (wp_call_spec 𝒱₀ (c : Thread nD τ) (some (k + 1)) E
        (spec c i arg3 arg4 arg7 x0 x1 x2 (j + 1) k (trip i x0 x1 x2 j hchk s) (alive (trip i x0 x1 x2 j hchk s))) k
        (fun u hu => by cases hu; exact Nat.lt_succ_self k)
        (ih (j + 1) (by omega) (trip i x0 x1 x2 j hchk s) (alive (trip i x0 x1 x2 j hchk s))))
      rw [spec_apply]; unfold held
      isplitl [H3 H4 H7]
      · isplitl [H3]; · iexact H3
        isplitl [H4]; · iexact H4
        iexact H7
      iintro %r H
      rw [wp_ret]; imodintro
      iapply Hk
      iexact H
    · have htest : Scalar.andi (Scalar.cmpi .slt (BitVec.ofNat 32 j) (Scalar.muli (BitVec.ofNat 32 (i 1).val) 2#32)) (Scalar.cmpi .sgt w 0#32) ≠ 1#1 := by
        rw [slt_of_lt i j hlt, andi_one_left]; exact hw
      simp only [htest, ↓reduceIte, Prog.pure_eq_ret]
      iintro ⟨H, Hk⟩
      rw [wp_ret]; imodintro
      iapply Hk
      rw [rest, if_neg hw]; iexact H

end Loop

/-! ## The whole body -/

/-- The kernel body on any staging buffers: it reads its inputs, and leaves the output block at `outBlock`. -/
theorem kernel_run (c : Dev nD) (i : grid0.Coords) (arg2 : Memref sig .tc .vmem S512x256 .bf16) (harg2 : arg2.IsWhole)
    (arg3 : Memref sig .tc .vmem S16896x256 .bf16) (harg3 : arg3.IsWhole) (arg4 : Memref sig .tc .vmem S16896x256 .bf16) (harg4 : arg4.IsWhole)
    (arg5 : Memref sig .tc .vmem S1x2x128 .f32) (harg5 : arg5.IsWhole) (arg6 : Memref sig .tc .vmem S512x256 .bf16) (harg6 : arg6.IsWhole)
    (arg7 : Memref sig .tc .vmem S512x256 .f32) (harg7 : arg7.IsWhole)
    (x0 : Vec F S512x256 .bf16) (x1 x2 : Vec F S16896x256 .bf16) (x3 : Vec F S1x2x128 .f32) (E : Set ℕ) (K : PUnit → sProp 𝕄) :
    iprop(owns c.tc arg2 fullShare x0 ∗ owns c.tc arg3 fullShare x1 ∗ owns c.tc arg4 fullShare x2
        ∗ owns c.tc arg5 fullShare x3 ∗ (∃ d, owns c.tc arg6 fullShare d) ∗ (∃ d, owns c.tc arg7 fullShare d)
        ∗ (iprop(owns c.tc arg2 fullShare x0 ∗ owns c.tc arg3 fullShare x1 ∗ owns c.tc arg4 fullShare x2
            ∗ owns c.tc arg5 fullShare x3 ∗ owns c.tc arg6 fullShare (outBlock i x0 x1 x2 x3)
            ∗ (∃ d, owns c.tc arg7 fullShare d)) -∗ K ⟨⟩))
      ⊢ wp frame (wpE (defs₀ (F := F)) 𝒱₀ (c : Thread nD τ) none) E
          (cc0_sb_prompt i arg2 harg2 arg3 harg3 arg4 harg4 arg5 harg5 arg6 harg6 arg7 harg7) K := by
  simp only [cc0_sb_prompt_eq_skeleton]; unfold cc0_sb_prompt_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iintro ⟨H2, H3, H4, H5, ⟨%d6, H6⟩, ⟨%d7, H7⟩, Hk⟩
  ihave H6' := (show owns c.tc arg6 fullShare d6 ⊢ (Halves (c : Thread nD τ) arg6 (fun i => d6 (rL.emb i)) (fun i => d6 (rR.emb i)) : sProp 𝕄) from by
    unfold Halves
    iintro H
    iexists d6
    isplitr
    · ipureintro; exact ⟨fun _ => rfl, fun _ => rfl⟩
    iexact H) $$ H6
  ihave H7' := (show owns c.tc arg7 fullShare d7 ⊢ (Halves (c : Thread nD τ) arg7 (fun i => d7 (rL.emb i)) (fun i => d7 (rR.emb i)) : sProp 𝕄) from by
    unfold Halves
    iintro H
    iexists d7
    isplitr
    · ipureintro; exact ⟨fun _ => rfl, fun _ => rfl⟩
    iexact H) $$ H7
  -- the two heads' queries, the upper diagonal block
  iapply (wp_load_owned _ _ _ _ (m := arg2)) $$ H2; iintro H2
  iapply (wp_load_owned _ _ _ _ (m := arg2)) $$ H2; iintro H2
  iapply (wp_load_owned _ _ _ _ (m := arg3)) $$ H3; iintro H3
  iapply (wp_load_owned _ _ _ _ (m := arg4)) $$ H4; iintro H4
  iapply (wp_loadL _ _ _ _ (m := arg7)) $$ H7'; iintro H7
  iapply (wp_storeL _ _ _ _ (m := arg7)) $$ H7; iintro H7
  iapply (wp_load_owned _ _ _ _ (m := arg3)) $$ H3; iintro H3
  iapply (wp_load_owned _ _ _ _ (m := arg4)) $$ H4; iintro H4
  iapply (wp_loadR _ _ _ _ (m := arg7)) $$ H7; iintro H7
  iapply (wp_storeR _ _ _ _ (m := arg7)) $$ H7; iintro H7
  -- the lower diagonal block
  iapply (wp_load_owned _ _ _ _ (m := arg3)) $$ H3; iintro H3
  iapply (wp_load_owned _ _ _ _ (m := arg4)) $$ H4; iintro H4
  iapply (wp_loadL _ _ _ _ (m := arg7)) $$ H7; iintro H7
  iapply (wp_loadL _ _ _ _ (m := arg7)) $$ H7; iintro H7
  iapply (wp_storeL _ _ _ _ (m := arg7)) $$ H7; iintro H7
  iapply (wp_load_owned _ _ _ _ (m := arg3)) $$ H3; iintro H3
  iapply (wp_load_owned _ _ _ _ (m := arg4)) $$ H4; iintro H4
  iapply (wp_loadR _ _ _ _ (m := arg7)) $$ H7; iintro H7
  iapply (wp_loadR _ _ _ _ (m := arg7)) $$ H7; iintro H7
  iapply (wp_storeR _ _ _ _ (m := arg7)) $$ H7; iintro H7
  -- the loop
  iapply (wp_call_spec 𝒱₀ (c : Thread nD τ) none E
    (spec c i arg3 arg4 arg7 x0 x1 x2 0 (2 * (i 1).val) (diag0 i x0 x1 x2) (alive0 i x0 x1 x2)) (2 * (i 1).val)
    (fun u hu => nomatch hu)
    (spec_le c i arg3 harg3 arg4 harg4 arg7 harg7 x0 x1 x2 E (2 * (i 1).val) 0 (by omega) (diag0 i x0 x1 x2) (alive0 i x0 x1 x2)))
  rw [spec_apply]; unfold held
  isplitl [H3 H4 H7]
  · isplitl [H3]; · iexact H3
    isplitl [H4]; · iexact H4
    iexact H7
  iintro %r ⟨H3, H4, H7⟩
  -- the norm of the two heads
  iapply (wp_loadL _ _ _ _ (m := arg7)) $$ H7; iintro H7
  iapply (wp_load_owned _ _ _ _ (m := arg5)) $$ H5; iintro H5
  iapply (wp_loadL _ _ _ _ (m := arg6)) $$ H6'; iintro H6
  iapply (wp_storeL _ _ _ _ (m := arg6)) $$ H6; iintro H6
  iapply (wp_loadR _ _ _ _ (m := arg7)) $$ H7; iintro H7
  iapply (wp_load_owned _ _ _ _ (m := arg5)) $$ H5; iintro H5
  iapply (wp_loadR _ _ _ _ (m := arg6)) $$ H6; iintro H6
  iapply (wp_storeR _ _ _ _ (m := arg6)) $$ H6; iintro H6
  rw [wp_ret]; imodintro
  unfold Halves
  icases H6 with ⟨%X6, %h6, H6⟩
  icases H7 with ⟨%X7, -, H7⟩
  have e6 : X6 = outBlock i x0 x1 x2 x3 := eq_joinHalves h6
  subst e6
  iapply Hk
  iframe H2 H3 H4 H5 H6
  iexists X7; iexact H7

end Cert.Proof.SbBits

end
-- ==== Proof.SbIdeal.Frame.lean ====
/-
  The run of `KernelIdeal`: the host reshapes the gain, and the pipelined region runs the kernel body at the 264 points. Every
  input is staged whole blocks and never written back; the output is written back at every point with what the body
  leaves there, `outBlock` of the point's staged blocks.
-/
module

public import proofs.«01_k».proof.Proof.SbIdeal.Body
public import Idealize.ShloMosaic.Lib.WordCmp
public import Idealize.ShloMosaic.Lib.Claim

@[expose] public section

set_option maxRecDepth 16384

noncomputable section

namespace Cert.Proof.SbIdeal

open Cert.KernelIdeal Cert.KernelIdeal.Gen Cert.Proof.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the region -/

/-- The buffers' contents when the region is entered. -/
abbrev atRegion (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
theorem main_to_region :
    Pipeline.HMain (Ix := Unit) (Name := ℕ) (U := UR sig nD τ) (Lvl := ℕ) cfgs 0 defs₀ 𝒱₀ m (main (F := F)) (atRegion m) :=
  Pipeline.hmain_prefix cfgs 0 defs₀ 𝒱₀ m main hostOps0 hostOps0_sub host_fresh main_chain

/-- A buffer the reshape does not write is at the region as launched. -/
theorem atRegion_of_ne (c : Dev nD) (b : Ref sig .tc) (hb : b ≠ main_v0) : atRegion m c b = m (c.tc.loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The block of window `w` at point `t`. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (atRegion m c (Pipeline.arrRef spec0 w))

/-- What the body leaves of the output at point `t`. -/
def leaves (c : Dev nD) (t : Fin (cfg0 (F := F)).N) : Vec F S512x256 .bf16 :=
  outBlock (grid0.coords t) (blockAt m c 0 t) (blockAt m c 1 t) (blockAt m c 2 t) (blockAt m c 3 t)

/-! ## The pipeline's data -/

def pdat (_ : Fin 1) (c : Dev nD) : Dat τ (Elt F) Unit ℕ (UR sig nD τ) ℕ (cfg0 (F := F)) c where
  A w := atRegion m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => leaves m c t
  Φ _ := Pipeline.ΦA spec0 c
  q _ := fullShare
  owed _ := 0

theorem pdat_A (c : Dev nD) (w : Fin (cfg0 (F := F)).W) : (pdat m 0 c).A w = atRegion m c (Pipeline.arrRef spec0 w) := by
  dsimp only [pdat]

theorem left0 (c : Dev nD) (t : Fin (cfg0 (F := F)).N) : (pdat m 0 c).after 0 t = blockAt m c 0 t := by dsimp only [pdat]; rfl
theorem left1 (c : Dev nD) (t : Fin (cfg0 (F := F)).N) : (pdat m 0 c).after 1 t = blockAt m c 1 t := by dsimp only [pdat]; rfl
theorem left2 (c : Dev nD) (t : Fin (cfg0 (F := F)).N) : (pdat m 0 c).after 2 t = blockAt m c 2 t := by dsimp only [pdat]; rfl
theorem left3 (c : Dev nD) (t : Fin (cfg0 (F := F)).N) : (pdat m 0 c).after 3 t = blockAt m c 3 t := by dsimp only [pdat]; rfl
theorem left4 (c : Dev nD) (t : Fin (cfg0 (F := F)).N) : (pdat m 0 c).after 4 t = leaves m c t := by dsimp only [pdat]; rfl

/-- Each input's staging buffer holds its block at every point, fetched there or not. -/
theorem found0 (c : Dev nD) (t : Fin (cfg0 (F := F)).N) (d) : (pdat m 0 c).before 0 t d = blockAt m c 0 t :=
  ((pdat m 0 c).before_in_eq_fetched 0 rfl (fun _ => rfl) (fun _ _ _ => rfl)
      (fun t => by rw [left0]; unfold Dat.blockOf blockAt; rw [pdat_A]; try rfl) t d).trans
    (by unfold Dat.fetched Dat.blockOf blockAt; rw [pdat_A]; try rfl)
theorem found1 (c : Dev nD) (t : Fin (cfg0 (F := F)).N) (d) : (pdat m 0 c).before 1 t d = blockAt m c 1 t :=
  ((pdat m 0 c).before_in_eq_fetched 1 rfl (fun _ => rfl) (fun _ _ _ => rfl)
      (fun t => by rw [left1]; unfold Dat.blockOf blockAt; rw [pdat_A]; try rfl) t d).trans
    (by unfold Dat.fetched Dat.blockOf blockAt; rw [pdat_A]; try rfl)
theorem found2 (c : Dev nD) (t : Fin (cfg0 (F := F)).N) (d) : (pdat m 0 c).before 2 t d = blockAt m c 2 t :=
  ((pdat m 0 c).before_in_eq_fetched 2 rfl (fun _ => rfl) (fun _ _ _ => rfl)
      (fun t => by rw [left2]; unfold Dat.blockOf blockAt; rw [pdat_A]; try rfl) t d).trans
    (by unfold Dat.fetched Dat.blockOf blockAt; rw [pdat_A]; try rfl)
theorem found3 (c : Dev nD) (t : Fin (cfg0 (F := F)).N) (d) : (pdat m 0 c).before 3 t d = blockAt m c 3 t :=
  ((pdat m 0 c).before_in_eq_fetched 3 rfl (fun _ => rfl) (fun _ _ _ => rfl)
      (fun t => by rw [left3]; unfold Dat.blockOf blockAt; rw [pdat_A]; try rfl) t d).trans
    (by unfold Dat.fetched Dat.blockOf blockAt; rw [pdat_A]; try rfl)

/-! ## The body obligation -/

abbrev stg0 (t : Fin (cfg0 (F := F)).N) : Memref sig .tc .vmem S512x256 .bf16 := win0_0.stage ((cfg0 (F := F)).slots t 0)
abbrev stg1 (t : Fin (cfg0 (F := F)).N) : Memref sig .tc .vmem S16896x256 .bf16 := win0_1.stage ((cfg0 (F := F)).slots t 1)
abbrev stg2 (t : Fin (cfg0 (F := F)).N) : Memref sig .tc .vmem S16896x256 .bf16 := win0_2.stage ((cfg0 (F := F)).slots t 2)
abbrev stg3 (t : Fin (cfg0 (F := F)).N) : Memref sig .tc .vmem S1x2x128 .f32 := win0_3.stage ((cfg0 (F := F)).slots t 3)
abbrev stg4 (t : Fin (cfg0 (F := F)).N) : Memref sig .tc .vmem S512x256 .bf16 := win0_4.stage ((cfg0 (F := F)).slots t 4)
abbrev acc : Memref sig .tc .vmem S512x256 .f32 := Memref.whole cc0_scratch0

/-- Between points: the accumulator buffer at anything, and the generator register. -/
theorem between (c : Dev nD) :
    (Pipeline.ΦA spec0 c : sProp 𝕄) = iprop((∃ d, owns c.tc acc fullShare d) ∗ (∃ r, prngReg c r)) := by
  unfold Pipeline.ΦA; rw [scopedRest0_eq]; simp only [acc, owns_whole]; try rfl

def pre (c : Dev nD) (t : Fin (cfg0 (F := F)).N) : sProp 𝕄 :=
  iprop((pdat m 0 c).Φ t.castSucc ∗ (pdat m 0 c).owesAt () t.castSucc
    ∗ (∃ d, owns c.tc (stg0 t) fullShare ((pdat m 0 c).before 0 t d))
    ∗ (∃ d, owns c.tc (stg1 t) fullShare ((pdat m 0 c).before 1 t d))
    ∗ (∃ d, owns c.tc (stg2 t) fullShare ((pdat m 0 c).before 2 t d))
    ∗ (∃ d, owns c.tc (stg3 t) fullShare ((pdat m 0 c).before 3 t d))
    ∗ (∃ d, owns c.tc (stg4 t) fullShare ((pdat m 0 c).before 4 t d)))

def post (c : Dev nD) (t : Fin (cfg0 (F := F)).N) : sProp 𝕄 :=
  iprop((pdat m 0 c).Φ t.succ ∗ (pdat m 0 c).owesAt () t.succ
    ∗ owns c.tc (stg0 t) fullShare ((pdat m 0 c).after 0 t)
    ∗ owns c.tc (stg1 t) fullShare ((pdat m 0 c).after 1 t)
    ∗ owns c.tc (stg2 t) fullShare ((pdat m 0 c).after 2 t)
    ∗ owns c.tc (stg3 t) fullShare ((pdat m 0 c).after 3 t)
    ∗ owns c.tc (stg4 t) fullShare ((pdat m 0 c).after 4 t))

theorem body_at (c : Dev nD) (t : Fin (cfg0 (F := F)).N) :
    pre m c t ⊢ wp frame (wpE (defs₀ (F := F)) 𝒱₀ c none) Set.univ (bodyAt0 t) (fun _ => post m c t) := by
  unfold pre post bodyAt0
  simp only [found0, found1, found2, found3]
  rw [show (pdat m 0 c).Φ t.succ = (pdat m 0 c).Φ t.castSucc from rfl,
    show (pdat m 0 c).owesAt () t.succ = (pdat m 0 c).owesAt () t.castSucc from rfl, left0, left1, left2, left3, left4]
  rw [show (pdat m 0 c).Φ t.castSucc = Pipeline.ΦA spec0 c from rfl, between]
  unfold leaves
  iintro ⟨⟨HS, Hg⟩, Ho, ⟨%d0, H0⟩, ⟨%d1, H1⟩, ⟨%d2, H2⟩, ⟨%d3, H3⟩, ⟨%d4, H4⟩⟩
  iapply (kernel_run c (grid0.coords t) _ _ _ _ _ _ _ _ _ _ _ _ (blockAt m c 0 t) (blockAt m c 1 t) (blockAt m c 2 t) (blockAt m c 3 t) Set.univ _)
  iframe H0 H1 H2 H3
  isplitl [H4]; · iexists _; iexact H4
  isplitl [HS]; · iexact HS
  iintro ⟨H0, H1, H2, H3, H4, HS⟩
  isplitl [HS Hg]
  · isplitl [HS]; · iexact HS
    iexact Hg
  iframe Ho H0 H1 H2 H3
  iexact H4

theorem table_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem obligation (c : Dev nD) : BodyObligation (pdat (F := F) m 0 c) (defs₀ (F := F)) 𝒱₀ () Set.univ := fun t => by
  rw [bigSep_W0, bigSep_W0, table_row]
  exact triple_restated (body_at m c t) rfl .rfl fun _ => .rfl

/-! ## The run -/

set_option backward.isDefEq.respectTransparency.types false in
theorem run_region : θ_run defs (onTc (τ := τ) (main (F := F))) (s₀ m ρ)
    (fun r => (Pipeline.FramePost cfgs (pdat m) 0 (atRegion m)) r ∧ r.2.sem = fun _ => 0) :=
  Pipeline.θ_run_frame (Q' := _) cfgs (pdat m) (0 : Fin 1) launch0 defs₀ 𝒱₀ m ρ main
    (hbody := fun c => (obligation m c).loose) (hshare := fun c => (pdat m 0 c).share_full fun _ => rfl)
    (howed := fun _ _ => rfl) (V := atRegion m) (hmain := main_to_region m) (hA := pdat_A m) (hΦ := fun _ _ => rfl)

/-- Every run ends, the output array at what the points wrote back, the arguments as launched, the counters at zero. -/
theorem run_all : θ_run defs (onTc (τ := τ) (main (F := F))) ⟨m, fun _ => 0, ρ⟩ (fun r => (∀ c : Dev nD,
      r.2.mem (c.tc.loc main_v1) = (pdat m 0 c).arrAt 4 (cfg0 (F := F)).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => ⟨(h.1 c).1 4,
      ((h.1 c).1 0).trans (((pdat m 0 c).arrAt_in 0 rfl _).trans ((pdat_A m c 0).trans (atRegion_of_ne m c main_arg0 (by decide)))),
      ((h.1 c).1 1).trans (((pdat m 0 c).arrAt_in 1 rfl _).trans ((pdat_A m c 1).trans (atRegion_of_ne m c main_arg1 (by decide)))),
      ((h.1 c).1 2).trans (((pdat m 0 c).arrAt_in 2 rfl _).trans ((pdat_A m c 2).trans (atRegion_of_ne m c main_arg2 (by decide)))),
      ((h.1 c).2 main_arg3 (Pipeline.mem_restRefs_of main_arg3 (by decide) (show ∀ w : Fin 5, (spec0 w).arr.view.ref ≠ main_arg3 from by decide))).trans (atRegion_of_ne m c main_arg3 (by decide))⟩, h.2⟩)
    (run_region m ρ)

/-- Every run ends with the arguments as launched and the counters at zero. -/
theorem framed : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => (h.1 c).2, h.2⟩) (run_all m ρ)

/-- What point `t` writes back. -/
theorem written (c : Dev nD) (t : Fin (cfg0 (F := F)).N) :
    (pdat m 0 c).flushed 4 t = ((cfg0 (F := F)).win 4).cut (grid0.coords t) (leaves m c t) := by
  show ((cfg0 (F := F)).win 4).cut (grid0.coords t) ((pdat m 0 c).after 4 t) = _
  rw [left4]

end Cert.Proof.SbIdeal

end
-- ==== Proof.SbVal.Math.lean ====
/-
  The stick-breaking weights of one query row, over the extended reals. `z s` is the row's score against key `s`, `v s` one
  coordinate of the value of key `s`; keys at and after the row's own position `r` are shut out. `tail n` is the sum of the
  log-factors of the keys from `n` on, `wt s` the weight of key `s`, `mass n` the weighted values of the keys from `n` on.
  Everything here is closed under infinite scores: no row is assumed finite.
-/
module

public import Idealize.ShloMosaic.PureOps.Ideal.Laws

@[expose] public section

noncomputable section

namespace Cert.Proof.SbVal

open Idealize.ShloMosaic
open scoped BigOperators

/-! ## The log-factor -/

/-- The logarithm of `1 - sigmoid z`, in the form that never leaves the exponential's safe side. -/
def lsig (z : EReal) : EReal := min (-z) 0 - Ideal.log (1 + Ideal.exp (min z (-z)))

theorem log_part (z : EReal) : ∃ b : ℝ, 0 ≤ b ∧ Ideal.log (1 + Ideal.exp (min z (-z))) = (b : EReal) := by
  have h1 : Ideal.log (1 + 0) = ((0 : ℝ) : EReal) := by
    rw [add_zero, ← EReal.coe_one]
    show (if (1 : ℝ) ≤ 0 then (⊥ : EReal) else (Real.log 1 : EReal)) = _
    rw [if_neg (by norm_num), Real.log_one]
  induction z using EReal.rec with
  | bot =>
    refine ⟨0, le_refl _, ?_⟩
    rw [min_eq_left bot_le]
    exact h1
  | top =>
    refine ⟨0, le_refl _, ?_⟩
    rw [EReal.neg_top, min_eq_right bot_le]
    exact h1
  | coe x =>
    have hm : min (x : EReal) (-(x : EReal)) = ((min x (-x) : ℝ) : EReal) := by
      rw [← EReal.coe_neg]; exact (EReal.coe_strictMono.monotone.map_min).symm
    rw [hm]
    have hp : 0 < Real.exp (min x (-x)) := Real.exp_pos _
    refine ⟨Real.log (1 + Real.exp (min x (-x))), Real.log_nonneg (by linarith), ?_⟩
    show Ideal.log (1 + ((Real.exp (min x (-x)) : ℝ) : EReal)) = _
    rw [← EReal.coe_one, ← EReal.coe_add]
    show (if 1 + Real.exp (min x (-x)) ≤ 0 then (⊥ : EReal) else _) = _
    rw [if_neg (by linarith)]

theorem lsig_nonpos (z : EReal) : lsig z ≤ 0 := by
  obtain ⟨b, hb, h⟩ := log_part z
  unfold lsig
  rw [h]
  calc min (-z) 0 - (b : EReal) ≤ 0 - (b : EReal) := EReal.sub_le_sub (min_le_right _ _) le_rfl
    _ ≤ 0 := by rw [zero_sub, ← EReal.coe_neg]; exact_mod_cast neg_nonpos.mpr hb

/-- The same through the softplus with its absolute value. -/
theorem lsig_softplus (z : EReal) : -(max z 0 + Ideal.log (1 + Ideal.exp (-(max z (-z))))) = lsig z := by
  have hm : -(max z (-z)) = min z (-z) := by
    induction z using EReal.rec with
    | bot => simp
    | top => simp
    | coe x =>
      rcases le_total x (-x) with h | h
      · have h' : (x : EReal) ≤ -(x : EReal) := by rw [← EReal.coe_neg]; exact_mod_cast h
        rw [max_eq_right h', min_eq_left h', neg_neg]
      · have h' : -(x : EReal) ≤ (x : EReal) := by rw [← EReal.coe_neg]; exact_mod_cast h
        rw [max_eq_left h', min_eq_right h']
  have h0 : -(max z 0) = min (-z) 0 := by
    rcases le_total z 0 with h | h
    · rw [max_eq_right h, min_eq_right (by rw [← neg_zero]; exact EReal.neg_le_neg_iff.mpr h), neg_zero]
    · rw [max_eq_left h, min_eq_left (by rw [← neg_zero]; exact EReal.neg_le_neg_iff.mpr h)]
  rw [hm]
  unfold lsig
  obtain ⟨b, hb, h⟩ := log_part z
  rw [h, EReal.neg_add (Or.inr (EReal.coe_ne_top b)) (Or.inr (EReal.coe_ne_bot b)), h0]

/-! ## Sums over a strict triangle -/

/-- One below the diagonal, nothing on or above it: the coefficient of key `y` in what comes after key `x`. -/
def after (y x : ℕ) : EReal := if x < y then 1 else 0

/-- Splitting a number into itself and its rounding's remainder adds nothing: nonpositive infinities absorb. -/
theorem split_term {l : EReal} (hl : l ≤ 0) (y x : ℕ) : l * after y x + (l - l) * after y x = l * after y x := by
  unfold after
  split
  · rw [mul_one, mul_one]
    induction l using EReal.rec with
    | bot => simp
    | top => exact absurd hl (by simp)
    | coe a => rw [EReal.sub_self (EReal.coe_ne_top a) (EReal.coe_ne_bot a), add_zero]
  · rw [mul_zero, mul_zero, add_zero]

theorem sum_after {N : ℕ} (f : ℕ → EReal) (x : ℕ) :
    ∑ y : Fin N, f y.val * after y.val x = ∑ y ∈ Finset.Ico (x + 1) N, f y := by
  rw [Fin.sum_univ_eq_sum_range (fun y => f y * after y x) N]
  unfold after
  simp only [mul_ite, mul_one, mul_zero]
  rw [← Finset.sum_filter]
  refine Finset.sum_congr ?_ fun _ _ => rfl
  ext y
  simp only [Finset.mem_filter, Finset.mem_range, Finset.mem_Ico]
  omega

/-- A block of 256 consecutive terms. -/
theorem sum_block (f : ℕ → EReal) (n : ℕ) :
    ∑ y : Fin 256, f (256 * n + y.val) = ∑ y ∈ Finset.Ico (256 * n) (256 * (n + 1)), f y := by
  rw [Fin.sum_univ_eq_sum_range (fun y => f (256 * n + y)) 256, Finset.sum_Ico_eq_sum_range]
  refine Finset.sum_congr ?_ fun _ _ => rfl
  congr 1
  omega

/-! ## One row -/

section Row
variable (r : ℕ) (z v : ℕ → EReal)

/-- The log-factor of key `s`. -/
def lf (s : ℕ) : EReal := if s < r then lsig (z s) else 0

/-- The log-factors of the keys from `n` on. -/
def tail (n : ℕ) : EReal := ∑ k ∈ Finset.Ico n 16896, lf r z k

/-- The weight of key `s`. -/
def wt (s : ℕ) : EReal := if s < r then Ideal.exp ((z s + lf r z s) + tail r z (s + 1)) else 0

/-- The weighted values of the keys from `n` on. -/
def mass (n : ℕ) : EReal := ∑ k ∈ Finset.Ico n 16896, wt r z k * v k

theorem lf_nonpos (s : ℕ) : lf r z s ≤ 0 := by
  unfold lf
  split
  · exact lsig_nonpos _
  · exact le_rfl

theorem lf_of_le {s : ℕ} (h : r ≤ s) : lf r z s = 0 := if_neg (by omega)
theorem wt_of_le {s : ℕ} (h : r ≤ s) : wt r z s = 0 := if_neg (by omega)

theorem tail_of_le {n : ℕ} (h : r ≤ n) : tail r z n = 0 :=
  Finset.sum_eq_zero fun k hk => lf_of_le r z (by have := (Finset.mem_Ico.mp hk).1; omega)
theorem mass_of_le {n : ℕ} (h : r ≤ n) : mass r z v n = 0 :=
  Finset.sum_eq_zero fun k hk => by rw [wt_of_le r z (by have := (Finset.mem_Ico.mp hk).1; omega), zero_mul]

/-- One block further down. -/
theorem tail_block (n : ℕ) (hn : 256 * (n + 1) ≤ 16896) :
    tail r z (256 * n) = tail r z (256 * (n + 1)) + ∑ y : Fin 256, lf r z (256 * n + y.val) := by
  unfold tail
  rw [sum_block (lf r z), add_comm, Finset.sum_Ico_consecutive _ (by omega) hn]
theorem mass_block (n : ℕ) (hn : 256 * (n + 1) ≤ 16896) :
    mass r z v (256 * n) = mass r z v (256 * (n + 1)) + ∑ x : Fin 256, wt r z (256 * n + x.val) * v (256 * n + x.val) := by
  unfold mass
  rw [sum_block (fun k => wt r z k * v k), add_comm, Finset.sum_Ico_consecutive _ (by omega) hn]

/-- What comes after a key of a block: the keys after it inside the block, then the blocks above. -/
theorem tail_inside (n : ℕ) (hn : 256 * (n + 1) ≤ 16896) (x : Fin 256) :
    ∑ y : Fin 256, lf r z (256 * n + y.val) * after y.val x.val + tail r z (256 * (n + 1)) = tail r z (256 * n + x.val + 1) := by
  have hx : x.val < 256 := x.isLt
  rw [sum_after (fun y => lf r z (256 * n + y)) x.val]
  unfold tail
  have h : ∑ y ∈ Finset.Ico (x.val + 1) 256, lf r z (256 * n + y) = ∑ y ∈ Finset.Ico (256 * n + x.val + 1) (256 * (n + 1)), lf r z y := by
    rw [Finset.sum_Ico_eq_sum_range, Finset.sum_Ico_eq_sum_range]
    refine Finset.sum_congr (by congr 1; omega) fun y _ => ?_
    congr 1
    omega
  rw [h, Finset.sum_Ico_consecutive _ (by omega) hn]

/-- The weights of one block as the kernel forms them from the scores of the block and the carry `c`. -/
def inside (zs l : Fin 256 → EReal) (c : EReal) (x : Fin 256) : EReal :=
  Ideal.exp ((zs x + l x) + ((∑ y : Fin 256, l y * after y.val x.val + ∑ y : Fin 256, (l y - l y) * after y.val x.val) + c))

theorem inside_eq (n : ℕ) (hn : 256 * (n + 1) ≤ 16896) (x : Fin 256) :
    inside (fun s => z (256 * n + s.val)) (fun s => lf r z (256 * n + s.val)) (tail r z (256 * (n + 1))) x
      = Ideal.exp ((z (256 * n + x.val) + lf r z (256 * n + x.val)) + tail r z (256 * n + x.val + 1)) := by
  unfold inside
  rw [← Finset.sum_add_distrib]
  simp only [split_term (lf_nonpos r z _)]
  rw [tail_inside r z n hn x]

/-- Once a carry has reached minus infinity every key further down has weight zero. -/
theorem wt_dead {n : ℕ} (hn : n ≤ 16896) (h : tail r z n = ⊥) {s : ℕ} (hs : s < n) : wt r z s = 0 := by
  unfold wt
  split
  · have ht : tail r z (s + 1) = ⊥ := by
      unfold tail at h ⊢
      rw [← Finset.sum_Ico_consecutive _ (show s + 1 ≤ n by omega) hn, h, EReal.add_bot]
    rw [ht, EReal.add_bot]
    rfl
  · rfl
theorem mass_dead {n : ℕ} (hn : n ≤ 16896) (h : tail r z n = ⊥) : mass r z v 0 = mass r z v n := by
  unfold mass
  rw [← Finset.sum_Ico_consecutive _ (Nat.zero_le n) hn, Finset.sum_eq_zero, zero_add]
  intro k hk
  rw [wt_dead r z hn h (Finset.mem_Ico.mp hk).2, zero_mul]

end Row

end Cert.Proof.SbVal
-- ==== Proof.SbVal.Block.lean ====
/-
  The kernel's vector expressions read at an index, over the extended reals: one key block for one head. `zz q k r s` is the
  score of the block's key `s` for row `r`; the carry gains the row's log-factors and the accumulator the weights of the
  block times its values.
-/
module

public import proofs.«01_k».proof.Proof.SbIdeal.Frame
public import proofs.«01_k».proof.Proof.SbVal.Math
public import Idealize.ShloMosaic.Lib.Pipeline.ValueKit

@[expose] public section

set_option maxRecDepth 16384

noncomputable section

namespace Cert.Proof.SbVal

open Cert.KernelIdeal Cert.KernelIdeal.Gen Cert.Proof.Sb Cert.Proof.SbIdeal
open Idealize.ShloMosaic Idealize.ShloMosaic.TcCoe

/-- The factor on the scores. -/
abbrev scl : EReal := Ideal.ofBits .f32 0x3DB504F3#32

theorem scl_neg : Ideal.ofBits .f32 0xBDB504F3#32 = -scl := by
  simp [scl, Ideal.ofBits, Ideal.ieee]

theorem pick (p : Prop) [Decidable p] (a b : EReal) : Scalar.select (BitVec.ofBool (decide p)) a b = if p then a else b := by
  by_cases h : p <;> simp [Scalar.select, h]

theorem pick_mul (p : Prop) [Decidable p] (a b : EReal) : (if p then a * b else 0) = (if p then a else 0) * b := by
  by_cases h : p <;> simp [h]

theorem lt_word {a b : ℕ} (ha : a < 16896) (hb : b < 16896) :
    IntOp.cmpi .slt (BitVec.ofNat 32 a) (BitVec.ofNat 32 b) = BitVec.ofBool (decide (a < b)) :=
  WordCmp.cmpi_slt_ofNat (by omega) (by omega)

theorem gt_word {a b : ℕ} (ha : a < 16896) (hb : b < 16896) :
    IntOp.cmpi .sgt (BitVec.ofNat 32 a) (BitVec.ofNat 32 b) = BitVec.ofBool (decide (b < a)) :=
  lt_word hb ha

/-- A block's scores. -/
def zz (q : Vec Ideal S512x128 .bf16) (k : Vec Ideal S256x128 .bf16) (r : Fin 512) (s : Fin 256) : EReal :=
  (∑ d : Fin 128, q (ix2 r d) * k (ix2 s d)) * scl

section At
variable (q : Vec Ideal S512x128 .bf16) (k : Vec Ideal S256x128 .bf16) (vt : Vec Ideal S256x128 .bf16)
variable (c : FVec Ideal S512x1 .f32) (acc : Vec Ideal S512x128 .f32)
variable (r : Fin 512) (s : Fin 256) (d : Fin 128)

/-! ### The triangle and the masks -/

theorem tri_at (y x : Fin 256) : (k0_pay4 (F := Ideal)) (ix2 y x) = after y.val x.val := by
  have hy := y.isLt
  have hx := x.isLt
  pointwise [k0_pay4]
  show Scalar.select (IntOp.cmpi .sgt (BitVec.ofNat 32 y.val) (BitVec.ofNat 32 x.val)) 1 0 = _
  rw [gt_word (by omega) (by omega), pick]
  rfl

theorem mask1_at : k0_pay7 (ix2 r s) = BitVec.ofBool (decide (256 + s.val < r.val)) := by
  have hr := r.isLt
  have hs := s.isLt
  pointwise [k0_pay7]
  show IntOp.cmpi .slt (BitVec.ofNat 32 256 + BitVec.ofNat 32 s.val) (BitVec.ofNat 32 r.val) = _
  rw [← BitVec.ofNat_add, lt_word (by omega) (by omega)]
theorem mask0_at : mask0 (ix2 r s) = BitVec.ofBool (decide (s.val < r.val)) := by
  have hr := r.isLt
  have hs := s.isLt
  pointwise [mask0, k0_pay22]
  show IntOp.cmpi .slt (BitVec.ofNat 32 0 + BitVec.ofNat 32 s.val) (BitVec.ofNat 32 r.val) = _
  rw [← BitVec.ofNat_add, lt_word (by omega) (by omega), Nat.zero_add]

/-! ### Scores and log-factors -/

theorem z9 : k0_pay9 q k (ix2 r s) = zz q k r s := by pointwise [k0_pay9, k0_pay8, zz]
theorem z16 : k0_pay16 q k (ix2 r s) = zz q k r s := by pointwise [k0_pay16, k0_pay15, zz]
theorem z24 : k0_pay24 q k (ix2 r s) = zz q k r s := by pointwise [k0_pay24, k0_pay23, zz]
theorem z32 : k0_pay32 q k (ix2 r s) = zz q k r s := by pointwise [k0_pay32, k0_pay31, zz]
theorem z43 : k0_pay43 q k (ix2 r s) = zz q k r s := by pointwise [k0_pay43, k0_pay42, zz]
theorem z49 : k0_pay49 q k (ix2 r s) = zz q k r s := by pointwise [k0_pay49, k0_pay48, zz]

theorem l44 : k0_pay44 q k (ix2 r s) = lsig (zz q k r s) := by
  pointwise [k0_pay44, k0_pay43, k0_pay42, zz, lsig]
  simp only [scl_neg, mul_neg]
theorem l50 : k0_pay50 q k (ix2 r s) = lsig (zz q k r s) := by
  pointwise [k0_pay50, k0_pay49, k0_pay48, zz, lsig]
  simp only [scl_neg, mul_neg]
theorem l10 : k0_pay10 q k (ix2 r s) = lsig (zz q k r s) := by
  pointwise [k0_pay10, k0_pay9, k0_pay8, zz, lsig]
  simp only [scl_neg, mul_neg]

/-- Masked log-factors of the upper and of the lower diagonal block. -/
abbrev ml1 (r : Fin 512) (s : Fin 256) : EReal := if 256 + s.val < r.val then lsig (zz q k r s) else 0
abbrev ml0 (r : Fin 512) (s : Fin 256) : EReal := if s.val < r.val then lsig (zz q k r s) else 0

theorem m12 : k0_pay12 (F := Ideal) k0_pay7 (k0_pay10 q k) k0_pay11 (ix2 r s) = ml1 q k r s := by
  pointwise [k0_pay12, k0_pay11]
  rw [mask1_at, l10, pick]
theorem m17 : k0_pay17 (F := Ideal) q k0_pay7 k (ix2 r s) = ml1 q k r s := by
  have h := mask1_at r s
  generalize k0_pay7 = w at h ⊢
  pointwise [k0_pay17, k0_pay16, k0_pay15, ml1, zz, lsig]
  rw [h, pick]
  simp only [scl_neg, mul_neg]
theorem m28 : k0_pay28 (F := Ideal) mask0 (k0_pay26 q k) (k0_pay27 q k) (ix2 r s) = ml0 q k r s := by
  have h := mask0_at r s
  generalize mask0 = w at h ⊢
  pointwise [k0_pay28, k0_pay26, k0_pay27, k0_pay25, k0_pay24, k0_pay23, ml0, zz, lsig]
  rw [h, pick]
  simp only [scl_neg, mul_neg]
theorem m36 : k0_pay36 (F := Ideal) mask0 (k0_pay34 q k) (k0_pay35 q k) (ix2 r s) = ml0 q k r s := by
  have h := mask0_at r s
  generalize mask0 = w at h ⊢
  pointwise [k0_pay36, k0_pay34, k0_pay35, k0_pay33, k0_pay32, k0_pay31, ml0, zz, lsig]
  rw [h, pick]
  simp only [scl_neg, mul_neg]

/-! ### The carries -/

theorem c13 : k0_pay13 k0_pay5 k0_pay7 (k0_pay10 q k) k0_pay11 (ix2 r 0) = ∑ y : Fin 256, ml1 q k r y := by
  have h := m12 q k r
  unfold k0_pay13
  generalize k0_pay12 (F := Ideal) k0_pay7 (k0_pay10 q k) k0_pay11 = w at h ⊢
  simp only [← h]
  pointwise [k0_pay5]
theorem c20 : k0_pay20 k0_pay6 (k0_pay17 q k0_pay7 k) (ix2 r 0) = ∑ y : Fin 256, ml1 q k r y := by
  have h := m17 q k r
  generalize k0_pay17 (F := Ideal) q k0_pay7 k = w at h ⊢
  simp only [← h]
  pointwise [k0_pay20, k0_pay6]
theorem c29 : k0_pay29 c mask0 (k0_pay26 q k) (k0_pay27 q k) (ix2 r 0) = c (ix2 r 0) + ∑ y : Fin 256, ml0 q k r y := by
  have h := m28 q k r
  unfold k0_pay29
  generalize k0_pay28 (F := Ideal) mask0 (k0_pay26 q k) (k0_pay27 q k) = w at h ⊢
  simp only [← h]
  pointwise []
theorem c37 : k0_pay37 c mask0 (k0_pay34 q k) (k0_pay35 q k) (ix2 r 0) = c (ix2 r 0) + ∑ y : Fin 256, ml0 q k r y := by
  have h := m36 q k r
  unfold k0_pay37
  generalize k0_pay36 (F := Ideal) mask0 (k0_pay34 q k) (k0_pay35 q k) = w at h ⊢
  simp only [← h]
  pointwise []
theorem c45 : k0_pay45 q c k (ix2 r 0) = c (ix2 r 0) + ∑ y : Fin 256, lsig (zz q k r y) := by
  have h := l44 q k r
  unfold k0_pay45
  generalize k0_pay44 (F := Ideal) q k = w at h ⊢
  simp only [← h]
  pointwise []
theorem c51 : k0_pay51 q c k (ix2 r 0) = c (ix2 r 0) + ∑ y : Fin 256, lsig (zz q k r y) := by
  have h := l50 q k r
  unfold k0_pay51
  generalize k0_pay50 (F := Ideal) q k = w at h ⊢
  simp only [← h]
  pointwise []

/-! ### The accumulators -/

theorem a14 : k0_pay14 k0_pay4 k0_pay5 k0_pay7 vt (k0_pay9 q k) (k0_pay10 q k) k0_pay11 (ix2 r d)
    = ∑ x : Fin 256, (if 256 + x.val < r.val then inside (zz q k r) (ml1 q k r) 0 x else 0) * vt (ix2 x d) := by
  have h := m12 q k r
  have hz := z9 q k r
  have hm := mask1_at r
  have ht := tri_at
  unfold k0_pay14
  generalize k0_pay12 (F := Ideal) k0_pay7 (k0_pay10 q k) k0_pay11 = w at h ⊢
  generalize k0_pay9 (F := Ideal) q k = z at hz ⊢
  generalize k0_pay7 = m at hm ⊢
  generalize k0_pay4 (F := Ideal) = t at ht ⊢
  unfold inside
  simp only [← h, ← hz, ← ht]
  pointwise [k0_pay5]
  refine Finset.sum_congr rfl fun x _ => ?_
  rw [← pick_mul, ← pick, ← hm]
theorem a21 : k0_pay21 k0_pay4 k0_pay6 k0_pay7 vt (k0_pay16 q k) (k0_pay17 q k0_pay7 k) (k0_pay18 q k0_pay7 k) (k0_pay19 q k0_pay7 k) (ix2 r d)
    = ∑ x : Fin 256, (if 256 + x.val < r.val then inside (zz q k r) (ml1 q k r) 0 x else 0) * vt (ix2 x d) := by
  have h := m17 q k r
  have hz := z16 q k r
  have hm := mask1_at r
  have ht := tri_at
  unfold k0_pay19 k0_pay18
  generalize k0_pay17 (F := Ideal) q k0_pay7 k = w at h ⊢
  generalize k0_pay16 (F := Ideal) q k = z at hz ⊢
  generalize k0_pay7 = m at hm ⊢
  generalize k0_pay4 (F := Ideal) = t at ht ⊢
  unfold inside
  simp only [← h, ← hz, ← ht]
  pointwise [k0_pay21, k0_pay6]
  refine Finset.sum_congr rfl fun x _ => ?_
  rw [← pick_mul, ← pick, ← hm]
theorem a30 : k0_pay30 k0_pay4 c mask0 vt (k0_pay24 q k) (k0_pay26 q k) (k0_pay27 q k) acc (ix2 r d)
    = acc (ix2 r d) + ∑ x : Fin 256, (if x.val < r.val then inside (zz q k r) (ml0 q k r) (c (ix2 r 0)) x else 0) * vt (ix2 x d) := by
  have h := m28 q k r
  have hz := z24 q k r
  have hm := mask0_at r
  have ht := tri_at
  unfold k0_pay30
  generalize k0_pay28 (F := Ideal) mask0 (k0_pay26 q k) (k0_pay27 q k) = w at h ⊢
  generalize k0_pay24 (F := Ideal) q k = z at hz ⊢
  generalize mask0 = m at hm ⊢
  generalize k0_pay4 (F := Ideal) = t at ht ⊢
  unfold inside
  simp only [← h, ← hz, ← ht]
  pointwise []
  refine congrArg (_ + ·) (Finset.sum_congr rfl fun x _ => ?_)
  rw [← pick_mul, ← pick, ← hm]
theorem a38 : k0_pay38 k0_pay4 c mask0 vt (k0_pay32 q k) (k0_pay34 q k) (k0_pay35 q k) acc (ix2 r d)
    = acc (ix2 r d) + ∑ x : Fin 256, (if x.val < r.val then inside (zz q k r) (ml0 q k r) (c (ix2 r 0)) x else 0) * vt (ix2 x d) := by
  have h := m36 q k r
  have hz := z32 q k r
  have hm := mask0_at r
  have ht := tri_at
  unfold k0_pay38
  generalize k0_pay36 (F := Ideal) mask0 (k0_pay34 q k) (k0_pay35 q k) = w at h ⊢
  generalize k0_pay32 (F := Ideal) q k = z at hz ⊢
  generalize mask0 = m at hm ⊢
  generalize k0_pay4 (F := Ideal) = t at ht ⊢
  unfold inside
  simp only [← h, ← hz, ← ht]
  pointwise []
  refine congrArg (_ + ·) (Finset.sum_congr rfl fun x _ => ?_)
  rw [← pick_mul, ← pick, ← hm]
theorem a46 : k0_pay47 (k0_pay46 q k0_pay4 c k vt acc) (ix2 r d)
    = acc (ix2 r d) + ∑ x : Fin 256, inside (zz q k r) (fun y => lsig (zz q k r y)) (c (ix2 r 0)) x * vt (ix2 x d) := by
  have h := l44 q k r
  have hz := z43 q k r
  have ht := tri_at
  unfold k0_pay47 k0_pay46
  generalize k0_pay44 (F := Ideal) q k = w at h ⊢
  generalize k0_pay43 (F := Ideal) q k = z at hz ⊢
  generalize k0_pay4 (F := Ideal) = t at ht ⊢
  unfold inside
  simp only [← h]
  simp only [← hz, ← ht]
  pointwise []
theorem a52 : k0_pay52 k0_pay4 q c k vt acc (ix2 r d)
    = acc (ix2 r d) + ∑ x : Fin 256, inside (zz q k r) (fun y => lsig (zz q k r y)) (c (ix2 r 0)) x * vt (ix2 x d) := by
  have h := l50 q k r
  have hz := z49 q k r
  have ht := tri_at
  unfold k0_pay52
  generalize k0_pay50 (F := Ideal) q k = w at h ⊢
  generalize k0_pay49 (F := Ideal) q k = z at hz ⊢
  generalize k0_pay4 (F := Ideal) = t at ht ⊢
  unfold inside
  simp only [← h]
  simp only [← hz, ← ht]
  pointwise []

end At

end Cert.Proof.SbVal
-- ==== Proof.SbVal.Point.lean ====
/-
  One grid point, over the extended reals: the accumulators the loop leaves are, at every row and column of the block, the
  weighted values of all the keys. The invariant says, for each head, what the carry and the accumulator hold when every key
  block from block `n` on has been taken; each trip moves it one block down, and a loop that stops early stops where every
  carry is minus infinity, below which no key has weight.
-/
module

public import proofs.«01_k».proof.Proof.SbVal.Block

@[expose] public section

set_option maxRecDepth 16384

noncomputable section

namespace Cert.Proof.SbVal

open Cert.KernelIdeal Cert.KernelIdeal.Gen Cert.Proof.Sb Cert.Proof.SbIdeal
open Idealize.ShloMosaic Idealize.ShloMosaic.TcCoe

/-! ## One block of one head, from the invariant -/

section Head
variable (q : Vec Ideal S512x128 .bf16) (k vt : Vec Ideal S256x128 .bf16) (r : Fin 512) (d : Fin 128)
variable (R : ℕ) (z v : ℕ → EReal) (n : ℕ)

/-- The block at hand is block `n` of the row's scores and of the column's values. -/
structure IsBlock : Prop where
  scores : ∀ s : Fin 256, zz q k r s = z (256 * n + s.val)
  values : ∀ s : Fin 256, vt (ix2 s d) = v (256 * n + s.val)

variable {q k vt r d R z v n}

theorem carry_step (H : IsBlock q k vt r d z v n) (hn : 256 * (n + 1) ≤ 16896) (p : Fin 256 → Prop) [DecidablePred p]
    (hp : ∀ s : Fin 256, p s ↔ 256 * n + s.val < R) :
    tail R z (256 * (n + 1)) + ∑ y : Fin 256, (if p y then lsig (zz q k r y) else 0) = tail R z (256 * n) := by
  rw [tail_block R z n hn]
  refine congrArg (_ + ·) (Finset.sum_congr rfl fun y _ => ?_)
  rw [H.scores]
  unfold lf
  simp only [hp]

theorem mass_step (H : IsBlock q k vt r d z v n) (hn : 256 * (n + 1) ≤ 16896) (p : Fin 256 → Prop) [DecidablePred p]
    (hp : ∀ s : Fin 256, p s ↔ 256 * n + s.val < R) :
    mass R z v (256 * (n + 1)) + ∑ x : Fin 256, (if p x then inside (zz q k r) (fun y => if p y then lsig (zz q k r y) else 0)
        (tail R z (256 * (n + 1))) x else 0) * vt (ix2 x d) = mass R z v (256 * n) := by
  rw [mass_block R z v n hn]
  refine congrArg (_ + ·) (Finset.sum_congr rfl fun x _ => ?_)
  have hl : (fun y : Fin 256 => if p y then lsig (zz q k r y) else 0) = fun y => lf R z (256 * n + y.val) := by
    funext y
    rw [H.scores]
    unfold lf
    simp only [hp]
  have hzz : zz q k r = fun s : Fin 256 => z (256 * n + s.val) := funext H.scores
  rw [hl, hzz, inside_eq R z n hn x, H.values]
  unfold wt
  simp only [hp]

end Head

/-! ## The point -/

section Point
variable (i : grid0.Coords) (x0 : Vec Ideal S512x256 .bf16) (x1 x2 : Vec Ideal S16896x256 .bf16)

/-- Row `r`'s score against key `s`, for the head at column offset `o` of the pair. -/
def zrow (o : ℕ) (ho : o + 128 ≤ 256) (r : Fin 512) (s : ℕ) : EReal :=
  if h : s < 16896 then (∑ d : Fin 128, x0 (ix2 r ⟨o + d.val, by omega⟩) * x1 (ix2 ⟨s, h⟩ ⟨o + d.val, by omega⟩)) * scl else 0

/-- Coordinate `d` of key `s`'s value, for the head at column offset `o`. -/
def vcol (o : ℕ) (ho : o + 128 ≤ 256) (d : Fin 128) (s : ℕ) : EReal :=
  if h : s < 16896 then x2 (ix2 ⟨s, h⟩ ⟨o + d.val, by omega⟩) else 0

/-- The row's place among all positions. -/
abbrev pos (r : Fin 512) : ℕ := 512 * (i 1).val + r.val

abbrev z0 := zrow x0 x1 0 (by decide)
abbrev z1 := zrow x0 x1 128 (by decide)
abbrev v0 := vcol x2 0 (by decide)
abbrev v1 := vcol x2 128 (by decide)

/-- What holds once every key block from block `n` on has been taken. -/
structure Inv (n : ℕ) (s : Carry Ideal) : Prop where
  c0 : ∀ r, s.c0 (ix2 r 0) = tail (pos i r) (z0 x0 x1 r) (256 * n)
  c1 : ∀ r, s.c1 (ix2 r 0) = tail (pos i r) (z1 x0 x1 r) (256 * n)
  a : ∀ r d, s.a (ix2 r d) = mass (pos i r) (z0 x0 x1 r) (v0 x2 d) (256 * n)
  b : ∀ r d, s.b (ix2 r d) = mass (pos i r) (z1 x0 x1 r) (v1 x2 d) (256 * n)

theorem tile_at (X : Vec Ideal S16896x256 .bf16) (off : Fin 2 → ℕ) (h) (n o : ℕ) (ho : o + 128 ≤ 256) (hn : 256 * (n + 1) ≤ 16896)
    (e : off = ![256 * n, o]) (s : Fin 256) (d : Fin 128) :
    tile X off h (ix2 s d) = X (ix2 ⟨256 * n + s.val, by omega⟩ ⟨o + d.val, by omega⟩) := by
  subst e
  refine congrArg X (funext fun a => Fin.ext ?_)
  fin_cases a
  · show 256 * n + 1 * s.val = _; simp
  · show o + 1 * d.val = _; simp

theorem lo_at (r : Fin 512) (d : Fin 128) : lo x0 (ix2 r d) = x0 (ix2 r ⟨0 + d.val, by omega⟩) := by
  refine congrArg x0 (funext fun a => Fin.ext ?_)
  fin_cases a
  · show 0 + 1 * r.val = r.val; omega
  · show 0 + 1 * d.val = 0 + d.val; omega
theorem hi_at (r : Fin 512) (d : Fin 128) : hi x0 (ix2 r d) = x0 (ix2 r ⟨128 + d.val, by omega⟩) := by
  refine congrArg x0 (funext fun a => Fin.ext ?_)
  fin_cases a
  · show 0 + 1 * r.val = r.val; omega
  · show 128 + 1 * d.val = 128 + d.val; omega

variable {x0 x1 x2} in
theorem block_lo (off : Fin 2 → ℕ) (h) (n : ℕ) (hn : 256 * (n + 1) ≤ 16896) (e : off = ![256 * n, 0]) (r : Fin 512) (d : Fin 128) :
    IsBlock (lo x0) (tile x1 off h) (tile x2 off h) r d (z0 x0 x1 r) (v0 x2 d) n where
  scores s := by
    unfold zz z0 zrow
    rw [dif_pos (show 256 * n + s.val < 16896 by omega)]
    refine congrArg (· * scl) (Finset.sum_congr rfl fun d _ => ?_)
    rw [tile_at x1 off h n 0 (by decide) hn e]
    exact congrArg (· * _) (lo_at x0 r d)
  values s := by
    unfold v0 vcol
    rw [dif_pos (show 256 * n + s.val < 16896 by omega), tile_at x2 off h n 0 (by decide) hn e]

variable {x0 x1 x2} in
theorem block_hi (off : Fin 2 → ℕ) (h) (n : ℕ) (hn : 256 * (n + 1) ≤ 16896) (e : off = ![256 * n, 128]) (r : Fin 512) (d : Fin 128) :
    IsBlock (hi x0) (tile x1 off h) (tile x2 off h) r d (z1 x0 x1 r) (v1 x2 d) n where
  scores s := by
    unfold zz z1 zrow
    rw [dif_pos (show 256 * n + s.val < 16896 by omega)]
    refine congrArg (· * scl) (Finset.sum_congr rfl fun d _ => ?_)
    rw [tile_at x1 off h n 128 (by decide) hn e]
    exact congrArg (· * _) (hi_at x0 r d)
  values s := by
    unfold v1 vcol
    rw [dif_pos (show 256 * n + s.val < 16896 by omega), tile_at x2 off h n 128 (by decide) hn e]

/-! ### The diagonal -/

theorem off_up (n : Fin 2) (w : BitVec 32) (hw : w = BitVec.ofNat 32 n.val) : k0_off1 i w = ![256 * (2 * (i 1).val + n.val), 0] := by
  subst hw
  rw [k0_off1_eq i n]
  exact congrArg (fun a => (![a, 0] : Fin 2 → ℕ)) (by omega)
theorem off_up' (n : Fin 2) (w : BitVec 32) (hw : w = BitVec.ofNat 32 n.val) : k0_off2 i w = ![256 * (2 * (i 1).val + n.val), 128] := by
  subst hw
  rw [k0_off2_eq i n]
  exact congrArg (fun a => (![a, 128] : Fin 2 → ℕ)) (by omega)

theorem inv_diag1 : Inv i x0 x1 x2 (2 * (i 1).val + 1) (diag1 i x0 x1 x2) := by
  have hi : (i 1).val < 33 := (i 1).isLt
  have hn : 256 * (2 * (i 1).val + 1 + 1) ≤ 16896 := by omega
  have hp : ∀ r : Fin 512, ∀ s : Fin 256, 256 + s.val < r.val ↔ 256 * (2 * (i 1).val + 1) + s.val < pos i r := fun r s => by
    show _ ↔ _ < 512 * (i 1).val + r.val; omega
  have hle : ∀ r : Fin 512, pos i r ≤ 256 * (2 * (i 1).val + 1 + 1) := fun r => by
    have := r.isLt; show 512 * (i 1).val + r.val ≤ _; omega
  have eL := off_up i 1 1#32 rfl
  have eR := off_up' i 1 1#32 rfl
  refine ⟨fun r => ?_, fun r => ?_, fun r d => ?_, fun r d => ?_⟩
  · rw [← carry_step (block_lo (x2 := x2) _ (k0_off1_inb i 1) _ hn eL r 0) hn _ (hp r), tail_of_le _ _ (hle r), zero_add]
    exact c13 _ _ r
  · rw [← carry_step (block_hi (x2 := x2) _ (k0_off2_inb i 1) _ hn eR r 0) hn _ (hp r), tail_of_le _ _ (hle r), zero_add]
    exact c20 _ _ r
  · rw [← mass_step (block_lo _ (k0_off1_inb i 1) _ hn eL r d) hn _ (hp r), tail_of_le _ _ (hle r), mass_of_le _ _ _ (hle r), zero_add]
    exact a14 _ _ _ r d
  · rw [← mass_step (block_hi _ (k0_off2_inb i 1) _ hn eR r d) hn _ (hp r), tail_of_le _ _ (hle r), mass_of_le _ _ _ (hle r), zero_add]
    exact a21 _ _ _ r d

theorem inv_diag0 : Inv i x0 x1 x2 (2 * (i 1).val) (diag0 i x0 x1 x2) := by
  have hi : (i 1).val < 33 := (i 1).isLt
  have hn : 256 * (2 * (i 1).val + 1) ≤ 16896 := by omega
  have hp : ∀ r : Fin 512, ∀ s : Fin 256, s.val < r.val ↔ 256 * (2 * (i 1).val) + s.val < pos i r := fun r s => by
    show _ ↔ _ < 512 * (i 1).val + r.val; omega
  have eL := off_up i 0 0#32 rfl
  have eR := off_up' i 0 0#32 rfl
  have H := inv_diag1 i x0 x1 x2
  refine ⟨fun r => ?_, fun r => ?_, fun r d => ?_, fun r d => ?_⟩
  · rw [← carry_step (block_lo (x2 := x2) _ (k0_off1_inb i 0) _ hn eL r 0) hn _ (hp r), ← H.c0 r]
    exact c29 _ _ _ r
  · rw [← carry_step (block_hi (x2 := x2) _ (k0_off2_inb i 0) _ hn eR r 0) hn _ (hp r), ← H.c1 r]
    exact c37 _ _ _ r
  · rw [← mass_step (block_lo _ (k0_off1_inb i 0) _ hn eL r d) hn _ (hp r), ← H.c0 r, ← H.a r d]
    exact a30 _ _ _ _ _ r d
  · rw [← mass_step (block_hi _ (k0_off2_inb i 0) _ hn eR r d) hn _ (hp r), ← H.c1 r, ← H.b r d]
    exact a38 _ _ _ _ _ r d

/-! ### A trip -/

theorem inv_trip (j : ℕ) (hj : j < 2 * (i 1).val) (h) (s : Carry Ideal) (H : Inv i x0 x1 x2 (2 * (i 1).val - 1 - j + 1) s) :
    Inv i x0 x1 x2 (2 * (i 1).val - 1 - j) (trip i x0 x1 x2 j h s) := by
  have hi : (i 1).val < 33 := (i 1).isLt
  have hn : 256 * (2 * (i 1).val - 1 - j + 1) ≤ 16896 := by omega
  have hp : ∀ r : Fin 512, ∀ s : Fin 256, True ↔ 256 * (2 * (i 1).val - 1 - j) + s.val < pos i r := fun r s => by
    have := s.isLt
    show _ ↔ _ < 512 * (i 1).val + r.val
    constructor
    · intro _; omega
    · intro _; trivial
  have eL := off3_eq i j hj
  have eR := off4_eq i j hj
  refine ⟨fun r => ?_, fun r => ?_, fun r d => ?_, fun r d => ?_⟩
  · rw [← carry_step (block_lo (x2 := x2) _ (k0_off3_inb i _ h) _ hn eL r 0) hn _ (hp r), ← H.c0 r]
    simp only [if_true]
    exact c45 _ _ _ r
  · rw [← carry_step (block_hi (x2 := x2) _ (k0_off4_inb i _ h) _ hn eR r 0) hn _ (hp r), ← H.c1 r]
    simp only [if_true]
    exact c51 _ _ _ r
  · rw [← mass_step (block_lo _ (k0_off3_inb i _ h) _ hn eL r d) hn _ (hp r), ← H.c0 r, ← H.a r d]
    simp only [if_true]
    exact a46 _ _ _ _ _ r d
  · rw [← mass_step (block_hi _ (k0_off4_inb i _ h) _ hn eR r d) hn _ (hp r), ← H.c1 r, ← H.b r d]
    simp only [if_true]
    exact a52 _ _ _ _ _ r d

/-! ### The loop's test -/

/-- The named threshold is minus infinity. -/
theorem dead_bot : (Named.named κ "dead" 0xC2F00000#32 : Ideal .f32) = ⊥ := rfl

theorem max_le_pay3 (a b : FVec Ideal S512x1 .f32) (r : Fin 512) : max (a (ix2 r 0)) (b (ix2 r 0)) ≤ k0_pay3 (F := Ideal) a b := by
  pointwise [k0_pay3]
  refine (Finset.le_fold_max _).mpr (Or.inr ⟨(r, 0), Finset.mem_univ _, ?_⟩)
  exact le_rfl

theorem word_of_gt (x : EReal) (h : Scalar.cmpi .sgt (Scalar.extui (Scalar.cmpf (F := Ideal) (φ := .f32) .ogt x (⊥ : EReal)) : BitVec 32) 0#32 ≠ 1#1) : x = ⊥ := by
  by_contra hx
  apply h
  have : Scalar.cmpf (F := Ideal) (φ := .f32) .ogt x (⊥ : EReal) = 1#1 := by
    show Ideal.cmp .ogt x ⊥ = 1#1
    simp [Ideal.cmp, bot_lt_iff_ne_bot, hx]
  rw [this]
  decide

theorem dead_of_word (s : Carry Ideal) (h : Scalar.cmpi .sgt (alive s) 0#32 ≠ 1#1) (r : Fin 512) :
    s.c0 (ix2 r 0) = ⊥ ∧ s.c1 (ix2 r 0) = ⊥ := by
  have h3 : k0_pay3 (F := Ideal) s.c0 s.c1 = ⊥ := word_of_gt _ h
  have := max_le_pay3 s.c0 s.c1 r
  rw [h3, le_bot_iff] at this
  exact ⟨le_bot_iff.mp (this ▸ le_max_left _ _), le_bot_iff.mp (this ▸ le_max_right _ _)⟩

theorem alive0_eq : alive0 i x0 x1 x2 = alive (diag0 i x0 x1 x2) := rfl

/-- A loop that stops is done: nothing further down has weight. -/
theorem stopped (n : ℕ) (hn : 256 * n ≤ 16896) (s : Carry Ideal) (H : Inv i x0 x1 x2 n s)
    (hd : ∀ r, s.c0 (ix2 r 0) = ⊥ ∧ s.c1 (ix2 r 0) = ⊥) :
    (∀ r d, s.a (ix2 r d) = mass (pos i r) (z0 x0 x1 r) (v0 x2 d) 0) ∧ (∀ r d, s.b (ix2 r d) = mass (pos i r) (z1 x0 x1 r) (v1 x2 d) 0) :=
  ⟨fun r d => (H.a r d).trans (mass_dead _ _ _ hn ((H.c0 r).symm.trans (hd r).1)).symm,
   fun r d => (H.b r d).trans (mass_dead _ _ _ hn ((H.c1 r).symm.trans (hd r).2)).symm⟩

theorem rest_eq : ∀ k j, j + k = 2 * (i 1).val → ∀ s : Carry Ideal, Inv i x0 x1 x2 (2 * (i 1).val - j) s →
    (∀ r d, (rest i x0 x1 x2 k j s (alive s)).a (ix2 r d) = mass (pos i r) (z0 x0 x1 r) (v0 x2 d) 0)
      ∧ (∀ r d, (rest i x0 x1 x2 k j s (alive s)).b (ix2 r d) = mass (pos i r) (z1 x0 x1 r) (v1 x2 d) 0) := by
  have hi : (i 1).val < 33 := (i 1).isLt
  intro k
  induction k with
  | zero =>
    intro j hj s H
    rw [show 2 * (i 1).val - j = 0 by omega] at H
    exact ⟨H.a, H.b⟩
  | succ k ih =>
    intro j hj s H
    have hlt : j < 2 * (i 1).val := by omega
    by_cases hw : Scalar.cmpi .sgt (alive s) 0#32 = 1#1
    · rw [rest, if_pos hw, dif_pos (chk_of_lt i j hlt)]
      refine ih (j + 1) (by omega) _ ?_
      rw [show 2 * (i 1).val - (j + 1) = 2 * (i 1).val - 1 - j by omega]
      refine inv_trip i x0 x1 x2 j hlt _ s ?_
      rw [show 2 * (i 1).val - 1 - j + 1 = 2 * (i 1).val - j by omega]
      exact H
    · rw [rest, if_neg hw]
      exact stopped i x0 x1 x2 _ (by omega) s H (dead_of_word s hw)

/-- The accumulators the loop leaves: every key's value by its weight. -/
theorem done_eq : (∀ r d, (done i x0 x1 x2).a (ix2 r d) = mass (pos i r) (z0 x0 x1 r) (v0 x2 d) 0)
    ∧ (∀ r d, (done i x0 x1 x2).b (ix2 r d) = mass (pos i r) (z1 x0 x1 r) (v1 x2 d) 0) := by
  unfold done
  rw [alive0_eq]
  exact rest_eq i x0 x1 x2 (2 * (i 1).val) 0 (Nat.zero_add _) _ (inv_diag0 i x0 x1 x2)

end Point

end Cert.Proof.SbVal
-- ==== Proof.SbVal.Result.lean ====
/-
  The kernel's result array, over the extended reals: at every position, head and coordinate the head-normalized
  stick-breaking attention `attended`, each block of 512 positions by two heads written at its own grid point.
-/
module

public import proofs.«01_k».proof.Proof.SbVal.Point

@[expose] public section

set_option maxRecDepth 16384

noncomputable section

namespace Cert.Proof.SbVal

open Cert.KernelIdeal Cert.KernelIdeal.Gen Cert.Proof.Sb Cert.Proof.SbIdeal
open Idealize.ShloMosaic Idealize.ShloMosaic.TcCoe Idealize.SL.Sem
open Idealize.ShloMosaic.Pipeline (Dat)

/-! ## The attention over whole arrays -/

section Spec
variable (Q K V : Vec Ideal S16896x2048 .bf16) (G : Vec Ideal S16x128 .f32)

/-- The score of key `s` for position `R`, head `h`. -/
def score (R : Fin 16896) (h : Fin 16) (s : ℕ) : EReal :=
  if hs : s < 16896 then (∑ d : Fin 128, Q (ix2 R ⟨128 * h.val + d.val, by omega⟩) * K (ix2 ⟨s, hs⟩ ⟨128 * h.val + d.val, by omega⟩)) * scl else 0

/-- Coordinate `d` of key `s`'s value, head `h`. -/
def value (h : Fin 16) (d : Fin 128) (s : ℕ) : EReal :=
  if hs : s < 16896 then V (ix2 ⟨s, hs⟩ ⟨128 * h.val + d.val, by omega⟩) else 0

/-- The attention before its head norm. -/
def raw (R : Fin 16896) (h : Fin 16) (d : Fin 128) : EReal := mass R.val (score Q K R h) (value V h d) 0

/-- The attention after its head norm. -/
def attended (R : Fin 16896) (h : Fin 16) (d : Fin 128) : EReal :=
  raw Q K V R h d * Ideal.rsqrt (Ideal.div (∑ x : Fin 128, raw Q K V R h x * raw Q K V R h x) (Ideal.ofBits .f32 0x43000000#32)
    + Ideal.ofBits .f32 0x358637BD#32) * G (ix2 h d)

/-- As an array: head `h` at columns `128 h` to `128 h + 127`. -/
def whole : Vec Ideal S16896x2048 .bf16 := fun y =>
  attended Q K V G ⟨(y 0).val, (y 0).isLt⟩ ⟨(y 1).val / 128, by have h : (y 1).val < 2048 := (y 1).isLt; omega⟩
    ⟨(y 1).val % 128, Nat.mod_lt _ (by decide)⟩

theorem whole_at (R : Fin 16896) (h : Fin 16) (d : Fin 128) (C : Fin 2048) (hC : C.val = 128 * h.val + d.val) :
    whole Q K V G (ix2 R C) = attended Q K V G R h d := by
  have e1 : (⟨C.val / 128, by omega⟩ : Fin 16) = h := Fin.ext (by show C.val / 128 = _; omega)
  have e2 : (⟨C.val % 128, Nat.mod_lt _ (by decide)⟩ : Fin 128) = d := Fin.ext (by show C.val % 128 = _; omega)
  show attended Q K V G R ⟨C.val / 128, _⟩ ⟨C.val % 128, _⟩ = _
  rw [e1, e2]

end Spec

/-! ## One block -/

section Block
variable (i : grid0.Coords) (x0 : Vec Ideal S512x256 .bf16) (x1 x2 : Vec Ideal S16896x256 .bf16) (x3 : Vec Ideal S1x2x128 .f32)
variable (Q K V : Vec Ideal S16896x2048 .bf16) (G : Vec Ideal S16x128 .f32)

theorem i0_lt : (i 0).val < 8 := (i 0).isLt
theorem i1_lt : (i 1).val < 33 := (i 1).isLt

/-- The staged blocks are the arrays' at the point. -/
structure Staged : Prop where
  q : ∀ (r : Fin 512) (e : Fin 256), x0 (ix2 r e) = Q (ix2 ⟨512 * (i 1).val + r.val, by have := i1_lt i; omega⟩ ⟨256 * (i 0).val + e.val, by have := i0_lt i; omega⟩)
  k : ∀ (s : Fin 16896) (e : Fin 256), x1 (ix2 s e) = K (ix2 s ⟨256 * (i 0).val + e.val, by have := i0_lt i; omega⟩)
  v : ∀ (s : Fin 16896) (e : Fin 256), x2 (ix2 s e) = V (ix2 s ⟨256 * (i 0).val + e.val, by have := i0_lt i; omega⟩)
  g : ∀ (h : Fin 2) (d : Fin 128), x3 (ix3 0 h d) = G (ix2 ⟨2 * (i 0).val + h.val, by have := i0_lt i; omega⟩ d)

variable {x0 x1 x2 x3 Q K V G}
variable {i}

theorem zrow_eq (H : Staged i x0 x1 x2 x3 Q K V G) (hh : Fin 2) (ho) (r : Fin 512) :
    zrow x0 x1 (128 * hh.val) ho r = score Q K ⟨512 * (i 1).val + r.val, by have := i1_lt i; omega⟩ ⟨2 * (i 0).val + hh.val, by have := i0_lt i; omega⟩ := by
  funext s
  unfold zrow score
  split
  · refine congrArg (· * scl) (Finset.sum_congr rfl fun d _ => ?_)
    rw [H.q, H.k]
    have e : 256 * (i 0).val + (128 * hh.val + d.val) = 128 * (2 * (i 0).val + hh.val) + d.val := by omega
    simp only [e]
  · rfl

theorem vcol_eq (H : Staged i x0 x1 x2 x3 Q K V G) (hh : Fin 2) (ho) (d : Fin 128) :
    vcol x2 (128 * hh.val) ho d = value V ⟨2 * (i 0).val + hh.val, by have := i0_lt i; omega⟩ d := by
  funext s
  unfold vcol value
  split
  · rw [H.v]
    have e : 256 * (i 0).val + (128 * hh.val + d.val) = 128 * (2 * (i 0).val + hh.val) + d.val := by omega
    simp only [e]
  · rfl

theorem normed (o : Vec Ideal S512x128 .f32) (g : Vec Ideal S1x1x128 .f32) (r : Fin 512) (d : Fin 128) :
    k0_pay1 o (k0_pay40 g) (k0_pay41 o) (ix2 r d)
      = o (ix2 r d) * Ideal.rsqrt (Ideal.div (∑ x : Fin 128, o (ix2 r x) * o (ix2 r x)) (Ideal.ofBits .f32 0x43000000#32)
        + Ideal.ofBits .f32 0x358637BD#32) * g (ix3 0 0 d) := by
  pointwise [k0_pay1, k0_pay40, k0_pay41]
theorem normed' (o : Vec Ideal S512x128 .f32) (g : Vec Ideal S1x1x128 .f32) (r : Fin 512) (d : Fin 128) :
    k0_pay2 o g (ix2 r d)
      = o (ix2 r d) * Ideal.rsqrt (Ideal.div (∑ x : Fin 128, o (ix2 r x) * o (ix2 r x)) (Ideal.ofBits .f32 0x43000000#32)
        + Ideal.ofBits .f32 0x358637BD#32) * g (ix3 0 0 d) := by
  pointwise [k0_pay2]

theorem gain0_at (d : Fin 128) : gain0 x3 (ix3 0 0 d) = x3 (ix3 0 0 d) := by
  refine congrArg x3 (funext fun a => Fin.ext ?_)
  fin_cases a
  · rfl
  · rfl
  · show 0 + 1 * d.val = d.val; omega
theorem gain1_at (d : Fin 128) : gain1 x3 (ix3 0 0 d) = x3 (ix3 0 1 d) := by
  refine congrArg x3 (funext fun a => Fin.ext ?_)
  fin_cases a
  · rfl
  · rfl
  · show 0 + 1 * d.val = d.val; omega

theorem doneA (H : Staged i x0 x1 x2 x3 Q K V G) (r : Fin 512) (d : Fin 128) :
    (done i x0 x1 x2).a (ix2 r d) = raw Q K V ⟨512 * (i 1).val + r.val, by have := i1_lt i; omega⟩ ⟨2 * (i 0).val + (0 : Fin 2).val, by have := i0_lt i; omega⟩ d := by
  rw [(done_eq i x0 x1 x2).1 r d]
  unfold raw
  rw [← zrow_eq H 0 (by decide) r, ← vcol_eq H 0 (by decide) d]
  rfl
theorem doneB (H : Staged i x0 x1 x2 x3 Q K V G) (r : Fin 512) (d : Fin 128) :
    (done i x0 x1 x2).b (ix2 r d) = raw Q K V ⟨512 * (i 1).val + r.val, by have := i1_lt i; omega⟩ ⟨2 * (i 0).val + (1 : Fin 2).val, by have := i0_lt i; omega⟩ d := by
  rw [(done_eq i x0 x1 x2).2 r d]
  unfold raw
  rw [← zrow_eq H 1 (by decide) r, ← vcol_eq H 1 (by decide) d]
  rfl

/-- The block the kernel leaves is the array's at the point. -/
theorem outBlock_at (H : Staged i x0 x1 x2 x3 Q K V G) (r : Fin 512) (e : Fin 256) :
    outBlock i x0 x1 x2 x3 (ix2 r e)
      = whole Q K V G (ix2 ⟨512 * (i 1).val + r.val, by have := i1_lt i; omega⟩ ⟨256 * (i 0).val + e.val, by have := i0_lt i; omega⟩) := by
  have h0 := i0_lt i
  unfold outBlock joinHalves
  by_cases he : e.val < 128
  · rw [dif_pos (show ((ix2 r e : S512x256.Idx) 1).val < 128 from he)]
    have hx : (fun | ⟨0, _⟩ => (ix2 r e : S512x256.Idx) 0 | ⟨1, _⟩ => ⟨((ix2 r e : S512x256.Idx) 1).val, he⟩ : S512x128.Idx) = ix2 r ⟨e.val, he⟩ := by
      funext a; fin_cases a <;> rfl
    refine (congrArg _ hx).trans ?_
    rw [normed, gain0_at, H.g]
    simp only [doneA H]
    rw [whole_at Q K V G _ ⟨2 * (i 0).val + (0 : Fin 2).val, by show 2 * (i 0).val + 0 < 16; omega⟩ ⟨e.val, he⟩ _
      (by show 256 * (i 0).val + e.val = 128 * (2 * (i 0).val + 0) + e.val; omega)]
    rfl
  · have hx : (fun | ⟨0, _⟩ => (ix2 r e : S512x256.Idx) 0 | ⟨1, _⟩ => ⟨((ix2 r e : S512x256.Idx) 1).val - 128, by have := e.isLt; show e.val - 128 < 128; omega⟩ : S512x128.Idx) = ix2 r ⟨e.val - 128, by omega⟩ := by
      funext a; fin_cases a <;> rfl
    rw [dif_neg (show ¬ ((ix2 r e : S512x256.Idx) 1).val < 128 from he)]
    refine (congrArg _ hx).trans ?_
    rw [normed', gain1_at, H.g]
    simp only [doneB H]
    rw [whole_at Q K V G _ ⟨2 * (i 0).val + (1 : Fin 2).val, by show 2 * (i 0).val + 1 < 16; omega⟩ ⟨e.val - 128, by omega⟩ _
      (by show 256 * (i 0).val + e.val = 128 * (2 * (i 0).val + 1) + (e.val - 128); omega)]
    rfl

end Block

/-! ## The array -/

section Array
variable (m : (ℓ : Loc nD τ sig) → Buf (Elt Ideal) ℓ)

/-- The windows' block indices at every point. -/
theorem idx : ∀ t : Fin (cfg0 (F := Ideal)).N, win0_0.index t = ![(grid0.coords t 1).val, (grid0.coords t 0).val]
    ∧ win0_1.index t = ![0, (grid0.coords t 0).val] ∧ win0_2.index t = ![0, (grid0.coords t 0).val]
    ∧ win0_3.index t = ![(grid0.coords t 0).val, 0, 0] ∧ win0_4.index t = ![(grid0.coords t 1).val, (grid0.coords t 0).val] :=
  (by decide +kernel : ∀ t : Fin grid0.N, _)

theorem gain_array (c : Dev nD) : atRegion m c main_v0
    = (shapeCast S8x2x128 (m (c.tc.loc main_arg3) : Vec Ideal S16x128 .f32) shapeCasts_S16x128_S8x2x128 : Vec Ideal S8x2x128 .f32) := by
  rfl

theorem cast_gain (x : Vec Ideal S16x128 .f32) (p : Fin 8) (h : Fin 2) (d : Fin 128) :
    shapeCast S8x2x128 x shapeCasts_S16x128_S8x2x128 (ix3 p h d) = x (ix2 ⟨2 * p.val + h.val, by omega⟩ d) := by
  pointwise
  blk_ext

theorem staged (c : Dev nD) (t : Fin (cfg0 (F := Ideal)).N) :
    Staged (grid0.coords t) (blockAt m c 0 t) (blockAt m c 1 t) (blockAt m c 2 t) (blockAt m c 3 t)
      (m (c.tc.loc main_arg0)) (m (c.tc.loc main_arg1)) (m (c.tc.loc main_arg2))
      (m (c.tc.loc main_arg3)) where
  q r e := by
    blk_simp [blockAt]
    rw [atRegion_of_ne m c main_arg0 (by decide)]
    blk_ext [idx t]
  k s e := by
    blk_simp [blockAt]
    rw [atRegion_of_ne m c main_arg1 (by decide)]
    blk_ext [idx t]
  v s e := by
    blk_simp [blockAt]
    rw [atRegion_of_ne m c main_arg2 (by decide)]
    blk_ext [idx t]
  g h d := by
    blk_simp [blockAt]
    rw [gain_array]
    have e : (win0_3.blk t).view.emb (ix3 0 h d) = (ix3 (⟨(grid0.coords t 0).val, i0_lt _⟩ : Fin 8) h d : S8x2x128.Idx) := by
      blk_ext [idx t]
    rw [e]
    exact cast_gain _ ⟨(grid0.coords t 0).val, i0_lt _⟩ h d

theorem emb_out (t : Fin (cfg0 (F := Ideal)).N) (r : Fin 512) (e : Fin 256) :
    (win0_4.blk t).view.emb (ix2 r e) = (ix2 ⟨512 * (grid0.coords t 1).val + r.val, by have := i1_lt (grid0.coords t); omega⟩
      ⟨256 * (grid0.coords t 0).val + e.val, by have := i0_lt (grid0.coords t); omega⟩ : S16896x2048.Idx) := by
  blk_ext [idx t]

theorem final (c : Dev nD) : (pdat m 0 c).arrAt 4 (cfg0 (F := Ideal)).N
    = whole (m (c.tc.loc main_arg0)) (m (c.tc.loc main_arg1)) (m (c.tc.loc main_arg2))
        (m (c.tc.loc main_arg3)) := by
  refine (pdat m 0 c).arrAt_eq_of_covers 4 _ (by decide +kernel) fun t _ y => ?_
  blk_simp
  rw [left4]
  have hy : ∃ (r : Fin 512) (e : Fin 256), y = ix2 r e :=
    ⟨⟨(y 0).val, (y 0).isLt⟩, ⟨(y 1).val, (y 1).isLt⟩, by funext a; fin_cases a <;> rfl⟩
  obtain ⟨r, e, rfl⟩ := hy
  exact (outBlock_at (staged m c t) r e).trans (congrArg _ (emb_out t r e).symm)

end Array

end Cert.Proof.SbVal
-- ==== Proof.SbVal.Plain.lean ====
/-
  The reference's result array, over the extended reals: the same `whole` of the arguments, its sums over every key
  taken at once.
-/
module

public import proofs.«01_k».proof.Proof.SbVal.Result
public import proofs.«01_k».proof.Proof.Gen.ReferenceIdeal.Read

@[expose] public section

set_option maxRecDepth 16384

noncomputable section

namespace Cert.Proof.SbVal

open Cert.ReferenceIdeal Cert.ReferenceIdeal.Gen Cert.ReferenceIdeal.Read
open Idealize.ShloMosaic Idealize.ShloMosaic.TcCoe Idealize.SL.Sem

section Plain
variable (x0 x1 x2 : Vec Ideal S16896x2048 .bf16) (x3 : Vec Ideal S16x128 .f32)
variable (h : Fin 16) (q s : Fin 16896) (d : Fin 128)

theorem heads_idx : idx_main_v1 (ix3 q h d) = ix2 q ⟨128 * h.val + d.val, by omega⟩ := by
  funext a; refine Fin.ext ?_
  fin_cases a
  · show ((q.val * 16 + h.val) * 128 + d.val) / 2048 = q.val; omega
  · show ((q.val * 16 + h.val) * 128 + d.val) % 2048 = 128 * h.val + d.val; omega

theorem v1_at : val_main_v1 (F := Ideal) x0 (ix3 q h d) = x0 (ix2 q ⟨128 * h.val + d.val, by omega⟩) := by
  rw [val_main_v1_apply, heads_idx]; rfl
theorem v3_at : val_main_v3 (F := Ideal) x1 (ix3 q h d) = x1 (ix2 q ⟨128 * h.val + d.val, by omega⟩) := by
  rw [val_main_v3_apply]; exact congrArg x1 (heads_idx h q d)
theorem v5_at : val_main_v5 (F := Ideal) x2 (ix3 q h d) = x2 (ix2 q ⟨128 * h.val + d.val, by omega⟩) := by
  rw [val_main_v5_apply]; exact congrArg x2 (heads_idx h q d)

theorem v8_at : val_main_v8 (F := Ideal) x0 x1 (ix3 h q s) = score x0 x1 q h s.val := by
  rw [val_main_v8_apply, val_main_v6_apply]
  unfold score
  rw [dif_pos s.isLt]
  refine congrArg₂ (· * ·) (Finset.sum_congr rfl fun k _ => congrArg₂ (· * ·) ?_ ?_) rfl
  · exact (congrArg _ (by funext a; fin_cases a <;> rfl)).trans (v1_at x0 h q k)
  · exact (congrArg _ (by funext a; fin_cases a <;> rfl)).trans (v3_at x1 h s k)

/-- The causal mask. -/
theorem seen_at (y : S16896x16896.Idx) :
    val_main_v14 (F := Ideal) y = BitVec.ofBool (decide ((y 1).val < (y 0).val)) :=
  lt_word (y 1).isLt (y 0).isLt

theorem mask_a : val_main_call1_v1 (F := Ideal) (ix3 h q s) = BitVec.ofBool (decide (s.val < q.val)) := by
  rw [val_main_call1_v1_apply]
  exact seen_at (ix2 q s)
theorem mask_b : val_main_call2_v1 (F := Ideal) (ix3 h q s) = BitVec.ofBool (decide (s.val < q.val)) := by
  rw [val_main_call2_v1_apply]
  exact seen_at (ix2 q s)

theorem une_self (x : Ideal .f32) : FloatOps.cmpf .une x x = 0#1 := by
  show BitVec.ofBool (decide (x ≠ x)) = 0#1
  simp

theorem zero32 : Ideal.ofBits .f32 0x00000000#32 = 0 := by simp

theorem v17_at : val_main_v17 (F := Ideal) x0 x1 (ix3 h q s) = lsig (score x0 x1 q h s.val) := by
  rw [← lsig_softplus, ← v8_at]
  have hw : val_main_call0_v0 (F := Ideal) x0 x1 (ix3 h q s) = val_main_v8 (F := Ideal) x0 x1 (ix3 h q s) :=
    neg_neg (val_main_v8 (F := Ideal) x0 x1 (ix3 h q s) : EReal)
  have h3 : val_main_call0_call0_v3 (F := Ideal) x0 x1 (ix3 h q s) = val_main_v8 (F := Ideal) x0 x1 (ix3 h q s) := by
    rw [val_main_call0_call0_v3_apply, hw, show val_main_call0_call0_v2 (F := Ideal) (ix3 h q s) = (0 : EReal) from zero32]
    exact sub_zero (val_main_v8 (F := Ideal) x0 x1 (ix3 h q s) : EReal)
  rw [val_main_v17_apply, val_main_call0_v1_apply, val_main_call0_call0_v4_apply, une_self]
  rw [val_main_call0_call0_v11_apply, val_main_call0_call0_v1_apply, val_main_call0_call0_v10_apply, val_main_call0_call0_v9_apply,
    val_main_call0_call0_v8_apply, val_main_call0_call0_v7_apply, h3, hw, show val_main_call0_call0_v0 (F := Ideal) (ix3 h q s) = (0 : EReal) from zero32]
  generalize val_main_v8 (F := Ideal) x0 x1 (ix3 h q s) = z
  rfl

theorem v18_at : val_main_v18 (F := Ideal) x0 x1 (ix3 h q s) = lf q.val (score x0 x1 q h) s.val := by
  rw [val_main_v18_apply, mask_a, v17_at, pick]
  unfold lf
  have : val_main_call1_v2 (F := Ideal) (ix3 h q s) = 0 := zero32
  rw [this]

theorem v24_at (y : S16896x16896.Idx) : val_main_v24 (F := Ideal) y = after (y 0).val (y 1).val := by
  have e : val_main_v23 (F := Ideal) y = BitVec.ofBool (decide ((y 1).val < (y 0).val)) := gt_word (y 0).isLt (y 1).isLt
  rw [val_main_v24_apply, e]
  unfold after
  by_cases hlt : (y 1).val < (y 0).val
  · rw [if_pos hlt, decide_eq_true hlt]
    show (((1#1 : BitVec 1).toNat : ℝ) : EReal) = 1
    simp
  · rw [if_neg hlt, decide_eq_false hlt]
    show (((0#1 : BitVec 1).toNat : ℝ) : EReal) = 0
    simp

theorem v25_at : val_main_v25 (F := Ideal) x0 x1 (ix3 h q s) = tail q.val (score x0 x1 q h) (s.val + 1) := by
  rw [val_main_v25_apply]
  refine Eq.trans (Finset.sum_congr rfl fun k _ => ?_) (sum_after (N := 16896) (lf q.val (score x0 x1 q h)) s.val)
  refine congrArg₂ (· * ·) ?_ ?_
  · exact (congrArg _ (by funext a; fin_cases a <;> rfl)).trans (v18_at x0 x1 h q k)
  · exact v24_at _

theorem v29_at : val_main_v29 (F := Ideal) x0 x1 (ix3 h q s) = wt q.val (score x0 x1 q h) s.val := by
  rw [val_main_v29_apply, mask_b, pick]
  have e : val_main_v28 (F := Ideal) x0 x1 (ix3 h q s) = Ideal.exp ((score x0 x1 q h s.val + lf q.val (score x0 x1 q h) s.val) + tail q.val (score x0 x1 q h) (s.val + 1)) := by
    rw [← v8_at, ← v18_at, ← v25_at]; rfl
  have : val_main_call2_v2 (F := Ideal) (ix3 h q s) = 0 := zero32
  rw [e, this]
  rfl

theorem v30_at : val_main_v30 (F := Ideal) x0 x1 x2 (ix3 h d q) = raw x0 x1 x2 q h d := by
  rw [val_main_v30_apply]
  unfold raw mass
  rw [← Finset.range_eq_Ico, ← Fin.sum_univ_eq_sum_range (fun k => wt q.val (score x0 x1 q h) k * value x2 h d k)]
  refine Finset.sum_congr rfl fun k _ => (mul_comm _ _).trans (congrArg₂ (· * ·) ?_ ?_)
  · exact (congrArg _ (by funext a; fin_cases a <;> rfl)).trans (v29_at x0 x1 h q k)
  · unfold value
    rw [dif_pos k.isLt]
    exact (congrArg _ (by funext a; fin_cases a <;> rfl)).trans (v5_at x2 h k d)

theorem v31_at : val_main_v31 (F := Ideal) x0 x1 x2 (ix3 q h d) = raw x0 x1 x2 q h d := by
  rw [val_main_v31_apply]
  exact (congrArg _ (by funext a; fin_cases a <;> rfl)).trans (v30_at x0 x1 x2 h q d)

theorem v33_at : val_main_v33 (F := Ideal) x0 x1 x2 (ix2 q h) = ∑ x : Fin 128, raw x0 x1 x2 q h x * raw x0 x1 x2 q h x := by
  rw [val_main_v33_apply]
  have : val_main_cst_2 (F := Ideal) (Shape.Idx.first h_S_) = 0 := zero32
  rw [this, zero_add]
  refine Finset.sum_congr rfl fun k _ => ?_
  have e : idx_main_v33 (ix2 q h) k = ix3 q h k := by funext a; fin_cases a <;> rfl
  rw [e, val_main_v32_apply, v31_at]; rfl

theorem v44_at : val_main_v44 (F := Ideal) x0 x1 x2 x3 (ix3 q h d) = attended x0 x1 x2 x3 q h d := by
  have e : val_main_v40 (F := Ideal) x0 x1 x2 (ix3 q h d)
      = Ideal.rsqrt (Ideal.div (∑ x : Fin 128, raw x0 x1 x2 q h x * raw x0 x1 x2 q h x) (Ideal.ofBits .f32 0x43000000#32) + Ideal.ofBits .f32 0x358637BD#32) := by
    rw [← v33_at, val_main_v40_apply, val_main_v39_apply, val_main_v38_apply, val_main_v36_apply, val_main_v34_apply]
    have e : idx_main_v34 (idx_main_v40 (ix3 q h d)) = ix2 q h := by funext a; fin_cases a <;> rfl
    rw [e]
    rfl
  unfold attended
  rw [val_main_v44_apply, val_main_v41_apply, v31_at, e]
  refine congrArg₂ (· * ·) rfl ?_
  rw [val_main_v43_apply, val_main_v42_apply]
  exact congrArg x3 (by funext a; fin_cases a <;> rfl)

/-- The reference's array is `whole`. -/
theorem plain : val_main_v46 (F := Ideal) x0 x1 x2 x3 = whole x0 x1 x2 x3 := by
  funext y
  obtain ⟨R, C, rfl⟩ : ∃ (R : Fin 16896) (C : Fin 2048), y = ix2 R C := ⟨⟨(y 0).val, (y 0).isLt⟩, ⟨(y 1).val, (y 1).isLt⟩, by funext a; fin_cases a <;> rfl⟩
  rw [whole_at x0 x1 x2 x3 R ⟨C.val / 128, by omega⟩ ⟨C.val % 128, Nat.mod_lt _ (by decide)⟩ C (by show C.val = 128 * (C.val / 128) + C.val % 128; omega)]
  rw [val_main_v46_apply, val_main_v45_apply, ← v44_at]
  refine congrArg (val_main_v44 (F := Ideal) x0 x1 x2 x3) ?_
  funext a; refine Fin.ext ?_
  fin_cases a
  · show (R.val * 2048 + C.val) / 2048 = R.val; omega
  · show (R.val * 2048 + C.val) / 128 % 16 = C.val / 128; omega
  · show (R.val * 2048 + C.val) % 128 = C.val % 128; omega

end Plain

end Cert.Proof.SbVal
-- ==== Proof.Down.Blocks.lean ====
/-
  The down-projection and the final norm, over the extended reals: what each of the three calls leaves in its result
  array, from the arrays it is entered with.
-/
module

public import proofs.«01_k».proof.Proof.Gen.Kernel2Ideal.Frame
public import Idealize.ShloMosaic.Lib.Pipeline.ValueKit

@[expose] public section

set_option maxRecDepth 16384

noncomputable section

namespace Cert.Proof.Down

open Cert.Kernel2Ideal Cert.Kernel2Ideal.Gen
open Idealize.ShloMosaic Idealize.ShloMosaic.TcCoe Idealize.SL.Sem
open Idealize.ShloMosaic.Pipeline (Dat)

/-! ## The arrays -/

/-- The weights as 16 tiles of 256 columns. -/
def tiles (w : Vec Ideal S11008x4096 .f32) : Vec Ideal S16x11008x256 .bf16 := fun y =>
  w (ix2 (y 1) ⟨256 * (y 0).val + (y 2).val, by have h0 : (y 0).val < 16 := (y 0).isLt; have h2 : (y 2).val < 256 := (y 2).isLt; omega⟩)

/-- The product with the tiled weights, added to the residual. -/
def added (a : Vec Ideal S16896x11008 .bf16) (wt : Vec Ideal S16x11008x256 .bf16) (h : Vec Ideal S16896x4096 .f32) :
    Vec Ideal S16896x4096 .f32 := fun y =>
  h y + ∑ k : Fin 11008, a (ix2 (y 0) k) * wt (ix3 ⟨(y 1).val / 256, by have h1 : (y 1).val < 4096 := (y 1).isLt; omega⟩ k
    ⟨(y 1).val % 256, Nat.mod_lt _ (by decide)⟩)

/-- One row of the norm: the entry by the reciprocal root of the row's mean square, by the gain. -/
def rowNorm (x : Fin 4096 → EReal) (g : EReal) (d : Fin 4096) : EReal :=
  x d * Ideal.rsqrt (Ideal.div (∑ k : Fin 4096, x k * x k) (Ideal.ofBits .f32 0x45800000#32) + Ideal.ofBits .f32 0x358637BD#32) * g

/-- The norm of the rows from row 16 on. -/
def normed (x : Vec Ideal S16896x4096 .f32) (g : Vec Ideal S1x4096 .f32) : Vec Ideal S16384x4096 .f32 := fun y =>
  rowNorm (fun d => x (ix2 ⟨(y 0).val + 16, by have h0 : (y 0).val < 16384 := (y 0).isLt; omega⟩ d)) (g (ix2 0 (y 1))) (y 1)

/-! ## The blocks -/

theorem cast_block (x : Vec Ideal S2752x256 .f32) (k : Fin 2752) (n : Fin 256) : out0_1 x (ix3 0 k n) = x (ix2 k n) := by
  frame_out
  pointwise [k0_pay1]

theorem product_block (a : Vec Ideal S768x11008 .bf16) (w : Vec Ideal S1x11008x256 .bf16) (h : Vec Ideal S768x256 .f32)
    (r : Fin 768) (n : Fin 256) :
    out1_3 a w h (ix2 r n) = h (ix2 r n) + ∑ k : Fin 11008, a (ix2 r k) * w (ix3 0 k n) := by
  frame_out
  pointwise [k1_pay1]

theorem norm_block (x : Vec Ideal S256x4096 .f32) (nx : Vec Ideal S16x4096 .f32) (g : Vec Ideal S1x4096 .f32)
    (f : Fin 256 → Fin 4096 → EReal) (hx : ∀ (r : Fin 240) d, x (ix2 ⟨16 + r.val, by omega⟩ d) = f ⟨r.val, by omega⟩ d)
    (hn : ∀ (r : Fin 16) d, nx (ix2 r d) = f ⟨r.val + 240, by omega⟩ d) (r : Fin 256) (d : Fin 4096) :
    out2_3 x nx g (ix2 r d) = rowNorm (f r) (g (ix2 0 d)) d := by
  frame_out
  pointwise [k2_pay1]
  have e : ∀ d : Fin 4096, (if h : r.val < 240 then x (ix2 ⟨16 + r.val, by omega⟩ d) else nx (ix2 ⟨r.val - 240, by omega⟩ d)) = f r d := by
    intro d
    split
    · next h => exact hx ⟨r.val, h⟩ d
    · next h => refine (hn ⟨r.val - 240, by omega⟩ d).trans (congrArg (f · d) (Fin.ext ?_)); show r.val - 240 + 240 = r.val; omega
  simp only [e]
  rfl

/-! ## The calls -/

section Calls
variable (V : (c : Dev nD) → (b : Ref sig .tc) → Buf (Elt Ideal) ((c : Thread nD τ).loc b)) (c : Dev nD)

theorem idx0 : ∀ t : Fin cfg0.N, win0_0.index t = ![(grid0.coords t 0).val, (grid0.coords t 1).val]
    ∧ win0_1.index t = ![(grid0.coords t 1).val, (grid0.coords t 0).val, 0] := (by decide +kernel : ∀ t : Fin grid0.N, _)
theorem idx1 : ∀ t : Fin cfg1.N, win1_0.index t = ![(grid1.coords t 0).val, 0]
    ∧ win1_1.index t = ![(grid1.coords t 1).val, 0, 0] ∧ win1_2.index t = ![(grid1.coords t 0).val, (grid1.coords t 1).val]
    ∧ win1_3.index t = ![(grid1.coords t 0).val, (grid1.coords t 1).val] := (by decide +kernel : ∀ t : Fin grid1.N, _)
theorem idx2 : ∀ t : Fin cfg2.N, win2_0.index t = ![(grid2.coords t 0).val, 0]
    ∧ win2_1.index t = ![((grid2.coords t 0).val + 1) * 16, 0] ∧ win2_2.index t = ![0, 0]
    ∧ win2_3.index t = ![(grid2.coords t 0).val, 0] := (by decide +kernel : ∀ t : Fin grid2.N, _)

theorem lt00 (i : grid0.Coords) : (i 0).val < 4 := (i 0).isLt
theorem lt01 (i : grid0.Coords) : (i 1).val < 16 := (i 1).isLt
theorem lt10 (i : grid1.Coords) : (i 0).val < 22 := (i 0).isLt
theorem lt11 (i : grid1.Coords) : (i 1).val < 16 := (i 1).isLt
theorem lt20 (i : grid2.Coords) : (i 0).val < 64 := (i 0).isLt

theorem cast_in (t : Fin cfg0.N) (k : Fin 2752) (n : Fin 256) : iblk0 V c 0 t (ix2 k n)
    = V c main_arg1 (ix2 ⟨2752 * (grid0.coords t 0).val + k.val, by have := lt00 (grid0.coords t); omega⟩
        ⟨256 * (grid0.coords t 1).val + n.val, by have := lt01 (grid0.coords t); omega⟩ : S11008x4096.Idx) := by
  blk_simp [iblk0]
  blk_ext [idx0 t]
theorem cast_out (t : Fin cfg0.N) (k : Fin 2752) (n : Fin 256) : (win0_1.blk t).view.emb (ix3 0 k n)
    = (ix3 ⟨(grid0.coords t 1).val, lt01 (grid0.coords t)⟩ ⟨2752 * (grid0.coords t 0).val + k.val, by have := lt00 (grid0.coords t); omega⟩ n : S16x11008x256.Idx) := by
  blk_ext [idx0 t]

theorem left_tiles : (dat0 V c).arrAt 1 cfg0.N = tiles (V c main_arg1) := by
  refine (dat0 V c).arrAt_eq_of_covers 1 _ (by decide +kernel) fun t _ y => ?_
  blk_simp
  rw [after0_1]
  have hy : ∃ (k : Fin 2752) (n : Fin 256), y = ix3 0 k n :=
    ⟨⟨(y 1).val, (y 1).isLt⟩, ⟨(y 2).val, (y 2).isLt⟩, by
      funext a; fin_cases a
      exacts [Fin.ext (by have h : (y 0).val < 1 := (y 0).isLt; show (y 0).val = 0; omega), rfl, rfl]⟩
  obtain ⟨k, n, rfl⟩ := hy
  refine ((cast_block _ k n).trans (cast_in V c t k n)).trans ?_
  exact (congrArg (tiles (V c main_arg1)) (cast_out t k n)).symm

theorem a_in (t : Fin cfg1.N) (r : Fin 768) (k : Fin 11008) : iblk1 V c 0 t (ix2 r k)
    = V c main_arg0 (ix2 ⟨768 * (grid1.coords t 0).val + r.val, by have := lt10 (grid1.coords t); omega⟩ k : S16896x11008.Idx) := by
  blk_simp [iblk1]
  blk_ext [idx1 t]
theorem w_in (t : Fin cfg1.N) (k : Fin 11008) (n : Fin 256) : iblk1 V c 1 t (ix3 0 k n)
    = V c main_v0 (ix3 ⟨(grid1.coords t 1).val, lt11 (grid1.coords t)⟩ k n : S16x11008x256.Idx) := by
  blk_simp [iblk1]
  blk_ext [idx1 t]
theorem h_in (t : Fin cfg1.N) (r : Fin 768) (n : Fin 256) : iblk1 V c 2 t (ix2 r n)
    = V c main_arg2 (ix2 ⟨768 * (grid1.coords t 0).val + r.val, by have := lt10 (grid1.coords t); omega⟩
        ⟨256 * (grid1.coords t 1).val + n.val, by have := lt11 (grid1.coords t); omega⟩ : S16896x4096.Idx) := by
  blk_simp [iblk1]
  blk_ext [idx1 t]
theorem sum_out (t : Fin cfg1.N) (r : Fin 768) (n : Fin 256) : (win1_3.blk t).view.emb (ix2 r n)
    = (ix2 ⟨768 * (grid1.coords t 0).val + r.val, by have := lt10 (grid1.coords t); omega⟩
        ⟨256 * (grid1.coords t 1).val + n.val, by have := lt11 (grid1.coords t); omega⟩ : S16896x4096.Idx) := by
  blk_ext [idx1 t]

theorem added_at (a : Vec Ideal S16896x11008 .bf16) (wt : Vec Ideal S16x11008x256 .bf16) (h : Vec Ideal S16896x4096 .f32)
    (R : Fin 16896) (j : Fin 16) (n : Fin 256) (C : Fin 4096) (hC : C.val = 256 * j.val + n.val) :
    added a wt h (ix2 R C) = h (ix2 R C) + ∑ k : Fin 11008, a (ix2 R k) * wt (ix3 j k n) := by
  have e1 : (⟨C.val / 256, by omega⟩ : Fin 16) = j := Fin.ext (by show C.val / 256 = _; omega)
  have e2 : (⟨C.val % 256, Nat.mod_lt _ (by decide)⟩ : Fin 256) = n := Fin.ext (by show C.val % 256 = _; omega)
  show _ + ∑ k : Fin 11008, a (ix2 R k) * wt (ix3 ⟨C.val / 256, _⟩ k ⟨C.val % 256, _⟩) = _
  rw [e1, e2]

theorem left_added : (dat1 V c).arrAt 3 cfg1.N = added (V c main_arg0) (V c main_v0) (V c main_arg2) := by
  refine (dat1 V c).arrAt_eq_of_covers 3 _ (by decide +kernel) fun t _ y => ?_
  blk_simp
  rw [after1_3]
  have hy : ∃ (r : Fin 768) (n : Fin 256), y = ix2 r n :=
    ⟨⟨(y 0).val, (y 0).isLt⟩, ⟨(y 1).val, (y 1).isLt⟩, by funext a; fin_cases a <;> rfl⟩
  obtain ⟨r, n, rfl⟩ := hy
  refine (product_block _ _ _ r n).trans ?_
  rw [h_in]
  simp only [a_in, w_in]
  refine Eq.trans ?_ (congrArg (added (V c main_arg0) (V c main_v0) (V c main_arg2)) (sum_out t r n)).symm
  exact (added_at _ _ _ _ ⟨(grid1.coords t 1).val, lt11 (grid1.coords t)⟩ n _ rfl).symm

theorem x_in (t : Fin cfg2.N) (r : Fin 256) (d : Fin 4096) : iblk2 V c 0 t (ix2 r d)
    = V c main_v1 (ix2 ⟨256 * (grid2.coords t 0).val + r.val, by have := lt20 (grid2.coords t); omega⟩ d : S16896x4096.Idx) := by
  blk_simp [iblk2]
  blk_ext [idx2 t]
theorem nx_in (t : Fin cfg2.N) (r : Fin 16) (d : Fin 4096) : iblk2 V c 1 t (ix2 r d)
    = V c main_v1 (ix2 ⟨256 * ((grid2.coords t 0).val + 1) + r.val, by have := lt20 (grid2.coords t); omega⟩ d : S16896x4096.Idx) := by
  blk_simp [iblk2]
  blk_ext [idx2 t]
theorem g_in (t : Fin cfg2.N) (d : Fin 4096) : iblk2 V c 2 t (ix2 0 d) = V c main_v2 (ix2 0 d : S1x4096.Idx) := by
  blk_simp [iblk2]
  blk_ext [idx2 t]
theorem y_out (t : Fin cfg2.N) (r : Fin 256) (d : Fin 4096) : (win2_3.blk t).view.emb (ix2 r d)
    = (ix2 ⟨256 * (grid2.coords t 0).val + r.val, by have := lt20 (grid2.coords t); omega⟩ d : S16384x4096.Idx) := by
  blk_ext [idx2 t]

theorem left_normed : (dat2 V c).arrAt 3 cfg2.N = normed (V c main_v1) (V c main_v2) := by
  refine (dat2 V c).arrAt_eq_of_covers 3 _ (by decide +kernel) fun t _ y => ?_
  blk_simp
  rw [after2_3]
  have hy : ∃ (r : Fin 256) (d : Fin 4096), y = ix2 r d :=
    ⟨⟨(y 0).val, (y 0).isLt⟩, ⟨(y 1).val, (y 1).isLt⟩, by funext a; fin_cases a <;> rfl⟩
  obtain ⟨r, d, rfl⟩ := hy
  have hi := lt20 (grid2.coords t)
  refine (norm_block _ _ _ (fun r d => V c main_v1 (ix2 ⟨256 * (grid2.coords t 0).val + r.val + 16, by omega⟩ d : S16896x4096.Idx))
    (fun r d => ?_) (fun r d => ?_) r d).trans ?_
  · rw [x_in]
    exact congrArg (fun R : Fin 16896 => V c main_v1 (ix2 R d : S16896x4096.Idx)) (Fin.ext (by show _ + (16 + r.val) = _ + r.val + 16; omega))
  · rw [nx_in]
    exact congrArg (fun R : Fin 16896 => V c main_v1 (ix2 R d : S16896x4096.Idx)) (Fin.ext (by show 256 * (_ + 1) + r.val = _ + (r.val + 240) + 16; omega))
  · rw [g_in]
    exact (congrArg (normed (V c main_v1) (V c main_v2)) (y_out t r d)).symm

end Calls

end Cert.Proof.Down
-- ==== Proof.Down.Run.lean ====
/-
  The down-projection and the final norm, run: the three calls one after the other, every buffer at what the last leaves,
  and the result array from the arguments.
-/
module

public import proofs.«01_k».proof.Proof.Down.Blocks

@[expose] public section

set_option maxRecDepth 16384

noncomputable section

namespace Cert.Proof.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

set_option backward.isDefEq.respectTransparency.types false in
/-- Every unscoped buffer ends at the last boundary's contents, and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Run

section Result
variable (m : (ℓ : Loc nD τ sig) → Buf (Elt Ideal) ℓ) (ρ : Dev nD → PrngReg)

/-- The result from the arguments. -/
def whole (a : Vec Ideal S16896x11008 .bf16) (w : Vec Ideal S11008x4096 .f32) (h : Vec Ideal S16896x4096 .f32) (g : Vec Ideal S4096 .f32) :
    Vec Ideal S16384x4096 .f32 := fun y =>
  rowNorm (fun d => h (ix2 ⟨(y 0).val + 16, by have h0 : (y 0).val < 16384 := (y 0).isLt; omega⟩ d)
    + ∑ k : Fin 11008, a (ix2 ⟨(y 0).val + 16, by have h0 : (y 0).val < 16384 := (y 0).isLt; omega⟩ k) * w (ix2 k d)) (g (ix1 (y 1))) (y 1)

theorem gain_row (g : Vec Ideal S4096 .f32) (d : Fin 4096) : shapeCast S1x4096 g shapeCasts_S4096_S1x4096 (ix2 0 d) = g (ix1 d) := by
  pointwise
  blk_ext

theorem tiles_added (a : Vec Ideal S16896x11008 .bf16) (w : Vec Ideal S11008x4096 .f32) (h : Vec Ideal S16896x4096 .f32)
    (R : Fin 16896) (d : Fin 4096) : added a (tiles w) h (ix2 R d) = h (ix2 R d) + ∑ k : Fin 11008, a (ix2 R k) * w (ix2 k d) := by
  rw [added_at a (tiles w) h R ⟨d.val / 256, by omega⟩ ⟨d.val % 256, Nat.mod_lt _ (by decide)⟩ d (by show d.val = 256 * (d.val / 256) + d.val % 256; omega)]
  refine congrArg (_ + ·) (Finset.sum_congr rfl fun k _ => congrArg (_ * ·) ?_)
  exact congrArg (fun C : Fin 4096 => w (ix2 k C)) (Fin.ext (by show 256 * (d.val / 256) + d.val % 256 = d.val; omega))

theorem normed_whole (a : Vec Ideal S16896x11008 .bf16) (w : Vec Ideal S11008x4096 .f32) (h : Vec Ideal S16896x4096 .f32) (g : Vec Ideal S4096 .f32) :
    normed (added a (tiles w) h) (shapeCast S1x4096 g shapeCasts_S4096_S1x4096) = whole a w h g := by
  funext y
  unfold normed whole
  simp only [tiles_added]
  exact congrArg (fun e => rowNorm _ e (y 1)) (gain_row g (y 1))

theorem final (c : Dev nD) : W4 m ρ c (Proc.devRef .tc main_v3) = whole (m (c.tc.loc main_arg0)) (m (c.tc.loc main_arg1))
    (m (c.tc.loc main_arg2)) (m (c.tc.loc main_arg3)) := by
  refine (W4_arr m ρ c 3).trans ((left_normed (V3 m ρ) c).trans ?_)
  have e1 : V3 m ρ c main_v1 = added (m (c.tc.loc main_arg0)) (tiles (m (c.tc.loc main_arg1))) (m (c.tc.loc main_arg2)) := by
    refine (W3_of m ρ c main_v1 (by decide)).trans ((W2_arr m ρ c 3).trans ((left_added (V1 m ρ) c).trans ?_))
    have e : V1 m ρ c main_v0 = tiles (m (c.tc.loc main_arg1)) := (W1_arr m ρ c 1).trans (left_tiles (V0 m ρ) c)
    rw [e]
    exact congrArg₂ (fun x y => added x _ y) (W1_args m ρ c main_arg0 (by decide)) (W1_args m ρ c main_arg2 (by decide))
  have e2 : V3 m ρ c main_v2 = shapeCast S1x4096 (m (c.tc.loc main_arg3) : Vec Ideal S4096 .f32) shapeCasts_S4096_S1x4096 := by
    refine Eq.trans (b := shapeCast S1x4096 (W2 m ρ c (Proc.devRef .tc main_arg3) : Vec Ideal S4096 .f32) shapeCasts_S4096_S1x4096) rfl ?_
    exact congrArg (fun g : Vec Ideal S4096 .f32 => shapeCast S1x4096 g shapeCasts_S4096_S1x4096) (W2_args m ρ c main_arg3 (by decide))
  rw [e1, e2]
  exact normed_whole _ _ _ _

/-- The result array and the arguments, off the last boundary's contents. -/
theorem ends {M : (ℓ : Loc nD τ sig) → Buf (Elt Ideal) ℓ} (h : ∀ c : Dev nD, ∀ b ∈ Pipeline.ucRefs τ sig, M ((c : Thread nD τ).1, b) = W4 m ρ c b) (c : Dev nD) :
    M (c.tc.loc main_v3) = whole (m (c.tc.loc main_arg0)) (m (c.tc.loc main_arg1))
        (m (c.tc.loc main_arg2)) (m (c.tc.loc main_arg3))
      ∧ M (c.tc.loc main_arg0) = m (c.tc.loc main_arg0)
      ∧ M (c.tc.loc main_arg1) = m (c.tc.loc main_arg1)
      ∧ M (c.tc.loc main_arg2) = m (c.tc.loc main_arg2)
      ∧ M (c.tc.loc main_arg3) = m (c.tc.loc main_arg3) :=
  ⟨(h c _ (mem_uc main_v3 (by decide))).trans (final m ρ c),
   (h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c)⟩

end Result

end Cert.Proof.Down
-- ==== Proof.Down.Plain.lean ====
/-
  The down-projection and the final norm in the reference: the same `whole` of the arguments.
-/
module

public import proofs.«01_k».proof.Proof.Down.Run
public import proofs.«01_k».proof.Proof.Gen.Reference2Ideal.Read

@[expose] public section

set_option maxRecDepth 16384

noncomputable section

namespace Cert.Proof.Down

open Cert.Reference2Ideal Cert.Reference2Ideal.Gen Cert.Reference2Ideal.Read
open Idealize.ShloMosaic Idealize.ShloMosaic.TcCoe Idealize.SL.Sem

section Plain
variable (x0 : Vec Ideal S16896x11008 .bf16) (x1 : Vec Ideal S11008x4096 .f32) (x2 : Vec Ideal S16896x4096 .f32) (x3 : Vec Ideal S4096 .f32)
variable (r : Fin 16400) (d : Fin 4096)

theorem sum_at : val_main_v4 (F := Ideal) x0 x1 x2 (ix2 r d)
    = x2 (ix2 ⟨r.val, by omega⟩ d) + ∑ k : Fin 11008, x0 (ix2 ⟨r.val, by omega⟩ k) * x1 (ix2 k d) := by
  rw [val_main_v4_apply, val_main_v3_apply]
  refine congrArg₂ (· + ·) ?_ (Finset.sum_congr rfl fun k _ => congrArg₂ (· * ·) ?_ ?_)
  · rw [val_main_v2_apply]
    exact congrArg x2 (by funext a; fin_cases a <;> rfl)
  · rw [val_main_v1_apply, val_main_v0_apply]
    exact congrArg x0 (by funext a; fin_cases a <;> rfl)
  · exact congrArg x1 (by funext a; fin_cases a <;> rfl)

theorem row_at : val_main_v17 (F := Ideal) x0 x1 x2 x3 (ix2 r d)
    = rowNorm (fun d => x2 (ix2 ⟨r.val, by omega⟩ d) + ∑ k : Fin 11008, x0 (ix2 ⟨r.val, by omega⟩ k) * x1 (ix2 k d)) (x3 (ix1 d)) d := by
  have zero : val_main_cst (F := Ideal) (Shape.Idx.first h_S_) = 0 := by simp [val_main_cst_apply]
  have e : val_main_v13 (F := Ideal) x0 x1 x2 (ix2 r d) = Ideal.rsqrt (Ideal.div (∑ k : Fin 4096, val_main_v4 (F := Ideal) x0 x1 x2 (ix2 r k)
      * val_main_v4 (F := Ideal) x0 x1 x2 (ix2 r k)) (Ideal.ofBits .f32 0x45800000#32) + Ideal.ofBits .f32 0x358637BD#32) := by
    rw [val_main_v13_apply, val_main_v12_apply, val_main_v11_apply, val_main_v9_apply, val_main_v7_apply, val_main_v6_apply, zero, zero_add]
    have e : idx_main_v7 (idx_main_v13 (ix2 r d)) = ix1 r := by funext a; fin_cases a; rfl
    rw [e]
    have e' : ∀ k, idx_main_v6 (ix1 r) k = ix2 r k := fun k => by funext a; fin_cases a <;> rfl
    simp only [e']
    rfl
  rw [val_main_v17_apply, val_main_v14_apply, e]
  simp only [sum_at]
  unfold rowNorm
  refine congrArg₂ (· * ·) rfl ?_
  rw [val_main_v16_apply, val_main_v15_apply]
  exact congrArg x3 (by funext a; fin_cases a; rfl)

/-- The reference's array is `whole`. -/
theorem plain : val_main_v18 (F := Ideal) x0 x1 x2 x3 = whole x0 x1 x2 x3 := by
  funext y
  obtain ⟨R, C, rfl⟩ : ∃ (R : Fin 16384) (C : Fin 4096), y = ix2 R C := ⟨⟨(y 0).val, (y 0).isLt⟩, ⟨(y 1).val, (y 1).isLt⟩, by funext a; fin_cases a <;> rfl⟩
  rw [val_main_v18_apply]
  have e : idx_main_v18 (ix2 R C) = ix2 ⟨R.val + 16, by omega⟩ C := by
    funext a; refine Fin.ext ?_
    fin_cases a
    · show 16 + R.val = R.val + 16; omega
    · rfl
  rw [e, row_at]
  rfl

end Plain

end Cert.Proof.Down
-- ==== Proof.Up.Prep.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.RegionsOwned
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

/-!
The launch's set-up for the three regions before the up-projection: the two weight casts and the norm.  For each,
the blocks its windows read, what its body leaves, its proof data and its body obligation, all at the buffer contents
`V` the region is entered with; then the contents of every buffer at each boundary of `@main` up to the up-projection.
-/

@[expose] public section

set_option maxRecDepth 16384

noncomputable section

namespace Cert.Proof.Up

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

def blkin0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blkin0 V c 0 t) (t : Fin cfg0.N) (d) : dat.before 0 t d = blkin0 V c 0 t :=
  (dat.before_in_eq_fetched 0 rfl (fun _ => rfl) (fun _ _ _ => rfl) (fun t => by rw [hafter]; unfold Dat.blockOf blkin0; rw [hA]; try rfl) t d).trans
    (by unfold Dat.fetched Dat.blockOf blkin0; rw [hA]; try rfl)

abbrev r0_0 : Rect S128x11008 := Rect.unit (s := S128x11008) ![0, 0] S128x11008.size inb_S128x11008_S128x11008_0_0

def out0_1 (x0 : Vec F S128x11008 .f32) : Vec F S128x11008 .bf16 :=
  View.canon [⟨r0_0, k0_pay1 (View.ld x0 r0_0)⟩]

set_option maxHeartbeats 1000000 in
theorem triple0 (c : Dev nD) (E : Set ℕ) (i : grid0.Coords) (arg2 : Memref sig .tc .vmem S128x11008 .f32) (harg2 : arg2.IsWhole) (arg3 : Memref sig .tc .vmem S128x11008 .bf16) (harg3 : arg3.IsWhole)
    (x0 : Vec F S128x11008 .f32) (K : PUnit → sProp 𝕄) :
    iprop(owns c.tc arg2 fullShare x0 ∗ (∃ d, owns c.tc arg3 fullShare d)
        ∗ (iprop(owns c.tc arg2 fullShare x0 ∗ owns c.tc arg3 fullShare (out0_1 x0)) -∗ K ⟨⟩))
      ⊢ wp frame (wpE (defs₀ (F := F)) Variants.none c none) E (cc0_cast_cols i arg2 harg2 arg3 harg3) K := by
  simp only [cc0_cast_cols_eq_skeleton]; unfold cc0_cast_cols_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S128x11008.size (by rfl))

def dat0 (c : Dev nD) : Dat τ (Elt F) Unit ℕ (UR sig nD τ) ℕ cfg0 c where
  A w := V c (Pipeline.arrRef spec0 w)
  after w t := match w with
    | ⟨0, _⟩ => blkin0 V c 0 t
    | ⟨1, _⟩ => out0_1 (blkin0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blkin0 V c 0 t := by dsimp only [dat0]
theorem after0_1 (c : Dev nD) (t : Fin cfg0.N) : (dat0 V c).after 1 t = out0_1 (blkin0 V c 0 t) := by dsimp only [dat0]

theorem before0_0 (c : Dev nD) (t : Fin cfg0.N) (d) : (dat0 V c).before 0 t d = blkin0 V c 0 t :=
  before0_0_of V (dat0 V c) (A_eq0 V c 0) (after0_0 V c) t d

theorem defs₀_row0 (t : Fin cfg0.N) :
    defs₀ (F := F) .tc cfg0.body (cfg0.bodyArgs t (cfg0.slots t)) = bodyAt0 t := by
  unfold defs₀; rw [Defs.onTc_tc]

theorem oblig0 (c : Dev nD) : BodyObligation (dat0 (F := F) V c) (defs₀ (F := F)) Variants.none () Set.univ := fun t => by
  rw [bigSep_W0, bigSep_W0, defs₀_row0]
  refine triple_restated (W := wp frame (wpE (defs₀ (F := F)) Variants.none c none) Set.univ (bodyAt0 t)) ?_ rfl .rfl fun _ => .rfl
  unfold bodyAt0
  simp only [before0_0]
  rw [show (dat0 V c).Φ t.succ = (dat0 V c).Φ t.castSucc from rfl,
    after0_0, after0_1]
  iintro ⟨HΦ, Ho, ⟨%d0, H0⟩, ⟨%d1, H1⟩⟩
  iapply (triple0 c Set.univ (grid0.coords t) _ _ _ _ (blkin0 V c 0 t) _)
  isplitl [H0]; · iexact H0
  isplitl [H1]; · iexists _; iexact H1
  iintro ⟨H0, H1⟩
  iframe HΦ Ho H0
  iexact H1

def blkin1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blkin1 V c 0 t) (t : Fin cfg1.N) (d) : dat.before 0 t d = blkin1 V c 0 t :=
  (dat.before_in_eq_fetched 0 rfl (fun _ => rfl) (fun _ _ _ => rfl) (fun t => by rw [hafter]; unfold Dat.blockOf blkin1; rw [hA]; try rfl) t d).trans
    (by unfold Dat.fetched Dat.blockOf blkin1; rw [hA]; try rfl)

abbrev r1_0 : Rect S128x11008 := Rect.unit (s := S128x11008) ![0, 0] S128x11008.size inb_S128x11008_S128x11008_0_0

def out1_1 (x0 : Vec F S128x11008 .f32) : Vec F S128x11008 .bf16 :=
  View.canon [⟨r1_0, k1_pay1 (View.ld x0 r1_0)⟩]

set_option maxHeartbeats 1000000 in
theorem triple1 (c : Dev nD) (E : Set ℕ) (i : grid1.Coords) (arg2 : Memref sig .tc .vmem S128x11008 .f32) (harg2 : arg2.IsWhole) (arg3 : Memref sig .tc .vmem S128x11008 .bf16) (harg3 : arg3.IsWhole)
    (x0 : Vec F S128x11008 .f32) (K : PUnit → sProp 𝕄) :
    iprop(owns c.tc arg2 fullShare x0 ∗ (∃ d, owns c.tc arg3 fullShare d)
        ∗ (iprop(owns c.tc arg2 fullShare x0 ∗ owns c.tc arg3 fullShare (out1_1 x0)) -∗ K ⟨⟩))
      ⊢ wp frame (wpE (defs₀ (F := F)) Variants.none c none) E (cc1_cast_cols i arg2 harg2 arg3 harg3) K := by
  simp only [cc1_cast_cols_eq_skeleton]; unfold cc1_cast_cols_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S128x11008.size (by rfl))

def dat1 (c : Dev nD) : Dat τ (Elt F) Unit ℕ (UR sig nD τ) ℕ cfg1 c where
  A w := V c (Pipeline.arrRef spec1 w)
  after w t := match w with
    | ⟨0, _⟩ => blkin1 V c 0 t
    | ⟨1, _⟩ => out1_1 (blkin1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blkin1 V c 0 t := by dsimp only [dat1]
theorem after1_1 (c : Dev nD) (t : Fin cfg1.N) : (dat1 V c).after 1 t = out1_1 (blkin1 V c 0 t) := by dsimp only [dat1]

theorem before1_0 (c : Dev nD) (t : Fin cfg1.N) (d) : (dat1 V c).before 0 t d = blkin1 V c 0 t :=
  before1_0_of V (dat1 V c) (A_eq1 V c 0) (after1_0 V c) t d

theorem defs₀_row1 (t : Fin cfg1.N) :
    defs₀ (F := F) .tc cfg1.body (cfg1.bodyArgs t (cfg1.slots t)) = bodyAt1 t := by
  unfold defs₀; rw [Defs.onTc_tc]

theorem oblig1 (c : Dev nD) : BodyObligation (dat1 (F := F) V c) (defs₀ (F := F)) Variants.none () Set.univ := fun t => by
  rw [bigSep_W1, bigSep_W1, defs₀_row1]
  refine triple_restated (W := wp frame (wpE (defs₀ (F := F)) Variants.none c none) Set.univ (bodyAt1 t)) ?_ rfl .rfl fun _ => .rfl
  unfold bodyAt1
  simp only [before1_0]
  rw [show (dat1 V c).Φ t.succ = (dat1 V c).Φ t.castSucc from rfl,
    after1_0, after1_1]
  iintro ⟨HΦ, Ho, ⟨%d0, H0⟩, ⟨%d1, H1⟩⟩
  iapply (triple1 c Set.univ (grid1.coords t) _ _ _ _ (blkin1 V c 0 t) _)
  isplitl [H0]; · iexact H0
  isplitl [H1]; · iexists _; iexact H1
  iintro ⟨H0, H1⟩
  iframe HΦ Ho H0
  iexact H1

def blkin2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = blkin2 V c 0 t) (t : Fin cfg2.N) (d) : dat.before 0 t d = blkin2 V c 0 t :=
  (dat.before_in_eq_fetched 0 rfl (fun _ => rfl) (fun _ _ _ => rfl) (fun t => by rw [hafter]; unfold Dat.blockOf blkin2; rw [hA]; try rfl) t d).trans
    (by unfold Dat.fetched Dat.blockOf blkin2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blkin2 V c 1 t) (t : Fin cfg2.N) (d) : dat.before 1 t d = blkin2 V c 1 t :=
  (dat.before_in_eq_fetched 1 rfl (fun _ => rfl) (fun _ _ _ => rfl) (fun t => by rw [hafter]; unfold Dat.blockOf blkin2; rw [hA]; try rfl) t d).trans
    (by unfold Dat.fetched Dat.blockOf blkin2; rw [hA]; try rfl)

abbrev r2_0 : Rect S256x4096 := Rect.unit (s := S256x4096) ![0, 0] S256x4096.size inb_S256x4096_S256x4096_0_0
abbrev r2_1 : Rect S1x4096 := Rect.unit (s := S1x4096) ![0, 0] S1x4096.size inb_S1x4096_S1x4096_0_0

def out2_2 (x0 : Vec F S256x4096 .f32) (x1 : Vec F S1x4096 .f32) : Vec F S256x4096 .bf16 :=
  View.canon [⟨r2_0, k2_pay1 (View.ld x0 r2_0) (View.ld x1 r2_1)⟩]

set_option maxHeartbeats 1000000 in
theorem triple2 (c : Dev nD) (E : Set ℕ) (i : grid2.Coords) (arg1 : Memref sig .tc .vmem S256x4096 .f32) (harg1 : arg1.IsWhole) (arg2 : Memref sig .tc .vmem S1x4096 .f32) (harg2 : arg2.IsWhole) (arg3 : Memref sig .tc .vmem S256x4096 .bf16) (harg3 : arg3.IsWhole)
    (x0 : Vec F S256x4096 .f32) (x1 : Vec F S1x4096 .f32) (K : PUnit → sProp 𝕄) :
    iprop(owns c.tc arg1 fullShare x0 ∗ owns c.tc arg2 fullShare x1 ∗ (∃ d, owns c.tc arg3 fullShare d)
        ∗ (iprop(owns c.tc arg1 fullShare x0 ∗ owns c.tc arg2 fullShare x1 ∗ owns c.tc arg3 fullShare (out2_2 x0 x1)) -∗ K ⟨⟩))
      ⊢ wp frame (wpE (defs₀ (F := F)) Variants.none c none) E (cc2_rmsnorm i arg1 harg1 arg2 harg2 arg3 harg3) K := by
  simp only [cc2_rmsnorm_eq_skeleton]; unfold cc2_rmsnorm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S256x4096.size (by rfl))

def dat2 (c : Dev nD) : Dat τ (Elt F) Unit ℕ (UR sig nD τ) ℕ cfg2 c where
  A w := V c (Pipeline.arrRef spec2 w)
  after w t := match w with
    | ⟨0, _⟩ => blkin2 V c 0 t
    | ⟨1, _⟩ => blkin2 V c 1 t
    | ⟨2, _⟩ => out2_2 (blkin2 V c 0 t) (blkin2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blkin2 V c 0 t := by dsimp only [dat2]
theorem after2_1 (c : Dev nD) (t : Fin cfg2.N) : (dat2 V c).after 1 t = blkin2 V c 1 t := by dsimp only [dat2]
theorem after2_2 (c : Dev nD) (t : Fin cfg2.N) : (dat2 V c).after 2 t = out2_2 (blkin2 V c 0 t) (blkin2 V c 1 t) := by dsimp only [dat2]

theorem before2_0 (c : Dev nD) (t : Fin cfg2.N) (d) : (dat2 V c).before 0 t d = blkin2 V c 0 t :=
  before2_0_of V (dat2 V c) (A_eq2 V c 0) (after2_0 V c) t d
theorem before2_1 (c : Dev nD) (t : Fin cfg2.N) (d) : (dat2 V c).before 1 t d = blkin2 V c 1 t :=
  before2_1_of V (dat2 V c) (A_eq2 V c 1) (after2_1 V c) t d

theorem defs₀_row2 (t : Fin cfg2.N) :
    defs₀ (F := F) .tc cfg2.body (cfg2.bodyArgs t (cfg2.slots t)) = bodyAt2 t := by
  unfold defs₀; rw [Defs.onTc_tc]

theorem oblig2 (c : Dev nD) : BodyObligation (dat2 (F := F) V c) (defs₀ (F := F)) Variants.none () Set.univ := fun t => by
  rw [bigSep_W2, bigSep_W2, defs₀_row2]
  refine triple_restated (W := wp frame (wpE (defs₀ (F := F)) Variants.none c none) Set.univ (bodyAt2 t)) ?_ rfl .rfl fun _ => .rfl
  unfold bodyAt2
  simp only [before2_0, before2_1]
  rw [show (dat2 V c).Φ t.succ = (dat2 V c).Φ t.castSucc from rfl,
    after2_0, after2_1, after2_2]
  iintro ⟨HΦ, Ho, ⟨%d0, H0⟩, ⟨%d1, H1⟩, ⟨%d2, H2⟩⟩
  iapply (triple2 c Set.univ (grid2.coords t) _ _ _ _ _ _ (blkin2 V c 0 t) (blkin2 V c 1 t) _)
  iframe H0 H1
  isplitl [H2]; · iexists _; iexact H2
  iintro ⟨H0, H1, H2⟩
  iframe HΦ Ho H0 H1
  iexact H2

end Regions

abbrev argRefs : List (Ref sig .tc) := [main_arg0, main_arg1, main_arg2, main_arg3]

theorem hostOps2_fresh : (hostOps2 : List (HloOp τ sig (Elt F))).Forall fun op => op.fresh = ∅ := by
  simp only [List.Forall]; repeat' constructor
abbrev hostOps2_W : List (Ref sig .tc) := [main_v2, main_v3, main_v4]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m (c.tc.loc a) := fun _ _ => rfl
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m (c.tc.loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps2 (W2 m ρ c)
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m (c.tc.loc a) :=
  fun a ha => (W3_of m ρ c a (hostOps2_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m (c.tc.loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

end Cert.Proof.Up

end
-- ==== Proof.Up.Body.lean ====
module

public import proofs.«01_k».proof.Proof.Up.Prep
public import proofs.«01_k».proof.Proof.Sb.Access

/-!
The up-projection's body at one grid point.  A point takes 1536 rows of the normed activations against 512 columns of
each of the two weights, in two halves of 768 rows.  The short convolution reaches two rows back: within a half it
reads the product's own rows, at a half's start the eight rows kept from before, which for the first half lie in the
scratch (one slot per column block) and for the second are the first half's last rows.
-/

@[expose] public section

set_option maxRecDepth 16384

noncomputable section

namespace Cert.Proof.Up

open Cert.Kernel3Ideal Cert.Kernel3Ideal.Gen Cert.Proof.Sb
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles -/

abbrev rXa : Rect S1536x4096 := Rect.unit (s := S1536x4096) ![0, 0] S768x4096.size inb_S1536x4096_S768x4096_0_0
abbrev rXb : Rect S1536x4096 := Rect.unit (s := S1536x4096) ![768, 0] S768x4096.size inb_S1536x4096_S768x4096_768_0
abbrev rW : Rect S4096x512 := Rect.unit (s := S4096x512) ![0, 0] S4096x512.size inb_S4096x512_S4096x512_0_0
abbrev rC0 : Rect S3x512 := Rect.unit (s := S3x512) ![0, 0] S1x512.size inb_S3x512_S1x512_0_0
abbrev rC1 : Rect S3x512 := Rect.unit (s := S3x512) ![1, 0] S1x512.size inb_S3x512_S1x512_1_0
abbrev rC2 : Rect S3x512 := Rect.unit (s := S3x512) ![2, 0] S1x512.size inb_S3x512_S1x512_2_0
abbrev rAa : Rect S1536x512 := Rect.unit (s := S1536x512) ![0, 0] S768x512.size inb_S1536x512_S768x512_0_0
abbrev rAb : Rect S1536x512 := Rect.unit (s := S1536x512) ![768, 0] S768x512.size inb_S1536x512_S768x512_768_0
abbrev rT : Rect S1x8x512 := Rect.unit (s := S1x8x512) ![0, 0, 0] S1x8x512.size inb_S1x8x512_S1x8x512_0_0_0
abbrev rS : Rect S22x8x512 := Rect.unit (s := S22x8x512) ![0, 0, 0] S22x8x512.size inb_S22x8x512_S22x8x512_0_0_0
abbrev rSlot (i : grid3.Coords) : Rect S22x8x512 := Rect.unit (s := S22x8x512) (k3_off1 i) S1x8x512.size (k3_off1_inb i)

/-- The word the body tests: one at the first grid point. -/
abbrev firstW (i : grid3.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The scratch as the point uses it: zeros at the first point. -/
def scrG (i : grid3.Coords) (g : Vec F S22x8x512 .f32) : Vec F S22x8x512 .f32 := if firstW i = 1#1 then rS.overlay g k3_pay4 else g
def scrV (i : grid3.Coords) (v : Vec F S22x8x512 .f32) : Vec F S22x8x512 .f32 := if firstW i = 1#1 then rS.overlay v k3_pay5 else v

section Point
variable (i : grid3.Coords) (x : Vec F S1536x4096 .bf16) (wg wv : Vec F S4096x512 .bf16) (cg cv : Vec F S3x512 .f32) (g v : Vec F S22x8x512 .f32)

/-- What a load through a rectangle reads. -/
abbrev ldr {s : Shape} {e : EltTy} (X : Vec F s e) (r : Rect s) : Vec F r.shape e := fun y => X (r.toLoadRect.idx y)

/-- The four products. -/
def ga : FVec F S768x512 .f32 := k3_pay15 (ldr x rXa) (ldr wg rW)
def gb : FVec F S768x512 .f32 := k3_pay22 (ldr x rXb) (ldr wg rW)

/-- The first half's activation. -/
def actA : FVec F S768x512 .bf16 :=
  k3_pay18 (k3_pay6 (ldr cg rC0)) (k3_pay7 (ldr cg rC1)) (k3_pay8 (ldr cg rC2)) (k3_pay9 (ldr cv rC0)) (k3_pay10 (ldr cv rC1)) (k3_pay11 (ldr cv rC2))
    (k3_pay12 (ldr (scrG i g) (rSlot i))) (k3_pay13 (ldr (scrV i v) (rSlot i))) (k3_pay14 (ldr x rXa)) (ga x wg) (k3_pay16 (ldr wv rW))
    (constant S768x512 .f32 0x00000000#32)

/-- The second half's. -/
def actB : FVec F S768x512 .bf16 :=
  k3_pay24 (k3_pay6 (ldr cg rC0)) (k3_pay7 (ldr cg rC1)) (k3_pay8 (ldr cg rC2)) (k3_pay9 (ldr cv rC0)) (k3_pay10 (ldr cv rC1)) (k3_pay11 (ldr cv rC2))
    (k3_pay19 (ga x wg)) (k3_pay20 (k3_pay14 (ldr x rXa)) (k3_pay16 (ldr wv rW)) (constant S768x512 .f32 0x00000000#32))
    (k3_pay21 (ldr x rXb)) (gb x wg) (ldr wv rW)

/-- The activation's block, over what the buffer held. -/
def actOut (d : Vec F S1536x512 .bf16) : Vec F S1536x512 .bf16 :=
  rAb.overlay (rAa.overlay d (actA i x wg wv cg cv g v)) (actB x wg wv cg cv)

/-- The blocks of the two tail arrays. -/
def tailG (d : Vec F S1x8x512 .f32) : Vec F S1x8x512 .f32 := rT.overlay d (k3_pay27 (gb x wg))
def tailV (d : Vec F S1x8x512 .f32) : Vec F S1x8x512 .f32 := rT.overlay d (k3_pay1 (k3_pay28 (k3_pay21 (ldr x rXb)) (ldr wv rW)))

/-- The scratch the point leaves. -/
def nextG : Vec F S22x8x512 .f32 := (rSlot i).overlay (scrG i g) (k3_pay2 (k3_pay25 (gb x wg)))
def nextV : Vec F S22x8x512 .f32 := (rSlot i).overlay (scrV i v) (k3_pay3 (k3_pay26 (k3_pay21 (ldr x rXb)) (ldr wv rW)))

end Point

set_option maxHeartbeats 4000000 in
/-- The body on any staging buffers. -/
theorem kernel_run (c : Dev nD) (i : grid3.Coords) (arg2 : Memref sig .tc .vmem S1536x4096 .bf16) (harg2 : arg2.IsWhole)
    (arg3 : Memref sig .tc .vmem S4096x512 .bf16) (harg3 : arg3.IsWhole) (arg4 : Memref sig .tc .vmem S4096x512 .bf16) (harg4 : arg4.IsWhole)
    (arg5 : Memref sig .tc .vmem S3x512 .f32) (harg5 : arg5.IsWhole) (arg6 : Memref sig .tc .vmem S3x512 .f32) (harg6 : arg6.IsWhole)
    (arg7 : Memref sig .tc .vmem S1536x512 .bf16) (harg7 : arg7.IsWhole) (arg8 : Memref sig .tc .vmem S1x8x512 .f32) (harg8 : arg8.IsWhole)
    (arg9 : Memref sig .tc .vmem S1x8x512 .f32) (harg9 : arg9.IsWhole) (arg10 : Memref sig .tc .vmem S22x8x512 .f32) (harg10 : arg10.IsWhole)
    (arg11 : Memref sig .tc .vmem S22x8x512 .f32) (harg11 : arg11.IsWhole)
    (x : Vec F S1536x4096 .bf16) (wg wv : Vec F S4096x512 .bf16) (cg cv : Vec F S3x512 .f32) (g v : Vec F S22x8x512 .f32)
    (d7 : Vec F S1536x512 .bf16) (d8 d9 : Vec F S1x8x512 .f32) (E : Set ℕ) (K : PUnit → sProp 𝕄) :
    iprop(owns c.tc arg2 fullShare x ∗ owns c.tc arg3 fullShare wg ∗ owns c.tc arg4 fullShare wv
        ∗ owns c.tc arg5 fullShare cg ∗ owns c.tc arg6 fullShare cv
        ∗ owns c.tc arg7 fullShare d7 ∗ owns c.tc arg8 fullShare d8 ∗ owns c.tc arg9 fullShare d9
        ∗ owns c.tc arg10 fullShare g ∗ owns c.tc arg11 fullShare v
        ∗ (iprop(owns c.tc arg2 fullShare x ∗ owns c.tc arg3 fullShare wg ∗ owns c.tc arg4 fullShare wv
            ∗ owns c.tc arg5 fullShare cg ∗ owns c.tc arg6 fullShare cv
            ∗ owns c.tc arg7 fullShare (actOut i x wg wv cg cv g v d7) ∗ owns c.tc arg8 fullShare (tailG x wg d8)
            ∗ owns c.tc arg9 fullShare (tailV x wv d9)
            ∗ owns c.tc arg10 fullShare (nextG i x wg g) ∗ owns c.tc arg11 fullShare (nextV i x wv v)) -∗ K ⟨⟩))
      ⊢ wp frame (wpE (defs₀ (F := F)) Variants.none (c : Thread nD τ) none) E
          (cc3_ffn_up_prompt i arg2 harg2 arg3 harg3 arg4 harg4 arg5 harg5 arg6 harg6 arg7 harg7 arg8 harg8 arg9 harg9 arg10 harg10 arg11 harg11) K := by
  simp only [cc3_ffn_up_prompt_eq_skeleton]; unfold cc3_ffn_up_prompt_skel
  simp only [k3_part1_eq_skeleton, k3_part2_eq_skeleton, k3_part3_eq_skeleton]
  unfold k3_part1_skel k3_part2_skel k3_part3_skel
  iintro ⟨H2, H3, H4, H5, H6, H7, H8, H9, HG, HV, Hk⟩
  by_cases hc : firstW i = 1#1
  · have eG : scrG i g = rS.overlay g k3_pay4 := if_pos hc
    have eV : scrV i v = rS.overlay v k3_pay5 := if_pos hc
    simp only [hc, ↓reduceDIte, Prog.lift, Prog.bind_op, Prog.bind_ret, Prog.pure_eq_ret]
    iapply (wp_load_owned _ _ _ _ (m := arg10)) $$ HG; iintro HG
    iapply (wp_store_owned _ _ _ _ (m := arg10)) $$ HG; iintro HG
    iapply (wp_load_owned _ _ _ _ (m := arg11)) $$ HV; iintro HV
    iapply (wp_store_owned _ _ _ _ (m := arg11)) $$ HV; iintro HV
    rw [← eG, ← eV]
    iapply (wp_load_owned _ _ _ _ (m := arg5)) $$ H5; iintro H5
    iapply (wp_load_owned _ _ _ _ (m := arg5)) $$ H5; iintro H5
    iapply (wp_load_owned _ _ _ _ (m := arg5)) $$ H5; iintro H5
    iapply (wp_load_owned _ _ _ _ (m := arg6)) $$ H6; iintro H6
    iapply (wp_load_owned _ _ _ _ (m := arg6)) $$ H6; iintro H6
    iapply (wp_load_owned _ _ _ _ (m := arg6)) $$ H6; iintro H6
    iapply (wp_load_owned _ _ _ _ (m := arg10)) $$ HG; iintro HG
    iapply (wp_load_owned _ _ _ _ (m := arg11)) $$ HV; iintro HV
    iapply (wp_load_owned _ _ _ _ (m := arg2)) $$ H2; iintro H2
    iapply (wp_load_owned _ _ _ _ (m := arg3)) $$ H3; iintro H3
    iapply (wp_load_owned _ _ _ _ (m := arg4)) $$ H4; iintro H4
    iapply (wp_load_owned _ _ _ _ (m := arg7)) $$ H7; iintro H7
    iapply (wp_store_owned _ _ _ _ (m := arg7)) $$ H7; iintro H7
    iapply (wp_load_owned _ _ _ _ (m := arg2)) $$ H2; iintro H2
    iapply (wp_load_owned _ _ _ _ (m := arg3)) $$ H3; iintro H3
    iapply (wp_load_owned _ _ _ _ (m := arg4)) $$ H4; iintro H4
    iapply (wp_load_owned _ _ _ _ (m := arg7)) $$ H7; iintro H7
    iapply (wp_store_owned _ _ _ _ (m := arg7)) $$ H7; iintro H7
    iapply (wp_load_owned _ _ _ _ (m := arg8)) $$ H8; iintro H8
    iapply (wp_store_owned _ _ _ _ (m := arg8)) $$ H8; iintro H8
    iapply (wp_load_owned _ _ _ _ (m := arg9)) $$ H9; iintro H9
    iapply (wp_store_owned _ _ _ _ (m := arg9)) $$ H9; iintro H9
    iapply (wp_load_owned _ _ _ _ (m := arg10)) $$ HG; iintro HG
    iapply (wp_store_owned _ _ _ _ (m := arg10)) $$ HG; iintro HG
    iapply (wp_load_owned _ _ _ _ (m := arg11)) $$ HV; iintro HV
    iapply (wp_store_owned _ _ _ _ (m := arg11)) $$ HV; iintro HV
    rw [wp_ret]; imodintro
    iapply Hk
    iframe H2 H3 H4 H5 H6 H7 H8 H9 HG
    iexact HV
  · have eG : scrG i g = g := if_neg hc
    have eV : scrV i v = v := if_neg hc
    simp only [hc, ↓reduceDIte, Prog.lift, Prog.bind_op, Prog.bind_ret, Prog.pure_eq_ret]
    ihave HG := (show owns c.tc arg10 fullShare g ⊢ (owns c.tc arg10 fullShare (scrG i g) : sProp 𝕄) from Entails.of_eq (by rw [eG])) $$ HG
    ihave HV := (show owns c.tc arg11 fullShare v ⊢ (owns c.tc arg11 fullShare (scrV i v) : sProp 𝕄) from Entails.of_eq (by rw [eV])) $$ HV
    iapply (wp_load_owned _ _ _ _ (m := arg5)) $$ H5; iintro H5
    iapply (wp_load_owned _ _ _ _ (m := arg5)) $$ H5; iintro H5
    iapply (wp_load_owned _ _ _ _ (m := arg5)) $$ H5; iintro H5
    iapply (wp_load_owned _ _ _ _ (m := arg6)) $$ H6; iintro H6
    iapply (wp_load_owned _ _ _ _ (m := arg6)) $$ H6; iintro H6
    iapply (wp_load_owned _ _ _ _ (m := arg6)) $$ H6; iintro H6
    iapply (wp_load_owned _ _ _ _ (m := arg10)) $$ HG; iintro HG
    iapply (wp_load_owned _ _ _ _ (m := arg11)) $$ HV; iintro HV
    iapply (wp_load_owned _ _ _ _ (m := arg2)) $$ H2; iintro H2
    iapply (wp_load_owned _ _ _ _ (m := arg3)) $$ H3; iintro H3
    iapply (wp_load_owned _ _ _ _ (m := arg4)) $$ H4; iintro H4
    iapply (wp_load_owned _ _ _ _ (m := arg7)) $$ H7; iintro H7
    iapply (wp_store_owned _ _ _ _ (m := arg7)) $$ H7; iintro H7
    iapply (wp_load_owned _ _ _ _ (m := arg2)) $$ H2; iintro H2
    iapply (wp_load_owned _ _ _ _ (m := arg3)) $$ H3; iintro H3
    iapply (wp_load_owned _ _ _ _ (m := arg4)) $$ H4; iintro H4
    iapply (wp_load_owned _ _ _ _ (m := arg7)) $$ H7; iintro H7
    iapply (wp_store_owned _ _ _ _ (m := arg7)) $$ H7; iintro H7
    iapply (wp_load_owned _ _ _ _ (m := arg8)) $$ H8; iintro H8
    iapply (wp_store_owned _ _ _ _ (m := arg8)) $$ H8; iintro H8
    iapply (wp_load_owned _ _ _ _ (m := arg9)) $$ H9; iintro H9
    iapply (wp_store_owned _ _ _ _ (m := arg9)) $$ H9; iintro H9
    iapply (wp_load_owned _ _ _ _ (m := arg10)) $$ HG; iintro HG
    iapply (wp_store_owned _ _ _ _ (m := arg10)) $$ HG; iintro HG
    iapply (wp_load_owned _ _ _ _ (m := arg11)) $$ HV; iintro HV
    iapply (wp_store_owned _ _ _ _ (m := arg11)) $$ HV; iintro HV
    rw [wp_ret]; imodintro
    iapply Hk
    iframe H2 H3 H4 H5 H6 H7 H8 H9 HG
    iexact HV

end Cert.Proof.Up

end
-- ==== Proof.Up.Region.lean ====
module

public import proofs.«01_k».proof.Proof.Up.Body

/-!
The up-projection's region.  Its last column block reaches past the weights' 11008 columns, so that a staged block's
columns past the end hold anything, and with them the columns of what the body leaves.  What is said of the outputs and
of the scratch is therefore a predicate, `Spec`: one that the body keeps, whatever the columns past the end hold.
-/

@[expose] public section

set_option maxRecDepth 16384

noncomputable section

namespace Cert.Proof.Up

open Cert.Kernel3Ideal Cert.Kernel3Ideal.Gen Cert.Proof.Sb
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array. -/
def blkin3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- A staging buffer holding that part, and `d` elsewhere. -/
def staged (c : Dev nD) (w : Fin cfg3.W) (t : Fin cfg3.N) (d : (cfg3.win w).block.Idx → Elt F (cfg3.win w).elt) :
    (cfg3.win w).block.Idx → Elt F (cfg3.win w).elt :=
  (cfg3.win w).fill (cfg3.grid.coords t) d (blkin3 V c w t)

/-- What is said of the three outputs' blocks at each point and of the scratch between points. -/
structure Spec (c : Dev nD) where
  act : Fin cfg3.N → Vec F S1536x512 .bf16 → Prop
  tg : Fin cfg3.N → Vec F S1x8x512 .f32 → Prop
  tv : Fin cfg3.N → Vec F S1x8x512 .f32 → Prop
  scr : Fin (cfg3.N + 1) → Vec F S22x8x512 .f32 → Vec F S22x8x512 .f32 → Prop
  scr0 : ∀ g v, scr 0 g v
  step : ∀ (t : Fin cfg3.N) (d1 d2 : Vec F S4096x512 .bf16) (d3 d4 : Vec F S3x512 .f32) (g v : Vec F S22x8x512 .f32)
      (d5 : Vec F S1536x512 .bf16) (d6 d7 : Vec F S1x8x512 .f32), scr t.castSucc g v →
    act t (actOut (grid3.coords t) (blkin3 V c 0 t) (staged V c 1 t d1) (staged V c 2 t d2) (staged V c 3 t d3) (staged V c 4 t d4) g v d5)
    ∧ tg t (tailG (blkin3 V c 0 t) (staged V c 1 t d1) d6)
    ∧ tv t (tailV (blkin3 V c 0 t) (staged V c 2 t d2) d7)
    ∧ scr t.succ (nextG (grid3.coords t) (blkin3 V c 0 t) (staged V c 1 t d1) g) (nextV (grid3.coords t) (blkin3 V c 0 t) (staged V c 2 t d2) v)

/-- Nothing said. -/
def Spec.nothing (c : Dev nD) : Spec V c where
  act _ _ := True
  tg _ _ := True
  tv _ _ := True
  scr _ _ _ := True
  scr0 _ _ := trivial
  step _ _ _ _ _ _ _ _ _ _ _ := ⟨trivial, trivial, trivial, trivial⟩

/-- The windows the predicates are on: the outputs. -/
def marked (w : Fin cfg3.W) : Bool := match w with
  | ⟨5, _⟩ => true
  | ⟨6, _⟩ => true
  | ⟨7, _⟩ => true
  | _ => false

variable {V}

def Spec.rel {c : Dev nD} (S : Spec V c) (w : Fin cfg3.W) : Fin cfg3.N → ((cfg3.win w).block.Idx → Elt F (cfg3.win w).elt) → Prop := match w with
  | ⟨5, _⟩ => S.act
  | ⟨6, _⟩ => S.tg
  | ⟨7, _⟩ => S.tv
  | _ => fun _ _ => True

abbrev mG : Memref sig .tc .vmem S22x8x512 .f32 := Memref.whole cc3_scratch0
abbrev mV : Memref sig .tc .vmem S22x8x512 .f32 := Memref.whole cc3_scratch1

/-- A buffer of the core's at anything. -/
abbrev some_ (c : Dev nD) (b : Ref sig .tc) : sProp 𝕄 := iprop(∃ f : Buf (Elt F) ((c : Thread nD τ).loc b), ((c : Thread nD τ).loc b) ↦{fullShare} f)

/-- The staging buffers of the other regions, at anything. -/
def others (c : Dev nD) : sProp 𝕄 :=
  iprop(some_ c cc0_stg0_0 ∗ some_ c cc0_stg0_1 ∗ some_ c cc0_stg1_0 ∗ some_ c cc0_stg1_1 ∗ some_ c cc1_stg0_0 ∗ some_ c cc1_stg0_1 ∗ some_ c cc1_stg1_0 ∗ some_ c cc1_stg1_1 ∗ some_ c cc2_stg0_0 ∗ some_ c cc2_stg0_1 ∗ some_ c cc2_stg1_0 ∗ some_ c cc2_stg2_0 ∗ some_ c cc2_stg2_1)

theorem someG (c : Dev nD) : (iprop(∃ g, owns c.tc mG fullShare g) : sProp 𝕄) = some_ c cc3_scratch0 := by
  simp only [mG, owns_whole]; rfl
theorem someV (c : Dev nD) : (iprop(∃ v, owns c.tc mV fullShare v) : sProp 𝕄) = some_ c cc3_scratch1 := by
  simp only [mV, owns_whole]; rfl

theorem scoped_split (c : Dev nD) :
    (Pipeline.scopedRest (Val := Elt F) spec3 c : sProp 𝕄)
      ⊢ iprop(others c ∗ (∃ g, owns c.tc mG fullShare g) ∗ (∃ v, owns c.tc mV fullShare v)) := by
  rw [scopedRest3_eq]
  rw [someG, someV]
  unfold others
  iintro ⟨H0, H1, H2, H3, H4, H5, H6, H7, H8, H9, H10, H11, H12, HG, HV⟩
  isplitl [H0 H1 H2 H3 H4 H5 H6 H7 H8 H9 H10 H11 H12]
  · isplitl [H0]; · iexact H0
    iframe H1 H2 H3 H4 H5 H6 H7 H8 H9 H10 H11
    iexact H12
  isplitl [HG]; · iexact HG
  iexact HV

theorem scoped_join (c : Dev nD) :
    iprop(others c ∗ (∃ g, owns c.tc mG fullShare g) ∗ (∃ v, owns c.tc mV fullShare v))
      ⊢ (Pipeline.scopedRest (Val := Elt F) spec3 c : sProp 𝕄) := by
  rw [scopedRest3_eq]
  rw [someG, someV]
  unfold others
  iintro ⟨⟨H0, H1, H2, H3, H4, H5, H6, H7, H8, H9, H10, H11, H12⟩, HG, HV⟩
  iframe H0 H1 H2 H3 H4 H5 H6 H7 H8 H9 H10 H11 H12 HG
  iexact HV

variable (V)

/-- The region's data: each array as found, each input's staging buffer left at its block, the outputs' not said here. -/
def upDat {c : Dev nD} (S : Spec V c) : Dat τ (Elt F) Unit ℕ (UR sig nD τ) ℕ cfg3 c where
  A w := V c (Pipeline.arrRef spec3 w)
  after w t := staged V c w t fun _ => Classical.arbitrary _
  Φ t := iprop((∃ g v, ⌜S.scr t g v⌝ ∗ owns c.tc mG fullShare g ∗ owns c.tc mV fullShare v) ∗ others c ∗ ∃ r, prngReg c r)
  q _ := fullShare
  owed _ := 0

variable {V}

section Obligation
variable {c : Dev nD} (S : Spec V c)

theorem upDat_A (w : Fin cfg3.W) : (upDat V S).A w = V c (Pipeline.arrRef spec3 w) := by dsimp only [upDat]
theorem upDat_after (w : Fin cfg3.W) (t : Fin cfg3.N) : (upDat V S).after w t = staged V c w t fun _ => Classical.arbitrary _ := by dsimp only [upDat]

theorem found_0 (t : Fin cfg3.N) (d) : (upDat V S).before 0 t d = blkin3 V c 0 t :=
  ((upDat V S).before_in_eq_fetched 0 rfl (fun _ => rfl) (fun _ _ _ => rfl)
      (fun t => by rw [upDat_after]; unfold Dat.blockOf staged blkin3; rw [upDat_A]; try rfl) t d).trans
    (by unfold Dat.fetched Dat.blockOf blkin3; rw [upDat_A]; try rfl)
theorem left_0 (t : Fin cfg3.N) : (upDat V S).after 0 t = blkin3 V c 0 t := by
  rw [upDat_after]; rfl

theorem found_of (w : Fin cfg3.W) (t : Fin cfg3.N) (h : (cfg3.win w).fetch t = true) (d) : (upDat V S).before w t d = staged V c w t d := by
  unfold Dat.before; rw [if_pos h]; unfold Dat.fetched Dat.blockOf staged blkin3; rw [upDat_A]

theorem cut_left (w : Fin cfg3.W) (t : Fin cfg3.N) (d : (cfg3.win w).block.Idx → Elt F (cfg3.win w).elt) :
    (cfg3.win w).fill (cfg3.grid.coords t) d ((cfg3.win w).cut (cfg3.grid.coords t) ((upDat V S).after w t)) = staged V c w t d := by
  rw [upDat_after]; unfold staged; rw [Pipeline.Window.cut_fill]

theorem defs₀_row3 (t : Fin cfg3.N) : defs₀ (F := F) .tc cfg3.body (cfg3.bodyArgs t (cfg3.slots t)) = bodyAt3 t := by
  unfold defs₀; rw [Defs.onTc_tc]

def pre_3 (t : Fin cfg3.N) : sProp 𝕄 :=
  iprop((upDat V S).Φ t.castSucc ∗ (upDat V S).owesAt () t.castSucc
    ∗ (∃ d, owns c.tc (st3_0 t) fullShare ((upDat V S).before 0 t d))
    ∗ (∃ d, owns c.tc (st3_1 t) fullShare ((upDat V S).before 1 t d))
    ∗ (∃ d, owns c.tc (st3_2 t) fullShare ((upDat V S).before 2 t d))
    ∗ (∃ d, owns c.tc (st3_3 t) fullShare ((upDat V S).before 3 t d))
    ∗ (∃ d, owns c.tc (st3_4 t) fullShare ((upDat V S).before 4 t d))
    ∗ (∃ Y, ⌜((upDat V S).toRRel marked S.rel).Finds 5 t Y⌝ ∗ owns c.tc (st3_5 t) fullShare Y)
    ∗ (∃ Y, ⌜((upDat V S).toRRel marked S.rel).Finds 6 t Y⌝ ∗ owns c.tc (st3_6 t) fullShare Y)
    ∗ (∃ Y, ⌜((upDat V S).toRRel marked S.rel).Finds 7 t Y⌝ ∗ owns c.tc (st3_7 t) fullShare Y))

def left (w : Fin cfg3.W) (t : Fin cfg3.N) : sProp 𝕄 :=
  iprop(∃ d, owns c.tc ((cfg3.win w).stage (cfg3.slots t w)) fullShare
    ((cfg3.win w).fill (cfg3.grid.coords t) d ((cfg3.win w).cut (cfg3.grid.coords t) ((upDat V S).after w t))))

theorem left_eq (w : Fin cfg3.W) (t : Fin cfg3.N) :
    left S w t = iprop(∃ d, owns c.tc ((cfg3.win w).stage (cfg3.slots t w)) fullShare (staged V c w t d)) := by
  unfold left; exact congrArg _ (funext fun d => congrArg _ (cut_left S w t d))

theorem upDat_Φ (t : Fin (cfg3.N + 1)) : (upDat V S).Φ t
    = iprop((∃ g v, ⌜S.scr t g v⌝ ∗ owns c.tc mG fullShare g ∗ owns c.tc mV fullShare v) ∗ others c ∗ ∃ r, prngReg c r) := by
  dsimp only [upDat]

def post_3 (t : Fin cfg3.N) : sProp 𝕄 :=
  iprop((upDat V S).Φ t.succ ∗ (upDat V S).owesAt () t.succ
    ∗ owns c.tc (st3_0 t) fullShare ((upDat V S).after 0 t)
    ∗ left S 1 t ∗ left S 2 t ∗ left S 3 t ∗ left S 4 t
    ∗ (∃ X, ⌜S.act t X⌝ ∗ owns c.tc (st3_5 t) fullShare X)
    ∗ (∃ X, ⌜S.tg t X⌝ ∗ owns c.tc (st3_6 t) fullShare X)
    ∗ (∃ X, ⌜S.tv t X⌝ ∗ owns c.tc (st3_7 t) fullShare X))

theorem step3 (t : Fin cfg3.N) :
    pre_3 S t ⊢ wp frame (wpE (defs₀ (F := F)) Variants.none c none) Set.univ (bodyAt3 t) (fun _ => post_3 S t) := by
  unfold pre_3 post_3 bodyAt3
  simp only [found_0, found_of S 1 t (fetch3_1 t), found_of S 2 t (fetch3_2 t), found_of S 3 t (fetch3_3 t), found_of S 4 t (fetch3_4 t)]
  rw [left_0, show (upDat V S).owesAt () t.succ = (upDat V S).owesAt () t.castSucc from rfl, upDat_Φ, upDat_Φ, left_eq, left_eq, left_eq, left_eq]
  iintro ⟨⟨⟨%g, %v, %hs, HG, HV⟩, Hoth, Hr⟩, Ho, ⟨%d0, H0⟩, ⟨%d1, H1⟩, ⟨%d2, H2⟩, ⟨%d3, H3⟩, ⟨%d4, H4⟩, ⟨%d5, -, H5⟩, ⟨%d6, -, H6⟩, ⟨%d7, -, H7⟩⟩
  obtain ⟨h5, h6, h7, hn⟩ := S.step t d1 d2 d3 d4 g v d5 d6 d7 hs
  iapply (kernel_run c (grid3.coords t) _ _ _ _ _ _ _ _ _ _ _ _ _ _ _ _ _ _ _ _ (blkin3 V c 0 t) (staged V c 1 t d1) (staged V c 2 t d2)
    (staged V c 3 t d3) (staged V c 4 t d4) g v d5 d6 d7 Set.univ _)
  iframe H0 H1 H2 H3 H4 H5 H6 H7 HG HV
  iintro ⟨H0, H1, H2, H3, H4, H5, H6, H7, HG, HV⟩
  isplitl [HG HV Hoth Hr]
  · isplitl [HG HV]
    · iexists (nextG (grid3.coords t) (blkin3 V c 0 t) (staged V c 1 t d1) g); iexists (nextV (grid3.coords t) (blkin3 V c 0 t) (staged V c 2 t d2) v)
      isplitr; · ipureintro; exact hn
      isplitl [HG]; · iexact HG
      iexact HV
    isplitl [Hoth]; · iexact Hoth
    iexact Hr
  iframe Ho H0
  isplitl [H1]; · iexists d1; iexact H1
  isplitl [H2]; · iexists d2; iexact H2
  isplitl [H3]; · iexists d3; iexact H3
  isplitl [H4]; · iexists d4; iexact H4
  isplitl [H5]
  · iexists (actOut (grid3.coords t) (blkin3 V c 0 t) (staged V c 1 t d1) (staged V c 2 t d2) (staged V c 3 t d3) (staged V c 4 t d4) g v d5)
    isplitr; · ipureintro; exact h5
    iexact H5
  isplitl [H6]
  · iexists (tailG (blkin3 V c 0 t) (staged V c 1 t d1) d6)
    isplitr; · ipureintro; exact h6
    iexact H6
  iexists (tailV (blkin3 V c 0 t) (staged V c 2 t d2) d7)
  isplitr; · ipureintro; exact h7
  iexact H7

theorem oblig3 : BodyObligationRel (upDat V S) (defs₀ (F := F)) Variants.none () Set.univ marked S.rel := fun t => by
  rw [bigSep_W3, bigSep_W3, defs₀_row3]
  exact triple_restated (step3 S t) rfl .rfl fun _ => .rfl

end Obligation

end Cert.Proof.Up

end
-- ==== Proof.Up.Frame.lean ====
module

public import proofs.«01_k».proof.Proof.Up.Region

/-!
The up-projection's four calls run one after the other.  The last leaves its arrays at some contents that its write-backs
allow; the host lines after it run from whichever these are.
-/

@[expose] public section

set_option maxRecDepth 16384

noncomputable section

namespace Cert.Proof.Up

open Cert.Kernel3Ideal Cert.Kernel3Ideal.Gen Cert.Proof.Sb
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (S : (c : Dev nD) → Spec (V4 m ρ) c)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => upDat (V4 m ρ) (S c)
def rdats : (p : Fin 4) → (c : Dev nD) → RDat τ (Elt F) Unit ℕ (UR sig nD τ) ℕ (Pipeline.pin (pcfgs (F := F)) adm p) c
  | ⟨0, _⟩ => fun c => (dat0 (V0 m ρ) c).toR
  | ⟨1, _⟩ => fun c => (dat1 (V1 m ρ) c).toR
  | ⟨2, _⟩ => fun c => (dat2 (V3 m ρ) c).toR
  | ⟨3, _⟩ => fun c => (upDat (V4 m ρ) (S c)).toRRel marked (S c).rel
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- What the last call may leave its arrays at. -/
def Leave (c : Dev nD) : Type :=
  {A : (w : Fin cfg3.W) → Buf (Elt F) ((cfg3.win w).arr.view.loc (c.tc : Thread nD τ)) // ∀ w, ((upDat (V4 m ρ) (S c)).toRRel marked (S c).rel).ArrAt w cfg3.N (A w)}
/-- Every buffer after it. -/
def W5 (c : Dev nD) (γ : Leave m ρ S c) : Valuation τ sig (Elt F) := Pipeline.withArrays spec3 c (W4 m ρ c) γ.1
theorem W5_arr (c : Dev nD) (γ : Leave m ρ S c) (w : Fin cfg3.W) : W5 m ρ S c γ (Proc.devRef .tc (Pipeline.arrRef spec3 w)) = γ.1 w := by
  unfold W5; exact Pipeline.withArrays_arr spec3 launch3.win.arr_inj c _ _ w
theorem W5_of_ne (c : Dev nD) (γ : Leave m ρ S c) (b : Ref sig .tc) (hb : ∀ w, Pipeline.arrRef spec3 w ≠ b) :
    W5 m ρ S c γ (Proc.devRef .tc b) = W4 m ρ c (Proc.devRef .tc b) := by
  unfold W5; exact Pipeline.withArrays_of_ne spec3 c _ _ b hb
theorem args_off3 : ∀ a ∈ argRefs, ∀ w : Fin cfg3.W, Pipeline.arrRef spec3 w ≠ a := ListAll.forall_mem_of_all_decide (by decide +kernel)
theorem W5_args (c : Dev nD) (γ : Leave m ρ S c) : ∀ a ∈ argRefs, W5 m ρ S c γ (Proc.devRef .tc a) = m (c.tc.loc a) :=
  fun a ha => (W5_of_ne m ρ S c γ a (args_off3 a ha)).trans (W4_args m ρ c a ha)

theorem hostOps4_fresh : (hostOps4 : List (HloOp τ sig (Elt F))).Forall fun op => op.fresh = ∅ := by
  simp only [List.Forall]; repeat' constructor
abbrev hostOps4_W : List (Ref sig .tc) := [main_v7, main_v8, main_v9, main_v10, main_v11, main_v12, main_v13]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)
abbrev W6 (c : Dev nD) (γ : Leave m ρ S c) : Valuation τ sig (Elt F) := StableHlo.after hostOps4 (W5 m ρ S c γ)
theorem W6_of (c : Dev nD) (γ : Leave m ρ S c) (r : Ref sig .tc) (h : r ∉ hostOps4_W) : W6 m ρ S c γ (Proc.devRef .tc r) = W5 m ρ S c γ (Proc.devRef .tc r) :=
  StableHlo.after_of_writes_sub hostOps4 _ hostOps4_writes h
theorem W6_args (c : Dev nD) (γ : Leave m ρ S c) : ∀ a ∈ argRefs, W6 m ρ S c γ (Proc.devRef .tc a) = m (c.tc.loc a) :=
  fun a ha => (W6_of m ρ S c γ a (hostOps4_args a ha)).trans (W5_args m ρ S c γ a ha)

/-- The contents the last call leaves, opened. -/
theorem leave_open (c : Dev nD) : (((upDat (V4 m ρ) (S c)).toRRel marked (S c).rel).arraysAt cfg3.N : sProp 𝕄)
    ⊢ iprop(∃ γ : Leave m ρ S c, (upDat (V4 m ρ) (S c)).arrays γ.1) := by
  unfold RDat.arraysAt Dat.arrays
  refine (BI.bigSep_exists_pi Finset.univ _).trans ?_
  iintro ⟨%A, H⟩
  ihave H' := (BI.bigSep_pure_sep Finset.univ (fun w => ((upDat (V4 m ρ) (S c)).toRRel marked (S c).rel).ArrAt w cfg3.N (A w)) _) $$ H
  icases H' with ⟨%hA, H⟩
  iexists (⟨A, fun w => hA w (Finset.mem_univ w)⟩ : Leave m ρ S c)
  iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop((∃ γ, StableHlo.held (c : Thread nD τ) (Pipeline.ucRefs τ sig) (W6 m ρ S c γ)) ∗ ∃ r, prngReg c r)

abbrev mid2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) R
abbrev tail4 : Pipeline.HostSeg (Name := ℕ) (U := UR sig nD τ) (pcfgs (F := F)) defs₀ 𝒱₀ L lv :=
  Pipeline.HostSeg.ofOpsEx _ _ _ _ _ (Γ := Leave m ρ S) (Pipeline.ucRefs τ sig) hostOps4
    (fun op h => Pipeline.sub_ucRefs op ((List.forall_iff_forall_mem.mp hostOps4_sub) op h))
    (fun op h => (List.forall_iff_forall_mem.mp hostOps4_fresh) op h) (W5 m ρ S) R

set_option backward.isDefEq.respectTransparency.types false in
/-- The segment of a region whose blocks are all written whole, between the contents `W` and `W'`. -/
def regionOf (p : Fin 4) (hl : Pipeline.LaunchFacts (nD := nD) (τ := τ) cfgs p) (W W' : Dev nD → Valuation τ sig (Elt F))
    (hD : ∀ c, rdats m ρ S p c = (pdats m ρ S p c).toR)
    (hq : ∀ c w, (pdats m ρ S p c).q w = fullShare) (ho : ∀ c t, (pdats m ρ S p c).owed t = 0) (hΦ : ∀ c t, (pdats m ρ S p c).Φ t = Pipeline.ΦA (cfgs p).spec c)
    (hA : ∀ c w, (pdats m ρ S p c).A w = W c (Proc.devRef .tc (Pipeline.arrRef (cfgs p).spec w)))
    (hF : ∀ c w, (pdats m ρ S p c).arrAt w (cfgs p).N = W' c (Proc.devRef .tc (Pipeline.arrRef (cfgs p).spec w)))
    (hr : ∀ c (b : Ref sig .tc), b ∉ Finset.univ.image (Pipeline.arrRef (cfgs p).spec) → W' c (Proc.devRef .tc b) = W c (Proc.devRef .tc b))
    (hc : ∀ c x, x ∈ (pdats m ρ S p c).recorded 0) (hb : ∀ c, Pipeline.BodyObligationLoose (pdats m ρ S p c) (defs₀ (F := F)) 𝒱₀ () Set.univ) :
    RDat.RegionSeg (pcfgs (F := F)) adm (rdats m ρ S) () defs₀ 𝒱₀ L lv p where
  win := hl.win.to₀
  block_pos := hl.block_pos
  stage_whole := hl.stage_whole
  K := PEmpty
  osem k := k.elim
  ho := Pipeline.OwnSemFacts.none _
  hbody c := by rw [hD c]; exact (hb c).toR
  hwaits := RDat.hwaits_of_owed_zero _ _ _ _ L lv p fun c t => by rw [hD c]; exact ho c t
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c (Proc.devRef .tc b)
  hentry c := by
    rw [Pipeline.ownSems0_none, hD c]
    have hsplit := Pipeline.arrays_of_unscopedBufs (p := p) (pcfgs (F := F)) adm (pdats m ρ S) hl.win hl.arr_whole c
      ((pdats m ρ S p c).share_full (hq c)) (fun b => W c (Proc.devRef .tc b)) (hA c)
    rw [Pipeline.unscopedBufs_held] at hsplit
    have hread : ((pdats m ρ S p c).arrays ((pdats m ρ S p c).arrAt · 0) : sProp 𝕄) ⊢ (pdats m ρ S p c).toR.arrays (pdats m ρ S p c).toR.A := .rfl
    iintro ⟨⟨Hub, Hp, HO⟩, -, -⟩
    ihave H := hsplit $$ Hub
    icases H with ⟨Ha, Hrest⟩
    ihave Ha := hread $$ Ha
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      rw [show (pdats m ρ S p c).toR.owed 0 = 0 from ho c 0]
      icases HO with ⟨%O, HO⟩; iexists O; isplitr; · ipureintro; exact fun _ _ => Or.inl (hc c _)
      iexact HO
    isplitl [Hp]; · iexact Hp
    iexact Hrest
  hin c := by
    rw [hD c, show (pdats m ρ S p c).toR.Φ 0 = Pipeline.ΦA (cfgs p).spec c from hΦ c 0]; unfold Pipeline.ΦA
    iintro ⟨Hp, -, Hr⟩
    isplitl [Hr]; · iexact Hr
    iexact Hp
  hout c := by
    rw [Pipeline.ownSems0_none, hD c, show (pdats m ρ S p c).toR.Φ (Fin.last _) = Pipeline.ΦA (cfgs p).spec c from hΦ c (Fin.last _)]; unfold Pipeline.ΦA
    iintro ⟨Hr, Hp⟩
    isplitl [Hp]; · iexact Hp
    isplitr; · iempintro
    iexact Hr
  hexit c := by
    rw [hD c]
    have hjoin := Pipeline.unscopedBufs_of_arrays (p := p) (pcfgs (F := F)) adm (Ix := Unit) (Name := ℕ) (U := UR sig nD τ) (Lvl := ℕ)
      hl.win hl.arr_whole c (pdats m ρ S) ((pdats m ρ S p c).share_full (hq c))
      (fun b => W c (Proc.devRef .tc b)) (fun b => W' c (Proc.devRef .tc b)) ((pdats m ρ S p c).arrAt · (cfgs p).N) (hF c) (hr c)
    rw [Pipeline.unscopedBufs_held] at hjoin
    have hopen : ((pdats m ρ S p c).toR.arraysAt (cfgs p).N : sProp 𝕄) ⊢ (pdats m ρ S p c).arrays ((pdats m ρ S p c).arrAt · (cfgs p).N) :=
      Entails.of_eq ((pdats m ρ S p c).toR_arraysAt_eq (cfgs p).N)
    iintro ⟨Ha, HO, HY, Hrest⟩
    ihave Ha := hopen $$ Ha
    imodintro
    isplitl [Ha Hrest]
    · iapply hjoin; isplitl [Ha] <;> iassumption
    isplitl [HY]; · iexact HY
    unfold RDat.owesAt Pipeline.owesWithin
    rw [show (pdats m ρ S p c).toR.owed (Fin.last _) = 0 from ho c (Fin.last _)]
    icases HO with ⟨%O, -, HO⟩; iexists O; iexact HO

abbrev reg0 := regionOf m ρ S 0 launch0 (W0 m ρ) (W1 m ρ) (fun _ => rfl) (fun _ _ => rfl) (fun _ _ => rfl) (fun _ _ => rfl) (A_eq0 (V0 m ρ)) (hF0 m ρ) (hrest0 m ρ)
  (fun _ _ => trivial) fun c => (oblig0 (V0 m ρ) c).loose
abbrev reg1 := regionOf m ρ S 1 launch1 (W1 m ρ) (W2 m ρ) (fun _ => rfl) (fun _ _ => rfl) (fun _ _ => rfl) (fun _ _ => rfl) (A_eq1 (V1 m ρ)) (hF1 m ρ) (hrest1 m ρ)
  (fun _ _ => trivial) fun c => (oblig1 (V1 m ρ) c).loose
abbrev reg2 := regionOf m ρ S 2 launch2 (W3 m ρ) (W4 m ρ) (fun _ => rfl) (fun _ _ => rfl) (fun _ _ => rfl) (fun _ _ => rfl) (A_eq2 (V3 m ρ)) (hF2 m ρ) (hrest2 m ρ)
  (fun _ _ => trivial) fun c => (oblig2 (V3 m ρ) c).loose

set_option backward.isDefEq.respectTransparency.types false in
def reg3 : RDat.RegionSeg (pcfgs (F := F)) adm (rdats m ρ S) () defs₀ 𝒱₀ L lv 3 where
  win := launch3.win.to₀
  block_pos := launch3.block_pos
  stage_whole := launch3.stage_whole
  K := PEmpty
  osem k := k.elim
  ho := Pipeline.OwnSemFacts.none _
  hbody c := (oblig3 (S c)).toRRel
  hwaits := RDat.hwaits_of_owed_zero _ _ _ _ L lv 3 fun _ _ => rfl
  pre c := iprop(StableHlo.held (c : Thread nD τ) (Pipeline.ucRefs τ sig) (W4 m ρ c) ∗ R c)
  post c := iprop((∃ γ, StableHlo.held (c : Thread nD τ) (Pipeline.ucRefs τ sig) (W5 m ρ S c γ)) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ S) launch3.win launch3.arr_whole c
      ((pdats m ρ S 3 c).share_full fun _ => rfl) (V4 m ρ c) (upDat_A (S c))
    rw [Pipeline.unscopedBufs_held] at hsplit
    have hread : ((pdats m ρ S 3 c).arrays ((pdats m ρ S 3 c).arrAt · 0) : sProp 𝕄) ⊢ (rdats m ρ S 3 c).arrays (rdats m ρ S 3 c).A := .rfl
    iintro ⟨⟨Hub, Hp, HO⟩, -, -⟩
    ihave H := hsplit $$ Hub
    icases H with ⟨Ha, Hrest⟩
    ihave Ha := hread $$ Ha
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ S 3 c).Φ 0 = (upDat (V4 m ρ) (S c)).Φ 0 from rfl, upDat_Φ]
    have hs := scoped_split (F := F) c
    iintro ⟨Hp, -, Hr⟩
    ihave Hr := hs $$ Hr
    icases Hr with ⟨Ho, ⟨%g, HG⟩, ⟨%v, HV⟩⟩
    isplitl [HG HV]
    · iexists g; iexists v
      isplitr; · ipureintro; exact (S c).scr0 g v
      isplitl [HG]; · iexact HG
      iexact HV
    isplitl [Ho]; · iexact Ho
    iexact Hp
  hout c := by
    rw [Pipeline.ownSems0_none, show (rdats m ρ S 3 c).Φ (Fin.last _) = (upDat (V4 m ρ) (S c)).Φ (Fin.last _) from rfl, upDat_Φ]
    have hj := scoped_join (F := F) c
    iintro ⟨⟨%g, %v, -, HG, HV⟩, Ho, Hp⟩
    isplitl [Hp]; · iexact Hp
    isplitr; · iempintro
    iapply hj
    isplitl [Ho]; · iexact Ho
    isplitl [HG]; · iexists g; iexact HG
    iexists v; iexact HV
  hexit c := by
    have hjoin := fun γ : Leave m ρ S c => Pipeline.unscopedBufs_of_arrays (p := 3) (pcfgs (F := F)) adm (Ix := Unit) (Name := ℕ) (U := UR sig nD τ) (Lvl := ℕ)
      launch3.win launch3.arr_whole c (pdats m ρ S) ((pdats m ρ S 3 c).share_full fun _ => rfl)
      (V4 m ρ c) (fun b => W5 m ρ S c γ b) γ.1 (fun w => (W5_arr m ρ S c γ w).symm)
      (fun b hb => W5_of_ne m ρ S c γ b fun w e => hb (Finset.mem_image.mpr ⟨w, Finset.mem_univ _, e⟩))
    simp only [Pipeline.unscopedBufs_held] at hjoin
    have hopen : ((rdats m ρ S 3 c).arraysAt cfg3.N : sProp 𝕄) ⊢ iprop(∃ γ : Leave m ρ S c, (pdats m ρ S 3 c).arrays γ.1) := leave_open m ρ S c
    iintro ⟨Ha, HO, HY, Hrest⟩
    ihave Ha := hopen $$ Ha
    icases Ha with ⟨%γ, Ha⟩
    imodintro
    isplitl [Ha Hrest]
    · iexists γ; iapply (hjoin γ); isplitl [Ha] <;> iassumption
    isplitl [HY]; · iexact HY
    unfold RDat.owesAt Pipeline.owesWithin
    icases HO with ⟨%W, -, HO⟩; iexists W; iexact HO

abbrev segs : List (RDat.Seg (pcfgs (F := F)) adm (rdats m ρ S) () defs₀ 𝒱₀ L lv) :=
  [ .region (reg0 m ρ S), .region (reg1 m ρ S), .host (mid2 m ρ), .region (reg2 m ρ S), .region (reg3 m ρ S), .host (tail4 m ρ S) ]
theorem main_run (c : Dev nD) : main (F := F) c = RDat.Seg.run (segs m ρ S) := (main_chain c).trans (by chain_rfl)
theorem no_unscoped : ∀ sm : SemLoc sig, sm.isScoped .tc = true := by decide

set_option backward.isDefEq.respectTransparency.types false in
/-- Every unscoped buffer ends where the host lines take it from something the last call may leave, and every counter at zero. -/
theorem run : θ_run defs (onTc (τ := τ) (main (F := F))) ⟨m, fun _ => 0, ρ⟩ (fun r =>
    (∀ c : Dev nD, ∃ γ : Leave m ρ S c, ∀ b ∈ Pipeline.ucRefs τ sig, r.2.mem ((c : Thread nD τ).1, b) = W6 m ρ S c γ b) ∧ r.2.sem = fun _ => 0) :=
  RDat.θ_run_regions_kit_sems (pcfgs (F := F)) adm (rdats m ρ S) () cellOf_inj emb₁ defs₀ 𝒱₀ L lv m ρ main (segs m ρ S)
    (fun c Q => by rw [main_run m ρ S c])
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ S)
    (hch := ⟨fun _ => .rfl, fun _ => .rfl, fun _ => .rfl, fun _ => .rfl, fun _ => .rfl, fun _ => .rfl, fun c => by
      show iprop((∃ γ, StableHlo.held (c : Thread nD τ) (Pipeline.ucRefs τ sig) (W6 m ρ S c γ)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ γ : Leave m ρ S c, ∀ b ∈ Pipeline.ucRefs τ sig, s.mem ((c : Thread nD τ).1, b) = W6 m ρ S c γ b)
    (hfin := fun c s' => by
      have hr := fun γ : Leave m ρ S c => pointsTo_read_all (Ix := Unit) (Name := ℕ) (U := UR sig nD τ) (Lvl := ℕ) (Pipeline.ucRefs τ sig) (fun b => (((c : Thread nD τ)).1, b)) (W6 m ρ S c γ) s'
      iintro ⟨⟨⟨%γ, Hh⟩, -⟩, HSI⟩
      unfold StableHlo.held
      imodintro
      ihave H := (hr γ) $$ [Hh HSI]
      · isplitl [Hh] <;> iassumption
      icases H with ⟨%h, HSI⟩
      isplitr; · ipureintro; exact ⟨γ, h⟩
      iexact HSI)
    (hQ := fun s h hz => ⟨h, funext fun g => hz g (.inr (no_unscoped g.2))⟩)

/-- The arguments, off the last boundary's contents. -/
theorem kept {M : (ℓ : Loc nD τ sig) → Buf (Elt F) ℓ} (c : Dev nD) (γ : Leave m ρ S c) (h : ∀ b ∈ Pipeline.ucRefs τ sig, M ((c : Thread nD τ).1, b) = W6 m ρ S c γ b) :
    M (c.tc.loc main_arg0) = m (c.tc.loc main_arg0)
      ∧ M (c.tc.loc main_arg1) = m (c.tc.loc main_arg1)
      ∧ M (c.tc.loc main_arg2) = m (c.tc.loc main_arg2)
      ∧ M (c.tc.loc main_arg3) = m (c.tc.loc main_arg3) :=
  ⟨(h _ (mem_uc main_arg0 (by decide))).trans (W6_args m ρ S c γ main_arg0 (by decide)),
   (h _ (mem_uc main_arg1 (by decide))).trans (W6_args m ρ S c γ main_arg1 (by decide)),
   (h _ (mem_uc main_arg2 (by decide))).trans (W6_args m ρ S c γ main_arg2 (by decide)),
   (h _ (mem_uc main_arg3 (by decide))).trans (W6_args m ρ S c γ main_arg3 (by decide))⟩

/-- The arguments end as launched and every counter at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => (h.1 c).elim fun γ hγ => kept m ρ (fun c => Spec.nothing (V4 m ρ) c) c γ hγ, h.2⟩)
    (run m ρ fun c => Spec.nothing (V4 m ρ) c)

end Cert.Proof.Up

end
-- ==== Proof.Up.Blocks.lean ====
/-
  The up-projection over the extended reals: what a point's products, its two halves' activations and its scratch
  hold, from the blocks the point is given.
-/
module

public import proofs.«01_k».proof.Proof.Up.Frame
public import Idealize.ShloMosaic.Lib.Pipeline.ValueKit

@[expose] public section

set_option maxRecDepth 16384

noncomputable section

namespace Cert.Proof.Up

open Cert.Kernel3Ideal Cert.Kernel3Ideal.Gen
open Idealize.ShloMosaic Idealize.ShloMosaic.TcCoe Idealize.SL.Sem
open Idealize.ShloMosaic.Pipeline (Dat)

theorem prod_a (x : Vec Ideal S768x4096 .bf16) (w : Vec Ideal S4096x512 .bf16) (r : Fin 768) (c : Fin 512) :
    k3_pay15 x w (ix2 r c) = ∑ k : Fin 4096, x (ix2 r k) * w (ix2 k c) := by
  pointwise [k3_pay15, k3_pay14]
theorem prod_b (x : Vec Ideal S768x4096 .bf16) (w : Vec Ideal S4096x512 .bf16) (r : Fin 768) (c : Fin 512) :
    k3_pay22 x w (ix2 r c) = ∑ k : Fin 4096, x (ix2 r k) * w (ix2 k c) := by
  pointwise [k3_pay22, k3_pay21]
theorem prod_c (x : Vec Ideal S768x4096 .bf16) (w : Vec Ideal S4096x512 .bf16) (r : Fin 768) (c : Fin 512) :
    k3_pay17 (k3_pay14 x) (k3_pay16 w) (constant S768x512 .f32 0x00000000#32) (ix2 r c) = ∑ k : Fin 4096, x (ix2 r k) * w (ix2 k c) := by
  pointwise [k3_pay17, k3_pay14, k3_pay16]
theorem prod_d (x : Vec Ideal S768x4096 .bf16) (w : Vec Ideal S4096x512 .bf16) (r : Fin 768) (c : Fin 512) :
    k3_pay23 (k3_pay21 x) w (ix2 r c) = ∑ k : Fin 4096, x (ix2 r k) * w (ix2 k c) := by
  pointwise [k3_pay23, k3_pay21]

/-! ## The halves -/

/-- Three taps of the convolution along the rows. -/
def conv (k0 k1 k2 : EReal) (e : ℕ → EReal) (n : ℕ) : EReal := e n * k2 + e (n - 1) * k1 + e (n - 2) * k0
/-- The gate's swish by the value. -/
def gated (a b : EReal) : EReal := Ideal.div a (1 + Ideal.exp (0 - a)) * b

theorem halo_rows (h : Vec Ideal S8x512 .f32) (u : Vec Ideal S768x512 .f32) (e : ℕ → EReal) (c : Fin 512)
    (hh : ∀ p : Fin 8, h (ix2 p c) = e p.val) (hu : ∀ r : Fin 768, u (ix2 r c) = e (8 + r.val)) (m : ℕ) (hm : m < 776) :
    (if h' : m < 8 then h (ix2 ⟨m, h'⟩ c) else u (ix2 ⟨m - 8, by omega⟩ c)) = e m := by
  split
  · exact hh _
  · next h' => exact (hu _).trans (congrArg e (by show 8 + (m - 8) = m; omega))

theorem halo_sums (h : Vec Ideal S8x512 .f32) (x : Vec Ideal S768x4096 .bf16) (w : Vec Ideal S4096x512 .bf16) (e : ℕ → EReal) (c : Fin 512)
    (hh : ∀ p : Fin 8, h (ix2 p c) = e p.val) (hu : ∀ r : Fin 768, ∑ k : Fin 4096, x (ix2 r k) * w (ix2 k c) = e (8 + r.val)) (m : ℕ) (hm : m < 776) :
    (if h' : m < 8 then h (ix2 ⟨m, h'⟩ c) else ∑ k : Fin 4096, x (ix2 ⟨m - 8, by omega⟩ k) * w (ix2 k c)) = e m := by
  split
  · exact hh _
  · next h' => exact (hu _).trans (congrArg e (by show 8 + (m - 8) = m; omega))

section Halves
variable (k0 k1 k2 l0 l1 l2 : Vec Ideal S1x512 .f32) (hg hv : FVec Ideal S8x512 .f32) (x : FVec Ideal S768x4096 .bf16)
  (ug : FVec Ideal S768x512 .f32) (w : FVec Ideal S4096x512 .bf16) (c : Fin 512) (eg ev : ℕ → EReal)
  (hhg : ∀ p : Fin 8, hg (ix2 p c) = eg p.val) (hhv : ∀ p : Fin 8, hv (ix2 p c) = ev p.val)
  (hug : ∀ r : Fin 768, ug (ix2 r c) = eg (8 + r.val)) (huv : ∀ r : Fin 768, ∑ k : Fin 4096, x (ix2 r k) * w (ix2 k c) = ev (8 + r.val))
include hhg hhv hug huv

theorem act_first (r : Fin 768) :
    k3_pay18 k0 k1 k2 l0 l1 l2 hg hv x ug w (constant S768x512 .f32 0x00000000#32) (ix2 r c)
      = gated (conv (k0 (ix2 0 c)) (k1 (ix2 0 c)) (k2 (ix2 0 c)) eg (8 + r.val)) (conv (l0 (ix2 0 c)) (l1 (ix2 0 c)) (l2 (ix2 0 c)) ev (8 + r.val)) := by
  have hr := r.isLt
  pointwise [k3_pay18, k3_pay17]
  rw [halo_rows hg ug eg c hhg hug ((8 + r.val + 776 - 1) % 776) (Nat.mod_lt _ (by decide)), halo_rows hg ug eg c hhg hug ((8 + r.val + 776 - 2) % 776) (Nat.mod_lt _ (by decide)),
    halo_sums hv x w ev c hhv huv ((8 + r.val + 776 - 1) % 776) (Nat.mod_lt _ (by decide)), halo_sums hv x w ev c hhv huv ((8 + r.val + 776 - 2) % 776) (Nat.mod_lt _ (by decide)),
    hug, huv, show (8 + r.val + 776 - 1) % 776 = 8 + r.val - 1 from by omega, show (8 + r.val + 776 - 2) % 776 = 8 + r.val - 2 from by omega]
  rfl

theorem act_second (r : Fin 768) :
    k3_pay24 k0 k1 k2 l0 l1 l2 hg hv x ug w (ix2 r c)
      = gated (conv (k0 (ix2 0 c)) (k1 (ix2 0 c)) (k2 (ix2 0 c)) eg (8 + r.val)) (conv (l0 (ix2 0 c)) (l1 (ix2 0 c)) (l2 (ix2 0 c)) ev (8 + r.val)) := by
  have hr := r.isLt
  pointwise [k3_pay24, k3_pay23]
  rw [halo_rows hg ug eg c hhg hug ((8 + r.val + 776 - 1) % 776) (Nat.mod_lt _ (by decide)), halo_rows hg ug eg c hhg hug ((8 + r.val + 776 - 2) % 776) (Nat.mod_lt _ (by decide)),
    halo_sums hv x w ev c hhv huv ((8 + r.val + 776 - 1) % 776) (Nat.mod_lt _ (by decide)), halo_sums hv x w ev c hhv huv ((8 + r.val + 776 - 2) % 776) (Nat.mod_lt _ (by decide)),
    hug, huv, show (8 + r.val + 776 - 1) % 776 = 8 + r.val - 1 from by omega, show (8 + r.val + 776 - 2) % 776 = 8 + r.val - 2 from by omega]
  rfl
end Halves

/-! ## The loads -/

theorem ld_xa (x : Vec Ideal S1536x4096 .bf16) (r : Fin 768) (k : Fin 4096) : ldr x rXa (ix2 r k) = x (ix2 ⟨r.val, by omega⟩ k) :=
  congrArg x (funext fun a => Fin.ext (by fin_cases a <;> simp [ix2]))
theorem ld_xb (x : Vec Ideal S1536x4096 .bf16) (r : Fin 768) (k : Fin 4096) : ldr x rXb (ix2 r k) = x (ix2 ⟨768 + r.val, by omega⟩ k) :=
  congrArg x (funext fun a => Fin.ext (by fin_cases a <;> simp [ix2]))
theorem ld_w (w : Vec Ideal S4096x512 .bf16) (k : Fin 4096) (n : Fin 512) : ldr w rW (ix2 k n) = w (ix2 k n) :=
  congrArg w (funext fun a => Fin.ext (by fin_cases a <;> simp [ix2]))
theorem ld_c0 (k : Vec Ideal S3x512 .f32) (n : Fin 512) : ldr k rC0 (ix2 0 n) = k (ix2 0 n) :=
  congrArg k (funext fun a => Fin.ext (by fin_cases a <;> simp [ix2]))
theorem ld_c1 (k : Vec Ideal S3x512 .f32) (n : Fin 512) : ldr k rC1 (ix2 0 n) = k (ix2 1 n) :=
  congrArg k (funext fun a => Fin.ext (by fin_cases a <;> simp [ix2]))
theorem ld_c2 (k : Vec Ideal S3x512 .f32) (n : Fin 512) : ldr k rC2 (ix2 0 n) = k (ix2 2 n) :=
  congrArg k (funext fun a => Fin.ext (by fin_cases a <;> simp [ix2]))
theorem ld_slot (i : grid3.Coords) (g : Vec Ideal S22x8x512 .f32) (p : Fin 8) (n : Fin 512) : ldr g (rSlot i) (ix3 0 p n) = g (ix3 (i 1) p n) :=
  congrArg g (funext fun a => Fin.ext (by fin_cases a <;> simp [ix3, k3_off1_eq]))

/-! ## The payloads kept whole -/

theorem c6 (k : Vec Ideal S1x512 .f32) (n : Fin 512) : k3_pay6 k (ix2 0 n) = k (ix2 0 n) := by pointwise [k3_pay6]
theorem c7 (k : Vec Ideal S1x512 .f32) (n : Fin 512) : k3_pay7 k (ix2 0 n) = k (ix2 0 n) := by pointwise [k3_pay7]
theorem c8 (k : Vec Ideal S1x512 .f32) (n : Fin 512) : k3_pay8 k (ix2 0 n) = k (ix2 0 n) := by pointwise [k3_pay8]
theorem c9 (k : Vec Ideal S1x512 .f32) (n : Fin 512) : k3_pay9 k (ix2 0 n) = k (ix2 0 n) := by pointwise [k3_pay9]
theorem c10 (k : Vec Ideal S1x512 .f32) (n : Fin 512) : k3_pay10 k (ix2 0 n) = k (ix2 0 n) := by pointwise [k3_pay10]
theorem c11 (k : Vec Ideal S1x512 .f32) (n : Fin 512) : k3_pay11 k (ix2 0 n) = k (ix2 0 n) := by pointwise [k3_pay11]
theorem c12 (h : Vec Ideal S1x8x512 .f32) (p : Fin 8) (n : Fin 512) : k3_pay12 h (ix2 p n) = h (ix3 0 p n) := by pointwise [k3_pay12]
theorem c13 (h : Vec Ideal S1x8x512 .f32) (p : Fin 8) (n : Fin 512) : k3_pay13 h (ix2 p n) = h (ix3 0 p n) := by pointwise [k3_pay13]
theorem c14 (x : Vec Ideal S768x4096 .bf16) (r : Fin 768) (k : Fin 4096) : k3_pay14 x (ix2 r k) = x (ix2 r k) := by pointwise [k3_pay14]
theorem c16 (w : Vec Ideal S4096x512 .bf16) (k : Fin 4096) (n : Fin 512) : k3_pay16 w (ix2 k n) = w (ix2 k n) := by pointwise [k3_pay16]
theorem c19 (u : FVec Ideal S768x512 .f32) (p : Fin 8) (n : Fin 512) : k3_pay19 u (ix2 p n) = u (ix2 ⟨760 + p.val, by omega⟩ n) := by pointwise [k3_pay19]
theorem c20 (x : FVec Ideal S768x4096 .bf16) (w : FVec Ideal S4096x512 .bf16) (p : Fin 8) (n : Fin 512) :
    k3_pay20 x w (constant S768x512 .f32 0x00000000#32) (ix2 p n) = ∑ k : Fin 4096, x (ix2 ⟨760 + p.val, by omega⟩ k) * w (ix2 k n) := by
  pointwise [k3_pay20, k3_pay17]
theorem c21 (x : Vec Ideal S768x4096 .bf16) (r : Fin 768) (k : Fin 4096) : k3_pay21 x (ix2 r k) = x (ix2 r k) := by pointwise [k3_pay21]
theorem c27 (u : FVec Ideal S768x512 .f32) (p : Fin 8) (n : Fin 512) : k3_pay27 u (ix3 0 p n) = u (ix2 ⟨264 + p.val, by omega⟩ n) := by pointwise [k3_pay27]
theorem c28 (x : FVec Ideal S768x4096 .bf16) (w : FVec Ideal S4096x512 .bf16) (p : Fin 8) (n : Fin 512) :
    k3_pay1 (k3_pay28 x w) (ix3 0 p n) = ∑ k : Fin 4096, x (ix2 ⟨264 + p.val, by omega⟩ k) * w (ix2 k n) := by
  pointwise [k3_pay1, k3_pay28, k3_pay23]
theorem c25 (u : FVec Ideal S768x512 .f32) (p : Fin 8) (n : Fin 512) : k3_pay2 (k3_pay25 u) (ix3 0 p n) = u (ix2 ⟨760 + p.val, by omega⟩ n) := by
  pointwise [k3_pay2, k3_pay25]
theorem c26 (x : FVec Ideal S768x4096 .bf16) (w : FVec Ideal S4096x512 .bf16) (p : Fin 8) (n : Fin 512) :
    k3_pay3 (k3_pay26 x w) (ix3 0 p n) = ∑ k : Fin 4096, x (ix2 ⟨760 + p.val, by omega⟩ k) * w (ix2 k n) := by
  pointwise [k3_pay3, k3_pay26, k3_pay23]
theorem c4 (j : Fin 22) (p : Fin 8) (n : Fin 512) : k3_pay4 (F := Ideal) (ix3 j p n) = 0 := by pointwise [k3_pay4]
theorem c5 (j : Fin 22) (p : Fin 8) (n : Fin 512) : k3_pay5 (F := Ideal) (ix3 j p n) = 0 := by pointwise [k3_pay5]

/-! ## The stores -/

theorem st_a (d a b) (r : Fin 768) (n : Fin 512) : rAb.overlay (rAa.overlay d a) b (ix2 ⟨r.val, by omega⟩ n : S1536x512.Idx) = (a : Vec Ideal S768x512 .bf16) (ix2 r n) := by
  rw [Rect.overlay_of_not_mem]
  · rw [show (ix2 ⟨r.val, by omega⟩ n : S1536x512.Idx) = rAa.emb (ix2 r n) from funext fun a => Fin.ext (by fin_cases a <;> simp [ix2])]
    exact Rect.overlay_emb _ _ _ _
  · rw [Rect.mem_set_unit]; intro h
    have := (h 0).1
    simp [ix2] at this
    omega
theorem st_b (d) (b : Vec Ideal S768x512 .bf16) (r : Fin 768) (n : Fin 512) : rAb.overlay d b (ix2 ⟨768 + r.val, by omega⟩ n : S1536x512.Idx) = b (ix2 r n) := by
  rw [show (ix2 ⟨768 + r.val, by omega⟩ n : S1536x512.Idx) = rAb.emb (ix2 r n) from funext fun a => Fin.ext (by fin_cases a <;> simp [ix2])]
  exact Rect.overlay_emb _ _ _ _
theorem st_t (d) (b : Vec Ideal S1x8x512 .f32) (p : Fin 8) (n : Fin 512) : rT.overlay d b (ix3 0 p n) = b (ix3 0 p n) := by
  conv_lhs => rw [show (ix3 0 p n : S1x8x512.Idx) = rT.emb (ix3 0 p n) from funext fun a => Fin.ext (by fin_cases a <;> simp [ix3])]
  exact Rect.overlay_emb _ _ _ _
theorem st_s (d b : Vec Ideal S22x8x512 .f32) (j : Fin 22) (p : Fin 8) (n : Fin 512) : rS.overlay d b (ix3 j p n) = b (ix3 j p n) := by
  conv_lhs => rw [show (ix3 j p n : S22x8x512.Idx) = rS.emb (ix3 j p n) from funext fun a => Fin.ext (by fin_cases a <;> simp [ix3])]
  exact Rect.overlay_emb _ _ _ _
theorem st_slot (i : grid3.Coords) (d) (b : Vec Ideal S1x8x512 .f32) (p : Fin 8) (n : Fin 512) : (rSlot i).overlay d b (ix3 (i 1) p n : S22x8x512.Idx) = b (ix3 0 p n) := by
  rw [show (ix3 (i 1) p n : S22x8x512.Idx) = (rSlot i).emb (ix3 0 p n) from funext fun a => Fin.ext (by fin_cases a <;> simp [ix3, k3_off1_eq])]
  exact Rect.overlay_emb _ _ _ _
theorem st_slot_of_ne (i : grid3.Coords) (d : Vec Ideal S22x8x512 .f32) (b : Vec Ideal S1x8x512 .f32) (j : Fin 22) (p : Fin 8) (n : Fin 512) (h : j.val ≠ (i 1).val) :
    (rSlot i).overlay d b (ix3 j p n : S22x8x512.Idx) = d (ix3 j p n) := by
  rw [Rect.overlay_of_not_mem]
  rw [Rect.mem_set_unit]; intro h'
  have := h' 0
  simp [ix3, k3_off1_eq] at this
  omega

/-! ## A point, at one column -/

theorem conv_shift (k0 k1 k2 : EReal) (e : ℕ → EReal) (a n : ℕ) (h : 2 ≤ n) : conv k0 k1 k2 (fun m => e (a + m)) n = conv k0 k1 k2 e (a + n) := by
  show e (a + n) * k2 + e (a + (n - 1)) * k1 + e (a + (n - 2)) * k0 = e (a + n) * k2 + e (a + n - 1) * k1 + e (a + n - 2) * k0
  rw [show a + (n - 1) = a + n - 1 from by omega, show a + (n - 2) = a + n - 2 from by omega]

section Column
variable (i : grid3.Coords) (x : Vec Ideal S1536x4096 .bf16) (wg wv : Vec Ideal S4096x512 .bf16) (cg cv : Vec Ideal S3x512 .f32)
  (g v : Vec Ideal S22x8x512 .f32) (n : Fin 512) (e f : ℕ → EReal)

theorem ga_at (hx : ∀ r : Fin 1536, ∑ k : Fin 4096, x (ix2 r k) * wg (ix2 k n) = e (8 + r.val)) (r : Fin 768) :
    ga x wg (ix2 r n) = e (8 + r.val) := by
  unfold ga; rw [prod_a]
  exact (Finset.sum_congr rfl fun k _ => congrArg₂ (· * ·) (ld_xa x r k) (ld_w wg k n)).trans (hx ⟨r.val, by omega⟩)
theorem gb_at (hx : ∀ r : Fin 1536, ∑ k : Fin 4096, x (ix2 r k) * wg (ix2 k n) = e (8 + r.val)) (r : Fin 768) :
    gb x wg (ix2 r n) = e (768 + (8 + r.val)) := by
  unfold gb; rw [prod_b]
  exact (Finset.sum_congr rfl fun k _ => congrArg₂ (· * ·) (ld_xb x r k) (ld_w wg k n)).trans <| (hx ⟨768 + r.val, by omega⟩).trans (congrArg e (by show 8 + (768 + r.val) = _; omega))
theorem va_at (hx : ∀ r : Fin 1536, ∑ k : Fin 4096, x (ix2 r k) * wv (ix2 k n) = f (8 + r.val)) (r : Fin 768) :
    ∑ k : Fin 4096, k3_pay14 (ldr x rXa) (ix2 r k) * k3_pay16 (ldr wv rW) (ix2 k n) = f (8 + r.val) := by
  simp only [c14, c16]
  exact (Finset.sum_congr rfl fun k _ => congrArg₂ (· * ·) (ld_xa x r k) (ld_w wv k n)).trans (hx ⟨r.val, by omega⟩)
theorem vb_at (hx : ∀ r : Fin 1536, ∑ k : Fin 4096, x (ix2 r k) * wv (ix2 k n) = f (8 + r.val)) (r : Fin 768) :
    ∑ k : Fin 4096, k3_pay21 (ldr x rXb) (ix2 r k) * ldr wv rW (ix2 k n) = f (768 + (8 + r.val)) := by
  simp only [c21]
  exact (Finset.sum_congr rfl fun k _ => congrArg₂ (· * ·) (ld_xb x r k) (ld_w wv k n)).trans <| (hx ⟨768 + r.val, by omega⟩).trans (congrArg f (by show 8 + (768 + r.val) = _; omega))

theorem tailG_at (hx : ∀ r : Fin 1536, ∑ k : Fin 4096, x (ix2 r k) * wg (ix2 k n) = e (8 + r.val)) (d) (p : Fin 8) :
    tailG x wg d (ix3 0 p n) = e (8 + (1032 + p.val)) := by
  unfold tailG; rw [st_t, c27, gb_at x wg n e hx]; exact congrArg e (by show 768 + (8 + (264 + p.val)) = _; omega)
theorem tailV_at (hx : ∀ r : Fin 1536, ∑ k : Fin 4096, x (ix2 r k) * wv (ix2 k n) = f (8 + r.val)) (d) (p : Fin 8) :
    tailV x wv d (ix3 0 p n) = f (8 + (1032 + p.val)) := by
  unfold tailV; rw [st_t, c28, vb_at x wv n f hx]; exact congrArg f (by show 768 + (8 + (264 + p.val)) = _; omega)

theorem nextG_at (hx : ∀ r : Fin 1536, ∑ k : Fin 4096, x (ix2 r k) * wg (ix2 k n) = e (8 + r.val)) (p : Fin 8) :
    nextG i x wg g (ix3 (i 1) p n : S22x8x512.Idx) = e (1536 + p.val) := by
  unfold nextG; rw [st_slot, c25, gb_at x wg n e hx]; exact congrArg e (by show 768 + (8 + (760 + p.val)) = _; omega)
theorem nextV_at (hx : ∀ r : Fin 1536, ∑ k : Fin 4096, x (ix2 r k) * wv (ix2 k n) = f (8 + r.val)) (p : Fin 8) :
    nextV i x wv v (ix3 (i 1) p n : S22x8x512.Idx) = f (1536 + p.val) := by
  unfold nextV; rw [st_slot, c26, vb_at x wv n f hx]; exact congrArg f (by show 768 + (8 + (760 + p.val)) = _; omega)
theorem nextG_of_ne (j : Fin 22) (p : Fin 8) (h : j.val ≠ (i 1).val) : nextG i x wg g (ix3 j p n) = scrG i g (ix3 j p n) := by
  unfold nextG; rw [st_slot_of_ne _ _ _ _ _ _ h]
theorem nextV_of_ne (j : Fin 22) (p : Fin 8) (h : j.val ≠ (i 1).val) : nextV i x wv v (ix3 j p n) = scrV i v (ix3 j p n) := by
  unfold nextV; rw [st_slot_of_ne _ _ _ _ _ _ h]

theorem scrG_first (h : firstW i = 1#1) (j : Fin 22) (p : Fin 8) : scrG i g (ix3 j p n) = 0 := by
  unfold scrG; rw [if_pos h, st_s, c4]
theorem scrV_first (h : firstW i = 1#1) (j : Fin 22) (p : Fin 8) : scrV i v (ix3 j p n) = 0 := by
  unfold scrV; rw [if_pos h, st_s, c5]
theorem scrG_later (h : firstW i ≠ 1#1) : scrG i g = g := if_neg h
theorem scrV_later (h : firstW i ≠ 1#1) : scrV i v = v := if_neg h

theorem actOut_at (hx : ∀ r : Fin 1536, ∑ k : Fin 4096, x (ix2 r k) * wg (ix2 k n) = e (8 + r.val))
    (hy : ∀ r : Fin 1536, ∑ k : Fin 4096, x (ix2 r k) * wv (ix2 k n) = f (8 + r.val))
    (hg : ∀ p : Fin 8, scrG i g (ix3 (i 1) p n : S22x8x512.Idx) = e p.val) (hv : ∀ p : Fin 8, scrV i v (ix3 (i 1) p n : S22x8x512.Idx) = f p.val)
    (d) (r : Fin 1536) :
    actOut i x wg wv cg cv g v d (ix2 r n) = gated (conv (cg (ix2 0 n)) (cg (ix2 1 n)) (cg (ix2 2 n)) e (8 + r.val))
      (conv (cv (ix2 0 n)) (cv (ix2 1 n)) (cv (ix2 2 n)) f (8 + r.val)) := by
  unfold actOut
  by_cases hr : r.val < 768
  · rw [show r = ⟨(⟨r.val, hr⟩ : Fin 768).val, by omega⟩ from rfl, st_a]
    unfold actA
    refine (act_first _ _ _ _ _ _ _ _ _ _ _ n e f (fun p => ?_) (fun p => ?_) (fun r => ga_at x wg n e hx r) (fun r => va_at x wv n f hy r) ⟨r.val, hr⟩).trans ?_
    · rw [c12, ld_slot]; exact hg p
    · rw [c13, ld_slot]; exact hv p
    · rw [c6, c7, c8, c9, c10, c11, ld_c0, ld_c1, ld_c2, ld_c0, ld_c1, ld_c2]
  · obtain ⟨q, hq⟩ : ∃ q : Fin 768, r = ⟨768 + q.val, by omega⟩ := ⟨⟨r.val - 768, by omega⟩, Fin.ext (by show r.val = 768 + (r.val - 768); omega)⟩
    rw [hq, st_b]
    unfold actB
    refine (act_second _ _ _ _ _ _ _ _ _ _ _ n (fun m => e (768 + m)) (fun m => f (768 + m)) (fun p => ?_) (fun p => ?_)
      (fun r => gb_at x wg n e hx r) (fun r => vb_at x wv n f hy r) q).trans ?_
    · rw [c19, ga_at x wg n e hx]; exact congrArg e (by show 8 + (760 + p.val) = _; omega)
    · rw [c20, va_at x wv n f hy]; exact congrArg f (by show 8 + (760 + p.val) = _; omega)
    · rw [c6, c7, c8, c9, c10, c11, ld_c0, ld_c1, ld_c2, ld_c0, ld_c1, ld_c2, conv_shift _ _ _ _ _ _ (by omega), conv_shift _ _ _ _ _ _ (by omega),
        show 768 + (8 + q.val) = 8 + (768 + q.val) from by omega]
end Column

end Cert.Proof.Up

end
-- ==== Proof.Up.Value.lean ====
/-
  The up-projection over the extended reals: what is said of its outputs and its scratch, which the body keeps.  Only
  the columns inside the arrays are spoken of.
-/
module

public import proofs.«01_k».proof.Proof.Up.Blocks

@[expose] public section

set_option maxRecDepth 16384

noncomputable section

namespace Cert.Proof.Up

open Cert.Kernel3Ideal Cert.Kernel3Ideal.Gen
open Idealize.ShloMosaic Idealize.ShloMosaic.TcCoe Idealize.SL.Sem
open Idealize.ShloMosaic.Pipeline (Dat)

/-! ## The arrays -/

/-- A column of the product, from eight rows before the first on, those at zero. -/
def urow (X : Vec Ideal S16896x4096 .bf16) (W : Vec Ideal S4096x11008 .bf16) (C m : ℕ) : EReal :=
  if h : 8 ≤ m ∧ m < 16904 ∧ C < 11008 then ∑ k : Fin 4096, X (ix2 ⟨m - 8, by omega⟩ k) * W (ix2 k ⟨C, h.2.2⟩) else 0
/-- A tap's coefficient at a column. -/
def tap (K : Vec Ideal S3x11008 .f32) (j : Fin 3) (C : ℕ) : EReal := if h : C < 11008 then K (ix2 j ⟨C, h⟩) else 0
/-- The activation at a row and a column. -/
def actAt (X : Vec Ideal S16896x4096 .bf16) (WG WV : Vec Ideal S4096x11008 .bf16) (CG CV : Vec Ideal S3x11008 .f32) (R C : ℕ) : EReal :=
  gated (conv (tap CG 0 C) (tap CG 1 C) (tap CG 2 C) (urow X WG C) (8 + R)) (conv (tap CV 0 C) (tap CV 1 C) (tap CV 2 C) (urow X WV C) (8 + R))

/-! ## The grid and the windows -/

theorem pt3 : ∀ t : Fin cfg3.N, t.val = 22 * (grid3.coords t 0).val + (grid3.coords t 1).val := (by decide +kernel : ∀ t : Fin grid3.N, _)
theorem lt30 (i : grid3.Coords) : (i 0).val < 11 := (i 0).isLt
theorem lt31 (i : grid3.Coords) : (i 1).val < 22 := (i 1).isLt
theorem first3 : ∀ t : Fin cfg3.N, firstW (grid3.coords t) = 1#1 ↔ t.val = 0 := (by decide +kernel : ∀ t : Fin grid3.N, _)
theorem idx3 : ∀ t : Fin cfg3.N, win3_0.index t = ![(grid3.coords t 0).val, 0]
    ∧ win3_1.index t = ![0, (grid3.coords t 1).val] ∧ win3_2.index t = ![0, (grid3.coords t 1).val]
    ∧ win3_3.index t = ![0, (grid3.coords t 1).val] ∧ win3_4.index t = ![0, (grid3.coords t 1).val]
    ∧ win3_5.index t = ![(grid3.coords t 0).val, (grid3.coords t 1).val]
    ∧ win3_6.index t = ![(grid3.coords t 0).val, 0, (grid3.coords t 1).val]
    ∧ win3_7.index t = ![(grid3.coords t 0).val, 0, (grid3.coords t 1).val] := (by decide +kernel : ∀ t : Fin grid3.N, _)
theorem size3 : ∀ t : Fin cfg3.N, (win3_1.xblock (grid3.coords t)).size = ![4096, min 512 (11008 - 512 * (grid3.coords t 1).val)]
    ∧ (win3_2.xblock (grid3.coords t)).size = ![4096, min 512 (11008 - 512 * (grid3.coords t 1).val)]
    ∧ (win3_3.xblock (grid3.coords t)).size = ![3, min 512 (11008 - 512 * (grid3.coords t 1).val)]
    ∧ (win3_4.xblock (grid3.coords t)).size = ![3, min 512 (11008 - 512 * (grid3.coords t 1).val)]
    ∧ (win3_5.xblock (grid3.coords t)).size = ![1536, min 512 (11008 - 512 * (grid3.coords t 1).val)]
    ∧ (win3_6.xblock (grid3.coords t)).size = ![1, 8, min 512 (11008 - 512 * (grid3.coords t 1).val)]
    ∧ (win3_7.xblock (grid3.coords t)).size = ![1, 8, min 512 (11008 - 512 * (grid3.coords t 1).val)] := (by decide +kernel : ∀ t : Fin grid3.N, _)

section Blocks
variable (V : (c : Dev nD) → (b : Ref sig .tc) → Buf (Elt Ideal) ((c : Thread nD τ).loc b)) (c : Dev nD) (t : Fin cfg3.N)

theorem x3_in (r : Fin 1536) (k : Fin 4096) : blkin3 V c 0 t (ix2 r k)
    = V c main_v5 (ix2 ⟨1536 * (grid3.coords t 0).val + r.val, by have := lt30 (grid3.coords t); omega⟩ k : S16896x4096.Idx) := by
  blk_simp [blkin3]
  blk_ext [idx3 t]

theorem wg3_in (d) (k : Fin 4096) (n : Fin 512) (h : 512 * (grid3.coords t 1).val + n.val < 11008) :
    staged V c 1 t d (ix2 k n) = V c main_v0 (ix2 k ⟨512 * (grid3.coords t 1).val + n.val, h⟩ : S4096x11008.Idx) := by
  let j : (win3_1.xblock (grid3.coords t)).Idx := fun a => ⟨((ix2 k n : S4096x512.Idx) a).val, by
    rw [(size3 t).1]; have := k.isLt; have := n.isLt; fin_cases a <;> simp [ix2] <;> omega⟩
  have j0 : (j 0).val = k.val := rfl
  have j1 : (j 1).val = n.val := rfl
  refine (Pipeline.Window.fill_xinj win3_1 (grid3.coords t) d (blkin3 V c 1 t) j).trans ?_
  blk_simp [blkin3]
  blk_ext [idx3 t, j0, j1]

theorem wv3_in (d) (k : Fin 4096) (n : Fin 512) (h : 512 * (grid3.coords t 1).val + n.val < 11008) :
    staged V c 2 t d (ix2 k n) = V c main_v1 (ix2 k ⟨512 * (grid3.coords t 1).val + n.val, h⟩ : S4096x11008.Idx) := by
  let j : (win3_2.xblock (grid3.coords t)).Idx := fun a => ⟨((ix2 k n : S4096x512.Idx) a).val, by
    rw [(size3 t).2.1]; have := k.isLt; have := n.isLt; fin_cases a <;> simp [ix2] <;> omega⟩
  have j0 : (j 0).val = k.val := rfl
  have j1 : (j 1).val = n.val := rfl
  refine (Pipeline.Window.fill_xinj win3_2 (grid3.coords t) d (blkin3 V c 2 t) j).trans ?_
  blk_simp [blkin3]
  blk_ext [idx3 t, j0, j1]

theorem cg3_in (d) (k : Fin 3) (n : Fin 512) (h : 512 * (grid3.coords t 1).val + n.val < 11008) :
    staged V c 3 t d (ix2 k n) = V c main_v2 (ix2 k ⟨512 * (grid3.coords t 1).val + n.val, h⟩ : S3x11008.Idx) := by
  let j : (win3_3.xblock (grid3.coords t)).Idx := fun a => ⟨((ix2 k n : S3x512.Idx) a).val, by
    rw [(size3 t).2.2.1]; have := k.isLt; have := n.isLt; fin_cases a <;> simp [ix2] <;> omega⟩
  have j0 : (j 0).val = k.val := rfl
  have j1 : (j 1).val = n.val := rfl
  refine (Pipeline.Window.fill_xinj win3_3 (grid3.coords t) d (blkin3 V c 3 t) j).trans ?_
  blk_simp [blkin3]
  blk_ext [idx3 t, j0, j1]

theorem cv3_in (d) (k : Fin 3) (n : Fin 512) (h : 512 * (grid3.coords t 1).val + n.val < 11008) :
    staged V c 4 t d (ix2 k n) = V c main_v3 (ix2 k ⟨512 * (grid3.coords t 1).val + n.val, h⟩ : S3x11008.Idx) := by
  let j : (win3_4.xblock (grid3.coords t)).Idx := fun a => ⟨((ix2 k n : S3x512.Idx) a).val, by
    rw [(size3 t).2.2.2.1]; have := k.isLt; have := n.isLt; fin_cases a <;> simp [ix2] <;> omega⟩
  have j0 : (j 0).val = k.val := rfl
  have j1 : (j 1).val = n.val := rfl
  refine (Pipeline.Window.fill_xinj win3_4 (grid3.coords t) d (blkin3 V c 4 t) j).trans ?_
  blk_simp [blkin3]
  blk_ext [idx3 t, j0, j1]

/-! ## A point's columns -/

theorem sum3 (X : Vec Ideal S16896x4096 .bf16) (W : Vec Ideal S4096x11008 .bf16) (x : Vec Ideal S1536x4096 .bf16) (w : Vec Ideal S4096x512 .bf16)
    (hx : ∀ (r : Fin 1536) (k : Fin 4096), x (ix2 r k) = X (ix2 ⟨1536 * (grid3.coords t 0).val + r.val, by have := lt30 (grid3.coords t); omega⟩ k))
    (n : Fin 512) (h : 512 * (grid3.coords t 1).val + n.val < 11008)
    (hw : ∀ k : Fin 4096, w (ix2 k n) = W (ix2 k ⟨512 * (grid3.coords t 1).val + n.val, h⟩)) (r : Fin 1536) :
    ∑ k : Fin 4096, x (ix2 r k) * w (ix2 k n)
      = urow X W (512 * (grid3.coords t 1).val + n.val) (1536 * (grid3.coords t 0).val + (8 + r.val)) := by
  have h0 := lt30 (grid3.coords t)
  unfold urow
  rw [dif_pos ⟨by omega, by omega, h⟩]
  refine Finset.sum_congr rfl fun k _ => congrArg₂ (· * ·) ((hx r k).trans ?_) (hw k)
  exact congrArg (fun R : Fin 16896 => X (ix2 R k)) (Fin.ext (by show 1536 * (grid3.coords t 0).val + r.val = 1536 * (grid3.coords t 0).val + (8 + r.val) - 8; omega))

/-- The tile whose last eight rows a slot holds before a point. -/
def tile (s j : ℕ) : ℕ := (s + 21 - j) / 22

/-- A scratch at a point: each slot the eight rows of the product before its tile, at the columns inside. -/
def held (X : Vec Ideal S16896x4096 .bf16) (W : Vec Ideal S4096x11008 .bf16) (s : ℕ) (g : Vec Ideal S22x8x512 .f32) : Prop :=
  ∀ (j : Fin 22) (p : Fin 8) (n : Fin 512), 512 * j.val + n.val < 11008 → g (ix3 j p n) = urow X W (512 * j.val + n.val) (1536 * tile s j.val + p.val)

theorem urow_zero (X : Vec Ideal S16896x4096 .bf16) (W : Vec Ideal S4096x11008 .bf16) (C m : ℕ) (h : m < 8) : urow X W C m = 0 :=
  dif_neg fun h' => by omega

theorem heldG {X : Vec Ideal S16896x4096 .bf16} {W : Vec Ideal S4096x11008 .bf16} {g : Vec Ideal S22x8x512 .f32}
    (hs : t.val ≠ 0 → held X W t.val g) : held X W t.val (scrG (grid3.coords t) g) := by
  by_cases ht : t.val = 0
  · intro j p n _
    rw [scrG_first _ _ _ ((first3 t).mpr ht), urow_zero]
    have : tile t.val j.val = 0 := by unfold tile; omega
    omega
  · rw [scrG_later _ _ (fun h => ht ((first3 t).mp h))]; exact hs ht
theorem heldV {X : Vec Ideal S16896x4096 .bf16} {W : Vec Ideal S4096x11008 .bf16} {g : Vec Ideal S22x8x512 .f32}
    (hs : t.val ≠ 0 → held X W t.val g) : held X W t.val (scrV (grid3.coords t) g) := by
  by_cases ht : t.val = 0
  · intro j p n _
    rw [scrV_first _ _ _ ((first3 t).mpr ht), urow_zero]
    have : tile t.val j.val = 0 := by unfold tile; omega
    omega
  · rw [scrV_later _ _ (fun h => ht ((first3 t).mp h))]; exact hs ht

theorem tile_here : tile t.val (grid3.coords t 1).val = (grid3.coords t 0).val := by
  have := pt3 t; have := lt31 (grid3.coords t); unfold tile; omega
theorem tile_next : tile (t.val + 1) (grid3.coords t 1).val = (grid3.coords t 0).val + 1 := by
  have := pt3 t; have := lt31 (grid3.coords t); unfold tile; omega
theorem tile_other (j : Fin 22) (h : j.val ≠ (grid3.coords t 1).val) : tile (t.val + 1) j.val = tile t.val j.val := by
  have := pt3 t; have := lt31 (grid3.coords t); have := j.isLt; unfold tile; omega

/-- A slot's rows, once a point has been: its own slot the last rows of its tile, the others as they were. -/
theorem held_next {X : Vec Ideal S16896x4096 .bf16} {W : Vec Ideal S4096x11008 .bf16} {g g' : Vec Ideal S22x8x512 .f32}
    (hg : held X W t.val g)
    (hown : ∀ (p : Fin 8) (n : Fin 512), 512 * (grid3.coords t 1).val + n.val < 11008 →
      g' (ix3 (grid3.coords t 1) p n : S22x8x512.Idx) = urow X W (512 * (grid3.coords t 1).val + n.val) (1536 * (grid3.coords t 0).val + (1536 + p.val)))
    (hother : ∀ (j : Fin 22) (p : Fin 8) (n : Fin 512), j.val ≠ (grid3.coords t 1).val → g' (ix3 j p n) = g (ix3 j p n)) :
    held X W (t.val + 1) g' := by
  intro j p n h
  by_cases hj : j.val = (grid3.coords t 1).val
  · obtain rfl : j = (grid3.coords t 1 : Fin 22) := Fin.ext hj
    refine (hown p n h).trans ?_
    rw [tile_next]
    exact congrArg (urow X W _) (by omega)
  · rw [hother j p n hj, tile_other t j hj]; exact hg j p n h

theorem held_own {X : Vec Ideal S16896x4096 .bf16} {W : Vec Ideal S4096x11008 .bf16} {g : Vec Ideal S22x8x512 .f32}
    (hg : held X W t.val g) (p : Fin 8) (n : Fin 512) (h : 512 * (grid3.coords t 1).val + n.val < 11008) :
    g (ix3 (grid3.coords t 1) p n : S22x8x512.Idx) = urow X W (512 * (grid3.coords t 1).val + n.val) (1536 * (grid3.coords t 0).val + p.val) := by
  refine (hg (grid3.coords t 1) p n h).trans ?_
  rw [tile_here]

theorem tap_of (K : Vec Ideal S3x11008 .f32) (j : Fin 3) (C : ℕ) (h : C < 11008) : tap K j C = K (ix2 j ⟨C, h⟩) := dif_pos h

section Point
variable (X : Vec Ideal S16896x4096 .bf16) (WG WV : Vec Ideal S4096x11008 .bf16) (CG CV : Vec Ideal S3x11008 .f32)

def actSays (Y : Vec Ideal S1536x512 .bf16) : Prop := ∀ (r : Fin 1536) (n : Fin 512), 512 * (grid3.coords t 1).val + n.val < 11008 →
    Y (ix2 r n) = actAt X WG WV CG CV (1536 * (grid3.coords t 0).val + r.val) (512 * (grid3.coords t 1).val + n.val)
def tailSays (W : Vec Ideal S4096x11008 .bf16) (Y : Vec Ideal S1x8x512 .f32) : Prop := ∀ (p : Fin 8) (n : Fin 512), 512 * (grid3.coords t 1).val + n.val < 11008 →
    Y (ix3 0 p n) = urow X W (512 * (grid3.coords t 1).val + n.val) (1536 * (grid3.coords t 0).val + (8 + (1032 + p.val)))

theorem point (x : Vec Ideal S1536x4096 .bf16) (wg wv : Vec Ideal S4096x512 .bf16) (cg cv : Vec Ideal S3x512 .f32)
    (hx : ∀ (r : Fin 1536) (k : Fin 4096), x (ix2 r k) = X (ix2 ⟨1536 * (grid3.coords t 0).val + r.val, by have := lt30 (grid3.coords t); omega⟩ k))
    (hwg : ∀ (k : Fin 4096) (n : Fin 512) (h : 512 * (grid3.coords t 1).val + n.val < 11008), wg (ix2 k n) = WG (ix2 k ⟨512 * (grid3.coords t 1).val + n.val, h⟩))
    (hwv : ∀ (k : Fin 4096) (n : Fin 512) (h : 512 * (grid3.coords t 1).val + n.val < 11008), wv (ix2 k n) = WV (ix2 k ⟨512 * (grid3.coords t 1).val + n.val, h⟩))
    (hcg : ∀ (k : Fin 3) (n : Fin 512) (h : 512 * (grid3.coords t 1).val + n.val < 11008), cg (ix2 k n) = CG (ix2 k ⟨512 * (grid3.coords t 1).val + n.val, h⟩))
    (hcv : ∀ (k : Fin 3) (n : Fin 512) (h : 512 * (grid3.coords t 1).val + n.val < 11008), cv (ix2 k n) = CV (ix2 k ⟨512 * (grid3.coords t 1).val + n.val, h⟩))
    (g v : Vec Ideal S22x8x512 .f32) (d5 : Vec Ideal S1536x512 .bf16) (d6 d7 : Vec Ideal S1x8x512 .f32)
    (hs : t.val ≠ 0 → held X WG t.val g ∧ held X WV t.val v) :
    actSays t X WG WV CG CV (actOut (grid3.coords t) x wg wv cg cv g v d5) ∧ tailSays t X WG (tailG x wg d6) ∧ tailSays t X WV (tailV x wv d7)
      ∧ held X WG (t.val + 1) (nextG (grid3.coords t) x wg g) ∧ held X WV (t.val + 1) (nextV (grid3.coords t) x wv v) := by
  have hg := heldG t (fun h => (hs h).1)
  have hv := heldV t (fun h => (hs h).2)
  have sg := fun n h => sum3 t X WG x wg hx n h (fun k => hwg k n h)
  have sv := fun n h => sum3 t X WV x wv hx n h (fun k => hwv k n h)
  refine ⟨fun r n h => ?_, fun p n h => ?_, fun p n h => ?_, held_next t hg (fun p n h => ?_) (fun j p n h => ?_), held_next t hv (fun p n h => ?_) (fun j p n h => ?_)⟩
  · refine (actOut_at (grid3.coords t) _ _ _ _ _ _ _ n
      (fun m => urow X WG (512 * (grid3.coords t 1).val + n.val) (1536 * (grid3.coords t 0).val + m))
      (fun m => urow X WV (512 * (grid3.coords t 1).val + n.val) (1536 * (grid3.coords t 0).val + m))
      (sg n h) (sv n h) (fun p => held_own t hg p n h) (fun p => held_own t hv p n h) _ r).trans ?_
    rw [conv_shift _ _ _ _ _ _ (by omega), conv_shift _ _ _ _ _ _ (by omega), hcg 0 n h, hcg 1 n h, hcg 2 n h, hcv 0 n h, hcv 1 n h, hcv 2 n h]
    unfold actAt
    rw [tap_of _ 0 _ h, tap_of _ 1 _ h, tap_of _ 2 _ h, tap_of _ 0 _ h, tap_of _ 1 _ h, tap_of _ 2 _ h,
      show 1536 * (grid3.coords t 0).val + (8 + r.val) = 8 + (1536 * (grid3.coords t 0).val + r.val) from by omega]
  · exact tailG_at _ _ n (fun m => urow X WG (512 * (grid3.coords t 1).val + n.val) (1536 * (grid3.coords t 0).val + m)) (sg n h) _ p
  · exact tailV_at _ _ n (fun m => urow X WV (512 * (grid3.coords t 1).val + n.val) (1536 * (grid3.coords t 0).val + m)) (sv n h) _ p
  · exact nextG_at _ _ _ _ n (fun m => urow X WG (512 * (grid3.coords t 1).val + n.val) (1536 * (grid3.coords t 0).val + m)) (sg n h) p
  · exact nextG_of_ne _ _ _ _ n j p h
  · exact nextV_at _ _ _ _ n (fun m => urow X WV (512 * (grid3.coords t 1).val + n.val) (1536 * (grid3.coords t 0).val + m)) (sv n h) p
  · exact nextV_of_ne _ _ _ _ n j p h
end Point

/-- What the region's outputs and scratch are. -/
def spec : Spec V c where
  act t := actSays t (V c main_v5) (V c main_v0) (V c main_v1) (V c main_v2) (V c main_v3)
  tg t := tailSays t (V c main_v5) (V c main_v0)
  tv t := tailSays t (V c main_v5) (V c main_v1)
  scr s g v := s.val ≠ 0 → held (V c main_v5) (V c main_v0) s.val g ∧ held (V c main_v5) (V c main_v1) s.val v
  scr0 _ _ h := absurd rfl h
  step t d1 d2 d3 d4 g v d5 d6 d7 hs :=
    have h := point t (V c main_v5) (V c main_v0) (V c main_v1) (V c main_v2) (V c main_v3) (blkin3 V c 0 t) (staged V c 1 t d1) (staged V c 2 t d2)
      (staged V c 3 t d3) (staged V c 4 t d4) (x3_in V c t) (wg3_in V c t d1) (wv3_in V c t d2) (cg3_in V c t d3) (cv3_in V c t d4) g v d5 d6 d7 hs
    ⟨h.1, h.2.1, h.2.2.1, fun _ => h.2.2.2⟩

end Blocks

end Cert.Proof.Up

end
-- ==== Proof.Up.Finals.lean ====
/-
  The up-projection's arrays: what its three outputs end at, from the arrays it is entered with.
-/
module

public import proofs.«01_k».proof.Proof.Up.Value

@[expose] public section

set_option maxRecDepth 16384

noncomputable section

namespace Cert.Proof.Up

open Cert.Kernel3Ideal Cert.Kernel3Ideal.Gen
open Idealize.ShloMosaic Idealize.ShloMosaic.TcCoe Idealize.SL.Sem
open Idealize.ShloMosaic.Pipeline (Dat RDat)

/-- The activation. -/
def acts (X : Vec Ideal S16896x4096 .bf16) (WG WV : Vec Ideal S4096x11008 .bf16) (CG CV : Vec Ideal S3x11008 .f32) : Vec Ideal S16896x11008 .bf16 :=
  fun y => actAt X WG WV CG CV (y 0).val (y 1).val
/-- The rows kept of each tile. -/
def tails (X : Vec Ideal S16896x4096 .bf16) (W : Vec Ideal S4096x11008 .bf16) : Vec Ideal S11x8x11008 .f32 :=
  fun y => urow X W (y 2).val (1536 * (y 0).val + (8 + (1032 + (y 1).val)))

section Finals
variable (V : (c : Dev nD) → (b : Ref sig .tc) → Buf (Elt Ideal) ((c : Thread nD τ).loc b)) (c : Dev nD)

theorem act_out (t : Fin cfg3.N) (y : (win3_5.xblock (grid3.coords t)).Idx) (r : Fin 1536) (n : Fin 512) (h0 : (y 0).val = r.val) (h1 : (y 1).val = n.val)
    (h : 512 * (grid3.coords t 1).val + n.val < 11008) : (win3_5.blk t).view.emb y
    = (ix2 ⟨1536 * (grid3.coords t 0).val + r.val, by have := lt30 (grid3.coords t); omega⟩ ⟨512 * (grid3.coords t 1).val + n.val, h⟩ : S16896x11008.Idx) := by
  blk_ext [idx3 t, h0, h1]
theorem tailG_out (t : Fin cfg3.N) (y : (win3_6.xblock (grid3.coords t)).Idx) (p : Fin 8) (n : Fin 512) (h0 : (y 0).val = 0) (h1 : (y 1).val = p.val) (h2 : (y 2).val = n.val)
    (h : 512 * (grid3.coords t 1).val + n.val < 11008) : (win3_6.blk t).view.emb y
    = (ix3 ⟨(grid3.coords t 0).val, lt30 (grid3.coords t)⟩ p ⟨512 * (grid3.coords t 1).val + n.val, h⟩ : S11x8x11008.Idx) := by
  blk_ext [idx3 t, h0, h1, h2]
theorem tailV_out (t : Fin cfg3.N) (y : (win3_7.xblock (grid3.coords t)).Idx) (p : Fin 8) (n : Fin 512) (h0 : (y 0).val = 0) (h1 : (y 1).val = p.val) (h2 : (y 2).val = n.val)
    (h : 512 * (grid3.coords t 1).val + n.val < 11008) : (win3_7.blk t).view.emb y
    = (ix3 ⟨(grid3.coords t 0).val, lt30 (grid3.coords t)⟩ p ⟨512 * (grid3.coords t 1).val + n.val, h⟩ : S11x8x11008.Idx) := by
  blk_ext [idx3 t, h0, h1, h2]

/-- A block's indices, their columns inside. -/
theorem act_idx (t : Fin cfg3.N) (y : (win3_5.xblock (grid3.coords t)).Idx) : ∃ (r : Fin 1536) (n : Fin 512), (y 0).val = r.val ∧ (y 1).val = n.val
    ∧ 512 * (grid3.coords t 1).val + n.val < 11008 ∧ win3_5.xinj (grid3.coords t) y = (ix2 r n : S1536x512.Idx) := by
  have e := (size3 t).2.2.2.2.1
  have h0 : (y 0).val < 1536 := (y 0).isLt.trans_le (le_of_eq (congrFun e 0))
  have h1 : (y 1).val < min 512 (11008 - 512 * (grid3.coords t 1).val) := (y 1).isLt.trans_le (le_of_eq (congrFun e 1))
  exact ⟨⟨_, h0⟩, ⟨(y 1).val, by omega⟩, rfl, rfl, by show 512 * (grid3.coords t 1).val + (y 1).val < 11008; omega, by funext a; fin_cases a <;> rfl⟩
theorem tailG_idx (t : Fin cfg3.N) (y : (win3_6.xblock (grid3.coords t)).Idx) : ∃ (p : Fin 8) (n : Fin 512), (y 0).val = 0 ∧ (y 1).val = p.val ∧ (y 2).val = n.val
    ∧ 512 * (grid3.coords t 1).val + n.val < 11008 ∧ win3_6.xinj (grid3.coords t) y = (ix3 0 p n : S1x8x512.Idx) := by
  have e := (size3 t).2.2.2.2.2.1
  have h0 : (y 0).val < 1 := (y 0).isLt.trans_le (le_of_eq (congrFun e 0))
  have h1 : (y 1).val < 8 := (y 1).isLt.trans_le (le_of_eq (congrFun e 1))
  have h2 : (y 2).val < min 512 (11008 - 512 * (grid3.coords t 1).val) := (y 2).isLt.trans_le (le_of_eq (congrFun e 2))
  exact ⟨⟨_, h1⟩, ⟨(y 2).val, by omega⟩, by omega, rfl, rfl, by show 512 * (grid3.coords t 1).val + (y 2).val < 11008; omega, by
    funext a; fin_cases a
    exacts [Fin.ext (by show (y 0).val = 0; omega), rfl, rfl]⟩
theorem tailV_idx (t : Fin cfg3.N) (y : (win3_7.xblock (grid3.coords t)).Idx) : ∃ (p : Fin 8) (n : Fin 512), (y 0).val = 0 ∧ (y 1).val = p.val ∧ (y 2).val = n.val
    ∧ 512 * (grid3.coords t 1).val + n.val < 11008 ∧ win3_7.xinj (grid3.coords t) y = (ix3 0 p n : S1x8x512.Idx) := by
  have e := (size3 t).2.2.2.2.2.2
  have h0 : (y 0).val < 1 := (y 0).isLt.trans_le (le_of_eq (congrFun e 0))
  have h1 : (y 1).val < 8 := (y 1).isLt.trans_le (le_of_eq (congrFun e 1))
  have h2 : (y 2).val < min 512 (11008 - 512 * (grid3.coords t 1).val) := (y 2).isLt.trans_le (le_of_eq (congrFun e 2))
  exact ⟨⟨_, h1⟩, ⟨(y 2).val, by omega⟩, by omega, rfl, rfl, by show 512 * (grid3.coords t 1).val + (y 2).val < 11008; omega, by
    funext a; fin_cases a
    exacts [Fin.ext (by show (y 0).val = 0; omega), rfl, rfl]⟩

variable {V c} {A : (w : Fin cfg3.W) → Buf (Elt Ideal) ((cfg3.win w).arr.view.loc (c.tc : Thread nD τ))}
  (hA : ∀ w, ((upDat V (spec V c)).toRRel marked (spec V c).rel).ArrAt w cfg3.N (A w))

include hA in
theorem left_acts : A 5 = acts (V c main_v5) (V c main_v0) (V c main_v1) (V c main_v2) (V c main_v3) := by
  obtain ⟨after, hL, hG⟩ := RDat.ArrAt.exists_exact_all hA
  refine (hG 5).trans (Dat.arrAt_eq_of_covers _ 5 _ (by decide +kernel) fun t hf y => ?_)
  have hs : actSays t (V c main_v5) (V c main_v0) (V c main_v1) (V c main_v2) (V c main_v3) (after 5 t) := Dat.toRRel_leaves _ rfl (hL 5 t t.isLt hf)
  obtain ⟨r, n, h0, h1, h, e⟩ := act_idx t y
  refine ((congrArg (after 5 t) e).trans (hs r n h)).trans ?_
  exact (congrArg (acts (V c main_v5) (V c main_v0) (V c main_v1) (V c main_v2) (V c main_v3)) (act_out t y r n h0 h1 h)).symm

include hA in
theorem left_tailG : A 6 = tails (V c main_v5) (V c main_v0) := by
  obtain ⟨after, hL, hG⟩ := RDat.ArrAt.exists_exact_all hA
  refine (hG 6).trans (Dat.arrAt_eq_of_covers _ 6 _ (by decide +kernel) fun t hf y => ?_)
  have hs : tailSays t (V c main_v5) (V c main_v0) (after 6 t) := Dat.toRRel_leaves _ rfl (hL 6 t t.isLt hf)
  obtain ⟨p, n, h0, h1, h2, h, e⟩ := tailG_idx t y
  refine ((congrArg (after 6 t) e).trans (hs p n h)).trans ?_
  exact (congrArg (tails (V c main_v5) (V c main_v0)) (tailG_out t y p n h0 h1 h2 h)).symm

include hA in
theorem left_tailV : A 7 = tails (V c main_v5) (V c main_v1) := by
  obtain ⟨after, hL, hG⟩ := RDat.ArrAt.exists_exact_all hA
  refine (hG 7).trans (Dat.arrAt_eq_of_covers _ 7 _ (by decide +kernel) fun t hf y => ?_)
  have hs : tailSays t (V c main_v5) (V c main_v1) (after 7 t) := Dat.toRRel_leaves _ rfl (hL 7 t t.isLt hf)
  obtain ⟨p, n, h0, h1, h2, h, e⟩ := tailV_idx t y
  refine ((congrArg (after 7 t) e).trans (hs p n h)).trans ?_
  exact (congrArg (tails (V c main_v5) (V c main_v1)) (tailV_out t y p n h0 h1 h2 h)).symm

end Finals

end Cert.Proof.Up

end
-- ==== Proof.Up.Left.lean ====
/-
  The up-projection's operands: the two casts of the weights, the norm's rows, the taps; and the results, from the
  arguments.
-/
module

public import proofs.«01_k».proof.Proof.Up.Finals

@[expose] public section

set_option maxRecDepth 16384

noncomputable section

namespace Cert.Proof.Up

open Cert.Kernel3Ideal Cert.Kernel3Ideal.Gen
open Idealize.ShloMosaic Idealize.ShloMosaic.TcCoe Idealize.SL.Sem
open Idealize.ShloMosaic.Pipeline (Dat RDat)

/-! ## The arrays -/

/-- The gate's columns of the weights, and the value's. -/
def gateCols (w : Vec Ideal S4096x22016 .f32) : Vec Ideal S4096x11008 .bf16 := fun y =>
  w (ix2 (y 0) ⟨(y 1).val, by have h : (y 1).val < 11008 := (y 1).isLt; omega⟩)
def valCols (w : Vec Ideal S4096x22016 .f32) : Vec Ideal S4096x11008 .bf16 := fun y =>
  w (ix2 (y 0) ⟨11008 + (y 1).val, by have h : (y 1).val < 11008 := (y 1).isLt; omega⟩)
def gateTaps (w : Vec Ideal S3x22016 .f32) : Vec Ideal S3x11008 .f32 := fun y =>
  w (ix2 (y 0) ⟨(y 1).val, by have h : (y 1).val < 11008 := (y 1).isLt; omega⟩)
def valTaps (w : Vec Ideal S3x22016 .f32) : Vec Ideal S3x11008 .f32 := fun y =>
  w (ix2 (y 0) ⟨11008 + (y 1).val, by have h : (y 1).val < 11008 := (y 1).isLt; omega⟩)

/-- One row of the norm: the entry by the reciprocal root of the row's mean square, by the gain. -/
def rowNorm (x : Fin 4096 → EReal) (g : EReal) (d : Fin 4096) : EReal :=
  x d * Ideal.rsqrt (Ideal.div (∑ k : Fin 4096, x k * x k) (Ideal.ofBits .f32 0x45800000#32) + Ideal.ofBits .f32 0x358637BD#32) * g
def normRows (h : Vec Ideal S16896x4096 .f32) (g : Vec Ideal S4096 .f32) : Vec Ideal S16896x4096 .bf16 := fun y =>
  rowNorm (fun k => h (ix2 (y 0) k)) (g (ix1 (y 1))) (y 1)

/-! ## The blocks -/

theorem cast_block0 (x : Vec Ideal S128x11008 .f32) (k : Fin 128) (n : Fin 11008) : out0_1 x (ix2 k n) = x (ix2 k n) := by
  frame_out
  pointwise [k0_pay1]
theorem cast_block1 (x : Vec Ideal S128x11008 .f32) (k : Fin 128) (n : Fin 11008) : out1_1 x (ix2 k n) = x (ix2 k n) := by
  frame_out
  pointwise [k1_pay1]
theorem norm_block (x : Vec Ideal S256x4096 .f32) (g : Vec Ideal S1x4096 .f32) (r : Fin 256) (d : Fin 4096) :
    out2_2 x g (ix2 r d) = rowNorm (fun k => x (ix2 r k)) (g (ix2 0 d)) d := by
  frame_out
  pointwise [k2_pay1]
  rfl

section Calls
variable (V : (c : Dev nD) → (b : Ref sig .tc) → Buf (Elt Ideal) ((c : Thread nD τ).loc b)) (c : Dev nD)

theorem idx0 : ∀ t : Fin cfg0.N, win0_0.index t = ![(grid0.coords t 0).val, 0] ∧ win0_1.index t = ![(grid0.coords t 0).val, 0] := (by decide +kernel : ∀ t : Fin grid0.N, _)
theorem idx1 : ∀ t : Fin cfg1.N, win1_0.index t = ![(grid1.coords t 0).val, 1] ∧ win1_1.index t = ![(grid1.coords t 0).val, 0] := (by decide +kernel : ∀ t : Fin grid1.N, _)
theorem idx2 : ∀ t : Fin cfg2.N, win2_0.index t = ![(grid2.coords t 0).val, 0] ∧ win2_1.index t = ![0, 0] ∧ win2_2.index t = ![(grid2.coords t 0).val, 0] :=
  (by decide +kernel : ∀ t : Fin grid2.N, _)
theorem lt00 (i : grid0.Coords) : (i 0).val < 32 := (i 0).isLt
theorem lt10 (i : grid1.Coords) : (i 0).val < 32 := (i 0).isLt
theorem lt20 (i : grid2.Coords) : (i 0).val < 66 := (i 0).isLt

theorem cast_in0 (t : Fin cfg0.N) (k : Fin 128) (n : Fin 11008) : blkin0 V c 0 t (ix2 k n)
    = V c main_arg2 (ix2 ⟨128 * (grid0.coords t 0).val + k.val, by have := lt00 (grid0.coords t); omega⟩ ⟨n.val, by omega⟩ : S4096x22016.Idx) := by
  blk_simp [blkin0]
  blk_ext [idx0 t]
theorem cast_out0 (t : Fin cfg0.N) (k : Fin 128) (n : Fin 11008) : (win0_1.blk t).view.emb (ix2 k n)
    = (ix2 ⟨128 * (grid0.coords t 0).val + k.val, by have := lt00 (grid0.coords t); omega⟩ n : S4096x11008.Idx) := by
  blk_ext [idx0 t]
theorem cast_in1 (t : Fin cfg1.N) (k : Fin 128) (n : Fin 11008) : blkin1 V c 0 t (ix2 k n)
    = V c main_arg2 (ix2 ⟨128 * (grid1.coords t 0).val + k.val, by have := lt10 (grid1.coords t); omega⟩ ⟨11008 + n.val, by omega⟩ : S4096x22016.Idx) := by
  blk_simp [blkin1]
  blk_ext [idx1 t]
theorem cast_out1 (t : Fin cfg1.N) (k : Fin 128) (n : Fin 11008) : (win1_1.blk t).view.emb (ix2 k n)
    = (ix2 ⟨128 * (grid1.coords t 0).val + k.val, by have := lt10 (grid1.coords t); omega⟩ n : S4096x11008.Idx) := by
  blk_ext [idx1 t]
theorem norm_in (t : Fin cfg2.N) (r : Fin 256) (d : Fin 4096) : blkin2 V c 0 t (ix2 r d)
    = V c main_arg0 (ix2 ⟨256 * (grid2.coords t 0).val + r.val, by have := lt20 (grid2.coords t); omega⟩ d : S16896x4096.Idx) := by
  blk_simp [blkin2]
  blk_ext [idx2 t]
theorem gain_in (t : Fin cfg2.N) (d : Fin 4096) : blkin2 V c 1 t (ix2 0 d) = V c main_v4 (ix2 0 d : S1x4096.Idx) := by
  blk_simp [blkin2]
  blk_ext [idx2 t]
theorem norm_out (t : Fin cfg2.N) (r : Fin 256) (d : Fin 4096) : (win2_2.blk t).view.emb (ix2 r d)
    = (ix2 ⟨256 * (grid2.coords t 0).val + r.val, by have := lt20 (grid2.coords t); omega⟩ d : S16896x4096.Idx) := by
  blk_ext [idx2 t]

theorem left_gate : (dat0 V c).arrAt 1 cfg0.N = gateCols (V c main_arg2) := by
  refine (dat0 V c).arrAt_eq_of_covers 1 _ (by decide +kernel) fun t _ y => ?_
  blk_simp
  rw [after0_1]
  obtain ⟨k, n, rfl⟩ : ∃ (k : Fin 128) (n : Fin 11008), y = ix2 k n := ⟨⟨(y 0).val, (y 0).isLt⟩, ⟨(y 1).val, (y 1).isLt⟩, by funext a; fin_cases a <;> rfl⟩
  refine ((cast_block0 _ k n).trans (cast_in0 V c t k n)).trans ?_
  exact (congrArg (gateCols (V c main_arg2)) (cast_out0 t k n)).symm
theorem left_val : (dat1 V c).arrAt 1 cfg1.N = valCols (V c main_arg2) := by
  refine (dat1 V c).arrAt_eq_of_covers 1 _ (by decide +kernel) fun t _ y => ?_
  blk_simp
  rw [after1_1]
  obtain ⟨k, n, rfl⟩ : ∃ (k : Fin 128) (n : Fin 11008), y = ix2 k n := ⟨⟨(y 0).val, (y 0).isLt⟩, ⟨(y 1).val, (y 1).isLt⟩, by funext a; fin_cases a <;> rfl⟩
  refine ((cast_block1 _ k n).trans (cast_in1 V c t k n)).trans ?_
  exact (congrArg (valCols (V c main_arg2)) (cast_out1 t k n)).symm
/-- The norm's rows, the gain as one row. -/
def normRows' (h : Vec Ideal S16896x4096 .f32) (g : Vec Ideal S1x4096 .f32) : Vec Ideal S16896x4096 .bf16 := fun y =>
  rowNorm (fun k => h (ix2 (y 0) k)) (g (ix2 0 (y 1))) (y 1)
theorem left_norm : (dat2 V c).arrAt 2 cfg2.N = normRows' (V c main_arg0) (V c main_v4) := by
  refine (dat2 V c).arrAt_eq_of_covers 2 _ (by decide +kernel) fun t _ y => ?_
  blk_simp
  rw [after2_2]
  obtain ⟨k, n, rfl⟩ : ∃ (k : Fin 256) (n : Fin 4096), y = ix2 k n := ⟨⟨(y 0).val, (y 0).isLt⟩, ⟨(y 1).val, (y 1).isLt⟩, by funext a; fin_cases a <;> rfl⟩
  refine (norm_block _ _ k n).trans ?_
  rw [gain_in]
  simp only [norm_in]
  exact (congrArg (normRows' (V c main_arg0) (V c main_v4)) (norm_out t k n)).symm

end Calls

section Entered
variable (m : (ℓ : Loc nD τ sig) → Buf (Elt Ideal) ℓ) (ρ : Dev nD → PrngReg) (c : Dev nD)

theorem gain_row (g : Vec Ideal S4096 .f32) (d : Fin 4096) : shapeCast S1x4096 g shapeCasts_S4096_S1x4096 (ix2 0 d) = g (ix1 d) := by
  pointwise
  blk_ext
theorem cut_gate (k : Vec Ideal S3x22016 .f32) : extractStridedSlice S3x11008 ![0, 0] k slices_S3x22016_S3x11008_0_0 = gateTaps k := by
  funext y
  obtain ⟨j, n, rfl⟩ : ∃ (j : Fin 3) (n : Fin 11008), y = ix2 j n := ⟨⟨(y 0).val, (y 0).isLt⟩, ⟨(y 1).val, (y 1).isLt⟩, by funext a; fin_cases a <;> rfl⟩
  pointwise
  rfl
theorem cut_val (k : Vec Ideal S3x22016 .f32) : extractStridedSlice S3x11008 ![0, 11008] k slices_S3x22016_S3x11008_0_11008 = valTaps k := by
  funext y
  obtain ⟨j, n, rfl⟩ : ∃ (j : Fin 3) (n : Fin 11008), y = ix2 j n := ⟨⟨(y 0).val, (y 0).isLt⟩, ⟨(y 1).val, (y 1).isLt⟩, by funext a; fin_cases a <;> rfl⟩
  pointwise
  rfl

theorem in_gate : V4 m ρ c main_v0 = gateCols (m (c.tc.loc main_arg2)) :=
  (W4_of m ρ c main_v0 (by decide)).trans <| (W3_of m ρ c main_v0 (by decide)).trans <| (W2_of m ρ c main_v0 (by decide)).trans <|
    (W1_arr m ρ c 1).trans (left_gate (V0 m ρ) c)
theorem in_val : V4 m ρ c main_v1 = valCols (m (c.tc.loc main_arg2)) :=
  (W4_of m ρ c main_v1 (by decide)).trans <| (W3_of m ρ c main_v1 (by decide)).trans <| (W2_arr m ρ c 1).trans <|
    (left_val (V1 m ρ) c).trans (congrArg valCols (W1_args m ρ c main_arg2 (by decide)))
theorem in_gateTaps : V4 m ρ c main_v2 = gateTaps (m (c.tc.loc main_arg3)) := by
  refine (W4_of m ρ c main_v2 (by decide)).trans ?_
  refine Eq.trans (b := extractStridedSlice S3x11008 ![0, 0] (W2 m ρ c (Proc.devRef .tc main_arg3) : Vec Ideal S3x22016 .f32) slices_S3x22016_S3x11008_0_0) rfl ?_
  exact (cut_gate _).trans (congrArg gateTaps (W2_args m ρ c main_arg3 (by decide)))
theorem in_valTaps : V4 m ρ c main_v3 = valTaps (m (c.tc.loc main_arg3)) := by
  refine (W4_of m ρ c main_v3 (by decide)).trans ?_
  refine Eq.trans (b := extractStridedSlice S3x11008 ![0, 11008] (W2 m ρ c (Proc.devRef .tc main_arg3) : Vec Ideal S3x22016 .f32) slices_S3x22016_S3x11008_0_11008) rfl ?_
  exact (cut_val _).trans (congrArg valTaps (W2_args m ρ c main_arg3 (by decide)))
theorem in_norm : V4 m ρ c main_v5 = normRows (m (c.tc.loc main_arg0)) (m (c.tc.loc main_arg1)) := by
  refine (W4_arr m ρ c 2).trans ((left_norm (V3 m ρ) c).trans ?_)
  have e1 : V3 m ρ c main_arg0 = m (c.tc.loc main_arg0) := W3_args m ρ c main_arg0 (by decide)
  have e2 : V3 m ρ c main_v4 = shapeCast S1x4096 (m (c.tc.loc main_arg1) : Vec Ideal S4096 .f32) shapeCasts_S4096_S1x4096 := by
    refine Eq.trans (b := shapeCast S1x4096 (W2 m ρ c (Proc.devRef .tc main_arg1) : Vec Ideal S4096 .f32) shapeCasts_S4096_S1x4096) rfl ?_
    exact congrArg (fun g : Vec Ideal S4096 .f32 => shapeCast S1x4096 g shapeCasts_S4096_S1x4096) (W2_args m ρ c main_arg1 (by decide))
  rw [e1, e2]
  funext y
  exact congrArg (fun e => rowNorm _ e (y 1)) (gain_row _ (y 1))

end Entered

/-! ## The results -/

/-- The activation from the arguments. -/
def wholeAct (h : Vec Ideal S16896x4096 .f32) (g : Vec Ideal S4096 .f32) (w : Vec Ideal S4096x22016 .f32) (k : Vec Ideal S3x22016 .f32) :
    Vec Ideal S16896x11008 .bf16 := acts (normRows h g) (gateCols w) (valCols w) (gateTaps k) (valTaps k)
/-- The two rows kept, from the arguments. -/
def wholeRows (h : Vec Ideal S16896x4096 .f32) (g : Vec Ideal S4096 .f32) (w : Vec Ideal S4096x22016 .f32) : Vec Ideal S1x2x22016 .f32 := fun y =>
  ∑ d : Fin 4096, normRows h g (ix2 ⟨16398 + (y 1).val, by have h1 : (y 1).val < 2 := (y 1).isLt; omega⟩ d) * w (ix2 d (y 2))

theorem tail_rows (a b : Vec Ideal S11x8x11008 .f32) (p : Fin 2) (C : Fin 22016) :
    broadcastInDim S1x2x22016 ![1, 2] bcast_S2x22016_S1x2x22016_1_2 (extractStridedSlice S2x22016 ![6, 0]
      (concatenate S8x22016 1 [⟨S8x11008, shapeCast S8x11008 (extractStridedSlice S1x8x11008 ![10, 0, 0] a slices_S11x8x11008_S1x8x11008_10_0_0) shapeCasts_S1x8x11008_S8x11008⟩,
        ⟨S8x11008, shapeCast S8x11008 (extractStridedSlice S1x8x11008 ![10, 0, 0] b slices_S11x8x11008_S1x8x11008_10_0_0) shapeCasts_S1x8x11008_S8x11008⟩]
        concatenates_S8x11008_S8x11008_S8x22016_d1) slices_S8x22016_S2x22016_6_0) (ix3 0 p C)
    = if h : C.val < 11008 then a (ix3 10 ⟨6 + p.val, by omega⟩ ⟨C.val, h⟩) else b (ix3 10 ⟨6 + p.val, by omega⟩ ⟨C.val - 11008, by omega⟩) := by
  pointwise

theorem rows_of (X : Vec Ideal S16896x4096 .bf16) (W : Vec Ideal S4096x11008 .bf16) (p : Fin 2) (C : Fin 11008) :
    tails X W (ix3 10 ⟨6 + p.val, by omega⟩ C) = ∑ d : Fin 4096, X (ix2 ⟨16398 + p.val, by omega⟩ d) * W (ix2 d C) := by
  show urow X W C.val (1536 * 10 + (8 + (1032 + (6 + p.val)))) = _
  unfold urow
  rw [dif_pos ⟨by omega, by omega, C.isLt⟩]
  refine Finset.sum_congr rfl fun d _ => congrArg (· * _) ?_
  exact congrArg (fun R : Fin 16896 => X (ix2 R d)) (Fin.ext (by show 1536 * 10 + (8 + (1032 + (6 + p.val))) - 8 = 16398 + p.val; omega))

section Result
variable (m : (ℓ : Loc nD τ sig) → Buf (Elt Ideal) ℓ) (ρ : Dev nD → PrngReg)

/-- What is said of the up-projection's outputs, at what it is entered with. -/
abbrev said (c : Dev nD) : Spec (V4 m ρ) c := spec (V4 m ρ) c

variable (c : Dev nD) (γ : Leave m ρ (said m ρ) c)

theorem final_act : W6 m ρ (said m ρ) c γ (Proc.devRef .tc main_v6_0) = wholeAct (m (c.tc.loc main_arg0)) (m (c.tc.loc main_arg1))
    (m (c.tc.loc main_arg2)) (m (c.tc.loc main_arg3)) := by
  refine (W6_of m ρ (said m ρ) c γ main_v6_0 (by decide)).trans ((W5_arr m ρ (said m ρ) c γ 5).trans ((left_acts γ.2).trans ?_))
  rw [in_norm, in_gate, in_val, in_gateTaps, in_valTaps]
  rfl

theorem final_rows : W6 m ρ (said m ρ) c γ (Proc.devRef .tc main_v13) = wholeRows (m (c.tc.loc main_arg0)) (m (c.tc.loc main_arg1))
    (m (c.tc.loc main_arg2)) := by
  have eg : W5 m ρ (said m ρ) c γ (Proc.devRef .tc main_v6_1) = tails (normRows (m (c.tc.loc main_arg0)) (m (c.tc.loc main_arg1)))
      (gateCols (m (c.tc.loc main_arg2))) := by
    refine (W5_arr m ρ (said m ρ) c γ 6).trans ((left_tailG γ.2).trans ?_)
    rw [in_norm, in_gate]
  have ev : W5 m ρ (said m ρ) c γ (Proc.devRef .tc main_v6_2) = tails (normRows (m (c.tc.loc main_arg0)) (m (c.tc.loc main_arg1)))
      (valCols (m (c.tc.loc main_arg2))) := by
    refine (W5_arr m ρ (said m ρ) c γ 7).trans ((left_tailV γ.2).trans ?_)
    rw [in_norm, in_val]
  funext y
  obtain ⟨p, C, rfl⟩ : ∃ (p : Fin 2) (C : Fin 22016), y = ix3 0 p C := ⟨⟨(y 1).val, (y 1).isLt⟩, ⟨(y 2).val, (y 2).isLt⟩, by
    funext a; fin_cases a
    exacts [Fin.ext (by have h : (y 0).val < 1 := (y 0).isLt; show (y 0).val = 0; omega), rfl, rfl]⟩
  refine (tail_rows (W5 m ρ (said m ρ) c γ (Proc.devRef .tc main_v6_1)) (W5 m ρ (said m ρ) c γ (Proc.devRef .tc main_v6_2)) p C).trans ?_
  rw [eg, ev]
  split
  · next h => exact (rows_of _ _ p ⟨C.val, h⟩).trans rfl
  · next h =>
    refine (rows_of _ _ p ⟨C.val - 11008, by omega⟩).trans (Finset.sum_congr rfl fun d _ => congrArg₂ (· * ·) rfl ?_)
    exact congrArg (fun R : Fin 22016 => (m (c.tc.loc main_arg2) : Vec Ideal S4096x22016 .f32) (ix2 d R)) (Fin.ext (by show 11008 + (C.val - 11008) = C.val; omega))

/-- The results and the arguments, off the last boundary's contents. -/
theorem ends {M : (ℓ : Loc nD τ sig) → Buf (Elt Ideal) ℓ} (h : ∀ b ∈ Pipeline.ucRefs τ sig, M ((c : Thread nD τ).1, b) = W6 m ρ (said m ρ) c γ b) :
    M (c.tc.loc main_v6_0) = wholeAct (m (c.tc.loc main_arg0)) (m (c.tc.loc main_arg1))
        (m (c.tc.loc main_arg2)) (m (c.tc.loc main_arg3))
      ∧ M (c.tc.loc main_v13) = wholeRows (m (c.tc.loc main_arg0)) (m (c.tc.loc main_arg1))
        (m (c.tc.loc main_arg2))
      ∧ M (c.tc.loc main_arg0) = m (c.tc.loc main_arg0)
      ∧ M (c.tc.loc main_arg1) = m (c.tc.loc main_arg1)
      ∧ M (c.tc.loc main_arg2) = m (c.tc.loc main_arg2)
      ∧ M (c.tc.loc main_arg3) = m (c.tc.loc main_arg3) :=
  ⟨(h _ (mem_uc main_v6_0 (by decide))).trans (final_act m ρ c γ), (h _ (mem_uc main_v13 (by decide))).trans (final_rows m ρ c γ), kept m ρ (said m ρ) c γ h⟩

end Result

end Cert.Proof.Up

end
-- ==== Proof.Up.Plain.lean ====
/-
  The up-projection in the reference: the same activation and the same two rows of the arguments.
-/
module

public import proofs.«01_k».proof.Proof.Up.Left
public import proofs.«01_k».proof.Proof.Gen.Reference3Ideal.Run
public import proofs.«01_k».proof.Proof.Gen.Reference3Ideal.Read
public import Idealize.ShloMosaic.Lib.IdealHost

@[expose] public section

set_option maxRecDepth 16384

noncomputable section

namespace Cert.Proof.Up

open Cert.Reference3Ideal Cert.Reference3Ideal.Gen Cert.Reference3Ideal.Read
open Idealize.ShloMosaic Idealize.ShloMosaic.TcCoe Idealize.SL.Sem

theorem exp_nonneg (x : EReal) : 0 ≤ Ideal.exp x := by
  induction x using EReal.rec with
  | bot => exact le_refl (0 : EReal)
  | top => exact (le_top : (0 : EReal) ≤ ⊤)
  | coe x => exact EReal.coe_nonneg.mpr (Real.exp_pos x).le

section Plain
variable (x0 : Vec Ideal S16896x4096 .f32) (x1 : Vec Ideal S4096 .f32) (x2 : Vec Ideal S4096x22016 .f32) (x3 : Vec Ideal S3x22016 .f32)

theorem norm_at (r : Fin 16896) (d : Fin 4096) : val_main_v12 (F := Ideal) x0 x1 (ix2 r d) = normRows x0 x1 (ix2 r d) := by
  have zero : val_main_cst (F := Ideal) (Shape.Idx.first h_S_) = 0 := by simp [val_main_cst_apply]
  have e : val_main_v8 (F := Ideal) x0 (ix2 r d) = Ideal.rsqrt (Ideal.div (∑ k : Fin 4096, x0 (ix2 r k) * x0 (ix2 r k)) (Ideal.ofBits .f32 0x45800000#32)
      + Ideal.ofBits .f32 0x358637BD#32) := by
    rw [val_main_v8_apply, val_main_v7_apply, val_main_v6_apply, val_main_v4_apply, val_main_v2_apply, val_main_v1_apply, zero, zero_add]
    have e : idx_main_v2 (idx_main_v8 (ix2 r d)) = ix1 r := by funext a; fin_cases a; rfl
    rw [e]
    have e' : ∀ k, idx_main_v1 (ix1 r) k = ix2 r k := fun k => by funext a; fin_cases a <;> rfl
    simp only [e']
    rfl
  rw [val_main_v12_apply, val_main_v9_apply, e]
  refine congrArg₂ (· * ·) rfl ?_
  rw [val_main_v11_apply, val_main_v10_apply]
  exact congrArg x1 (by funext a; fin_cases a; rfl)

theorem prod_at (r : Fin 16896) (C : Fin 22016) : val_main_v13 (F := Ideal) x0 x1 x2 (ix2 r C)
    = ∑ d : Fin 4096, normRows x0 x1 (ix2 r d) * x2 (ix2 d C) := by
  rw [val_main_v13_apply]
  refine Finset.sum_congr rfl fun d _ => congrArg₂ (· * ·) ?_ ?_
  · exact (congrArg (val_main_v12 (F := Ideal) x0 x1) (by funext a; fin_cases a <;> rfl)).trans (norm_at x0 x1 r d)
  · exact congrArg x2 (by funext a; fin_cases a <;> rfl)

/-- The two zero rows and the product. -/
theorem padded (z : Vec Ideal S2x22016 .f32) (u : Vec Ideal S16896x22016 .f32) (R : Fin 16898) (C : Fin 22016) :
    concatenate S16898x22016 0 [⟨S2x22016, z⟩, ⟨S16896x22016, u⟩] concatenates_S2x22016_S16896x22016_S16898x22016_d0 (ix2 R C)
      = if h : R.val < 2 then z (ix2 ⟨R.val, h⟩ C) else u (ix2 ⟨R.val - 2, by omega⟩ C) := by
  pointwise

theorem ext_gate (R : Fin 16898) (C : Fin 11008) : val_main_v15 (F := Ideal) x0 x1 x2 (ix2 R ⟨C.val, by omega⟩)
    = urow (normRows x0 x1) (gateCols x2) C.val (R.val + 6) := by
  unfold val_main_v15
  rw [padded]
  unfold urow
  split
  · next h => rw [dif_neg (by omega), val_main_v14_apply, val_main_cst_2_apply]; simp
  · next h =>
    rw [dif_pos ⟨by omega, by omega, C.isLt⟩, prod_at]
    refine Finset.sum_congr rfl fun d _ => congrArg₂ (· * ·) ?_ rfl
    exact congrArg (fun r : Fin 16896 => normRows x0 x1 (ix2 r d)) (Fin.ext (by show R.val - 2 = R.val + 6 - 8; omega))
theorem ext_val (R : Fin 16898) (C : Fin 11008) : val_main_v15 (F := Ideal) x0 x1 x2 (ix2 R ⟨11008 + C.val, by omega⟩)
    = urow (normRows x0 x1) (valCols x2) C.val (R.val + 6) := by
  unfold val_main_v15
  rw [padded]
  unfold urow
  split
  · next h => rw [dif_neg (by omega), val_main_v14_apply, val_main_cst_2_apply]; simp
  · next h =>
    rw [dif_pos ⟨by omega, by omega, C.isLt⟩, prod_at]
    refine Finset.sum_congr rfl fun d _ => congrArg₂ (· * ·) ?_ rfl
    exact congrArg (fun r : Fin 16896 => normRows x0 x1 (ix2 r d)) (Fin.ext (by show R.val - 2 = R.val + 6 - 8; omega))

theorem tap0 (r : Fin 16896) (C : Fin 22016) : val_main_v20 (F := Ideal) x3 (ix2 r C) = x3 (ix2 0 C) := by
  rw [val_main_v20_apply, val_main_v19_apply, val_main_v18_apply, val_main_v17_apply]
  exact congrArg x3 (by funext a; fin_cases a; exacts [rfl, Fin.ext (Nat.mod_eq_of_lt C.isLt)])
theorem tap1 (r : Fin 16896) (C : Fin 22016) : val_main_v26 (F := Ideal) x3 (ix2 r C) = x3 (ix2 1 C) := by
  rw [val_main_v26_apply, val_main_v25_apply, val_main_v24_apply, val_main_v23_apply]
  exact congrArg x3 (by funext a; fin_cases a; exacts [rfl, Fin.ext (Nat.mod_eq_of_lt C.isLt)])
theorem tap2 (r : Fin 16896) (C : Fin 22016) : val_main_v33 (F := Ideal) x3 (ix2 r C) = x3 (ix2 2 C) := by
  rw [val_main_v33_apply, val_main_v32_apply, val_main_v31_apply, val_main_v30_apply]
  exact congrArg x3 (by funext a; fin_cases a; exacts [rfl, Fin.ext (Nat.mod_eq_of_lt C.isLt)])

theorem conv_sum (r : Fin 16896) (C : Fin 22016) : val_main_v35 (F := Ideal) x0 x1 x2 x3 (ix2 r C)
    = val_main_v15 (F := Ideal) x0 x1 x2 (ix2 ⟨r.val, by omega⟩ C) * x3 (ix2 0 C) + val_main_v15 (F := Ideal) x0 x1 x2 (ix2 ⟨1 + r.val, by omega⟩ C) * x3 (ix2 1 C)
      + val_main_v15 (F := Ideal) x0 x1 x2 (ix2 ⟨2 + r.val, by omega⟩ C) * x3 (ix2 2 C) := by
  rw [val_main_v35_apply, val_main_v28_apply, val_main_v21_apply, val_main_v27_apply, val_main_v34_apply, tap0, tap1, tap2,
    val_main_v16_apply, val_main_v22_apply, val_main_v29_apply]
  refine congrArg₂ (· + ·) (congrArg₂ (· + ·) (congrArg (· * _) ?_) (congrArg (· * _) ?_)) (congrArg (· * _) ?_) <;>
    exact congrArg (val_main_v15 (F := Ideal) x0 x1 x2) (by funext a; fin_cases a <;> rfl)

theorem conv_of (k0 k1 k2 : EReal) (e : ℕ → EReal) (r : ℕ) : e (r + 6) * k0 + e (1 + r + 6) * k1 + e (2 + r + 6) * k2 = conv k0 k1 k2 e (8 + r) := by
  unfold conv
  rw [show 8 + r - 1 = 1 + r + 6 from by omega, show 8 + r - 2 = r + 6 from by omega, show 8 + r = 2 + r + 6 from by omega, add_comm (_ + _) (e (2 + r + 6) * k2),
    add_comm (e (r + 6) * k0), ← add_assoc]

theorem gate_at (r : Fin 16896) (C : Fin 11008) : val_main_v36 (F := Ideal) x0 x1 x2 x3 (ix2 r C)
    = conv (tap (gateTaps x3) 0 C.val) (tap (gateTaps x3) 1 C.val) (tap (gateTaps x3) 2 C.val) (urow (normRows x0 x1) (gateCols x2) C.val) (8 + r.val) := by
  rw [val_main_v36_apply, show idx_main_v36 (ix2 r C) = ix2 r ⟨C.val, by omega⟩ from by funext a; fin_cases a <;> rfl, conv_sum, ext_gate, ext_gate, ext_gate,
    tap_of _ 0 _ C.isLt, tap_of _ 1 _ C.isLt, tap_of _ 2 _ C.isLt]
  exact conv_of _ _ _ _ r.val
theorem val_at (r : Fin 16896) (C : Fin 11008) : val_main_v37 (F := Ideal) x0 x1 x2 x3 (ix2 r C)
    = conv (tap (valTaps x3) 0 C.val) (tap (valTaps x3) 1 C.val) (tap (valTaps x3) 2 C.val) (urow (normRows x0 x1) (valCols x2) C.val) (8 + r.val) := by
  rw [val_main_v37_apply, show idx_main_v37 (ix2 r C) = ix2 r ⟨11008 + C.val, by omega⟩ from by funext a; fin_cases a <;> rfl, conv_sum, ext_val, ext_val, ext_val,
    tap_of _ 0 _ C.isLt, tap_of _ 1 _ C.isLt, tap_of _ 2 _ C.isLt]
  exact conv_of _ _ _ _ r.val

theorem silu_mul (a b : EReal) : a * Ideal.div (Ideal.ofBits .f32 0x3F800000#32) (Ideal.ofBits .f32 0x3F800000#32 + Ideal.exp (-a)) * b = gated a b := by
  unfold gated
  have h : (1 : EReal) + Ideal.exp (-a) ≠ 0 := fun e => by
    have h1 : (1 : EReal) ≤ 1 + Ideal.exp (-a) := le_add_of_nonneg_right (exp_nonneg _)
    rw [e] at h1; exact absurd h1 (by simp)
  rw [Ideal.ofBits_one_f32, Ideal.mul_one_div h, zero_sub]

/-- The reference's activation is `wholeAct`. -/
theorem plain_act : val_main_v40 (F := Ideal) x0 x1 x2 x3 = wholeAct x0 x1 x2 x3 := by
  funext y
  obtain ⟨R, C, rfl⟩ : ∃ (R : Fin 16896) (C : Fin 11008), y = ix2 R C := ⟨⟨(y 0).val, (y 0).isLt⟩, ⟨(y 1).val, (y 1).isLt⟩, by funext a; fin_cases a <;> rfl⟩
  have e : val_main_v40 (F := Ideal) x0 x1 x2 x3 (ix2 R C) = val_main_v36 (F := Ideal) x0 x1 x2 x3 (ix2 R C)
      * Ideal.div (Ideal.ofBits .f32 0x3F800000#32) (Ideal.ofBits .f32 0x3F800000#32 + Ideal.exp (-(val_main_v36 (F := Ideal) x0 x1 x2 x3 (ix2 R C))))
      * val_main_v37 (F := Ideal) x0 x1 x2 x3 (ix2 R C) := by
    rw [val_main_v40_apply, val_main_v39_apply, val_main_v38_apply, val_main_call0_v5_apply, val_main_call0_v4_apply, val_main_call0_v3_apply,
      val_main_call0_v2_apply, val_main_call0_v1_apply, val_main_call0_v0_apply, val_main_call0_cst_apply, val_main_call0_cst_0_apply]
    rfl
  rw [e, silu_mul, gate_at, val_at]
  rfl

/-- The reference's two rows are `wholeRows`. -/
theorem plain_rows : val_main_v42 (F := Ideal) x0 x1 x2 = wholeRows x0 x1 x2 := by
  funext y
  obtain ⟨p, C, rfl⟩ : ∃ (p : Fin 2) (C : Fin 22016), y = ix3 0 p C := ⟨⟨(y 1).val, (y 1).isLt⟩, ⟨(y 2).val, (y 2).isLt⟩, by
    funext a; fin_cases a
    exacts [Fin.ext (by have h : (y 0).val < 1 := (y 0).isLt; show (y 0).val = 0; omega), rfl, rfl]⟩
  rw [val_main_v42_apply, val_main_v41_apply]
  refine (congrArg (val_main_v13 (F := Ideal) x0 x1 x2) (a₂ := ix2 ⟨16398 + p.val, by omega⟩ C) (by funext a; fin_cases a <;> rfl)).trans ?_
  rw [prod_at]
  rfl

end Plain

end Cert.Proof.Up

end
-- ==== Proof.Up.Both.lean ====
/-
  The up-projection's text is the same in the kernel and in its idealization: the run is one run, over any floats.
-/
module

public import proofs.«01_k».proof.Proof.Up.Frame
public import proofs.«01_k».proof.Proof.Gen.Kernel3
public import proofs.«01_k».proof.Defs

@[expose] public section

noncomputable section

namespace Cert.Proof.Up

open Idealize.ShloMosaic Idealize.SL.Sem

variable {F : FTy → Type} [FloatOps F]

set_option maxHeartbeats 2000000 in
theorem bodies_same : Kernel3.defs₀ (F := F) = Kernel3Ideal.defs₀ (F := F) := by
  unfold Kernel3.defs₀ Kernel3Ideal.defs₀
  refine congrArg Defs.onTc ?_
  funext l a
  match l, a with
  | 0, (t, s) => rfl
  | 1, (t, s) => rfl
  | 2, (t, s) => rfl
  | 3, (t, s) => rfl

theorem defs_same : Kernel3.defs (F := F) = Kernel3Ideal.defs (F := F) :=
  congrArg (Pipeline.defs (Kernel3Ideal.pcfgs (F := F))) bodies_same

/-- The kernel's own frame, from the one run. -/
theorem framed : quiescent_Kernel3 := fun m ρ _ => by
  have h := frame (F := Bits) m ρ
  rw [← defs_same] at h
  exact h

end Cert.Proof.Up

end
-- ==== Proof.DownS.Blocks.lean ====
/-
  The sample's down-projection and final norm, over the extended reals: what each of the three calls leaves in its result
  array, from the arrays it is entered with.
-/
module

public import proofs.«01_k».proof.Proof.Gen.Kernel4Ideal.Frame
public import Idealize.ShloMosaic.Lib.Pipeline.ValueKit

@[expose] public section

set_option maxRecDepth 1024

noncomputable section

namespace Cert.Proof.DownS

open Cert.Kernel4Ideal Cert.Kernel4Ideal.Gen
open Idealize.ShloMosaic Idealize.ShloMosaic.TcCoe Idealize.SL.Sem
open Idealize.ShloMosaic.Pipeline (Dat)

/-! ## The arrays -/

/-- The weights as 16 tiles of 256 columns. -/
def tiles (w : Vec Ideal S11008x4096 .f32) : Vec Ideal S16x11008x256 .bf16 := fun y =>
  w (ix2 (y 1) ⟨256 * (y 0).val + (y 2).val, by have h0 : (y 0).val < 16 := (y 0).isLt; have h2 : (y 2).val < 256 := (y 2).isLt; omega⟩)

/-- The product with the tiled weights, added to the residual. -/
def added (a : Vec Ideal S1024x11008 .bf16) (wt : Vec Ideal S16x11008x256 .bf16) (h : Vec Ideal S1024x4096 .f32) :
    Vec Ideal S1024x4096 .f32 := fun y =>
  h y + ∑ k : Fin 11008, a (ix2 (y 0) k) * wt (ix3 ⟨(y 1).val / 256, by have h1 : (y 1).val < 4096 := (y 1).isLt; omega⟩ k
    ⟨(y 1).val % 256, Nat.mod_lt _ (by decide)⟩)

/-- One row of the norm: the entry by the reciprocal root of the row's mean square, by the gain. -/
def rowNorm (x : Fin 4096 → EReal) (g : EReal) (d : Fin 4096) : EReal :=
  x d * Ideal.rsqrt (Ideal.div (∑ k : Fin 4096, x k * x k) (Ideal.ofBits .f32 0x45800000#32) + Ideal.ofBits .f32 0x358637BD#32) * g

/-- The norm, row by row. -/
def normed (x : Vec Ideal S1024x4096 .f32) (g : Vec Ideal S1x4096 .f32) : Vec Ideal S1024x4096 .f32 := fun y =>
  rowNorm (fun d => x (ix2 (y 0) d)) (g (ix2 0 (y 1))) (y 1)

/-! ## The blocks -/

theorem cast_block (x : Vec Ideal S2752x256 .f32) (k : Fin 2752) (n : Fin 256) : out0_1 x (ix3 0 k n) = x (ix2 k n) := by
  frame_out
  pointwise [k0_pay1]

theorem product_block (a : Vec Ideal S512x11008 .bf16) (w : Vec Ideal S1x11008x256 .bf16) (h : Vec Ideal S512x256 .f32)
    (r : Fin 512) (n : Fin 256) :
    out1_3 a w h (ix2 r n) = h (ix2 r n) + ∑ k : Fin 11008, a (ix2 r k) * w (ix3 0 k n) := by
  frame_out
  pointwise [k1_pay1]

theorem norm_block (x : Vec Ideal S256x4096 .f32) (g : Vec Ideal S1x4096 .f32) (r : Fin 256) (d : Fin 4096) :
    out2_2 x g (ix2 r d) = rowNorm (fun k => x (ix2 r k)) (g (ix2 0 d)) d := by
  frame_out
  pointwise [k2_pay1]
  rfl

/-! ## The calls -/

section Calls
variable (V : (c : Dev nD) → (b : Ref sig .tc) → Buf (Elt Ideal) ((c : Thread nD τ).loc b)) (c : Dev nD)

theorem idx0 : ∀ t : Fin cfg0.N, win0_0.index t = ![(grid0.coords t 0).val, (grid0.coords t 1).val]
    ∧ win0_1.index t = ![(grid0.coords t 1).val, (grid0.coords t 0).val, 0] := (by decide +kernel : ∀ t : Fin grid0.N, _)
theorem idx1 : ∀ t : Fin cfg1.N, win1_0.index t = ![(grid1.coords t 0).val, 0]
    ∧ win1_1.index t = ![(grid1.coords t 1).val, 0, 0] ∧ win1_2.index t = ![(grid1.coords t 0).val, (grid1.coords t 1).val]
    ∧ win1_3.index t = ![(grid1.coords t 0).val, (grid1.coords t 1).val] := (by decide +kernel : ∀ t : Fin grid1.N, _)
theorem idx2 : ∀ t : Fin cfg2.N, win2_0.index t = ![(grid2.coords t 0).val, 0]
    ∧ win2_1.index t = ![0, 0] ∧ win2_2.index t = ![(grid2.coords t 0).val, 0] := (by decide +kernel : ∀ t : Fin grid2.N, _)

theorem lt00 (i : grid0.Coords) : (i 0).val < 4 := (i 0).isLt
theorem lt01 (i : grid0.Coords) : (i 1).val < 16 := (i 1).isLt
theorem lt10 (i : grid1.Coords) : (i 0).val < 2 := (i 0).isLt
theorem lt11 (i : grid1.Coords) : (i 1).val < 16 := (i 1).isLt
theorem lt20 (i : grid2.Coords) : (i 0).val < 4 := (i 0).isLt

theorem cast_in (t : Fin cfg0.N) (k : Fin 2752) (n : Fin 256) : iblk0 V c 0 t (ix2 k n)
    = V c main_arg1 (ix2 ⟨2752 * (grid0.coords t 0).val + k.val, by have := lt00 (grid0.coords t); omega⟩
        ⟨256 * (grid0.coords t 1).val + n.val, by have := lt01 (grid0.coords t); omega⟩ : S11008x4096.Idx) := by
  blk_simp [iblk0]
  blk_ext [idx0 t]
theorem cast_out (t : Fin cfg0.N) (k : Fin 2752) (n : Fin 256) : (win0_1.blk t).view.emb (ix3 0 k n)
    = (ix3 ⟨(grid0.coords t 1).val, lt01 (grid0.coords t)⟩ ⟨2752 * (grid0.coords t 0).val + k.val, by have := lt00 (grid0.coords t); omega⟩ n : S16x11008x256.Idx) := by
  blk_ext [idx0 t]

theorem left_tiles : (dat0 V c).arrAt 1 cfg0.N = tiles (V c main_arg1) := by
  refine (dat0 V c).arrAt_eq_of_covers 1 _ (by decide +kernel) fun t _ y => ?_
  blk_simp
  rw [after0_1]
  have hy : ∃ (k : Fin 2752) (n : Fin 256), y = ix3 0 k n :=
    ⟨⟨(y 1).val, (y 1).isLt⟩, ⟨(y 2).val, (y 2).isLt⟩, by
      funext a; fin_cases a
      exacts [Fin.ext (by have h : (y 0).val < 1 := (y 0).isLt; show (y 0).val = 0; omega), rfl, rfl]⟩
  obtain ⟨k, n, rfl⟩ := hy
  refine ((cast_block _ k n).trans (cast_in V c t k n)).trans ?_
  exact (congrArg (tiles (V c main_arg1)) (cast_out t k n)).symm

theorem a_in (t : Fin cfg1.N) (r : Fin 512) (k : Fin 11008) : iblk1 V c 0 t (ix2 r k)
    = V c main_arg0 (ix2 ⟨512 * (grid1.coords t 0).val + r.val, by have := lt10 (grid1.coords t); omega⟩ k : S1024x11008.Idx) := by
  blk_simp [iblk1]
  blk_ext [idx1 t]
theorem w_in (t : Fin cfg1.N) (k : Fin 11008) (n : Fin 256) : iblk1 V c 1 t (ix3 0 k n)
    = V c main_v0 (ix3 ⟨(grid1.coords t 1).val, lt11 (grid1.coords t)⟩ k n : S16x11008x256.Idx) := by
  blk_simp [iblk1]
  blk_ext [idx1 t]
theorem h_in (t : Fin cfg1.N) (r : Fin 512) (n : Fin 256) : iblk1 V c 2 t (ix2 r n)
    = V c main_arg2 (ix2 ⟨512 * (grid1.coords t 0).val + r.val, by have := lt10 (grid1.coords t); omega⟩
        ⟨256 * (grid1.coords t 1).val + n.val, by have := lt11 (grid1.coords t); omega⟩ : S1024x4096.Idx) := by
  blk_simp [iblk1]
  blk_ext [idx1 t]
theorem sum_out (t : Fin cfg1.N) (r : Fin 512) (n : Fin 256) : (win1_3.blk t).view.emb (ix2 r n)
    = (ix2 ⟨512 * (grid1.coords t 0).val + r.val, by have := lt10 (grid1.coords t); omega⟩
        ⟨256 * (grid1.coords t 1).val + n.val, by have := lt11 (grid1.coords t); omega⟩ : S1024x4096.Idx) := by
  blk_ext [idx1 t]

theorem added_at (a : Vec Ideal S1024x11008 .bf16) (wt : Vec Ideal S16x11008x256 .bf16) (h : Vec Ideal S1024x4096 .f32)
    (R : Fin 1024) (j : Fin 16) (n : Fin 256) (C : Fin 4096) (hC : C.val = 256 * j.val + n.val) :
    added a wt h (ix2 R C) = h (ix2 R C) + ∑ k : Fin 11008, a (ix2 R k) * wt (ix3 j k n) := by
  have e1 : (⟨C.val / 256, by omega⟩ : Fin 16) = j := Fin.ext (by show C.val / 256 = _; omega)
  have e2 : (⟨C.val % 256, Nat.mod_lt _ (by decide)⟩ : Fin 256) = n := Fin.ext (by show C.val % 256 = _; omega)
  show _ + ∑ k : Fin 11008, a (ix2 R k) * wt (ix3 ⟨C.val / 256, _⟩ k ⟨C.val % 256, _⟩) = _
  rw [e1, e2]

theorem left_added : (dat1 V c).arrAt 3 cfg1.N = added (V c main_arg0) (V c main_v0) (V c main_arg2) := by
  refine (dat1 V c).arrAt_eq_of_covers 3 _ (by decide +kernel) fun t _ y => ?_
  blk_simp
  rw [after1_3]
  have hy : ∃ (r : Fin 512) (n : Fin 256), y = ix2 r n :=
    ⟨⟨(y 0).val, (y 0).isLt⟩, ⟨(y 1).val, (y 1).isLt⟩, by funext a; fin_cases a <;> rfl⟩
  obtain ⟨r, n, rfl⟩ := hy
  refine (product_block _ _ _ r n).trans ?_
  rw [h_in]
  simp only [a_in, w_in]
  refine Eq.trans ?_ (congrArg (added (V c main_arg0) (V c main_v0) (V c main_arg2)) (sum_out t r n)).symm
  exact (added_at _ _ _ _ ⟨(grid1.coords t 1).val, lt11 (grid1.coords t)⟩ n _ rfl).symm

theorem x_in (t : Fin cfg2.N) (r : Fin 256) (d : Fin 4096) : iblk2 V c 0 t (ix2 r d)
    = V c main_v1 (ix2 ⟨256 * (grid2.coords t 0).val + r.val, by have := lt20 (grid2.coords t); omega⟩ d : S1024x4096.Idx) := by
  blk_simp [iblk2]
  blk_ext [idx2 t]
theorem g_in (t : Fin cfg2.N) (d : Fin 4096) : iblk2 V c 1 t (ix2 0 d) = V c main_v2 (ix2 0 d : S1x4096.Idx) := by
  blk_simp [iblk2]
  blk_ext [idx2 t]
theorem y_out (t : Fin cfg2.N) (r : Fin 256) (d : Fin 4096) : (win2_2.blk t).view.emb (ix2 r d)
    = (ix2 ⟨256 * (grid2.coords t 0).val + r.val, by have := lt20 (grid2.coords t); omega⟩ d : S1024x4096.Idx) := by
  blk_ext [idx2 t]

theorem left_normed : (dat2 V c).arrAt 2 cfg2.N = normed (V c main_v1) (V c main_v2) := by
  refine (dat2 V c).arrAt_eq_of_covers 2 _ (by decide +kernel) fun t _ y => ?_
  blk_simp
  rw [after2_2]
  have hy : ∃ (r : Fin 256) (d : Fin 4096), y = ix2 r d :=
    ⟨⟨(y 0).val, (y 0).isLt⟩, ⟨(y 1).val, (y 1).isLt⟩, by funext a; fin_cases a <;> rfl⟩
  obtain ⟨r, d, rfl⟩ := hy
  refine (norm_block _ _ r d).trans ?_
  rw [g_in]
  simp only [x_in]
  exact (congrArg (normed (V c main_v1) (V c main_v2)) (y_out t r d)).symm

end Calls

end Cert.Proof.DownS
-- ==== Proof.DownS.Run.lean ====
/-
  The sample's down-projection and final norm, run: the three calls one after the other, every buffer at what the last leaves,
  and the result array from the arguments.
-/
module

public import proofs.«01_k».proof.Proof.DownS.Blocks

@[expose] public section

set_option maxRecDepth 1024

noncomputable section

namespace Cert.Proof.DownS

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

set_option backward.isDefEq.respectTransparency.types false in
/-- Every unscoped buffer ends at the last boundary's contents, and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Run

section Result
variable (m : (ℓ : Loc nD τ sig) → Buf (Elt Ideal) ℓ) (ρ : Dev nD → PrngReg)

/-- The result from the arguments. -/
def whole (a : Vec Ideal S1024x11008 .bf16) (w : Vec Ideal S11008x4096 .f32) (h : Vec Ideal S1024x4096 .f32) (g : Vec Ideal S4096 .f32) :
    Vec Ideal S1024x4096 .f32 := fun y =>
  rowNorm (fun d => h (ix2 (y 0) d) + ∑ k : Fin 11008, a (ix2 (y 0) k) * w (ix2 k d)) (g (ix1 (y 1))) (y 1)

theorem gain_row (g : Vec Ideal S4096 .f32) (d : Fin 4096) : shapeCast S1x4096 g shapeCasts_S4096_S1x4096 (ix2 0 d) = g (ix1 d) := by
  pointwise
  blk_ext

theorem tiles_added (a : Vec Ideal S1024x11008 .bf16) (w : Vec Ideal S11008x4096 .f32) (h : Vec Ideal S1024x4096 .f32)
    (R : Fin 1024) (d : Fin 4096) : added a (tiles w) h (ix2 R d) = h (ix2 R d) + ∑ k : Fin 11008, a (ix2 R k) * w (ix2 k d) := by
  rw [added_at a (tiles w) h R ⟨d.val / 256, by omega⟩ ⟨d.val % 256, Nat.mod_lt _ (by decide)⟩ d (by show d.val = 256 * (d.val / 256) + d.val % 256; omega)]
  refine congrArg (_ + ·) (Finset.sum_congr rfl fun k _ => congrArg (_ * ·) ?_)
  exact congrArg (fun C : Fin 4096 => w (ix2 k C)) (Fin.ext (by show 256 * (d.val / 256) + d.val % 256 = d.val; omega))

theorem normed_whole (a : Vec Ideal S1024x11008 .bf16) (w : Vec Ideal S11008x4096 .f32) (h : Vec Ideal S1024x4096 .f32) (g : Vec Ideal S4096 .f32) :
    normed (added a (tiles w) h) (shapeCast S1x4096 g shapeCasts_S4096_S1x4096) = whole a w h g := by
  funext y
  obtain ⟨R, d, rfl⟩ : ∃ (R : Fin 1024) (d : Fin 4096), y = ix2 R d := ⟨⟨(y 0).val, (y 0).isLt⟩, ⟨(y 1).val, (y 1).isLt⟩, by funext a; fin_cases a <;> rfl⟩
  show rowNorm (fun k => added a (tiles w) h (ix2 R k)) (shapeCast S1x4096 g shapeCasts_S4096_S1x4096 (ix2 0 d)) d
    = rowNorm (fun k => h (ix2 R k) + ∑ j : Fin 11008, a (ix2 R j) * w (ix2 j k)) (g (ix1 d)) d
  rw [gain_row]
  simp only [tiles_added]

theorem final (c : Dev nD) : W4 m ρ c (Proc.devRef .tc main_v3) = whole (m (c.tc.loc main_arg0)) (m (c.tc.loc main_arg1))
    (m (c.tc.loc main_arg2)) (m (c.tc.loc main_arg3)) := by
  refine (W4_arr m ρ c 2).trans ((left_normed (V3 m ρ) c).trans ?_)
  have e1 : V3 m ρ c main_v1 = added (m (c.tc.loc main_arg0)) (tiles (m (c.tc.loc main_arg1))) (m (c.tc.loc main_arg2)) := by
    refine (W3_of m ρ c main_v1 (by decide)).trans ((W2_arr m ρ c 3).trans ((left_added (V1 m ρ) c).trans ?_))
    have e : V1 m ρ c main_v0 = tiles (m (c.tc.loc main_arg1)) := (W1_arr m ρ c 1).trans (left_tiles (V0 m ρ) c)
    rw [e]
    exact congrArg₂ (fun x y => added x _ y) (W1_args m ρ c main_arg0 (by decide)) (W1_args m ρ c main_arg2 (by decide))
  have e2 : V3 m ρ c main_v2 = shapeCast S1x4096 (m (c.tc.loc main_arg3) : Vec Ideal S4096 .f32) shapeCasts_S4096_S1x4096 := by
    refine Eq.trans (b := shapeCast S1x4096 (W2 m ρ c (Proc.devRef .tc main_arg3) : Vec Ideal S4096 .f32) shapeCasts_S4096_S1x4096) rfl ?_
    exact congrArg (fun g : Vec Ideal S4096 .f32 => shapeCast S1x4096 g shapeCasts_S4096_S1x4096) (W2_args m ρ c main_arg3 (by decide))
  rw [e1, e2]
  exact normed_whole _ _ _ _

/-- The result array and the arguments, off the last boundary's contents. -/
theorem ends {M : (ℓ : Loc nD τ sig) → Buf (Elt Ideal) ℓ} (h : ∀ c : Dev nD, ∀ b ∈ Pipeline.ucRefs τ sig, M ((c : Thread nD τ).1, b) = W4 m ρ c b) (c : Dev nD) :
    M (c.tc.loc main_v3) = whole (m (c.tc.loc main_arg0)) (m (c.tc.loc main_arg1))
        (m (c.tc.loc main_arg2)) (m (c.tc.loc main_arg3))
      ∧ M (c.tc.loc main_arg0) = m (c.tc.loc main_arg0)
      ∧ M (c.tc.loc main_arg1) = m (c.tc.loc main_arg1)
      ∧ M (c.tc.loc main_arg2) = m (c.tc.loc main_arg2)
      ∧ M (c.tc.loc main_arg3) = m (c.tc.loc main_arg3) :=
  ⟨(h c _ (mem_uc main_v3 (by decide))).trans (final m ρ c),
   (h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c)⟩

end Result

end Cert.Proof.DownS
-- ==== Proof.DownS.Plain.lean ====
/-
  The sample's down-projection and final norm in the reference: the same `whole` of the arguments.
-/
module

public import proofs.«01_k».proof.Proof.DownS.Run
public import proofs.«01_k».proof.Proof.Gen.Reference4Ideal.Read

@[expose] public section

set_option maxRecDepth 1024

noncomputable section

namespace Cert.Proof.DownS

open Cert.Reference4Ideal Cert.Reference4Ideal.Gen Cert.Reference4Ideal.Read
open Idealize.ShloMosaic Idealize.ShloMosaic.TcCoe Idealize.SL.Sem

section Plain
variable (x0 : Vec Ideal S1024x11008 .bf16) (x1 : Vec Ideal S11008x4096 .f32) (x2 : Vec Ideal S1024x4096 .f32) (x3 : Vec Ideal S4096 .f32)
variable (r : Fin 1024) (d : Fin 4096)

theorem sum_at : val_main_v2 (F := Ideal) x0 x1 x2 (ix2 r d) = x2 (ix2 r d) + ∑ k : Fin 11008, x0 (ix2 r k) * x1 (ix2 k d) := by
  rw [val_main_v2_apply, val_main_v1_apply]
  refine congrArg (_ + ·) (Finset.sum_congr rfl fun k _ => congrArg₂ (· * ·) ?_ ?_)
  · rw [val_main_v0_apply]
    exact congrArg x0 (by funext a; fin_cases a <;> rfl)
  · exact congrArg x1 (by funext a; fin_cases a <;> rfl)

/-- The reference's array is `whole`. -/
theorem plain : val_main_v15 (F := Ideal) x0 x1 x2 x3 = whole x0 x1 x2 x3 := by
  funext y
  obtain ⟨r, d, rfl⟩ : ∃ (R : Fin 1024) (C : Fin 4096), y = ix2 R C := ⟨⟨(y 0).val, (y 0).isLt⟩, ⟨(y 1).val, (y 1).isLt⟩, by funext a; fin_cases a <;> rfl⟩
  have zero : val_main_cst (F := Ideal) (Shape.Idx.first h_S_) = 0 := by simp [val_main_cst_apply]
  have e : val_main_v11 (F := Ideal) x0 x1 x2 (ix2 r d) = Ideal.rsqrt (Ideal.div (∑ k : Fin 4096, val_main_v2 (F := Ideal) x0 x1 x2 (ix2 r k)
      * val_main_v2 (F := Ideal) x0 x1 x2 (ix2 r k)) (Ideal.ofBits .f32 0x45800000#32) + Ideal.ofBits .f32 0x358637BD#32) := by
    rw [val_main_v11_apply, val_main_v10_apply, val_main_v9_apply, val_main_v7_apply, val_main_v5_apply, val_main_v4_apply, zero, zero_add]
    have e : idx_main_v5 (idx_main_v11 (ix2 r d)) = ix1 r := by funext a; fin_cases a; rfl
    rw [e]
    have e' : ∀ k, idx_main_v4 (ix1 r) k = ix2 r k := fun k => by funext a; fin_cases a <;> rfl
    simp only [e']
    rfl
  rw [val_main_v15_apply, val_main_v12_apply, e]
  simp only [sum_at]
  show _ = rowNorm (fun k => x2 (ix2 r k) + ∑ j : Fin 11008, x0 (ix2 r j) * x1 (ix2 j k)) (x3 (ix1 d)) d
  unfold rowNorm
  refine congrArg₂ (· * ·) rfl ?_
  rw [val_main_v14_apply, val_main_v13_apply]
  exact congrArg x3 (by funext a; fin_cases a; rfl)

end Plain

end Cert.Proof.DownS
-- ==== Proof.Proj.Casts.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The prompt's projection's casts of the weight's columns and its norm, each set up at any buffer contents `V` it is entered with: its windows'
blocks, what its body leaves, its proof data and its body obligation.
-/

@[expose] public section

set_option maxRecDepth 16384

noncomputable section

namespace Cert.Proof.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: the cast of the query columns. -/
section Region
variable (V : (c : Dev nD) → (b : Ref sig .tc) → Buf (Elt F) ((c : Thread nD τ).loc b))

def blkin0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight's row blocks do not tile its 12296 rows, but no block reached is cut: the buffer holds the block filled over anything. -/
def spare0 : (cfg0.win 0).block.Idx → Elt F (cfg0.win 0).elt := fun _ => Classical.choice inferInstance
def held0 (c : Dev nD) (t : Fin cfg0.N) : (cfg0.win 0).block.Idx → Elt F (cfg0.win 0).elt :=
  (cfg0.win 0).fill (cfg0.grid.coords t) spare0 (blkin0 V c 0 t)
theorem uncut0 : ∀ t : Fin cfg0.N, ∀ a, (cfg0.win 0).xsize (cfg0.grid.coords t) a = (cfg0.win 0).size a := by decide +kernel
theorem moved0 (t : Fin cfg0.N) (j : (cfg0.win 0).block.Idx) : (cfg0.win 0).moved (cfg0.grid.coords t) j = true :=
  ((cfg0.win 0).moved_iff _ j).mpr fun a => by rw [uncut0 t a]; exact (j a).isLt
theorem fill_any0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0 t j), dif_pos (moved0 t j)]
theorem before0_0_of {c : Dev nD} (dat : Dat τ (Elt F) Unit ℕ (UR sig nD τ) ℕ cfg0 c) (hA : dat.A 0 = V c (Pipeline.arrRef spec0 0))
    (hafter : ∀ t, dat.after 0 t = held0 V c t) (t : Fin cfg0.N) (d) : dat.before 0 t d = held0 V c t :=
  (dat.before_in_eq_fetched 0 rfl (fun _ => rfl)
      (fun t t' h => funext fun a => congrArg (fun n => Pipeline.Clip.of n ((cfg0.win 0).size a) (S12296x4096.size a)) (congrFun h a))
      (fun t => by rw [hafter]; unfold held0; rw [Pipeline.Window.cut_fill]; unfold Dat.blockOf blkin0; rw [hA]; try rfl) t d).trans
    (by unfold Dat.fetched held0; rw [fill_any0 t d spare0]; unfold Dat.blockOf blkin0; rw [hA]; try rfl)

abbrev r0_0 : Rect S1024x512 := Rect.unit (s := S1024x512) ![0, 0] S1024x512.size inb_S1024x512_S1024x512_0_0
abbrev r0_1 : Rect S512x1024 := Rect.unit (s := S512x1024) ![0, 0] S512x1024.size inb_S512x1024_S512x1024_0_0

def out0_1 (x0 : Vec F S1024x512 .f32) : Vec F S512x1024 .bf16 :=
  View.canon [⟨r0_1, k0_pay1 (View.ld x0 r0_0)⟩]

set_option maxHeartbeats 1000000 in
theorem triple0 (c : Dev nD) (E : Set ℕ) (i : grid0.Coords) (arg2 : Memref sig .tc .vmem S1024x512 .f32) (harg2 : arg2.IsWhole) (arg3 : Memref sig .tc .vmem S512x1024 .bf16) (harg3 : arg3.IsWhole)
    (x0 : Vec F S1024x512 .f32) (K : PUnit → sProp 𝕄) :
    iprop(owns c.tc arg2 fullShare x0 ∗ (∃ d, owns c.tc arg3 fullShare d)
        ∗ (iprop(owns c.tc arg2 fullShare x0 ∗ owns c.tc arg3 fullShare (out0_1 x0)) -∗ K ⟨⟩))
      ⊢ wp frame (wpE (defs₀ (F := F)) Variants.none c none) E (cc0_cast_cols_t i arg2 harg2 arg3 harg3) K := by
  simp only [cc0_cast_cols_t_eq_skeleton]; unfold cc0_cast_cols_t_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S512x1024.size (by rfl))

def dat0 (c : Dev nD) : Dat τ (Elt F) Unit ℕ (UR sig nD τ) ℕ cfg0 c where
  A w := V c (Pipeline.arrRef spec0 w)
  after w t := match w with
    | ⟨0, _⟩ => held0 V c t
    | ⟨1, _⟩ => out0_1 (held0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = held0 V c t := by dsimp only [dat0]
theorem after0_1 (c : Dev nD) (t : Fin cfg0.N) : (dat0 V c).after 1 t = out0_1 (held0 V c t) := by dsimp only [dat0]

theorem before0_0 (c : Dev nD) (t : Fin cfg0.N) (d) : (dat0 V c).before 0 t d = held0 V c t :=
  before0_0_of V (dat0 V c) (A_eq0 V c 0) (after0_0 V c) t d

theorem defs₀_row0 (t : Fin cfg0.N) :
    defs₀ (F := F) .tc cfg0.body (cfg0.bodyArgs t (cfg0.slots t)) = bodyAt0 t := by
  unfold defs₀; rw [Defs.onTc_tc]

theorem oblig0 (c : Dev nD) : BodyObligation (dat0 (F := F) V c) (defs₀ (F := F)) Variants.none () Set.univ := fun t => by
  rw [bigSep_W0, bigSep_W0, defs₀_row0]
  refine triple_restated (W := wp frame (wpE (defs₀ (F := F)) Variants.none c none) Set.univ (bodyAt0 t)) ?_ rfl .rfl fun _ => .rfl
  unfold bodyAt0
  simp only [before0_0]
  rw [show (dat0 V c).Φ t.succ = (dat0 V c).Φ t.castSucc from rfl,
    after0_0, after0_1]
  iintro ⟨HΦ, Ho, ⟨%d0, H0⟩, ⟨%d1, H1⟩⟩
  iapply (triple0 c Set.univ (grid0.coords t) _ _ _ _ (held0 V c t) _)
  isplitl [H0]; · iexact H0
  isplitl [H1]; · iexists _; iexact H1
  iintro ⟨H0, H1⟩
  iframe HΦ Ho H0
  iexact H1

end Region

/-! Region 1: the cast of the key columns. -/
section Region
variable (V : (c : Dev nD) → (b : Ref sig .tc) → Buf (Elt F) ((c : Thread nD τ).loc b))

def blkin1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight's row blocks do not tile its 12296 rows, but no block reached is cut: the buffer holds the block filled over anything. -/
def spare1 : (cfg1.win 0).block.Idx → Elt F (cfg1.win 0).elt := fun _ => Classical.choice inferInstance
def held1 (c : Dev nD) (t : Fin cfg1.N) : (cfg1.win 0).block.Idx → Elt F (cfg1.win 0).elt :=
  (cfg1.win 0).fill (cfg1.grid.coords t) spare1 (blkin1 V c 0 t)
theorem uncut1 : ∀ t : Fin cfg1.N, ∀ a, (cfg1.win 0).xsize (cfg1.grid.coords t) a = (cfg1.win 0).size a := by decide +kernel
theorem moved1 (t : Fin cfg1.N) (j : (cfg1.win 0).block.Idx) : (cfg1.win 0).moved (cfg1.grid.coords t) j = true :=
  ((cfg1.win 0).moved_iff _ j).mpr fun a => by rw [uncut1 t a]; exact (j a).isLt
theorem fill_any1 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1 t j), dif_pos (moved1 t j)]
theorem before1_0_of {c : Dev nD} (dat : Dat τ (Elt F) Unit ℕ (UR sig nD τ) ℕ cfg1 c) (hA : dat.A 0 = V c (Pipeline.arrRef spec1 0))
    (hafter : ∀ t, dat.after 0 t = held1 V c t) (t : Fin cfg1.N) (d) : dat.before 0 t d = held1 V c t :=
  (dat.before_in_eq_fetched 0 rfl (fun _ => rfl)
      (fun t t' h => funext fun a => congrArg (fun n => Pipeline.Clip.of n ((cfg1.win 0).size a) (S12296x4096.size a)) (congrFun h a))
      (fun t => by rw [hafter]; unfold held1; rw [Pipeline.Window.cut_fill]; unfold Dat.blockOf blkin1; rw [hA]; try rfl) t d).trans
    (by unfold Dat.fetched held1; rw [fill_any1 t d spare1]; unfold Dat.blockOf blkin1; rw [hA]; try rfl)

abbrev r1_0 : Rect S1024x512 := Rect.unit (s := S1024x512) ![0, 0] S1024x512.size inb_S1024x512_S1024x512_0_0
abbrev r1_1 : Rect S512x1024 := Rect.unit (s := S512x1024) ![0, 0] S512x1024.size inb_S512x1024_S512x1024_0_0

def out1_1 (x0 : Vec F S1024x512 .f32) : Vec F S512x1024 .bf16 :=
  View.canon [⟨r1_1, k1_pay1 (View.ld x0 r1_0)⟩]

set_option maxHeartbeats 1000000 in
theorem triple1 (c : Dev nD) (E : Set ℕ) (i : grid1.Coords) (arg2 : Memref sig .tc .vmem S1024x512 .f32) (harg2 : arg2.IsWhole) (arg3 : Memref sig .tc .vmem S512x1024 .bf16) (harg3 : arg3.IsWhole)
    (x0 : Vec F S1024x512 .f32) (K : PUnit → sProp 𝕄) :
    iprop(owns c.tc arg2 fullShare x0 ∗ (∃ d, owns c.tc arg3 fullShare d)
        ∗ (iprop(owns c.tc arg2 fullShare x0 ∗ owns c.tc arg3 fullShare (out1_1 x0)) -∗ K ⟨⟩))
      ⊢ wp frame (wpE (defs₀ (F := F)) Variants.none c none) E (cc1_cast_cols_t i arg2 harg2 arg3 harg3) K := by
  simp only [cc1_cast_cols_t_eq_skeleton]; unfold cc1_cast_cols_t_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S512x1024.size (by rfl))

def dat1 (c : Dev nD) : Dat τ (Elt F) Unit ℕ (UR sig nD τ) ℕ cfg1 c where
  A w := V c (Pipeline.arrRef spec1 w)
  after w t := match w with
    | ⟨0, _⟩ => held1 V c t
    | ⟨1, _⟩ => out1_1 (held1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = held1 V c t := by dsimp only [dat1]
theorem after1_1 (c : Dev nD) (t : Fin cfg1.N) : (dat1 V c).after 1 t = out1_1 (held1 V c t) := by dsimp only [dat1]

theorem before1_0 (c : Dev nD) (t : Fin cfg1.N) (d) : (dat1 V c).before 0 t d = held1 V c t :=
  before1_0_of V (dat1 V c) (A_eq1 V c 0) (after1_0 V c) t d

theorem defs₀_row1 (t : Fin cfg1.N) :
    defs₀ (F := F) .tc cfg1.body (cfg1.bodyArgs t (cfg1.slots t)) = bodyAt1 t := by
  unfold defs₀; rw [Defs.onTc_tc]

theorem oblig1 (c : Dev nD) : BodyObligation (dat1 (F := F) V c) (defs₀ (F := F)) Variants.none () Set.univ := fun t => by
  rw [bigSep_W1, bigSep_W1, defs₀_row1]
  refine triple_restated (W := wp frame (wpE (defs₀ (F := F)) Variants.none c none) Set.univ (bodyAt1 t)) ?_ rfl .rfl fun _ => .rfl
  unfold bodyAt1
  simp only [before1_0]
  rw [show (dat1 V c).Φ t.succ = (dat1 V c).Φ t.castSucc from rfl,
    after1_0, after1_1]
  iintro ⟨HΦ, Ho, ⟨%d0, H0⟩, ⟨%d1, H1⟩⟩
  iapply (triple1 c Set.univ (grid1.coords t) _ _ _ _ (held1 V c t) _)
  isplitl [H0]; · iexact H0
  isplitl [H1]; · iexists _; iexact H1
  iintro ⟨H0, H1⟩
  iframe HΦ Ho H0
  iexact H1

end Region

/-! Region 2: the cast of the value columns. -/
section Region
variable (V : (c : Dev nD) → (b : Ref sig .tc) → Buf (Elt F) ((c : Thread nD τ).loc b))

def blkin2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight's row blocks do not tile its 12296 rows, but no block reached is cut: the buffer holds the block filled over anything. -/
def spare2 : (cfg2.win 0).block.Idx → Elt F (cfg2.win 0).elt := fun _ => Classical.choice inferInstance
def held2 (c : Dev nD) (t : Fin cfg2.N) : (cfg2.win 0).block.Idx → Elt F (cfg2.win 0).elt :=
  (cfg2.win 0).fill (cfg2.grid.coords t) spare2 (blkin2 V c 0 t)
theorem uncut2 : ∀ t : Fin cfg2.N, ∀ a, (cfg2.win 0).xsize (cfg2.grid.coords t) a = (cfg2.win 0).size a := by decide +kernel
theorem moved2 (t : Fin cfg2.N) (j : (cfg2.win 0).block.Idx) : (cfg2.win 0).moved (cfg2.grid.coords t) j = true :=
  ((cfg2.win 0).moved_iff _ j).mpr fun a => by rw [uncut2 t a]; exact (j a).isLt
theorem fill_any2 (t : Fin cfg2.N) (d d' : (cfg2.win 0).block.Idx → Elt F (cfg2.win 0).elt) (g) :
    (cfg2.win 0).fill (cfg2.grid.coords t) d g = (cfg2.win 0).fill (cfg2.grid.coords t) d' g := by
  funext j; unfold Pipeline.Window.fill; rw [dif_pos (moved2 t j), dif_pos (moved2 t j)]
theorem before2_0_of {c : Dev nD} (dat : Dat τ (Elt F) Unit ℕ (UR sig nD τ) ℕ cfg2 c) (hA : dat.A 0 = V c (Pipeline.arrRef spec2 0))
    (hafter : ∀ t, dat.after 0 t = held2 V c t) (t : Fin cfg2.N) (d) : dat.before 0 t d = held2 V c t :=
  (dat.before_in_eq_fetched 0 rfl (fun _ => rfl)
      (fun t t' h => funext fun a => congrArg (fun n => Pipeline.Clip.of n ((cfg2.win 0).size a) (S12296x4096.size a)) (congrFun h a))
      (fun t => by rw [hafter]; unfold held2; rw [Pipeline.Window.cut_fill]; unfold Dat.blockOf blkin2; rw [hA]; try rfl) t d).trans
    (by unfold Dat.fetched held2; rw [fill_any2 t d spare2]; unfold Dat.blockOf blkin2; rw [hA]; try rfl)

abbrev r2_0 : Rect S1024x512 := Rect.unit (s := S1024x512) ![0, 0] S1024x512.size inb_S1024x512_S1024x512_0_0
abbrev r2_1 : Rect S512x1024 := Rect.unit (s := S512x1024) ![0, 0] S512x1024.size inb_S512x1024_S512x1024_0_0

def out2_1 (x0 : Vec F S1024x512 .f32) : Vec F S512x1024 .bf16 :=
  View.canon [⟨r2_1, k2_pay1 (View.ld x0 r2_0)⟩]

set_option maxHeartbeats 1000000 in
theorem triple2 (c : Dev nD) (E : Set ℕ) (i : grid2.Coords) (arg2 : Memref sig .tc .vmem S1024x512 .f32) (harg2 : arg2.IsWhole) (arg3 : Memref sig .tc .vmem S512x1024 .bf16) (harg3 : arg3.IsWhole)
    (x0 : Vec F S1024x512 .f32) (K : PUnit → sProp 𝕄) :
    iprop(owns c.tc arg2 fullShare x0 ∗ (∃ d, owns c.tc arg3 fullShare d)
        ∗ (iprop(owns c.tc arg2 fullShare x0 ∗ owns c.tc arg3 fullShare (out2_1 x0)) -∗ K ⟨⟩))
      ⊢ wp frame (wpE (defs₀ (F := F)) Variants.none c none) E (cc2_cast_cols_t i arg2 harg2 arg3 harg3) K := by
  simp only [cc2_cast_cols_t_eq_skeleton]; unfold cc2_cast_cols_t_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S512x1024.size (by rfl))

def dat2 (c : Dev nD) : Dat τ (Elt F) Unit ℕ (UR sig nD τ) ℕ cfg2 c where
  A w := V c (Pipeline.arrRef spec2 w)
  after w t := match w with
    | ⟨0, _⟩ => held2 V c t
    | ⟨1, _⟩ => out2_1 (held2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = held2 V c t := by dsimp only [dat2]
theorem after2_1 (c : Dev nD) (t : Fin cfg2.N) : (dat2 V c).after 1 t = out2_1 (held2 V c t) := by dsimp only [dat2]

theorem before2_0 (c : Dev nD) (t : Fin cfg2.N) (d) : (dat2 V c).before 0 t d = held2 V c t :=
  before2_0_of V (dat2 V c) (A_eq2 V c 0) (after2_0 V c) t d

theorem defs₀_row2 (t : Fin cfg2.N) :
    defs₀ (F := F) .tc cfg2.body (cfg2.bodyArgs t (cfg2.slots t)) = bodyAt2 t := by
  unfold defs₀; rw [Defs.onTc_tc]

theorem oblig2 (c : Dev nD) : BodyObligation (dat2 (F := F) V c) (defs₀ (F := F)) Variants.none () Set.univ := fun t => by
  rw [bigSep_W2, bigSep_W2, defs₀_row2]
  refine triple_restated (W := wp frame (wpE (defs₀ (F := F)) Variants.none c none) Set.univ (bodyAt2 t)) ?_ rfl .rfl fun _ => .rfl
  unfold bodyAt2
  simp only [before2_0]
  rw [show (dat2 V c).Φ t.succ = (dat2 V c).Φ t.castSucc from rfl,
    after2_0, after2_1]
  iintro ⟨HΦ, Ho, ⟨%d0, H0⟩, ⟨%d1, H1⟩⟩
  iapply (triple2 c Set.univ (grid2.coords t) _ _ _ _ (held2 V c t) _)
  isplitl [H0]; · iexact H0
  isplitl [H1]; · iexists _; iexact H1
  iintro ⟨H0, H1⟩
  iframe HΦ Ho H0
  iexact H1

end Region

/-! Region 3: the cast of the long-memory columns. -/
section Region
variable (V : (c : Dev nD) → (b : Ref sig .tc) → Buf (Elt F) ((c : Thread nD τ).loc b))

def blkin3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The weight's row blocks do not tile its 12296 rows, but no block reached is cut: the buffer holds the block filled over anything. -/
def spare3 : (cfg3.win 0).block.Idx → Elt F (cfg3.win 0).elt := fun _ => Classical.choice inferInstance
def held3 (c : Dev nD) (t : Fin cfg3.N) : (cfg3.win 0).block.Idx → Elt F (cfg3.win 0).elt :=
  (cfg3.win 0).fill (cfg3.grid.coords t) spare3 (blkin3 V c 0 t)
theorem uncut3 : ∀ t : Fin cfg3.N, ∀ a, (cfg3.win 0).xsize (cfg3.grid.coords t) a = (cfg3.win 0).size a := by decide +kernel
theorem moved3 (t : Fin cfg3.N) (j : (cfg3.win 0).block.Idx) : (cfg3.win 0).moved (cfg3.grid.coords t) j = true :=
  ((cfg3.win 0).moved_iff _ j).mpr fun a => by rw [uncut3 t a]; exact (j a).isLt
theorem fill_any3 (t : Fin cfg3.N) (d d' : (cfg3.win 0).block.Idx → Elt F (cfg3.win 0).elt) (g) :
    (cfg3.win 0).fill (cfg3.grid.coords t) d g = (cfg3.win 0).fill (cfg3.grid.coords t) d' g := by
  funext j; unfold Pipeline.Window.fill; rw [dif_pos (moved3 t j), dif_pos (moved3 t j)]
theorem before3_0_of {c : Dev nD} (dat : Dat τ (Elt F) Unit ℕ (UR sig nD τ) ℕ cfg3 c) (hA : dat.A 0 = V c (Pipeline.arrRef spec3 0))
    (hafter : ∀ t, dat.after 0 t = held3 V c t) (t : Fin cfg3.N) (d) : dat.before 0 t d = held3 V c t :=
  (dat.before_in_eq_fetched 0 rfl (fun _ => rfl)
      (fun t t' h => funext fun a => congrArg (fun n => Pipeline.Clip.of n ((cfg3.win 0).size a) (S12296x4096.size a)) (congrFun h a))
      (fun t => by rw [hafter]; unfold held3; rw [Pipeline.Window.cut_fill]; unfold Dat.blockOf blkin3; rw [hA]; try rfl) t d).trans
    (by unfold Dat.fetched held3; rw [fill_any3 t d spare3]; unfold Dat.blockOf blkin3; rw [hA]; try rfl)

abbrev r3_0 : Rect S1024x512 := Rect.unit (s := S1024x512) ![0, 0] S1024x512.size inb_S1024x512_S1024x512_0_0
abbrev r3_1 : Rect S512x1024 := Rect.unit (s := S512x1024) ![0, 0] S512x1024.size inb_S512x1024_S512x1024_0_0

def out3_1 (x0 : Vec F S1024x512 .f32) : Vec F S512x1024 .bf16 :=
  View.canon [⟨r3_1, k3_pay1 (View.ld x0 r3_0)⟩]

set_option maxHeartbeats 1000000 in
theorem triple3 (c : Dev nD) (E : Set ℕ) (i : grid3.Coords) (arg2 : Memref sig .tc .vmem S1024x512 .f32) (harg2 : arg2.IsWhole) (arg3 : Memref sig .tc .vmem S512x1024 .bf16) (harg3 : arg3.IsWhole)
    (x0 : Vec F S1024x512 .f32) (K : PUnit → sProp 𝕄) :
    iprop(owns c.tc arg2 fullShare x0 ∗ (∃ d, owns c.tc arg3 fullShare d)
        ∗ (iprop(owns c.tc arg2 fullShare x0 ∗ owns c.tc arg3 fullShare (out3_1 x0)) -∗ K ⟨⟩))
      ⊢ wp frame (wpE (defs₀ (F := F)) Variants.none c none) E (cc3_cast_cols_t i arg2 harg2 arg3 harg3) K := by
  simp only [cc3_cast_cols_t_eq_skeleton]; unfold cc3_cast_cols_t_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S512x1024.size (by rfl))

def dat3 (c : Dev nD) : Dat τ (Elt F) Unit ℕ (UR sig nD τ) ℕ cfg3 c where
  A w := V c (Pipeline.arrRef spec3 w)
  after w t := match w with
    | ⟨0, _⟩ => held3 V c t
    | ⟨1, _⟩ => out3_1 (held3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = held3 V c t := by dsimp only [dat3]
theorem after3_1 (c : Dev nD) (t : Fin cfg3.N) : (dat3 V c).after 1 t = out3_1 (held3 V c t) := by dsimp only [dat3]

theorem before3_0 (c : Dev nD) (t : Fin cfg3.N) (d) : (dat3 V c).before 0 t d = held3 V c t :=
  before3_0_of V (dat3 V c) (A_eq3 V c 0) (after3_0 V c) t d

theorem defs₀_row3 (t : Fin cfg3.N) :
    defs₀ (F := F) .tc cfg3.body (cfg3.bodyArgs t (cfg3.slots t)) = bodyAt3 t := by
  unfold defs₀; rw [Defs.onTc_tc]

theorem oblig3 (c : Dev nD) : BodyObligation (dat3 (F := F) V c) (defs₀ (F := F)) Variants.none () Set.univ := fun t => by
  rw [bigSep_W3, bigSep_W3, defs₀_row3]
  refine triple_restated (W := wp frame (wpE (defs₀ (F := F)) Variants.none c none) Set.univ (bodyAt3 t)) ?_ rfl .rfl fun _ => .rfl
  unfold bodyAt3
  simp only [before3_0]
  rw [show (dat3 V c).Φ t.succ = (dat3 V c).Φ t.castSucc from rfl,
    after3_0, after3_1]
  iintro ⟨HΦ, Ho, ⟨%d0, H0⟩, ⟨%d1, H1⟩⟩
  iapply (triple3 c Set.univ (grid3.coords t) _ _ _ _ (held3 V c t) _)
  isplitl [H0]; · iexact H0
  isplitl [H1]; · iexists _; iexact H1
  iintro ⟨H0, H1⟩
  iframe HΦ Ho H0
  iexact H1

end Region

/-! Region 4: the norm. -/
section Region
variable (V : (c : Dev nD) → (b : Ref sig .tc) → Buf (Elt F) ((c : Thread nD τ).loc b))

def blkin4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S16x4096 := Rect.unit (s := S16x4096) ![0, 0] S16x4096.size inb_S16x4096_S16x4096_0_0
abbrev r4_1 : Rect S256x4096 := Rect.unit (s := S256x4096) ![0, 0] S240x4096.size inb_S256x4096_S240x4096_0_0
abbrev r4_2 : Rect S1x4096 := Rect.unit (s := S1x4096) ![0, 0] S1x4096.size inb_S1x4096_S1x4096_0_0
abbrev r4_3 : Rect S256x4096 := Rect.unit (s := S256x4096) ![0, 0] S256x4096.size inb_S256x4096_S256x4096_0_0

def out4_4 (i : grid4.Coords) (x0 : Vec F S256x4096 .f32) (x1 : Vec F S16x4096 .f32) (x2 : Vec F S16x4096 .f32) (x3 : Vec F S1x4096 .f32) : Vec F S256x4096 .bf16 :=
  View.canon [⟨r4_3, k4_pay1 i (View.ld x2 r4_0) (View.ld x1 r4_0) (View.ld x0 r4_1) (View.ld x3 r4_2)⟩]

set_option maxHeartbeats 1000000 in
theorem triple4 (c : Dev nD) (E : Set ℕ) (i : grid4.Coords) (arg1 : Memref sig .tc .vmem S256x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S1x4096 .f32) (harg4 : arg4.IsWhole) (arg5 : Memref sig .tc .vmem S256x4096 .bf16) (harg5 : arg5.IsWhole)
    (x0 : Vec F S256x4096 .f32) (x1 : Vec F S16x4096 .f32) (x2 : Vec F S16x4096 .f32) (x3 : Vec F S1x4096 .f32) (K : PUnit → sProp 𝕄) :
    iprop(owns c.tc arg1 fullShare x0 ∗ owns c.tc arg2 fullShare x1 ∗ owns c.tc arg3 fullShare x2 ∗ owns c.tc arg4 fullShare x3 ∗ (∃ d, owns c.tc arg5 fullShare d)
        ∗ (iprop(owns c.tc arg1 fullShare x0 ∗ owns c.tc arg2 fullShare x1 ∗ owns c.tc arg3 fullShare x2 ∗ owns c.tc arg4 fullShare x3 ∗ owns c.tc arg5 fullShare (out4_4 i x0 x1 x2 x3)) -∗ K ⟨⟩))
      ⊢ wp frame (wpE (defs₀ (F := F)) Variants.none c none) E (cc4_rmsnorm_prompt i arg1 harg1 arg2 harg2 arg3 harg3 arg4 harg4 arg5 harg5) K := by
  simp only [cc4_rmsnorm_prompt_eq_skeleton]; unfold cc4_rmsnorm_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; isplitr
  swap; · iexact H4
  ipureintro
  exact View.read_writes_eq_canon _ _ _ (View.cover_of_tiled _ S256x4096.size (by rfl))

def dat4 (c : Dev nD) : Dat τ (Elt F) Unit ℕ (UR sig nD τ) ℕ cfg4 c where
  A w := V c (Pipeline.arrRef spec4 w)
  after w t := match w with
    | ⟨0, _⟩ => blkin4 V c 0 t
    | ⟨1, _⟩ => blkin4 V c 1 t
    | ⟨2, _⟩ => blkin4 V c 2 t
    | ⟨3, _⟩ => blkin4 V c 3 t
    | ⟨4, _⟩ => out4_4 (grid4.coords t) (blkin4 V c 0 t) (blkin4 V c 1 t) (blkin4 V c 2 t) (blkin4 V c 3 t)
  Φ _ := Pipeline.ΦA spec4 c
  q w := Pipeline.shareOf spec4 w
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blkin4 V c 0 t := by dsimp only [dat4]
theorem after4_1 (c : Dev nD) (t : Fin cfg4.N) : (dat4 V c).after 1 t = blkin4 V c 1 t := by dsimp only [dat4]
theorem after4_2 (c : Dev nD) (t : Fin cfg4.N) : (dat4 V c).after 2 t = blkin4 V c 2 t := by dsimp only [dat4]
theorem after4_3 (c : Dev nD) (t : Fin cfg4.N) : (dat4 V c).after 3 t = blkin4 V c 3 t := by dsimp only [dat4]
theorem after4_4 (c : Dev nD) (t : Fin cfg4.N) : (dat4 V c).after 4 t = out4_4 (grid4.coords t) (blkin4 V c 0 t) (blkin4 V c 1 t) (blkin4 V c 2 t) (blkin4 V c 3 t) := by dsimp only [dat4]

theorem before4_0 (c : Dev nD) (t : Fin cfg4.N) (d) : (dat4 V c).before 0 t d = blkin4 V c 0 t :=
  ((dat4 V c).before_in_eq_fetched 0 rfl (fun _ => rfl) (fun _ _ _ => rfl) (fun t => by rw [after4_0]; unfold Dat.blockOf blkin4; rw [A_eq4]) t d).trans
    (by unfold Dat.fetched Dat.blockOf blkin4; rw [A_eq4]; rfl)
theorem before4_1 (c : Dev nD) (t : Fin cfg4.N) (d) : (dat4 V c).before 1 t d = blkin4 V c 1 t :=
  ((dat4 V c).before_in_eq_fetched 1 rfl (fun _ => rfl) (fun _ _ _ => rfl) (fun t => by rw [after4_1]; unfold Dat.blockOf blkin4; rw [A_eq4]) t d).trans
    (by unfold Dat.fetched Dat.blockOf blkin4; rw [A_eq4]; rfl)
theorem before4_2 (c : Dev nD) (t : Fin cfg4.N) (d) : (dat4 V c).before 2 t d = blkin4 V c 2 t :=
  ((dat4 V c).before_in_eq_fetched 2 rfl (fun _ => rfl) (fun _ _ _ => rfl) (fun t => by rw [after4_2]; unfold Dat.blockOf blkin4; rw [A_eq4]) t d).trans
    (by unfold Dat.fetched Dat.blockOf blkin4; rw [A_eq4]; rfl)
theorem before4_3 (c : Dev nD) (t : Fin cfg4.N) (d) : (dat4 V c).before 3 t d = blkin4 V c 3 t :=
  ((dat4 V c).before_in_eq_fetched 3 rfl (fun _ => rfl) (fun _ _ _ => rfl) (fun t => by rw [after4_3]; unfold Dat.blockOf blkin4; rw [A_eq4]) t d).trans
    (by unfold Dat.fetched Dat.blockOf blkin4; rw [A_eq4]; rfl)

theorem defs₀_row4 (t : Fin cfg4.N) :
    defs₀ (F := F) .tc cfg4.body (cfg4.bodyArgs t (cfg4.slots t)) = bodyAt4 t := by
  unfold defs₀; rw [Defs.onTc_tc]

theorem oblig4 (c : Dev nD) : BodyObligation (dat4 (F := F) V c) (defs₀ (F := F)) Variants.none () Set.univ := fun t => by
  rw [bigSep_W4, bigSep_W4, defs₀_row4]
  refine triple_restated (W := wp frame (wpE (defs₀ (F := F)) Variants.none c none) Set.univ (bodyAt4 t)) ?_ rfl .rfl fun _ => .rfl
  unfold bodyAt4
  simp only [before4_0, before4_1, before4_2, before4_3]
  rw [show (dat4 V c).Φ t.succ = (dat4 V c).Φ t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (triple4 c Set.univ (grid4.coords t) _ _ _ _ _ _ _ _ _ _ (blkin4 V c 0 t) (blkin4 V c 1 t) (blkin4 V c 2 t) (blkin4 V c 3 t) _)
  iframe H0 H1 H2 H3
  isplitl [H4]; · iexists _; iexact H4
  iintro ⟨H0, H1, H2, H3, H4⟩
  iframe HΦ Ho H0 H1 H2 H3
  iexact H4

end Region

end Cert.Proof.Proj

end
-- ==== Proof.Proj.Products.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The prompt's projection's products, each set up at any buffer contents `V` it is entered with: its windows'
blocks, what its body leaves, its proof data and its body obligation.
-/

@[expose] public section

set_option maxRecDepth 16384

noncomputable section

namespace Cert.Proof.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 5: the queries. -/
section Region
variable (V : (c : Dev nD) → (b : Ref sig .tc) → Buf (Elt F) ((c : Thread nD τ).loc b))

def blkin5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1536x4096 := Rect.unit (s := S1536x4096) ![0, 0] S1536x4096.size inb_S1536x4096_S1536x4096_0_0
abbrev r5_1 : Rect S4096x512 := Rect.unit (s := S4096x512) ![0, 0] S4096x512.size inb_S4096x512_S4096x512_0_0
abbrev r5_2 : Rect S1536x512 := Rect.unit (s := S1536x512) ![0, 0] S1536x512.size inb_S1536x512_S1536x512_0_0

def out5_2 (x0 : Vec F S1536x4096 .bf16) (x1 : Vec F S4096x512 .bf16) : Vec F S1536x512 .bf16 :=
  View.canon [⟨r5_2, k5_pay1 (View.ld x0 r5_0) (View.ld x1 r5_1)⟩]

set_option maxHeartbeats 1000000 in
theorem triple5 (c : Dev nD) (E : Set ℕ) (i : grid5.Coords) (arg2 : Memref sig .tc .vmem S1536x4096 .bf16) (harg2 : arg2.IsWhole) (arg3 : Memref sig .tc .vmem S4096x512 .bf16) (harg3 : arg3.IsWhole) (arg4 : Memref sig .tc .vmem S1536x512 .bf16) (harg4 : arg4.IsWhole)
    (x0 : Vec F S1536x4096 .bf16) (x1 : Vec F S4096x512 .bf16) (K : PUnit → sProp 𝕄) :
    iprop(owns c.tc arg2 fullShare x0 ∗ owns c.tc arg3 fullShare x1 ∗ (∃ d, owns c.tc arg4 fullShare d)
        ∗ (iprop(owns c.tc arg2 fullShare x0 ∗ owns c.tc arg3 fullShare x1 ∗ owns c.tc arg4 fullShare (out5_2 x0 x1)) -∗ K ⟨⟩))
      ⊢ wp frame (wpE (defs₀ (F := F)) Variants.none c none) E (cc5_q_proj i arg2 harg2 arg3 harg3 arg4 harg4) K := by
  simp only [cc5_q_proj_eq_skeleton]; unfold cc5_q_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S1536x512.size (by rfl))

def dat5 (c : Dev nD) : Dat τ (Elt F) Unit ℕ (UR sig nD τ) ℕ cfg5 c where
  A w := V c (Pipeline.arrRef spec5 w)
  after w t := match w with
    | ⟨0, _⟩ => blkin5 V c 0 t
    | ⟨1, _⟩ => blkin5 V c 1 t
    | ⟨2, _⟩ => out5_2 (blkin5 V c 0 t) (blkin5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = blkin5 V c 0 t := by dsimp only [dat5]
theorem after5_1 (c : Dev nD) (t : Fin cfg5.N) : (dat5 V c).after 1 t = blkin5 V c 1 t := by dsimp only [dat5]
theorem after5_2 (c : Dev nD) (t : Fin cfg5.N) : (dat5 V c).after 2 t = out5_2 (blkin5 V c 0 t) (blkin5 V c 1 t) := by dsimp only [dat5]

theorem before5_0 (c : Dev nD) (t : Fin cfg5.N) (d) : (dat5 V c).before 0 t d = blkin5 V c 0 t :=
  ((dat5 V c).before_in_eq_fetched 0 rfl (fun _ => rfl) (fun _ _ _ => rfl) (fun t => by rw [after5_0]; unfold Dat.blockOf blkin5; rw [A_eq5]) t d).trans
    (by unfold Dat.fetched Dat.blockOf blkin5; rw [A_eq5]; rfl)
theorem before5_1 (c : Dev nD) (t : Fin cfg5.N) (d) : (dat5 V c).before 1 t d = blkin5 V c 1 t :=
  ((dat5 V c).before_in_eq_fetched 1 rfl (fun _ => rfl) (fun _ _ _ => rfl) (fun t => by rw [after5_1]; unfold Dat.blockOf blkin5; rw [A_eq5]) t d).trans
    (by unfold Dat.fetched Dat.blockOf blkin5; rw [A_eq5]; rfl)

theorem defs₀_row5 (t : Fin cfg5.N) :
    defs₀ (F := F) .tc cfg5.body (cfg5.bodyArgs t (cfg5.slots t)) = bodyAt5 t := by
  unfold defs₀; rw [Defs.onTc_tc]

theorem oblig5 (c : Dev nD) : BodyObligation (dat5 (F := F) V c) (defs₀ (F := F)) Variants.none () Set.univ := fun t => by
  rw [bigSep_W5, bigSep_W5, defs₀_row5]
  refine triple_restated (W := wp frame (wpE (defs₀ (F := F)) Variants.none c none) Set.univ (bodyAt5 t)) ?_ rfl .rfl fun _ => .rfl
  unfold bodyAt5
  simp only [before5_0, before5_1]
  rw [show (dat5 V c).Φ t.succ = (dat5 V c).Φ t.castSucc from rfl,
    after5_0, after5_1, after5_2]
  iintro ⟨HΦ, Ho, ⟨%d0, H0⟩, ⟨%d1, H1⟩, ⟨%d2, H2⟩⟩
  iapply (triple5 c Set.univ (grid5.coords t) _ _ _ _ _ _ (blkin5 V c 0 t) (blkin5 V c 1 t) _)
  iframe H0 H1
  isplitl [H2]; · iexists _; iexact H2
  iintro ⟨H0, H1, H2⟩
  iframe HΦ Ho H0 H1
  iexact H2

end Region

/-! Region 6: the keys. -/
section Region
variable (V : (c : Dev nD) → (b : Ref sig .tc) → Buf (Elt F) ((c : Thread nD τ).loc b))

def blkin6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1536x4096 := Rect.unit (s := S1536x4096) ![0, 0] S1536x4096.size inb_S1536x4096_S1536x4096_0_0
abbrev r6_1 : Rect S4096x512 := Rect.unit (s := S4096x512) ![0, 0] S4096x512.size inb_S4096x512_S4096x512_0_0
abbrev r6_2 : Rect S1536x512 := Rect.unit (s := S1536x512) ![0, 0] S1536x512.size inb_S1536x512_S1536x512_0_0

def out6_2 (x0 : Vec F S1536x4096 .bf16) (x1 : Vec F S4096x512 .bf16) : Vec F S1536x512 .f32 :=
  View.canon [⟨r6_2, k6_pay1 (View.ld x0 r6_0) (View.ld x1 r6_1)⟩]

def out6_3 (x0 : Vec F S1536x4096 .bf16) (x1 : Vec F S4096x512 .bf16) : Vec F S1536x512 .bf16 :=
  View.canon [⟨r6_2, k6_pay2 (View.ld x0 r6_0) (View.ld x1 r6_1)⟩]

set_option maxHeartbeats 1000000 in
theorem triple6 (c : Dev nD) (E : Set ℕ) (i : grid6.Coords) (arg2 : Memref sig .tc .vmem S1536x4096 .bf16) (harg2 : arg2.IsWhole) (arg3 : Memref sig .tc .vmem S4096x512 .bf16) (harg3 : arg3.IsWhole) (arg4 : Memref sig .tc .vmem S1536x512 .f32) (harg4 : arg4.IsWhole) (arg5 : Memref sig .tc .vmem S1536x512 .bf16) (harg5 : arg5.IsWhole)
    (x0 : Vec F S1536x4096 .bf16) (x1 : Vec F S4096x512 .bf16) (K : PUnit → sProp 𝕄) :
    iprop(owns c.tc arg2 fullShare x0 ∗ owns c.tc arg3 fullShare x1 ∗ (∃ d, owns c.tc arg4 fullShare d) ∗ (∃ d, owns c.tc arg5 fullShare d)
        ∗ (iprop(owns c.tc arg2 fullShare x0 ∗ owns c.tc arg3 fullShare x1 ∗ owns c.tc arg4 fullShare (out6_2 x0 x1) ∗ owns c.tc arg5 fullShare (out6_3 x0 x1)) -∗ K ⟨⟩))
      ⊢ wp frame (wpE (defs₀ (F := F)) Variants.none c none) E (cc6_k_proj i arg2 harg2 arg3 harg3 arg4 harg4 arg5 harg5) K := by
  simp only [cc6_k_proj_eq_skeleton]; unfold cc6_k_proj_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]; · iexists f0; iframe H0; ipureintro; rfl
  isplitl [H1]; · iexists f1; iframe H1; ipureintro; rfl
  isplitl [H2]
  · iexists _; isplitr
    swap; · iexact H2
    ipureintro
    exact View.read_writes_eq_canon _ _ _ (View.cover_of_tiled _ S1536x512.size (by rfl))
  iexists _; isplitr
  swap; · iexact H3
  ipureintro
  exact View.read_writes_eq_canon _ _ _ (View.cover_of_tiled _ S1536x512.size (by rfl))

def dat6 (c : Dev nD) : Dat τ (Elt F) Unit ℕ (UR sig nD τ) ℕ cfg6 c where
  A w := V c (Pipeline.arrRef spec6 w)
  after w t := match w with
    | ⟨0, _⟩ => blkin6 V c 0 t
    | ⟨1, _⟩ => blkin6 V c 1 t
    | ⟨2, _⟩ => out6_2 (blkin6 V c 0 t) (blkin6 V c 1 t)
    | ⟨3, _⟩ => out6_3 (blkin6 V c 0 t) (blkin6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = blkin6 V c 0 t := by dsimp only [dat6]
theorem after6_1 (c : Dev nD) (t : Fin cfg6.N) : (dat6 V c).after 1 t = blkin6 V c 1 t := by dsimp only [dat6]
theorem after6_2 (c : Dev nD) (t : Fin cfg6.N) : (dat6 V c).after 2 t = out6_2 (blkin6 V c 0 t) (blkin6 V c 1 t) := by dsimp only [dat6]
theorem after6_3 (c : Dev nD) (t : Fin cfg6.N) : (dat6 V c).after 3 t = out6_3 (blkin6 V c 0 t) (blkin6 V c 1 t) := by dsimp only [dat6]

theorem before6_0 (c : Dev nD) (t : Fin cfg6.N) (d) : (dat6 V c).before 0 t d = blkin6 V c 0 t :=
  ((dat6 V c).before_in_eq_fetched 0 rfl (fun _ => rfl) (fun _ _ _ => rfl) (fun t => by rw [after6_0]; unfold Dat.blockOf blkin6; rw [A_eq6]) t d).trans
    (by unfold Dat.fetched Dat.blockOf blkin6; rw [A_eq6]; rfl)
theorem before6_1 (c : Dev nD) (t : Fin cfg6.N) (d) : (dat6 V c).before 1 t d = blkin6 V c 1 t :=
  ((dat6 V c).before_in_eq_fetched 1 rfl (fun _ => rfl) (fun _ _ _ => rfl) (fun t => by rw [after6_1]; unfold Dat.blockOf blkin6; rw [A_eq6]) t d).trans
    (by unfold Dat.fetched Dat.blockOf blkin6; rw [A_eq6]; rfl)

theorem defs₀_row6 (t : Fin cfg6.N) :
    defs₀ (F := F) .tc cfg6.body (cfg6.bodyArgs t (cfg6.slots t)) = bodyAt6 t := by
  unfold defs₀; rw [Defs.onTc_tc]

theorem oblig6 (c : Dev nD) : BodyObligation (dat6 (F := F) V c) (defs₀ (F := F)) Variants.none () Set.univ := fun t => by
  rw [bigSep_W6, bigSep_W6, defs₀_row6]
  refine triple_restated (W := wp frame (wpE (defs₀ (F := F)) Variants.none c none) Set.univ (bodyAt6 t)) ?_ rfl .rfl fun _ => .rfl
  unfold bodyAt6
  simp only [before6_0, before6_1]
  rw [show (dat6 V c).Φ t.succ = (dat6 V c).Φ t.castSucc from rfl,
    after6_0, after6_1, after6_2, after6_3]
  iintro ⟨HΦ, Ho, ⟨%d0, H0⟩, ⟨%d1, H1⟩, ⟨%d2, H2⟩, ⟨%d3, H3⟩⟩
  iapply (triple6 c Set.univ (grid6.coords t) _ _ _ _ _ _ _ _ (blkin6 V c 0 t) (blkin6 V c 1 t) _)
  iframe H0 H1
  isplitl [H2]; · iexists _; iexact H2
  isplitl [H3]; · iexists _; iexact H3
  iintro ⟨H0, H1, H2, H3⟩
  iframe HΦ Ho H0 H1 H2
  iexact H3

end Region

/-! Region 7: the values. -/
section Region
variable (V : (c : Dev nD) → (b : Ref sig .tc) → Buf (Elt F) ((c : Thread nD τ).loc b))

def blkin7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1536x4096 := Rect.unit (s := S1536x4096) ![0, 0] S1536x4096.size inb_S1536x4096_S1536x4096_0_0
abbrev r7_1 : Rect S4096x512 := Rect.unit (s := S4096x512) ![0, 0] S4096x512.size inb_S4096x512_S4096x512_0_0
abbrev r7_2 : Rect S1536x512 := Rect.unit (s := S1536x512) ![0, 0] S1536x512.size inb_S1536x512_S1536x512_0_0

def out7_2 (x0 : Vec F S1536x4096 .bf16) (x1 : Vec F S4096x512 .bf16) : Vec F S1536x512 .f32 :=
  View.canon [⟨r7_2, k7_pay1 (View.ld x0 r7_0) (View.ld x1 r7_1)⟩]

def out7_3 (x0 : Vec F S1536x4096 .bf16) (x1 : Vec F S4096x512 .bf16) : Vec F S1536x512 .bf16 :=
  View.canon [⟨r7_2, k7_pay2 (View.ld x0 r7_0) (View.ld x1 r7_1)⟩]

set_option maxHeartbeats 1000000 in
theorem triple7 (c : Dev nD) (E : Set ℕ) (i : grid7.Coords) (arg2 : Memref sig .tc .vmem S1536x4096 .bf16) (harg2 : arg2.IsWhole) (arg3 : Memref sig .tc .vmem S4096x512 .bf16) (harg3 : arg3.IsWhole) (arg4 : Memref sig .tc .vmem S1536x512 .f32) (harg4 : arg4.IsWhole) (arg5 : Memref sig .tc .vmem S1536x512 .bf16) (harg5 : arg5.IsWhole)
    (x0 : Vec F S1536x4096 .bf16) (x1 : Vec F S4096x512 .bf16) (K : PUnit → sProp 𝕄) :
    iprop(owns c.tc arg2 fullShare x0 ∗ owns c.tc arg3 fullShare x1 ∗ (∃ d, owns c.tc arg4 fullShare d) ∗ (∃ d, owns c.tc arg5 fullShare d)
        ∗ (iprop(owns c.tc arg2 fullShare x0 ∗ owns c.tc arg3 fullShare x1 ∗ owns c.tc arg4 fullShare (out7_2 x0 x1) ∗ owns c.tc arg5 fullShare (out7_3 x0 x1)) -∗ K ⟨⟩))
      ⊢ wp frame (wpE (defs₀ (F := F)) Variants.none c none) E (cc7_v_proj i arg2 harg2 arg3 harg3 arg4 harg4 arg5 harg5) K := by
  simp only [cc7_v_proj_eq_skeleton]; unfold cc7_v_proj_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]; · iexists f0; iframe H0; ipureintro; rfl
  isplitl [H1]; · iexists f1; iframe H1; ipureintro; rfl
  isplitl [H2]
  · iexists _; isplitr
    swap; · iexact H2
    ipureintro
    exact View.read_writes_eq_canon _ _ _ (View.cover_of_tiled _ S1536x512.size (by rfl))
  iexists _; isplitr
  swap; · iexact H3
  ipureintro
  exact View.read_writes_eq_canon _ _ _ (View.cover_of_tiled _ S1536x512.size (by rfl))

def dat7 (c : Dev nD) : Dat τ (Elt F) Unit ℕ (UR sig nD τ) ℕ cfg7 c where
  A w := V c (Pipeline.arrRef spec7 w)
  after w t := match w with
    | ⟨0, _⟩ => blkin7 V c 0 t
    | ⟨1, _⟩ => blkin7 V c 1 t
    | ⟨2, _⟩ => out7_2 (blkin7 V c 0 t) (blkin7 V c 1 t)
    | ⟨3, _⟩ => out7_3 (blkin7 V c 0 t) (blkin7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = blkin7 V c 0 t := by dsimp only [dat7]
theorem after7_1 (c : Dev nD) (t : Fin cfg7.N) : (dat7 V c).after 1 t = blkin7 V c 1 t := by dsimp only [dat7]
theorem after7_2 (c : Dev nD) (t : Fin cfg7.N) : (dat7 V c).after 2 t = out7_2 (blkin7 V c 0 t) (blkin7 V c 1 t) := by dsimp only [dat7]
theorem after7_3 (c : Dev nD) (t : Fin cfg7.N) : (dat7 V c).after 3 t = out7_3 (blkin7 V c 0 t) (blkin7 V c 1 t) := by dsimp only [dat7]

theorem before7_0 (c : Dev nD) (t : Fin cfg7.N) (d) : (dat7 V c).before 0 t d = blkin7 V c 0 t :=
  ((dat7 V c).before_in_eq_fetched 0 rfl (fun _ => rfl) (fun _ _ _ => rfl) (fun t => by rw [after7_0]; unfold Dat.blockOf blkin7; rw [A_eq7]) t d).trans
    (by unfold Dat.fetched Dat.blockOf blkin7; rw [A_eq7]; rfl)
theorem before7_1 (c : Dev nD) (t : Fin cfg7.N) (d) : (dat7 V c).before 1 t d = blkin7 V c 1 t :=
  ((dat7 V c).before_in_eq_fetched 1 rfl (fun _ => rfl) (fun _ _ _ => rfl) (fun t => by rw [after7_1]; unfold Dat.blockOf blkin7; rw [A_eq7]) t d).trans
    (by unfold Dat.fetched Dat.blockOf blkin7; rw [A_eq7]; rfl)

theorem defs₀_row7 (t : Fin cfg7.N) :
    defs₀ (F := F) .tc cfg7.body (cfg7.bodyArgs t (cfg7.slots t)) = bodyAt7 t := by
  unfold defs₀; rw [Defs.onTc_tc]

theorem oblig7 (c : Dev nD) : BodyObligation (dat7 (F := F) V c) (defs₀ (F := F)) Variants.none () Set.univ := fun t => by
  rw [bigSep_W7, bigSep_W7, defs₀_row7]
  refine triple_restated (W := wp frame (wpE (defs₀ (F := F)) Variants.none c none) Set.univ (bodyAt7 t)) ?_ rfl .rfl fun _ => .rfl
  unfold bodyAt7
  simp only [before7_0, before7_1]
  rw [show (dat7 V c).Φ t.succ = (dat7 V c).Φ t.castSucc from rfl,
    after7_0, after7_1, after7_2, after7_3]
  iintro ⟨HΦ, Ho, ⟨%d0, H0⟩, ⟨%d1, H1⟩, ⟨%d2, H2⟩, ⟨%d3, H3⟩⟩
  iapply (triple7 c Set.univ (grid7.coords t) _ _ _ _ _ _ _ _ (blkin7 V c 0 t) (blkin7 V c 1 t) _)
  iframe H0 H1
  isplitl [H2]; · iexists _; iexact H2
  isplitl [H3]; · iexists _; iexact H3
  iintro ⟨H0, H1, H2, H3⟩
  iframe HΦ Ho H0 H1 H2
  iexact H3

end Region

/-! Region 8: the long-memory projection. -/
section Region
variable (V : (c : Dev nD) → (b : Ref sig .tc) → Buf (Elt F) ((c : Thread nD τ).loc b))

def blkin8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S1536x4096 := Rect.unit (s := S1536x4096) ![0, 0] S1536x4096.size inb_S1536x4096_S1536x4096_0_0
abbrev r8_1 : Rect S4096x512 := Rect.unit (s := S4096x512) ![0, 0] S4096x512.size inb_S4096x512_S4096x512_0_0
abbrev r8_2 : Rect S1536x512 := Rect.unit (s := S1536x512) ![0, 0] S1536x512.size inb_S1536x512_S1536x512_0_0

def out8_2 (x0 : Vec F S1536x4096 .bf16) (x1 : Vec F S4096x512 .bf16) : Vec F S1536x512 .f32 :=
  View.canon [⟨r8_2, k8_pay1 (View.ld x0 r8_0) (View.ld x1 r8_1)⟩]

set_option maxHeartbeats 1000000 in
theorem triple8 (c : Dev nD) (E : Set ℕ) (i : grid8.Coords) (arg2 : Memref sig .tc .vmem S1536x4096 .bf16) (harg2 : arg2.IsWhole) (arg3 : Memref sig .tc .vmem S4096x512 .bf16) (harg3 : arg3.IsWhole) (arg4 : Memref sig .tc .vmem S1536x512 .f32) (harg4 : arg4.IsWhole)
    (x0 : Vec F S1536x4096 .bf16) (x1 : Vec F S4096x512 .bf16) (K : PUnit → sProp 𝕄) :
    iprop(owns c.tc arg2 fullShare x0 ∗ owns c.tc arg3 fullShare x1 ∗ (∃ d, owns c.tc arg4 fullShare d)
        ∗ (iprop(owns c.tc arg2 fullShare x0 ∗ owns c.tc arg3 fullShare x1 ∗ owns c.tc arg4 fullShare (out8_2 x0 x1)) -∗ K ⟨⟩))
      ⊢ wp frame (wpE (defs₀ (F := F)) Variants.none c none) E (cc8_ml_proj i arg2 harg2 arg3 harg3 arg4 harg4) K := by
  simp only [cc8_ml_proj_eq_skeleton]; unfold cc8_ml_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S1536x512.size (by rfl))

def dat8 (c : Dev nD) : Dat τ (Elt F) Unit ℕ (UR sig nD τ) ℕ cfg8 c where
  A w := V c (Pipeline.arrRef spec8 w)
  after w t := match w with
    | ⟨0, _⟩ => blkin8 V c 0 t
    | ⟨1, _⟩ => blkin8 V c 1 t
    | ⟨2, _⟩ => out8_2 (blkin8 V c 0 t) (blkin8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = blkin8 V c 0 t := by dsimp only [dat8]
theorem after8_1 (c : Dev nD) (t : Fin cfg8.N) : (dat8 V c).after 1 t = blkin8 V c 1 t := by dsimp only [dat8]
theorem after8_2 (c : Dev nD) (t : Fin cfg8.N) : (dat8 V c).after 2 t = out8_2 (blkin8 V c 0 t) (blkin8 V c 1 t) := by dsimp only [dat8]

theorem before8_0 (c : Dev nD) (t : Fin cfg8.N) (d) : (dat8 V c).before 0 t d = blkin8 V c 0 t :=
  ((dat8 V c).before_in_eq_fetched 0 rfl (fun _ => rfl) (fun _ _ _ => rfl) (fun t => by rw [after8_0]; unfold Dat.blockOf blkin8; rw [A_eq8]) t d).trans
    (by unfold Dat.fetched Dat.blockOf blkin8; rw [A_eq8]; rfl)
theorem before8_1 (c : Dev nD) (t : Fin cfg8.N) (d) : (dat8 V c).before 1 t d = blkin8 V c 1 t :=
  ((dat8 V c).before_in_eq_fetched 1 rfl (fun _ => rfl) (fun _ _ _ => rfl) (fun t => by rw [after8_1]; unfold Dat.blockOf blkin8; rw [A_eq8]) t d).trans
    (by unfold Dat.fetched Dat.blockOf blkin8; rw [A_eq8]; rfl)

theorem defs₀_row8 (t : Fin cfg8.N) :
    defs₀ (F := F) .tc cfg8.body (cfg8.bodyArgs t (cfg8.slots t)) = bodyAt8 t := by
  unfold defs₀; rw [Defs.onTc_tc]

theorem oblig8 (c : Dev nD) : BodyObligation (dat8 (F := F) V c) (defs₀ (F := F)) Variants.none () Set.univ := fun t => by
  rw [bigSep_W8, bigSep_W8, defs₀_row8]
  refine triple_restated (W := wp frame (wpE (defs₀ (F := F)) Variants.none c none) Set.univ (bodyAt8 t)) ?_ rfl .rfl fun _ => .rfl
  unfold bodyAt8
  simp only [before8_0, before8_1]
  rw [show (dat8 V c).Φ t.succ = (dat8 V c).Φ t.castSucc from rfl,
    after8_0, after8_1, after8_2]
  iintro ⟨HΦ, Ho, ⟨%d0, H0⟩, ⟨%d1, H1⟩, ⟨%d2, H2⟩⟩
  iapply (triple8 c Set.univ (grid8.coords t) _ _ _ _ _ _ (blkin8 V c 0 t) (blkin8 V c 1 t) _)
  iframe H0 H1
  isplitl [H2]; · iexists _; iexact H2
  iintro ⟨H0, H1, H2⟩
  iframe HΦ Ho H0 H1
  iexact H2

end Region

/-! Region 9: the gates. -/
section Region
variable (V : (c : Dev nD) → (b : Ref sig .tc) → Buf (Elt F) ((c : Thread nD τ).loc b))

def blkin9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S1536x4096 := Rect.unit (s := S1536x4096) ![0, 0] S1536x4096.size inb_S1536x4096_S1536x4096_0_0
abbrev r9_1 : Rect S128x4096 := Rect.unit (s := S128x4096) ![0, 0] S128x4096.size inb_S128x4096_S128x4096_0_0
abbrev r9_2 : Rect S1536x128 := Rect.unit (s := S1536x128) ![0, 0] S1536x128.size inb_S1536x128_S1536x128_0_0

def out9_2 (x0 : Vec F S1536x4096 .bf16) (x1 : Vec F S128x4096 .bf16) : Vec F S1536x128 .f32 :=
  View.canon [⟨r9_2, k9_pay1 (View.ld x0 r9_0) (View.ld x1 r9_1)⟩]

set_option maxHeartbeats 1000000 in
theorem triple9 (c : Dev nD) (E : Set ℕ) (i : grid9.Coords) (arg1 : Memref sig .tc .vmem S1536x4096 .bf16) (harg1 : arg1.IsWhole) (arg2 : Memref sig .tc .vmem S128x4096 .bf16) (harg2 : arg2.IsWhole) (arg3 : Memref sig .tc .vmem S1536x128 .f32) (harg3 : arg3.IsWhole)
    (x0 : Vec F S1536x4096 .bf16) (x1 : Vec F S128x4096 .bf16) (K : PUnit → sProp 𝕄) :
    iprop(owns c.tc arg1 fullShare x0 ∗ owns c.tc arg2 fullShare x1 ∗ (∃ d, owns c.tc arg3 fullShare d)
        ∗ (iprop(owns c.tc arg1 fullShare x0 ∗ owns c.tc arg2 fullShare x1 ∗ owns c.tc arg3 fullShare (out9_2 x0 x1)) -∗ K ⟨⟩))
      ⊢ wp frame (wpE (defs₀ (F := F)) Variants.none c none) E (cc9_gate_proj i arg1 harg1 arg2 harg2 arg3 harg3) K := by
  simp only [cc9_gate_proj_eq_skeleton]; unfold cc9_gate_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S1536x128.size (by rfl))

def dat9 (c : Dev nD) : Dat τ (Elt F) Unit ℕ (UR sig nD τ) ℕ cfg9 c where
  A w := V c (Pipeline.arrRef spec9 w)
  after w t := match w with
    | ⟨0, _⟩ => blkin9 V c 0 t
    | ⟨1, _⟩ => blkin9 V c 1 t
    | ⟨2, _⟩ => out9_2 (blkin9 V c 0 t) (blkin9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = blkin9 V c 0 t := by dsimp only [dat9]
theorem after9_1 (c : Dev nD) (t : Fin cfg9.N) : (dat9 V c).after 1 t = blkin9 V c 1 t := by dsimp only [dat9]
theorem after9_2 (c : Dev nD) (t : Fin cfg9.N) : (dat9 V c).after 2 t = out9_2 (blkin9 V c 0 t) (blkin9 V c 1 t) := by dsimp only [dat9]

theorem before9_0 (c : Dev nD) (t : Fin cfg9.N) (d) : (dat9 V c).before 0 t d = blkin9 V c 0 t :=
  ((dat9 V c).before_in_eq_fetched 0 rfl (fun _ => rfl) (fun _ _ _ => rfl) (fun t => by rw [after9_0]; unfold Dat.blockOf blkin9; rw [A_eq9]) t d).trans
    (by unfold Dat.fetched Dat.blockOf blkin9; rw [A_eq9]; rfl)
theorem before9_1 (c : Dev nD) (t : Fin cfg9.N) (d) : (dat9 V c).before 1 t d = blkin9 V c 1 t :=
  ((dat9 V c).before_in_eq_fetched 1 rfl (fun _ => rfl) (fun _ _ _ => rfl) (fun t => by rw [after9_1]; unfold Dat.blockOf blkin9; rw [A_eq9]) t d).trans
    (by unfold Dat.fetched Dat.blockOf blkin9; rw [A_eq9]; rfl)

theorem defs₀_row9 (t : Fin cfg9.N) :
    defs₀ (F := F) .tc cfg9.body (cfg9.bodyArgs t (cfg9.slots t)) = bodyAt9 t := by
  unfold defs₀; rw [Defs.onTc_tc]

theorem oblig9 (c : Dev nD) : BodyObligation (dat9 (F := F) V c) (defs₀ (F := F)) Variants.none () Set.univ := fun t => by
  rw [bigSep_W9, bigSep_W9, defs₀_row9]
  refine triple_restated (W := wp frame (wpE (defs₀ (F := F)) Variants.none c none) Set.univ (bodyAt9 t)) ?_ rfl .rfl fun _ => .rfl
  unfold bodyAt9
  simp only [before9_0, before9_1]
  rw [show (dat9 V c).Φ t.succ = (dat9 V c).Φ t.castSucc from rfl,
    after9_0, after9_1, after9_2]
  iintro ⟨HΦ, Ho, ⟨%d0, H0⟩, ⟨%d1, H1⟩, ⟨%d2, H2⟩⟩
  iapply (triple9 c Set.univ (grid9.coords t) _ _ _ _ _ _ (blkin9 V c 0 t) (blkin9 V c 1 t) _)
  iframe H0 H1
  isplitl [H2]; · iexists _; iexact H2
  iintro ⟨H0, H1, H2⟩
  iframe HΦ Ho H0 H1
  iexact H2

end Region

end Cert.Proof.Proj

end
-- ==== Proof.Proj.Walk.lean ====
module

public import proofs.«01_k».proof.Proof.Proj.Casts
public import proofs.«01_k».proof.Proof.Proj.Products

/-!
The contents of every buffer at each boundary of the prompt's projection: a fold through its regions and host lines.
-/

@[expose] public section

set_option maxRecDepth 16384

noncomputable section

namespace Cert.Proof.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v5, main_c]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

theorem hostOps4_1_fresh : (hostOps4_1 : List (HloOp τ sig (Elt F))).Forall fun op => op.fresh = ∅ := by
  simp only [List.Forall]; repeat' constructor
abbrev hostOps4_1_W : List (Ref sig .tc) := [main_call0_v0, main_v6]
theorem hostOps4_1_writes : (hostOps4_1 : List (HloOp τ sig (Elt F))).Forall fun op => op.writes ⊆ (hostOps4_1_W.map (Proc.devRef (τ := τ) .tc)).toFinset :=
  StableHlo.forall_writes_sub_of_map rfl
theorem hostOps4_1_args : ∀ a ∈ argRefs, a ∉ hostOps4_1_W := ListAll.forall_mem_of_all_decide (by decide +kernel)

theorem hostOps4_2_fresh : (hostOps4_2 : List (HloOp τ sig (Elt F))).Forall fun op => op.fresh = ∅ := by
  simp only [List.Forall]; repeat' constructor
abbrev hostOps4_2_W : List (Ref sig .tc) := [main_v7, main_v8]
theorem hostOps4_2_writes : (hostOps4_2 : List (HloOp τ sig (Elt F))).Forall fun op => op.writes ⊆ (hostOps4_2_W.map (Proc.devRef (τ := τ) .tc)).toFinset :=
  StableHlo.forall_writes_sub_of_map rfl
theorem hostOps4_2_args : ∀ a ∈ argRefs, a ∉ hostOps4_2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m (c.tc.loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m (c.tc.loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m (c.tc.loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m (c.tc.loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m (c.tc.loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps4 (W5 m ρ c)
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m (c.tc.loc a) :=
  fun a ha => (W6_of m ρ c a (hostOps4_args a ha)).trans (W5_args m ρ c a ha)
abbrev W7 : Dev nD → Valuation τ sig (Elt F) := fun c => StableHlo.after hostOps4_1 (W6 m ρ c)
theorem W7_of (c : Dev nD) (r : Ref sig .tc) (h : r ∉ hostOps4_1_W) : W7 m ρ c (Proc.devRef .tc r) = W6 m ρ c (Proc.devRef .tc r) :=
  StableHlo.after_of_writes_sub hostOps4_1 _ hostOps4_1_writes h
theorem W7_args (c : Dev nD) : ∀ a ∈ argRefs, W7 m ρ c (Proc.devRef .tc a) = m (c.tc.loc a) :=
  fun a ha => (W7_of m ρ c a (hostOps4_1_args a ha)).trans (W6_args m ρ c a ha)
abbrev W8 : Dev nD → Valuation τ sig (Elt F) := fun c => StableHlo.after hostOps4_2 (W7 m ρ c)
theorem W8_of (c : Dev nD) (r : Ref sig .tc) (h : r ∉ hostOps4_2_W) : W8 m ρ c (Proc.devRef .tc r) = W7 m ρ c (Proc.devRef .tc r) :=
  StableHlo.after_of_writes_sub hostOps4_2 _ hostOps4_2_writes h
theorem W8_args (c : Dev nD) : ∀ a ∈ argRefs, W8 m ρ c (Proc.devRef .tc a) = m (c.tc.loc a) :=
  fun a ha => (W8_of m ρ c a (hostOps4_2_args a ha)).trans (W7_args m ρ c a ha)
abbrev V8 : (c : Dev nD) → (b : Ref sig .tc) → Buf (Elt F) ((c : Thread nD τ).loc b) := fun c b => W8 m ρ c b
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact (dat4 (V8 m ρ) c).withArrays_arrAt launch₀4.sharedIn _ (A_eq4 (V8 m ρ) c) w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m (c.tc.loc a) :=
  fun a ha => (W9_of m ρ c a (argsIn4 a ha)).trans (W8_args m ρ c a ha)
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
theorem W10_of (c : Dev nD) (r : Ref sig .tc) (h : ∀ w : Fin cfg5.W, Pipeline.arrRef spec5 w = r → (cfg5.win w).isOut = false) :
    W10 m ρ c (Proc.devRef .tc r) = W9 m ρ c (Proc.devRef .tc r) := by
  by_cases hw : ∃ w : Fin cfg5.W, Pipeline.arrRef spec5 w = r
  · obtain ⟨w, rfl⟩ := hw
    exact (W10_arr m ρ c w).trans (((dat5 (V9 m ρ) c).arrAt_in w (h w rfl) _).trans (A_eq5 (V9 m ρ) c w))
  · exact W10_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W10_args (c : Dev nD) : ∀ a ∈ argRefs, W10 m ρ c (Proc.devRef .tc a) = m (c.tc.loc a) :=
  fun a ha => (W10_of m ρ c a (argsIn5 a ha)).trans (W9_args m ρ c a ha)
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
theorem W11_of (c : Dev nD) (r : Ref sig .tc) (h : ∀ w : Fin cfg6.W, Pipeline.arrRef spec6 w = r → (cfg6.win w).isOut = false) :
    W11 m ρ c (Proc.devRef .tc r) = W10 m ρ c (Proc.devRef .tc r) := by
  by_cases hw : ∃ w : Fin cfg6.W, Pipeline.arrRef spec6 w = r
  · obtain ⟨w, rfl⟩ := hw
    exact (W11_arr m ρ c w).trans (((dat6 (V10 m ρ) c).arrAt_in w (h w rfl) _).trans (A_eq6 (V10 m ρ) c w))
  · exact W11_of_ne m ρ c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W11_args (c : Dev nD) : ∀ a ∈ argRefs, W11 m ρ c (Proc.devRef .tc a) = m (c.tc.loc a) :=
  fun a ha => (W11_of m ρ c a (argsIn6 a ha)).trans (W10_args m ρ c a ha)
abbrev V11 : (c : Dev nD) → (b : Ref sig .tc) → Buf (Elt F) ((c : Thread nD τ).loc b) := fun c b => W11 m ρ c b
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

def W12 (c : Dev nD) : Valuation τ sig (Elt F) :=
  Pipeline.withArrays spec7 c (W11 m ρ c) fun w => (dat7 (V11 m ρ) c).arrAt w cfg7.N
theorem W12_arr (c : Dev nD) (w : Fin cfg7.W) :
    W12 m ρ c (Proc.devRef .tc (Pipeline.arrRef spec7 w)) = (dat7 (V11 m ρ) c).arrAt w cfg7.N := by
  unfold W12; exact Pipeline.withArrays_arr spec7 launch7.win.arr_inj c _ _ w
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
theorem W12_of (c : Dev nD) (r : Ref sig .tc) (h : ∀ w : Fin cfg7.W, Pipeline.arrRef spec7 w = r → (cfg7.win w).isOut = false) :
    W12 m ρ c (Proc.devRef .tc r) = W11 m ρ c (Proc.devRef .tc r) := by
  by_cases hw : ∃ w : Fin cfg7.W, Pipeline.arrRef spec7 w = r
  · obtain ⟨w, rfl⟩ := hw
    exact (W12_arr m ρ c w).trans (((dat7 (V11 m ρ) c).arrAt_in w (h w rfl) _).trans (A_eq7 (V11 m ρ) c w))
  · exact W12_of_ne m ρ c r fun w e => hw ⟨w, e⟩
theorem argsIn7 : ∀ a ∈ argRefs, ∀ w : Fin cfg7.W, Pipeline.arrRef spec7 w = a → (cfg7.win w).isOut = false :=
  ListAll.forall_mem_of_all_decide (by decide +kernel)
theorem W12_args (c : Dev nD) : ∀ a ∈ argRefs, W12 m ρ c (Proc.devRef .tc a) = m (c.tc.loc a) :=
  fun a ha => (W12_of m ρ c a (argsIn7 a ha)).trans (W11_args m ρ c a ha)
abbrev V12 : (c : Dev nD) → (b : Ref sig .tc) → Buf (Elt F) ((c : Thread nD τ).loc b) := fun c b => W12 m ρ c b
theorem hF7 (c : Dev nD) (w : Fin cfg7.W) : (dat7 (V11 m ρ) c).arrAt w cfg7.N = V12 m ρ c (Pipeline.arrRef spec7 w) :=
  (W12_arr m ρ c w).symm
theorem hrest7 (c : Dev nD) : ∀ b, b ∉ Finset.univ.image (Pipeline.arrRef spec7) → V12 m ρ c b = V11 m ρ c b :=
  fun b hb => W12_of_ne m ρ c b fun w e => hb (Finset.mem_image.mpr ⟨w, Finset.mem_univ _, e⟩)

def W13 (c : Dev nD) : Valuation τ sig (Elt F) :=
  Pipeline.withArrays spec8 c (W12 m ρ c) fun w => (dat8 (V12 m ρ) c).arrAt w cfg8.N
theorem W13_arr (c : Dev nD) (w : Fin cfg8.W) :
    W13 m ρ c (Proc.devRef .tc (Pipeline.arrRef spec8 w)) = (dat8 (V12 m ρ) c).arrAt w cfg8.N := by
  unfold W13; exact Pipeline.withArrays_arr spec8 launch8.win.arr_inj c _ _ w
theorem W13_of_ne (c : Dev nD) (b : Ref sig .tc) (hb : ∀ w, Pipeline.arrRef spec8 w ≠ b) :
    W13 m ρ c (Proc.devRef .tc b) = W12 m ρ c (Proc.devRef .tc b) := by
  unfold W13; exact Pipeline.withArrays_of_ne spec8 c _ _ b hb
theorem W13_of (c : Dev nD) (r : Ref sig .tc) (h : ∀ w : Fin cfg8.W, Pipeline.arrRef spec8 w = r → (cfg8.win w).isOut = false) :
    W13 m ρ c (Proc.devRef .tc r) = W12 m ρ c (Proc.devRef .tc r) := by
  by_cases hw : ∃ w : Fin cfg8.W, Pipeline.arrRef spec8 w = r
  · obtain ⟨w, rfl⟩ := hw
    exact (W13_arr m ρ c w).trans (((dat8 (V12 m ρ) c).arrAt_in w (h w rfl) _).trans (A_eq8 (V12 m ρ) c w))
  · exact W13_of_ne m ρ c r fun w e => hw ⟨w, e⟩
theorem argsIn8 : ∀ a ∈ argRefs, ∀ w : Fin cfg8.W, Pipeline.arrRef spec8 w = a → (cfg8.win w).isOut = false :=
  ListAll.forall_mem_of_all_decide (by decide +kernel)
theorem W13_args (c : Dev nD) : ∀ a ∈ argRefs, W13 m ρ c (Proc.devRef .tc a) = m (c.tc.loc a) :=
  fun a ha => (W13_of m ρ c a (argsIn8 a ha)).trans (W12_args m ρ c a ha)
abbrev V13 : (c : Dev nD) → (b : Ref sig .tc) → Buf (Elt F) ((c : Thread nD τ).loc b) := fun c b => W13 m ρ c b
theorem hF8 (c : Dev nD) (w : Fin cfg8.W) : (dat8 (V12 m ρ) c).arrAt w cfg8.N = V13 m ρ c (Pipeline.arrRef spec8 w) :=
  (W13_arr m ρ c w).symm
theorem hrest8 (c : Dev nD) : ∀ b, b ∉ Finset.univ.image (Pipeline.arrRef spec8) → V13 m ρ c b = V12 m ρ c b :=
  fun b hb => W13_of_ne m ρ c b fun w e => hb (Finset.mem_image.mpr ⟨w, Finset.mem_univ _, e⟩)

def W14 (c : Dev nD) : Valuation τ sig (Elt F) :=
  Pipeline.withArrays spec9 c (W13 m ρ c) fun w => (dat9 (V13 m ρ) c).arrAt w cfg9.N
theorem W14_arr (c : Dev nD) (w : Fin cfg9.W) :
    W14 m ρ c (Proc.devRef .tc (Pipeline.arrRef spec9 w)) = (dat9 (V13 m ρ) c).arrAt w cfg9.N := by
  unfold W14; exact Pipeline.withArrays_arr spec9 launch9.win.arr_inj c _ _ w
theorem W14_of_ne (c : Dev nD) (b : Ref sig .tc) (hb : ∀ w, Pipeline.arrRef spec9 w ≠ b) :
    W14 m ρ c (Proc.devRef .tc b) = W13 m ρ c (Proc.devRef .tc b) := by
  unfold W14; exact Pipeline.withArrays_of_ne spec9 c _ _ b hb
theorem W14_of (c : Dev nD) (r : Ref sig .tc) (h : ∀ w : Fin cfg9.W, Pipeline.arrRef spec9 w = r → (cfg9.win w).isOut = false) :
    W14 m ρ c (Proc.devRef .tc r) = W13 m ρ c (Proc.devRef .tc r) := by
  by_cases hw : ∃ w : Fin cfg9.W, Pipeline.arrRef spec9 w = r
  · obtain ⟨w, rfl⟩ := hw
    exact (W14_arr m ρ c w).trans (((dat9 (V13 m ρ) c).arrAt_in w (h w rfl) _).trans (A_eq9 (V13 m ρ) c w))
  · exact W14_of_ne m ρ c r fun w e => hw ⟨w, e⟩
theorem argsIn9 : ∀ a ∈ argRefs, ∀ w : Fin cfg9.W, Pipeline.arrRef spec9 w = a → (cfg9.win w).isOut = false :=
  ListAll.forall_mem_of_all_decide (by decide +kernel)
theorem W14_args (c : Dev nD) : ∀ a ∈ argRefs, W14 m ρ c (Proc.devRef .tc a) = m (c.tc.loc a) :=
  fun a ha => (W14_of m ρ c a (argsIn9 a ha)).trans (W13_args m ρ c a ha)
abbrev V14 : (c : Dev nD) → (b : Ref sig .tc) → Buf (Elt F) ((c : Thread nD τ).loc b) := fun c b => W14 m ρ c b
theorem hF9 (c : Dev nD) (w : Fin cfg9.W) : (dat9 (V13 m ρ) c).arrAt w cfg9.N = V14 m ρ c (Pipeline.arrRef spec9 w) :=
  (W14_arr m ρ c w).symm
theorem hrest9 (c : Dev nD) : ∀ b, b ∉ Finset.univ.image (Pipeline.arrRef spec9) → V14 m ρ c b = V13 m ρ c b :=
  fun b hb => W14_of_ne m ρ c b fun w e => hb (Finset.mem_image.mpr ⟨w, Finset.mem_univ _, e⟩)

end Cert.Proof.Proj

end
-- ==== Proof.Proj.Segs.lean ====
module

public import proofs.«01_k».proof.Proof.Proj.Walk

/-!
The prompt's projection, run: its segments, and every buffer at what the last leaves.
-/

@[expose] public section

set_option maxRecDepth 16384

noncomputable section

namespace Cert.Proof.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W14_main_arg0 (c : Dev nD) : W14 m ρ c (Proc.devRef .tc main_arg0) = m (c.tc.loc main_arg0) :=
  W14_args m ρ c main_arg0 (by decide)
theorem W14_main_arg1 (c : Dev nD) : W14 m ρ c (Proc.devRef .tc main_arg1) = m (c.tc.loc main_arg1) :=
  W14_args m ρ c main_arg1 (by decide)
theorem W14_main_arg2 (c : Dev nD) : W14 m ρ c (Proc.devRef .tc main_arg2) = m (c.tc.loc main_arg2) :=
  W14_args m ρ c main_arg2 (by decide)
theorem W14_main_arg3 (c : Dev nD) : W14 m ρ c (Proc.devRef .tc main_arg3) = m (c.tc.loc main_arg3) :=
  W14_args m ρ c main_arg3 (by decide)

abbrev adm : (p : Fin 10) → (pcfgs (F := F) p).Adm := fun p => (cfgs p).toPCfg_adm
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V8 m ρ) c
  | ⟨5, _⟩ => fun c => dat5 (V9 m ρ) c
  | ⟨6, _⟩ => fun c => dat6 (V10 m ρ) c
  | ⟨7, _⟩ => fun c => dat7 (V11 m ρ) c
  | ⟨8, _⟩ => fun c => dat8 (V12 m ρ) c
  | ⟨9, _⟩ => fun c => dat9 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

set_option backward.isDefEq.respectTransparency.types false in
/-- A call as a segment: entered with the unscoped buffers at `W`, left with them at `W'`. -/
def regionOf (p : Fin 10) (hl : Pipeline.LaunchFacts (nD := nD) (τ := τ) cfgs p) (W W' : Dev nD → Valuation τ sig (Elt F))
    (hq : ∀ c w, (pdats m ρ p c).q w = fullShare) (ho : ∀ c t, (pdats m ρ p c).owed t = 0) (hΦ : ∀ c t, (pdats m ρ p c).Φ t = Pipeline.ΦA (cfgs p).spec c)
    (hA : ∀ c w, (pdats m ρ p c).A w = W c (Proc.devRef .tc (Pipeline.arrRef (cfgs p).spec w)))
    (hF : ∀ c w, (pdats m ρ p c).arrAt w (cfgs p).N = W' c (Proc.devRef .tc (Pipeline.arrRef (cfgs p).spec w)))
    (hr : ∀ c (b : Ref sig .tc), b ∉ Finset.univ.image (Pipeline.arrRef (cfgs p).spec) → W' c (Proc.devRef .tc b) = W c (Proc.devRef .tc b))
    (hc : ∀ c x, x ∈ (pdats m ρ p c).recorded 0) (hb : ∀ c, Pipeline.BodyObligationLoose (pdats m ρ p c) (defs₀ (F := F)) 𝒱₀ () Set.univ) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c (Proc.devRef .tc b)
  hentry c := by
    rw [Pipeline.ownSems0_none]
    have hsplit := Pipeline.arrays_of_unscopedBufs (p := p) (pcfgs (F := F)) adm (pdats m ρ) hl.win hl.arr_whole c
      ((pdats m ρ p c).share_full (hq c)) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%O, HO⟩; iexists O; isplitr; · ipureintro; exact fun _ _ => Or.inl (hc c _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c))
      (fun b => W c (Proc.devRef .tc b)) (fun b => W' c (Proc.devRef .tc b)) ((pdats m ρ p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c (Fin.last _)]
    icases HO with ⟨%O, -, HO⟩; iexists O; iexact HO

abbrev reg0 := regionOf m ρ 0 launch0 (W1 m ρ) (W2 m ρ) (fun _ _ => rfl) (fun _ _ => rfl) (fun _ _ => rfl) (A_eq0 (V1 m ρ)) (hF0 m ρ) (hrest0 m ρ)
  (fun _ _ => trivial) fun c => (oblig0 (V1 m ρ) c).loose
abbrev reg1 := regionOf m ρ 1 launch1 (W2 m ρ) (W3 m ρ) (fun _ _ => rfl) (fun _ _ => rfl) (fun _ _ => rfl) (A_eq1 (V2 m ρ)) (hF1 m ρ) (hrest1 m ρ)
  (fun _ _ => trivial) fun c => (oblig1 (V2 m ρ) c).loose
abbrev reg2 := regionOf m ρ 2 launch2 (W3 m ρ) (W4 m ρ) (fun _ _ => rfl) (fun _ _ => rfl) (fun _ _ => rfl) (A_eq2 (V3 m ρ)) (hF2 m ρ) (hrest2 m ρ)
  (fun _ _ => trivial) fun c => (oblig2 (V3 m ρ) c).loose
abbrev reg3 := regionOf m ρ 3 launch3 (W4 m ρ) (W5 m ρ) (fun _ _ => rfl) (fun _ _ => rfl) (fun _ _ => rfl) (A_eq3 (V4 m ρ)) (hF3 m ρ) (hrest3 m ρ)
  (fun _ _ => trivial) fun c => (oblig3 (V4 m ρ) c).loose

set_option backward.isDefEq.respectTransparency.types false in
def reg4 : Pipeline.RegionSeg (pcfgs (F := F)) adm (pdats m ρ) () defs₀ 𝒱₀ L lv 4 where
  win := launch₀4.win
  block_pos := launch₀4.block_pos
  stage_whole := launch₀4.stage_whole
  K := PEmpty
  osem k := k.elim
  ho := Pipeline.OwnSemFacts.none _
  hbody c := (oblig4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs_shared (p := 4) (pcfgs (F := F)) adm (pdats m ρ) launch₀4.win launch₀4.sharedIn launch₀4.arr_whole c
      (fun _ _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays_shared (p := 4) (pcfgs (F := F)) adm (Ix := Unit) (Name := ℕ) (U := UR sig nD τ) (Lvl := ℕ)
      launch₀4.win launch₀4.sharedIn launch₀4.arr_whole c (pdats m ρ) (fun _ _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev reg5 := regionOf m ρ 5 launch5 (W9 m ρ) (W10 m ρ) (fun _ _ => rfl) (fun _ _ => rfl) (fun _ _ => rfl) (A_eq5 (V9 m ρ)) (hF5 m ρ) (hrest5 m ρ)
  (fun _ _ => trivial) fun c => (oblig5 (V9 m ρ) c).loose
abbrev reg6 := regionOf m ρ 6 launch6 (W10 m ρ) (W11 m ρ) (fun _ _ => rfl) (fun _ _ => rfl) (fun _ _ => rfl) (A_eq6 (V10 m ρ)) (hF6 m ρ) (hrest6 m ρ)
  (fun _ _ => trivial) fun c => (oblig6 (V10 m ρ) c).loose
abbrev reg7 := regionOf m ρ 7 launch7 (W11 m ρ) (W12 m ρ) (fun _ _ => rfl) (fun _ _ => rfl) (fun _ _ => rfl) (A_eq7 (V11 m ρ)) (hF7 m ρ) (hrest7 m ρ)
  (fun _ _ => trivial) fun c => (oblig7 (V11 m ρ) c).loose
abbrev reg8 := regionOf m ρ 8 launch8 (W12 m ρ) (W13 m ρ) (fun _ _ => rfl) (fun _ _ => rfl) (fun _ _ => rfl) (A_eq8 (V12 m ρ)) (hF8 m ρ) (hrest8 m ρ)
  (fun _ _ => trivial) fun c => (oblig8 (V12 m ρ) c).loose
abbrev reg9 := regionOf m ρ 9 launch9 (W13 m ρ) (W14 m ρ) (fun _ _ => rfl) (fun _ _ => rfl) (fun _ _ => rfl) (A_eq9 (V13 m ρ)) (hF9 m ρ) (hrest9 m ρ)
  (fun _ _ => trivial) fun c => (oblig9 (V13 m ρ) c).loose
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)),
    .host (hseg hostOps4_1 hostOps4_1_sub hostOps4_1_fresh (W6 m ρ)),
    .host (hseg hostOps4_2 hostOps4_2_sub hostOps4_2_fresh (W7 m ρ)),
    .region (reg4 m ρ),
    .region (reg5 m ρ),
    .region (reg6 m ρ),
    .region (reg7 m ρ),
    .region (reg8 m ρ),
    .region (reg9 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every unscoped buffer ends at the last boundary's contents, and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (W14 m ρ c) ∗ R c)
        ⊢ iprop(Tₙ m ρ c ∗ ∃ O, owes (c : Thread nD τ) (0 : CellTallies nD τ sig Unit) O) from by
      iintro ⟨Hh, Hp, HO⟩
      isplitl [Hh Hp]
      · isplitl [Hh] <;> iassumption
      iexact HO)⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

/-- The arguments end as they began. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c =>
      ⟨(h.1 c _ (mem_uc main_arg0 (by decide))).trans (W14_main_arg0 m ρ c),
       (h.1 c _ (mem_uc main_arg1 (by decide))).trans (W14_main_arg1 m ρ c),
       (h.1 c _ (mem_uc main_arg2 (by decide))).trans (W14_main_arg2 m ρ c),
       (h.1 c _ (mem_uc main_arg3 (by decide))).trans (W14_main_arg3 m ρ c)⟩, h.2⟩) (run m ρ)

end Cert.Proof.Proj
-- ==== Proof.Proj.Blocks.lean ====
/-
  The prompt's projection, over the extended reals: what one grid point of each call leaves in its result's block.
-/
module

public import proofs.«01_k».proof.Proof.Proj.Segs
public import Idealize.ShloMosaic.Lib.Pipeline.ValueKit

@[expose] public section

set_option maxRecDepth 16384

noncomputable section

namespace Cert.Proof.Proj

open Cert.Kernel5Ideal Cert.Kernel5Ideal.Gen
open Idealize.ShloMosaic Idealize.ShloMosaic.TcCoe Idealize.SL.Sem
open Idealize.ShloMosaic.Pipeline (Dat)

/-- One row of the norm: the entry by the reciprocal root of the row's mean square, by the gain. -/
def rowNorm (x : Fin 4096 → EReal) (g : EReal) (d : Fin 4096) : EReal :=
  x d * Ideal.rsqrt (Ideal.div (∑ k : Fin 4096, x k * x k) (Ideal.ofBits .f32 0x45800000#32) + Ideal.ofBits .f32 0x358637BD#32) * g

theorem cast_block0 (x : Vec Ideal S1024x512 .f32) (k : Fin 512) (n : Fin 1024) : out0_1 x (ix2 k n) = x (ix2 n k) := by
  frame_out
  pointwise [k0_pay1]
theorem cast_block1 (x : Vec Ideal S1024x512 .f32) (k : Fin 512) (n : Fin 1024) : out1_1 x (ix2 k n) = x (ix2 n k) := by
  frame_out
  pointwise [k1_pay1]
theorem cast_block2 (x : Vec Ideal S1024x512 .f32) (k : Fin 512) (n : Fin 1024) : out2_1 x (ix2 k n) = x (ix2 n k) := by
  frame_out
  pointwise [k2_pay1]
theorem cast_block3 (x : Vec Ideal S1024x512 .f32) (k : Fin 512) (n : Fin 1024) : out3_1 x (ix2 k n) = x (ix2 n k) := by
  frame_out
  pointwise [k3_pay1]
theorem product_block5_2 (a : Vec Ideal S1536x4096 .bf16) (b : Vec Ideal S4096x512 .bf16) (r : Fin 1536) (n : Fin 512) :
    out5_2 a b (ix2 r n) = ∑ k : Fin 4096, a (ix2 r k) * b (ix2 k n) := by
  frame_out
  pointwise [k5_pay1]
theorem product_block6_2 (a : Vec Ideal S1536x4096 .bf16) (b : Vec Ideal S4096x512 .bf16) (r : Fin 1536) (n : Fin 512) :
    out6_2 a b (ix2 r n) = ∑ k : Fin 4096, a (ix2 r k) * b (ix2 k n) := by
  frame_out
  pointwise [k6_pay1]
theorem product_block6_3 (a : Vec Ideal S1536x4096 .bf16) (b : Vec Ideal S4096x512 .bf16) (r : Fin 1536) (n : Fin 512) :
    out6_3 a b (ix2 r n) = ∑ k : Fin 4096, a (ix2 r k) * b (ix2 k n) := by
  frame_out
  pointwise [k6_pay2, k6_pay1]
theorem product_block7_2 (a : Vec Ideal S1536x4096 .bf16) (b : Vec Ideal S4096x512 .bf16) (r : Fin 1536) (n : Fin 512) :
    out7_2 a b (ix2 r n) = ∑ k : Fin 4096, a (ix2 r k) * b (ix2 k n) := by
  frame_out
  pointwise [k7_pay1]
theorem product_block7_3 (a : Vec Ideal S1536x4096 .bf16) (b : Vec Ideal S4096x512 .bf16) (r : Fin 1536) (n : Fin 512) :
    out7_3 a b (ix2 r n) = ∑ k : Fin 4096, a (ix2 r k) * b (ix2 k n) := by
  frame_out
  pointwise [k7_pay2, k7_pay1]
theorem product_block8_2 (a : Vec Ideal S1536x4096 .bf16) (b : Vec Ideal S4096x512 .bf16) (r : Fin 1536) (n : Fin 512) :
    out8_2 a b (ix2 r n) = ∑ k : Fin 4096, a (ix2 r k) * b (ix2 k n) := by
  frame_out
  pointwise [k8_pay1]
theorem product_block9_2 (a : Vec Ideal S1536x4096 .bf16) (b : Vec Ideal S128x4096 .bf16) (r : Fin 1536) (n : Fin 128) :
    out9_2 a b (ix2 r n) = ∑ k : Fin 4096, a (ix2 r k) * b (ix2 n k) := by
  frame_out
  pointwise [k9_pay1]

theorem pick {α : Type} (q : Prop) [Decidable q] (a b : α) : Scalar.select (BitVec.ofBool (decide q)) a b = if q then a else b := by
  by_cases h : q <;> simp [Scalar.select, h]

theorem row_word (i r : Nat) (hi : i < 66) (hr : r < 256) :
    IntOp.cmpi .slt (IntOp.addi (Scalar.muli (BitVec.ofNat 32 i) 256#32) (BitVec.ofNat 32 r)) 16400#32 = BitVec.ofBool (decide (i * 256 + r < 16400)) := by
  have e : IntOp.addi (Scalar.muli (BitVec.ofNat 32 i) 256#32) (BitVec.ofNat 32 r) = BitVec.ofNat 32 (i * 256 + r) := by
    show BitVec.ofNat 32 i * BitVec.ofNat 32 256 + BitVec.ofNat 32 r = _
    rw [← BitVec.ofNat_mul, ← BitVec.ofNat_add]
  rw [e]
  exact WordCmp.cmpi_slt_ofNat (by omega) (by omega)

theorem first_word (i : Nat) (hi : i < 66) : Scalar.cmpi .eq (BitVec.ofNat 32 i) 0#32 = BitVec.ofBool (decide (i = 0)) :=
  (by decide : ∀ i : Fin 66, Scalar.cmpi .eq (BitVec.ofNat 32 i.val) 0#32 = BitVec.ofBool (decide (i.val = 0))) ⟨i, hi⟩

theorem norm_block (i : grid4.Coords) (x : Vec Ideal S256x4096 .f32) (p : Vec Ideal S16x4096 .f32) (e : Vec Ideal S16x4096 .f32) (g : Vec Ideal S1x4096 .f32)
    (r : Fin 256) (d : Fin 4096) : out4_4 i x p e g (ix2 r d) = rowNorm (fun k => if (i 0).val * 256 + r.val < 16400 then
      (if h : r.val < 16 then (if (i 0).val = 0 then e (ix2 ⟨r.val, h⟩ k) else p (ix2 ⟨r.val, h⟩ k)) else x (ix2 ⟨r.val - 16, by omega⟩ k)) else 0) (g (ix2 0 d)) d := by
  frame_out
  pointwise [k4_pay1]
  rw [row_word _ _ (i 0).isLt r.isLt, first_word _ (i 0).isLt]
  simp only [pick]
  unfold rowNorm
  by_cases h : (i 0).val * 256 + r.val < 16400
  · simp only [if_pos h]
  · simp only [if_neg h, zero_mul]

end Cert.Proof.Proj
-- ==== Proof.Proj.Left.lean ====
/-
  The prompt's projection, over the extended reals: what each call leaves in its result array, from the arrays it is entered with.
-/
module

public import proofs.«01_k».proof.Proof.Proj.Blocks

@[expose] public section

set_option maxRecDepth 16384

noncomputable section

namespace Cert.Proof.Proj

open Cert.Kernel5Ideal Cert.Kernel5Ideal.Gen
open Idealize.ShloMosaic Idealize.ShloMosaic.TcCoe Idealize.SL.Sem
open Idealize.ShloMosaic.Pipeline (Dat)

/-! ## The arrays -/

/-- 2048 of the weight's columns, turned over: column `o + j` of the weight is column `j` here. -/
def turned (o : Nat) (ho : o + 2048 ≤ 12296) (w : Vec Ideal S12296x4096 .f32) : Vec Ideal S4096x2048 .bf16 := fun y =>
  w (ix2 ⟨o + (y 1).val, by have h : (y 1).val < 2048 := (y 1).isLt; omega⟩ (y 0))
def turnedWide (w : Vec Ideal S12296x4096 .f32) : Vec Ideal S4096x6144 .bf16 := fun y =>
  w (ix2 ⟨6144 + (y 1).val, by have h : (y 1).val < 6144 := (y 1).isLt; omega⟩ (y 0))

/-- Row `R` of the prompt behind its 16 first rows, and zero past its end. -/
def row (x : Vec Ideal S16384x4096 .f32) (e : Vec Ideal S16x4096 .f32) (R : Nat) (k : Fin 4096) : EReal :=
  if R < 16400 then (if h : R < 16 then e (ix2 ⟨R, h⟩ k) else if h' : R < 16400 then x (ix2 ⟨R - 16, by omega⟩ k) else 0) else 0

/-- The norm, row by row. -/
def normed (x : Vec Ideal S16384x4096 .f32) (e : Vec Ideal S16x4096 .f32) (g : Vec Ideal S1x4096 .f32) : Vec Ideal S16896x4096 .bf16 := fun y =>
  rowNorm (row x e (y 0).val) (g (ix2 0 (y 1))) (y 1)

/-- The product, into all 16896 rows or the first 16400. -/
def product (a : Vec Ideal S16896x4096 .bf16) (b : Vec Ideal S4096x2048 .bf16) : Vec Ideal S16896x2048 .bf16 := fun y =>
  ∑ k : Fin 4096, a (ix2 (y 0) k) * b (ix2 k (y 1))
def productTop (a : Vec Ideal S16896x4096 .bf16) (b : Vec Ideal S4096x2048 .bf16) : Vec Ideal S16400x2048 .f32 := fun y =>
  ∑ k : Fin 4096, a (ix2 ⟨(y 0).val, by have h : (y 0).val < 16400 := (y 0).isLt; omega⟩ k) * b (ix2 k (y 1))
def productWide (a : Vec Ideal S16896x4096 .bf16) (b : Vec Ideal S4096x6144 .bf16) : Vec Ideal S16896x6144 .f32 := fun y =>
  ∑ k : Fin 4096, a (ix2 (y 0) k) * b (ix2 k (y 1))
def productGate (a : Vec Ideal S16896x4096 .bf16) (b : Vec Ideal S128x4096 .bf16) : Vec Ideal S16896x128 .f32 := fun y =>
  ∑ k : Fin 4096, a (ix2 (y 0) k) * b (ix2 (y 1) k)

/-! ## The calls -/

section Calls
variable (V : (c : Dev nD) → (b : Ref sig .tc) → Buf (Elt Ideal) ((c : Thread nD τ).loc b)) (c : Dev nD)

theorem idx0 : ∀ t : Fin cfg0.N, win0_0.index t = ![(grid0.coords t 1).val, (grid0.coords t 0).val] ∧ win0_1.index t = ![(grid0.coords t 0).val, (grid0.coords t 1).val] := (by decide +kernel : ∀ t : Fin grid0.N, _)
theorem lt00 (i : grid0.Coords) : (i 0).val < 8 := (i 0).isLt
theorem lt01 (i : grid0.Coords) : (i 1).val < 2 := (i 1).isLt
theorem cast_in0 (t : Fin cfg0.N) (j : Fin 1024) (k : Fin 512) : held0 V c t (ix2 j k)
    = V c main_v0 (ix2 ⟨1024 * ((grid0.coords t 1).val) + j.val, by have := lt01 (grid0.coords t); omega⟩
        ⟨512 * (grid0.coords t 0).val + k.val, by have := lt00 (grid0.coords t); omega⟩ : S12296x4096.Idx) := by
  unfold held0 Pipeline.Window.fill
  rw [dif_pos (moved0 t _)]
  blk_simp [blkin0]
  blk_ext [idx0 t]
theorem cast_out0 (t : Fin cfg0.N) (k : Fin 512) (j : Fin 1024) : (win0_1.blk t).view.emb (ix2 k j)
    = (ix2 ⟨512 * (grid0.coords t 0).val + k.val, by have := lt00 (grid0.coords t); omega⟩
        ⟨1024 * (grid0.coords t 1).val + j.val, by have := lt01 (grid0.coords t); omega⟩ : S4096x2048.Idx) := by
  blk_ext [idx0 t]
theorem left0 : (dat0 V c).arrAt 1 cfg0.N = turned 0 (by decide) (V c main_v0) := by
  refine (dat0 V c).arrAt_eq_of_covers 1 _ (by decide +kernel) fun t _ y => ?_
  blk_simp
  rw [after0_1]
  have hy : ∃ (r : Fin 512) (n : Fin 1024), y = ix2 r n :=
    ⟨⟨(y 0).val, (y 0).isLt⟩, ⟨(y 1).val, (y 1).isLt⟩, by funext a; fin_cases a <;> rfl⟩
  obtain ⟨r, n, rfl⟩ := hy
  refine ((cast_block0 _ r n).trans (cast_in0 V c t n r)).trans ?_
  refine Eq.trans ?_ (congrArg (turned 0 (by decide) (V c main_v0)) (cast_out0 t r n)).symm
  exact congrArg (V c main_v0) (congrArg (fun q : Fin 12296 => (ix2 q _ : S12296x4096.Idx)) (Fin.ext (by
    show 1024 * ((grid0.coords t 1).val) + n.val = 0 + (1024 * (grid0.coords t 1).val + n.val); omega)))

theorem idx1 : ∀ t : Fin cfg1.N, win1_0.index t = ![2 + (grid1.coords t 1).val, (grid1.coords t 0).val] ∧ win1_1.index t = ![(grid1.coords t 0).val, (grid1.coords t 1).val] := (by decide +kernel : ∀ t : Fin grid1.N, _)
theorem lt10 (i : grid1.Coords) : (i 0).val < 8 := (i 0).isLt
theorem lt11 (i : grid1.Coords) : (i 1).val < 2 := (i 1).isLt
theorem cast_in1 (t : Fin cfg1.N) (j : Fin 1024) (k : Fin 512) : held1 V c t (ix2 j k)
    = V c main_v0 (ix2 ⟨1024 * (2 + (grid1.coords t 1).val) + j.val, by have := lt11 (grid1.coords t); omega⟩
        ⟨512 * (grid1.coords t 0).val + k.val, by have := lt10 (grid1.coords t); omega⟩ : S12296x4096.Idx) := by
  unfold held1 Pipeline.Window.fill
  rw [dif_pos (moved1 t _)]
  blk_simp [blkin1]
  blk_ext [idx1 t]
theorem cast_out1 (t : Fin cfg1.N) (k : Fin 512) (j : Fin 1024) : (win1_1.blk t).view.emb (ix2 k j)
    = (ix2 ⟨512 * (grid1.coords t 0).val + k.val, by have := lt10 (grid1.coords t); omega⟩
        ⟨1024 * (grid1.coords t 1).val + j.val, by have := lt11 (grid1.coords t); omega⟩ : S4096x2048.Idx) := by
  blk_ext [idx1 t]
theorem left1 : (dat1 V c).arrAt 1 cfg1.N = turned 2048 (by decide) (V c main_v0) := by
  refine (dat1 V c).arrAt_eq_of_covers 1 _ (by decide +kernel) fun t _ y => ?_
  blk_simp
  rw [after1_1]
  have hy : ∃ (r : Fin 512) (n : Fin 1024), y = ix2 r n :=
    ⟨⟨(y 0).val, (y 0).isLt⟩, ⟨(y 1).val, (y 1).isLt⟩, by funext a; fin_cases a <;> rfl⟩
  obtain ⟨r, n, rfl⟩ := hy
  refine ((cast_block1 _ r n).trans (cast_in1 V c t n r)).trans ?_
  refine Eq.trans ?_ (congrArg (turned 2048 (by decide) (V c main_v0)) (cast_out1 t r n)).symm
  exact congrArg (V c main_v0) (congrArg (fun q : Fin 12296 => (ix2 q _ : S12296x4096.Idx)) (Fin.ext (by
    show 1024 * (2 + (grid1.coords t 1).val) + n.val = 2048 + (1024 * (grid1.coords t 1).val + n.val); omega)))

theorem idx2 : ∀ t : Fin cfg2.N, win2_0.index t = ![4 + (grid2.coords t 1).val, (grid2.coords t 0).val] ∧ win2_1.index t = ![(grid2.coords t 0).val, (grid2.coords t 1).val] := (by decide +kernel : ∀ t : Fin grid2.N, _)
theorem lt20 (i : grid2.Coords) : (i 0).val < 8 := (i 0).isLt
theorem lt21 (i : grid2.Coords) : (i 1).val < 2 := (i 1).isLt
theorem cast_in2 (t : Fin cfg2.N) (j : Fin 1024) (k : Fin 512) : held2 V c t (ix2 j k)
    = V c main_v0 (ix2 ⟨1024 * (4 + (grid2.coords t 1).val) + j.val, by have := lt21 (grid2.coords t); omega⟩
        ⟨512 * (grid2.coords t 0).val + k.val, by have := lt20 (grid2.coords t); omega⟩ : S12296x4096.Idx) := by
  unfold held2 Pipeline.Window.fill
  rw [dif_pos (moved2 t _)]
  blk_simp [blkin2]
  blk_ext [idx2 t]
theorem cast_out2 (t : Fin cfg2.N) (k : Fin 512) (j : Fin 1024) : (win2_1.blk t).view.emb (ix2 k j)
    = (ix2 ⟨512 * (grid2.coords t 0).val + k.val, by have := lt20 (grid2.coords t); omega⟩
        ⟨1024 * (grid2.coords t 1).val + j.val, by have := lt21 (grid2.coords t); omega⟩ : S4096x2048.Idx) := by
  blk_ext [idx2 t]
theorem left2 : (dat2 V c).arrAt 1 cfg2.N = turned 4096 (by decide) (V c main_v0) := by
  refine (dat2 V c).arrAt_eq_of_covers 1 _ (by decide +kernel) fun t _ y => ?_
  blk_simp
  rw [after2_1]
  have hy : ∃ (r : Fin 512) (n : Fin 1024), y = ix2 r n :=
    ⟨⟨(y 0).val, (y 0).isLt⟩, ⟨(y 1).val, (y 1).isLt⟩, by funext a; fin_cases a <;> rfl⟩
  obtain ⟨r, n, rfl⟩ := hy
  refine ((cast_block2 _ r n).trans (cast_in2 V c t n r)).trans ?_
  refine Eq.trans ?_ (congrArg (turned 4096 (by decide) (V c main_v0)) (cast_out2 t r n)).symm
  exact congrArg (V c main_v0) (congrArg (fun q : Fin 12296 => (ix2 q _ : S12296x4096.Idx)) (Fin.ext (by
    show 1024 * (4 + (grid2.coords t 1).val) + n.val = 4096 + (1024 * (grid2.coords t 1).val + n.val); omega)))

theorem idx3 : ∀ t : Fin cfg3.N, win3_0.index t = ![6 + (grid3.coords t 1).val, (grid3.coords t 0).val] ∧ win3_1.index t = ![(grid3.coords t 0).val, (grid3.coords t 1).val] := (by decide +kernel : ∀ t : Fin grid3.N, _)
theorem lt30 (i : grid3.Coords) : (i 0).val < 8 := (i 0).isLt
theorem lt31 (i : grid3.Coords) : (i 1).val < 6 := (i 1).isLt
theorem cast_in3 (t : Fin cfg3.N) (j : Fin 1024) (k : Fin 512) : held3 V c t (ix2 j k)
    = V c main_v0 (ix2 ⟨1024 * (6 + (grid3.coords t 1).val) + j.val, by have := lt31 (grid3.coords t); omega⟩
        ⟨512 * (grid3.coords t 0).val + k.val, by have := lt30 (grid3.coords t); omega⟩ : S12296x4096.Idx) := by
  unfold held3 Pipeline.Window.fill
  rw [dif_pos (moved3 t _)]
  blk_simp [blkin3]
  blk_ext [idx3 t]
theorem cast_out3 (t : Fin cfg3.N) (k : Fin 512) (j : Fin 1024) : (win3_1.blk t).view.emb (ix2 k j)
    = (ix2 ⟨512 * (grid3.coords t 0).val + k.val, by have := lt30 (grid3.coords t); omega⟩
        ⟨1024 * (grid3.coords t 1).val + j.val, by have := lt31 (grid3.coords t); omega⟩ : S4096x6144.Idx) := by
  blk_ext [idx3 t]
theorem left3 : (dat3 V c).arrAt 1 cfg3.N = turnedWide (V c main_v0) := by
  refine (dat3 V c).arrAt_eq_of_covers 1 _ (by decide +kernel) fun t _ y => ?_
  blk_simp
  rw [after3_1]
  have hy : ∃ (r : Fin 512) (n : Fin 1024), y = ix2 r n :=
    ⟨⟨(y 0).val, (y 0).isLt⟩, ⟨(y 1).val, (y 1).isLt⟩, by funext a; fin_cases a <;> rfl⟩
  obtain ⟨r, n, rfl⟩ := hy
  refine ((cast_block3 _ r n).trans (cast_in3 V c t n r)).trans ?_
  refine Eq.trans ?_ (congrArg (turnedWide (V c main_v0)) (cast_out3 t r n)).symm
  exact congrArg (V c main_v0) (congrArg (fun q : Fin 12296 => (ix2 q _ : S12296x4096.Idx)) (Fin.ext (by
    show 1024 * (6 + (grid3.coords t 1).val) + n.val = 6144 + (1024 * (grid3.coords t 1).val + n.val); omega)))

theorem idx4 : ∀ t : Fin cfg4.N, win4_0.index t = ![min (grid4.coords t 0).val 63, 0] ∧ win4_1.index t = ![min 1023 (16 * (grid4.coords t 0).val - 1), 0]
    ∧ win4_2.index t = ![0, 0] ∧ win4_3.index t = ![0, 0] ∧ win4_4.index t = ![(grid4.coords t 0).val, 0] := (by decide +kernel : ∀ t : Fin grid4.N, _)
theorem lt4 (i : grid4.Coords) : (i 0).val < 66 := (i 0).isLt
theorem x_in (t : Fin cfg4.N) (r : Fin 256) (d : Fin 4096) : blkin4 V c 0 t (ix2 r d)
    = V c main_arg0 (ix2 ⟨256 * min (grid4.coords t 0).val 63 + r.val, by omega⟩ d : S16384x4096.Idx) := by
  blk_simp [blkin4]
  blk_ext [idx4 t]
theorem p_in (t : Fin cfg4.N) (r : Fin 16) (d : Fin 4096) : blkin4 V c 1 t (ix2 r d)
    = V c main_arg0 (ix2 ⟨16 * min 1023 (16 * (grid4.coords t 0).val - 1) + r.val, by omega⟩ d : S16384x4096.Idx) := by
  blk_simp [blkin4]
  blk_ext [idx4 t]
theorem e_in (t : Fin cfg4.N) (r : Fin 16) (d : Fin 4096) : blkin4 V c 2 t (ix2 r d) = V c main_arg1 (ix2 r d : S16x4096.Idx) := by
  blk_simp [blkin4]
  blk_ext [idx4 t]
theorem g_in (t : Fin cfg4.N) (d : Fin 4096) : blkin4 V c 3 t (ix2 0 d) = V c main_v8 (ix2 0 d : S1x4096.Idx) := by
  blk_simp [blkin4]
  blk_ext [idx4 t]
theorem n_out (t : Fin cfg4.N) (r : Fin 256) (d : Fin 4096) : (win4_4.blk t).view.emb (ix2 r d)
    = (ix2 ⟨256 * (grid4.coords t 0).val + r.val, by have := lt4 (grid4.coords t); omega⟩ d : S16896x4096.Idx) := by
  blk_ext [idx4 t]

/-- The rows a point of the norm reads are the rows it writes. -/
theorem rows_read (x : Vec Ideal S16384x4096 .f32) (e : Vec Ideal S16x4096 .f32) (i : Nat) (hi : i < 66) (r : Fin 256) (k : Fin 4096) :
    (if i * 256 + r.val < 16400 then (if h : r.val < 16 then (if i = 0 then e (ix2 ⟨r.val, h⟩ k)
        else x (ix2 ⟨16 * min 1023 (16 * i - 1) + r.val, by omega⟩ k)) else x (ix2 ⟨256 * min i 63 + (r.val - 16), by omega⟩ k)) else 0)
      = row x e (256 * i + r.val) k := by
  have hr := r.isLt
  unfold row
  by_cases h1 : i * 256 + r.val < 16400
  · rw [if_pos h1, if_pos (by omega : 256 * i + r.val < 16400)]
    by_cases h2 : r.val < 16
    · rw [dif_pos h2]
      by_cases h3 : i = 0
      · subst h3
        rw [if_pos rfl, dif_pos (by omega)]
        exact congrArg (fun q : Fin 16 => e (ix2 q k)) (Fin.ext (by show r.val = 256 * 0 + r.val; omega))
      · rw [if_neg h3, dif_neg (by omega), dif_pos (by omega)]
        exact congrArg (fun q : Fin 16384 => x (ix2 q k)) (Fin.ext (by show 16 * min 1023 (16 * i - 1) + r.val = 256 * i + r.val - 16; omega))
    · rw [dif_neg h2, dif_neg (by omega), dif_pos (by omega)]
      exact congrArg (fun q : Fin 16384 => x (ix2 q k)) (Fin.ext (by show 256 * min i 63 + (r.val - 16) = 256 * i + r.val - 16; omega))
  · rw [if_neg h1, if_neg (by omega)]

theorem left4 : (dat4 V c).arrAt 4 cfg4.N = normed (V c main_arg0) (V c main_arg1) (V c main_v8) := by
  refine (dat4 V c).arrAt_eq_of_covers 4 _ (by decide +kernel) fun t _ y => ?_
  blk_simp
  rw [after4_4]
  have hy : ∃ (r : Fin 256) (n : Fin 4096), y = ix2 r n :=
    ⟨⟨(y 0).val, (y 0).isLt⟩, ⟨(y 1).val, (y 1).isLt⟩, by funext a; fin_cases a <;> rfl⟩
  obtain ⟨r, n, rfl⟩ := hy
  refine (norm_block _ _ _ _ _ r n).trans ?_
  rw [g_in]
  simp only [x_in, p_in, e_in]
  refine Eq.trans ?_ (congrArg (normed (V c main_arg0) (V c main_arg1) (V c main_v8)) (n_out t r n)).symm
  exact congrArg (fun f : Fin 4096 → EReal => rowNorm f (V c main_v8 (ix2 0 n : S1x4096.Idx)) n) (funext fun k => rows_read _ _ _ (lt4 _) r k)

theorem idx5 : ∀ t : Fin cfg5.N, win5_0.index t = ![(grid5.coords t 0).val, 0] ∧ win5_1.index t = ![0, (grid5.coords t 1).val] ∧ win5_2.index t = ![(grid5.coords t 0).val, (grid5.coords t 1).val] := (by decide +kernel : ∀ t : Fin grid5.N, _)
theorem lt50 (i : grid5.Coords) : (i 0).val < 11 := (i 0).isLt
theorem lt51 (i : grid5.Coords) : (i 1).val < 4 := (i 1).isLt
theorem a_in5 (t : Fin cfg5.N) (r : Fin 1536) (k : Fin 4096) : blkin5 V c 0 t (ix2 r k)
    = V c main_v9 (ix2 ⟨1536 * (grid5.coords t 0).val + r.val, by have := lt50 (grid5.coords t); omega⟩ k : S16896x4096.Idx) := by
  blk_simp [blkin5]
  blk_ext [idx5 t]
theorem b_in5 (t : Fin cfg5.N) (k : Fin 4096) (n : Fin 512) : blkin5 V c 1 t (ix2 k n)
    = V c main_v1 (ix2 k ⟨512 * (grid5.coords t 1).val + n.val, by have := lt51 (grid5.coords t); omega⟩ : S4096x2048.Idx) := by
  blk_simp [blkin5]
  blk_ext [idx5 t]
theorem p_out5_2 (t : Fin cfg5.N) (r : Fin 1536) (n : Fin 512) : (win5_2.blk t).view.emb (ix2 r n)
    = (ix2 ⟨1536 * (grid5.coords t 0).val + r.val, by have := lt50 (grid5.coords t); omega⟩ ⟨512 * (grid5.coords t 1).val + n.val, by have := lt51 (grid5.coords t); omega⟩ : S16896x2048.Idx) := by
  blk_ext [idx5 t]
theorem left5_2 : (dat5 V c).arrAt 2 cfg5.N = product (V c main_v9) (V c main_v1) := by
  refine (dat5 V c).arrAt_eq_of_covers 2 _ (by decide +kernel) fun t _ y => ?_
  blk_simp
  rw [after5_2]
  have hy : ∃ (r : Fin 1536) (n : Fin 512), y = ix2 r n :=
    ⟨⟨(y 0).val, (y 0).isLt⟩, ⟨(y 1).val, (y 1).isLt⟩, by funext a; fin_cases a <;> rfl⟩
  obtain ⟨r, n, rfl⟩ := hy
  refine (product_block5_2 _ _ r n).trans ?_
  simp only [a_in5, b_in5]
  exact (congrArg (product (V c main_v9) (V c main_v1)) (p_out5_2 t r n)).symm

theorem idx6 : ∀ t : Fin cfg6.N, win6_0.index t = ![(grid6.coords t 0).val, 0] ∧ win6_1.index t = ![0, (grid6.coords t 1).val] ∧ win6_2.index t = ![(grid6.coords t 0).val, (grid6.coords t 1).val] ∧ win6_3.index t = ![(grid6.coords t 0).val, (grid6.coords t 1).val] := (by decide +kernel : ∀ t : Fin grid6.N, _)
theorem lt60 (i : grid6.Coords) : (i 0).val < 11 := (i 0).isLt
theorem lt61 (i : grid6.Coords) : (i 1).val < 4 := (i 1).isLt
theorem a_in6 (t : Fin cfg6.N) (r : Fin 1536) (k : Fin 4096) : blkin6 V c 0 t (ix2 r k)
    = V c main_v9 (ix2 ⟨1536 * (grid6.coords t 0).val + r.val, by have := lt60 (grid6.coords t); omega⟩ k : S16896x4096.Idx) := by
  blk_simp [blkin6]
  blk_ext [idx6 t]
theorem b_in6 (t : Fin cfg6.N) (k : Fin 4096) (n : Fin 512) : blkin6 V c 1 t (ix2 k n)
    = V c main_v2 (ix2 k ⟨512 * (grid6.coords t 1).val + n.val, by have := lt61 (grid6.coords t); omega⟩ : S4096x2048.Idx) := by
  blk_simp [blkin6]
  blk_ext [idx6 t]
theorem top_row6 (t : Fin cfg6.N) (y : ((cfg6.win 2).xblock (cfg6.grid.coords t)).Idx) :
    ((win6_2.blk t).view.emb y 0).val = 1536 * (grid6.coords t 0).val + (y 0).val := by
  blk_simp [idx6 t]
  rw [Nat.mul_comm]
theorem top_col6 (t : Fin cfg6.N) (y : ((cfg6.win 2).xblock (cfg6.grid.coords t)).Idx) :
    ((win6_2.blk t).view.emb y 1).val = 512 * (grid6.coords t 1).val + (y 1).val := by
  blk_simp [idx6 t]
  rw [Nat.mul_comm]
theorem left6_2 : (dat6 V c).arrAt 2 cfg6.N = productTop (V c main_v9) (V c main_v2) := by
  refine (dat6 V c).arrAt_eq_of_covers 2 _ (by decide +kernel) fun t _ y => ?_
  blk_simp
  rw [after6_2]
  have h0 : (y 0).val < 1536 := ((cfg6.win 2).xinj (cfg6.grid.coords t) y 0).isLt
  have h1 : (y 1).val < 512 := ((cfg6.win 2).xinj (cfg6.grid.coords t) y 1).isLt
  have e : (cfg6.win 2).xinj (cfg6.grid.coords t) y = (ix2 ⟨(y 0).val, h0⟩ ⟨(y 1).val, h1⟩ : S1536x512.Idx) := by funext a; fin_cases a <;> rfl
  rw [e]
  refine (product_block6_2 _ _ _ _).trans ?_
  simp only [a_in6, b_in6]
  refine Finset.sum_congr rfl fun k _ => congrArg₂ (· * ·) (congrArg (fun q : Fin 16896 => V c main_v9 (ix2 q k : S16896x4096.Idx)) (Fin.ext ?_))
    (congrArg (fun q : Fin 2048 => V c main_v2 (ix2 k q : S4096x2048.Idx)) (Fin.ext ?_))
  · exact (top_row6 t y).symm
  · exact (top_col6 t y).symm

theorem p_out6_3 (t : Fin cfg6.N) (r : Fin 1536) (n : Fin 512) : (win6_3.blk t).view.emb (ix2 r n)
    = (ix2 ⟨1536 * (grid6.coords t 0).val + r.val, by have := lt60 (grid6.coords t); omega⟩ ⟨512 * (grid6.coords t 1).val + n.val, by have := lt61 (grid6.coords t); omega⟩ : S16896x2048.Idx) := by
  blk_ext [idx6 t]
theorem left6_3 : (dat6 V c).arrAt 3 cfg6.N = product (V c main_v9) (V c main_v2) := by
  refine (dat6 V c).arrAt_eq_of_covers 3 _ (by decide +kernel) fun t _ y => ?_
  blk_simp
  rw [after6_3]
  have hy : ∃ (r : Fin 1536) (n : Fin 512), y = ix2 r n :=
    ⟨⟨(y 0).val, (y 0).isLt⟩, ⟨(y 1).val, (y 1).isLt⟩, by funext a; fin_cases a <;> rfl⟩
  obtain ⟨r, n, rfl⟩ := hy
  refine (product_block6_3 _ _ r n).trans ?_
  simp only [a_in6, b_in6]
  exact (congrArg (product (V c main_v9) (V c main_v2)) (p_out6_3 t r n)).symm

theorem idx7 : ∀ t : Fin cfg7.N, win7_0.index t = ![(grid7.coords t 0).val, 0] ∧ win7_1.index t = ![0, (grid7.coords t 1).val] ∧ win7_2.index t = ![(grid7.coords t 0).val, (grid7.coords t 1).val] ∧ win7_3.index t = ![(grid7.coords t 0).val, (grid7.coords t 1).val] := (by decide +kernel : ∀ t : Fin grid7.N, _)
theorem lt70 (i : grid7.Coords) : (i 0).val < 11 := (i 0).isLt
theorem lt71 (i : grid7.Coords) : (i 1).val < 4 := (i 1).isLt
theorem a_in7 (t : Fin cfg7.N) (r : Fin 1536) (k : Fin 4096) : blkin7 V c 0 t (ix2 r k)
    = V c main_v9 (ix2 ⟨1536 * (grid7.coords t 0).val + r.val, by have := lt70 (grid7.coords t); omega⟩ k : S16896x4096.Idx) := by
  blk_simp [blkin7]
  blk_ext [idx7 t]
theorem b_in7 (t : Fin cfg7.N) (k : Fin 4096) (n : Fin 512) : blkin7 V c 1 t (ix2 k n)
    = V c main_v3 (ix2 k ⟨512 * (grid7.coords t 1).val + n.val, by have := lt71 (grid7.coords t); omega⟩ : S4096x2048.Idx) := by
  blk_simp [blkin7]
  blk_ext [idx7 t]
theorem top_row7 (t : Fin cfg7.N) (y : ((cfg7.win 2).xblock (cfg7.grid.coords t)).Idx) :
    ((win7_2.blk t).view.emb y 0).val = 1536 * (grid7.coords t 0).val + (y 0).val := by
  blk_simp [idx7 t]
  rw [Nat.mul_comm]
theorem top_col7 (t : Fin cfg7.N) (y : ((cfg7.win 2).xblock (cfg7.grid.coords t)).Idx) :
    ((win7_2.blk t).view.emb y 1).val = 512 * (grid7.coords t 1).val + (y 1).val := by
  blk_simp [idx7 t]
  rw [Nat.mul_comm]
theorem left7_2 : (dat7 V c).arrAt 2 cfg7.N = productTop (V c main_v9) (V c main_v3) := by
  refine (dat7 V c).arrAt_eq_of_covers 2 _ (by decide +kernel) fun t _ y => ?_
  blk_simp
  rw [after7_2]
  have h0 : (y 0).val < 1536 := ((cfg7.win 2).xinj (cfg7.grid.coords t) y 0).isLt
  have h1 : (y 1).val < 512 := ((cfg7.win 2).xinj (cfg7.grid.coords t) y 1).isLt
  have e : (cfg7.win 2).xinj (cfg7.grid.coords t) y = (ix2 ⟨(y 0).val, h0⟩ ⟨(y 1).val, h1⟩ : S1536x512.Idx) := by funext a; fin_cases a <;> rfl
  rw [e]
  refine (product_block7_2 _ _ _ _).trans ?_
  simp only [a_in7, b_in7]
  refine Finset.sum_congr rfl fun k _ => congrArg₂ (· * ·) (congrArg (fun q : Fin 16896 => V c main_v9 (ix2 q k : S16896x4096.Idx)) (Fin.ext ?_))
    (congrArg (fun q : Fin 2048 => V c main_v3 (ix2 k q : S4096x2048.Idx)) (Fin.ext ?_))
  · exact (top_row7 t y).symm
  · exact (top_col7 t y).symm

theorem p_out7_3 (t : Fin cfg7.N) (r : Fin 1536) (n : Fin 512) : (win7_3.blk t).view.emb (ix2 r n)
    = (ix2 ⟨1536 * (grid7.coords t 0).val + r.val, by have := lt70 (grid7.coords t); omega⟩ ⟨512 * (grid7.coords t 1).val + n.val, by have := lt71 (grid7.coords t); omega⟩ : S16896x2048.Idx) := by
  blk_ext [idx7 t]
theorem left7_3 : (dat7 V c).arrAt 3 cfg7.N = product (V c main_v9) (V c main_v3) := by
  refine (dat7 V c).arrAt_eq_of_covers 3 _ (by decide +kernel) fun t _ y => ?_
  blk_simp
  rw [after7_3]
  have hy : ∃ (r : Fin 1536) (n : Fin 512), y = ix2 r n :=
    ⟨⟨(y 0).val, (y 0).isLt⟩, ⟨(y 1).val, (y 1).isLt⟩, by funext a; fin_cases a <;> rfl⟩
  obtain ⟨r, n, rfl⟩ := hy
  refine (product_block7_3 _ _ r n).trans ?_
  simp only [a_in7, b_in7]
  exact (congrArg (product (V c main_v9) (V c main_v3)) (p_out7_3 t r n)).symm

theorem idx8 : ∀ t : Fin cfg8.N, win8_0.index t = ![(grid8.coords t 0).val, 0] ∧ win8_1.index t = ![0, (grid8.coords t 1).val] ∧ win8_2.index t = ![(grid8.coords t 0).val, (grid8.coords t 1).val] := (by decide +kernel : ∀ t : Fin grid8.N, _)
theorem lt80 (i : grid8.Coords) : (i 0).val < 11 := (i 0).isLt
theorem lt81 (i : grid8.Coords) : (i 1).val < 12 := (i 1).isLt
theorem a_in8 (t : Fin cfg8.N) (r : Fin 1536) (k : Fin 4096) : blkin8 V c 0 t (ix2 r k)
    = V c main_v9 (ix2 ⟨1536 * (grid8.coords t 0).val + r.val, by have := lt80 (grid8.coords t); omega⟩ k : S16896x4096.Idx) := by
  blk_simp [blkin8]
  blk_ext [idx8 t]
theorem b_in8 (t : Fin cfg8.N) (k : Fin 4096) (n : Fin 512) : blkin8 V c 1 t (ix2 k n)
    = V c main_v4 (ix2 k ⟨512 * (grid8.coords t 1).val + n.val, by have := lt81 (grid8.coords t); omega⟩ : S4096x6144.Idx) := by
  blk_simp [blkin8]
  blk_ext [idx8 t]
theorem p_out8_2 (t : Fin cfg8.N) (r : Fin 1536) (n : Fin 512) : (win8_2.blk t).view.emb (ix2 r n)
    = (ix2 ⟨1536 * (grid8.coords t 0).val + r.val, by have := lt80 (grid8.coords t); omega⟩ ⟨512 * (grid8.coords t 1).val + n.val, by have := lt81 (grid8.coords t); omega⟩ : S16896x6144.Idx) := by
  blk_ext [idx8 t]
theorem left8_2 : (dat8 V c).arrAt 2 cfg8.N = productWide (V c main_v9) (V c main_v4) := by
  refine (dat8 V c).arrAt_eq_of_covers 2 _ (by decide +kernel) fun t _ y => ?_
  blk_simp
  rw [after8_2]
  have hy : ∃ (r : Fin 1536) (n : Fin 512), y = ix2 r n :=
    ⟨⟨(y 0).val, (y 0).isLt⟩, ⟨(y 1).val, (y 1).isLt⟩, by funext a; fin_cases a <;> rfl⟩
  obtain ⟨r, n, rfl⟩ := hy
  refine (product_block8_2 _ _ r n).trans ?_
  simp only [a_in8, b_in8]
  exact (congrArg (productWide (V c main_v9) (V c main_v4)) (p_out8_2 t r n)).symm

theorem idx9 : ∀ t : Fin cfg9.N, win9_0.index t = ![(grid9.coords t 0).val, 0] ∧ win9_1.index t = ![0, 0] ∧ win9_2.index t = ![(grid9.coords t 0).val, 0] := (by decide +kernel : ∀ t : Fin grid9.N, _)
theorem lt90 (i : grid9.Coords) : (i 0).val < 11 := (i 0).isLt
theorem a_in9 (t : Fin cfg9.N) (r : Fin 1536) (k : Fin 4096) : blkin9 V c 0 t (ix2 r k)
    = V c main_v9 (ix2 ⟨1536 * (grid9.coords t 0).val + r.val, by have := lt90 (grid9.coords t); omega⟩ k : S16896x4096.Idx) := by
  blk_simp [blkin9]
  blk_ext [idx9 t]
theorem b_in9 (t : Fin cfg9.N) (n : Fin 128) (k : Fin 4096) : blkin9 V c 1 t (ix2 n k) = V c main_v7 (ix2 n k : S128x4096.Idx) := by
  blk_simp [blkin9]
  blk_ext [idx9 t]
theorem p_out9_2 (t : Fin cfg9.N) (r : Fin 1536) (n : Fin 128) : (win9_2.blk t).view.emb (ix2 r n)
    = (ix2 ⟨1536 * (grid9.coords t 0).val + r.val, by have := lt90 (grid9.coords t); omega⟩ n : S16896x128.Idx) := by
  blk_ext [idx9 t]
theorem left9_2 : (dat9 V c).arrAt 2 cfg9.N = productGate (V c main_v9) (V c main_v7) := by
  refine (dat9 V c).arrAt_eq_of_covers 2 _ (by decide +kernel) fun t _ y => ?_
  blk_simp
  rw [after9_2]
  have hy : ∃ (r : Fin 1536) (n : Fin 128), y = ix2 r n :=
    ⟨⟨(y 0).val, (y 0).isLt⟩, ⟨(y 1).val, (y 1).isLt⟩, by funext a; fin_cases a <;> rfl⟩
  obtain ⟨r, n, rfl⟩ := hy
  refine (product_block9_2 _ _ r n).trans ?_
  simp only [a_in9, b_in9]
  exact (congrArg (productGate (V c main_v9) (V c main_v7)) (p_out9_2 t r n)).symm

end Calls

end Cert.Proof.Proj
-- ==== Proof.Proj.Finals.lean ====
/-
  What the prompt's projections leave, from the arguments: an entry of a result is a normalised row times a column of the weight.
-/
module

public import proofs.«01_k».proof.Proof.Proj.Left
public import proofs.«01_k».proof.Proof.Proj.Segs

@[expose] public section

set_option maxRecDepth 16384

noncomputable section

namespace Cert.Proof.Proj

open Cert.Kernel5Ideal Cert.Kernel5Ideal.Gen
open Idealize.ShloMosaic Idealize.ShloMosaic.TcCoe Idealize.ShloMosaic.Tactic
open Idealize.SL.Sem Idealize.ShloMosaic.Rounds
open Idealize.ShloMosaic.Pipeline (Dat Cfg Window)

/-! ## The results from the arguments -/

section Wholes
variable (x : Vec Ideal S16384x4096 .f32) (e : Vec Ideal S16x4096 .f32) (g : Vec Ideal S4096 .f32) (w : Vec Ideal S4096x12296 .f32)

/-- Row `R`, normalised, times column `C` of the weight. -/
def entry (R : ℕ) (C : Fin 12296) : EReal := ∑ k : Fin 4096, rowNorm (row x e R) (g (ix1 k)) k * w (ix2 k C)
def whole (o : Nat) (ho : o + 2048 ≤ 12296) : Vec Ideal S16896x2048 .bf16 := fun y =>
  entry x e g w (y 0).val ⟨o + (y 1).val, by have h : (y 1).val < 2048 := (y 1).isLt; omega⟩
def wholeTop (o : Nat) (ho : o + 2048 ≤ 12296) : Vec Ideal S16400x2048 .f32 := fun y =>
  entry x e g w (y 0).val ⟨o + (y 1).val, by have h : (y 1).val < 2048 := (y 1).isLt; omega⟩
def wholeWide : Vec Ideal S16896x6144 .f32 := fun y =>
  entry x e g w (y 0).val ⟨6144 + (y 1).val, by have h : (y 1).val < 6144 := (y 1).isLt; omega⟩
def wholeGate : Vec Ideal S16896x128 .f32 := fun y =>
  if h : (y 1).val < 8 then entry x e g w (y 0).val ⟨12288 + (y 1).val, by omega⟩ else 0

/-- The gain as a row, the weight turned, and the gates' rows of it behind 8 filled up with zeros. -/
abbrev gainRow : Vec Ideal S1x4096 .f32 := shapeCast S1x4096 g shapeCasts_S4096_S1x4096
abbrev weight : Vec Ideal S12296x4096 .f32 := transpose S12296x4096 [1, 0] w transposes_S4096x12296_S12296x4096_1_0
def gateRows (v : Vec Ideal S12296x4096 .f32) : Vec Ideal S128x4096 .bf16 :=
  truncf .bf16 (pad S128x4096 ![0, 0] ![120, 0] ![0, 0] (extractStridedSlice S8x4096 ![12288, 0] v slices_S12296x4096_S8x4096_12288_0)
    (sitofp (F := Ideal) .f32 (constantI S_ 32 0#32)) pads_S8x4096_S128x4096_01200_000 h_S_) bitsLt_bf16_f32

theorem gain_row (d : Fin 4096) : shapeCast S1x4096 g shapeCasts_S4096_S1x4096 (ix2 0 d) = g (ix1 d) := by
  pointwise
  blk_ext
theorem weight_at (C : Fin 12296) (k : Fin 4096) : transpose S12296x4096 [1, 0] w transposes_S4096x12296_S12296x4096_1_0 (ix2 C k) = w (ix2 k C) := by
  pointwise
theorem normed_at (R : Fin 16896) (k : Fin 4096) : normed x e (gainRow g) (ix2 R k) = rowNorm (row x e R.val) (g (ix1 k)) k :=
  congrArg (fun v => rowNorm (row x e R.val) v k) (gain_row g k)
theorem pad_zero : FloatOps.sitofp (F := Ideal) .f32 (0#32) = (0 : EReal) := by
  show ((((0#32 : BitVec 32).toInt : ℤ) : ℝ) : EReal) = 0
  simp
theorem gates_at (v : Vec Ideal S12296x4096 .f32) (r : Fin 128) (k : Fin 4096) : gateRows v (ix2 r k)
    = if h : r.val < 8 then v (ix2 ⟨12288 + r.val, by omega⟩ k) else 0 := by
  unfold gateRows
  pointwise
  rw [pad_zero]

theorem product_whole (o : Nat) (ho : o + 2048 ≤ 12296) : product (normed x e (gainRow g)) (turned o ho (weight w)) = whole x e g w o ho := by
  funext y
  exact Finset.sum_congr rfl fun k _ => congrArg₂ (· * ·) (normed_at x e g (y 0) k) (weight_at w _ k)
theorem product_wholeTop (o : Nat) (ho : o + 2048 ≤ 12296) : productTop (normed x e (gainRow g)) (turned o ho (weight w)) = wholeTop x e g w o ho := by
  funext y
  exact Finset.sum_congr rfl fun k _ => congrArg₂ (· * ·) (normed_at x e g _ k) (weight_at w _ k)
theorem product_wholeWide : productWide (normed x e (gainRow g)) (turnedWide (weight w)) = wholeWide x e g w := by
  funext y
  exact Finset.sum_congr rfl fun k _ => congrArg₂ (· * ·) (normed_at x e g (y 0) k) (weight_at w _ k)
theorem product_wholeGate : productGate (normed x e (gainRow g)) (gateRows (weight w)) = wholeGate x e g w := by
  funext y
  unfold wholeGate entry productGate
  by_cases h : (y 1).val < 8
  · rw [dif_pos h]
    exact Finset.sum_congr rfl fun k _ => congrArg₂ (· * ·) (normed_at x e g (y 0) k) (((gates_at (weight w) (y 1) k).trans (dif_pos h)).trans (weight_at w _ k))
  · rw [dif_neg h]
    exact Finset.sum_eq_zero fun k _ => (congrArg (_ * ·) ((gates_at (weight w) (y 1) k).trans (dif_neg h))).trans (mul_zero _)

end Wholes

/-! ## The boundaries -/

section Finals
variable (m : (ℓ : Loc nD τ sig) → Buf (Elt Ideal) ℓ) (ρ : Dev nD → PrngReg) (c : Dev nD)

abbrev X : Vec Ideal S16384x4096 .f32 := m (c.tc.loc main_arg0)
abbrev E : Vec Ideal S16x4096 .f32 := m (c.tc.loc main_arg1)
abbrev G : Vec Ideal S4096 .f32 := m (c.tc.loc main_arg2)
abbrev Wt : Vec Ideal S4096x12296 .f32 := m (c.tc.loc main_arg3)

theorem turned1 : V1 m ρ c main_v0 = weight (Wt m c) := rfl
theorem turned2 : V2 m ρ c main_v0 = weight (Wt m c) := (W2_of m ρ c main_v0 (by decide)).trans (turned1 m ρ c)
theorem turned3 : V3 m ρ c main_v0 = weight (Wt m c) := (W3_of m ρ c main_v0 (by decide)).trans (turned2 m ρ c)
theorem turned4 : V4 m ρ c main_v0 = weight (Wt m c) := (W4_of m ρ c main_v0 (by decide)).trans (turned3 m ρ c)
theorem turned5 : V5 m ρ c main_v0 = weight (Wt m c) := (W5_of m ρ c main_v0 (by decide)).trans (turned4 m ρ c)
theorem cast0 : V9 m ρ c main_v1 = turned 0 (by decide) (weight (Wt m c)) :=
  (((((((W9_of m ρ c main_v1 (by decide)).trans (W8_of m ρ c main_v1 (by decide))).trans (W7_of m ρ c main_v1 (by decide))).trans (W6_of m ρ c main_v1 (by decide))).trans (W5_of m ρ c main_v1 (by decide))).trans (W4_of m ρ c main_v1 (by decide))).trans (W3_of m ρ c main_v1 (by decide))).trans ((W2_arr m ρ c 1).trans
    ((left0 (V1 m ρ) c).trans (congrArg (turned 0 (by decide)) (turned1 m ρ c))))
theorem cast1 : V10 m ρ c main_v2 = turned 2048 (by decide) (weight (Wt m c)) :=
  (((((((W10_of m ρ c main_v2 (by decide)).trans (W9_of m ρ c main_v2 (by decide))).trans (W8_of m ρ c main_v2 (by decide))).trans (W7_of m ρ c main_v2 (by decide))).trans (W6_of m ρ c main_v2 (by decide))).trans (W5_of m ρ c main_v2 (by decide))).trans (W4_of m ρ c main_v2 (by decide))).trans ((W3_arr m ρ c 1).trans
    ((left1 (V2 m ρ) c).trans (congrArg (turned 2048 (by decide)) (turned2 m ρ c))))
theorem cast2 : V11 m ρ c main_v3 = turned 4096 (by decide) (weight (Wt m c)) :=
  (((((((W11_of m ρ c main_v3 (by decide)).trans (W10_of m ρ c main_v3 (by decide))).trans (W9_of m ρ c main_v3 (by decide))).trans (W8_of m ρ c main_v3 (by decide))).trans (W7_of m ρ c main_v3 (by decide))).trans (W6_of m ρ c main_v3 (by decide))).trans (W5_of m ρ c main_v3 (by decide))).trans ((W4_arr m ρ c 1).trans
    ((left2 (V3 m ρ) c).trans (congrArg (turned 4096 (by decide)) (turned3 m ρ c))))
theorem cast3 : V12 m ρ c main_v4 = turnedWide (weight (Wt m c)) :=
  (((((((W12_of m ρ c main_v4 (by decide)).trans (W11_of m ρ c main_v4 (by decide))).trans (W10_of m ρ c main_v4 (by decide))).trans (W9_of m ρ c main_v4 (by decide))).trans (W8_of m ρ c main_v4 (by decide))).trans (W7_of m ρ c main_v4 (by decide))).trans (W6_of m ρ c main_v4 (by decide))).trans ((W5_arr m ρ c 1).trans
    ((left3 (V4 m ρ) c).trans (congrArg (turnedWide) (turned4 m ρ c))))
theorem gates : V13 m ρ c main_v7 = gateRows (weight (Wt m c)) :=
  (((((W13_of m ρ c main_v7 (by decide)).trans (W12_of m ρ c main_v7 (by decide))).trans (W11_of m ρ c main_v7 (by decide))).trans (W10_of m ρ c main_v7 (by decide))).trans (W9_of m ρ c main_v7 (by decide))).trans ((show W8 m ρ c (Proc.devRef .tc main_v7) = gateRows (W5 m ρ c (Proc.devRef .tc main_v0)) from rfl).trans (congrArg gateRows (turned5 m ρ c)))
theorem gain8 : V8 m ρ c main_v8 = gainRow (G m c) :=
  (show W8 m ρ c (Proc.devRef .tc main_v8) = gainRow (W7 m ρ c (Proc.devRef .tc main_arg2)) from rfl).trans (congrArg gainRow (W7_args m ρ c main_arg2 (by decide)))
theorem norm9 : V9 m ρ c main_v9 = normed (X m c) (E m c) (gainRow (G m c)) := by
  refine (W9_arr m ρ c 4).trans ((left4 (V8 m ρ) c).trans ?_)
  rw [gain8 m ρ c]
  exact congrArg₂ (fun x e => normed x e _) (W8_args m ρ c main_arg0 (by decide)) (W8_args m ρ c main_arg1 (by decide))
theorem norm10 : V10 m ρ c main_v9 = normed (X m c) (E m c) (gainRow (G m c)) := (W10_of m ρ c main_v9 (by decide)).trans (norm9 m ρ c)
theorem norm11 : V11 m ρ c main_v9 = normed (X m c) (E m c) (gainRow (G m c)) := (W11_of m ρ c main_v9 (by decide)).trans (norm10 m ρ c)
theorem norm12 : V12 m ρ c main_v9 = normed (X m c) (E m c) (gainRow (G m c)) := (W12_of m ρ c main_v9 (by decide)).trans (norm11 m ρ c)
theorem norm13 : V13 m ρ c main_v9 = normed (X m c) (E m c) (gainRow (G m c)) := (W13_of m ρ c main_v9 (by decide)).trans (norm12 m ρ c)
theorem final0 : W14 m ρ c (Proc.devRef .tc main_v10) = whole (X m c) (E m c) (G m c) (Wt m c) 0 (by decide) :=
  ((((W14_of m ρ c main_v10 (by decide)).trans (W13_of m ρ c main_v10 (by decide))).trans (W12_of m ρ c main_v10 (by decide))).trans (W11_of m ρ c main_v10 (by decide))).trans <| (W10_arr m ρ c 2).trans ((left5_2 (V9 m ρ) c).trans
    ((congrArg₂ product (norm9 m ρ c) (cast0 m ρ c)).trans (product_whole (X m c) (E m c) (G m c) (Wt m c) 0 (by decide))))
theorem final1 : W14 m ρ c (Proc.devRef .tc main_v11_0) = wholeTop (X m c) (E m c) (G m c) (Wt m c) 2048 (by decide) :=
  (((W14_of m ρ c main_v11_0 (by decide)).trans (W13_of m ρ c main_v11_0 (by decide))).trans (W12_of m ρ c main_v11_0 (by decide))).trans <| (W11_arr m ρ c 2).trans ((left6_2 (V10 m ρ) c).trans
    ((congrArg₂ productTop (norm10 m ρ c) (cast1 m ρ c)).trans (product_wholeTop (X m c) (E m c) (G m c) (Wt m c) 2048 (by decide))))
theorem final2 : W14 m ρ c (Proc.devRef .tc main_v11_1) = whole (X m c) (E m c) (G m c) (Wt m c) 2048 (by decide) :=
  (((W14_of m ρ c main_v11_1 (by decide)).trans (W13_of m ρ c main_v11_1 (by decide))).trans (W12_of m ρ c main_v11_1 (by decide))).trans <| (W11_arr m ρ c 3).trans ((left6_3 (V10 m ρ) c).trans
    ((congrArg₂ product (norm10 m ρ c) (cast1 m ρ c)).trans (product_whole (X m c) (E m c) (G m c) (Wt m c) 2048 (by decide))))
theorem final3 : W14 m ρ c (Proc.devRef .tc main_v12_0) = wholeTop (X m c) (E m c) (G m c) (Wt m c) 4096 (by decide) :=
  ((W14_of m ρ c main_v12_0 (by decide)).trans (W13_of m ρ c main_v12_0 (by decide))).trans <| (W12_arr m ρ c 2).trans ((left7_2 (V11 m ρ) c).trans
    ((congrArg₂ productTop (norm11 m ρ c) (cast2 m ρ c)).trans (product_wholeTop (X m c) (E m c) (G m c) (Wt m c) 4096 (by decide))))
theorem final4 : W14 m ρ c (Proc.devRef .tc main_v12_1) = whole (X m c) (E m c) (G m c) (Wt m c) 4096 (by decide) :=
  ((W14_of m ρ c main_v12_1 (by decide)).trans (W13_of m ρ c main_v12_1 (by decide))).trans <| (W12_arr m ρ c 3).trans ((left7_3 (V11 m ρ) c).trans
    ((congrArg₂ product (norm11 m ρ c) (cast2 m ρ c)).trans (product_whole (X m c) (E m c) (G m c) (Wt m c) 4096 (by decide))))
theorem final5 : W14 m ρ c (Proc.devRef .tc main_v13) = wholeWide (X m c) (E m c) (G m c) (Wt m c)  :=
  (W14_of m ρ c main_v13 (by decide)).trans <| (W13_arr m ρ c 2).trans ((left8_2 (V12 m ρ) c).trans
    ((congrArg₂ productWide (norm12 m ρ c) (cast3 m ρ c)).trans (product_wholeWide (X m c) (E m c) (G m c) (Wt m c) )))
theorem final6 : W14 m ρ c (Proc.devRef .tc main_v14) = wholeGate (X m c) (E m c) (G m c) (Wt m c)  :=
  (W14_arr m ρ c 2).trans ((left9_2 (V13 m ρ) c).trans
    ((congrArg₂ productGate (norm13 m ρ c) (gates m ρ c)).trans (product_wholeGate (X m c) (E m c) (G m c) (Wt m c) )))

/-- The result arrays and the arguments, off the last boundary's contents. -/
theorem ends {M : (ℓ : Loc nD τ sig) → Buf (Elt Ideal) ℓ} (h : ∀ c : Dev nD, ∀ b ∈ Pipeline.ucRefs τ sig, M ((c : Thread nD τ).1, b) = W14 m ρ c b) :
    M (c.tc.loc main_v10) = whole (X m c) (E m c) (G m c) (Wt m c) 0 (by decide)
      ∧ M (c.tc.loc main_v11_0) = wholeTop (X m c) (E m c) (G m c) (Wt m c) 2048 (by decide)
      ∧ M (c.tc.loc main_v11_1) = whole (X m c) (E m c) (G m c) (Wt m c) 2048 (by decide)
      ∧ M (c.tc.loc main_v12_0) = wholeTop (X m c) (E m c) (G m c) (Wt m c) 4096 (by decide)
      ∧ M (c.tc.loc main_v12_1) = whole (X m c) (E m c) (G m c) (Wt m c) 4096 (by decide)
      ∧ M (c.tc.loc main_v13) = wholeWide (X m c) (E m c) (G m c) (Wt m c)
      ∧ M (c.tc.loc main_v14) = wholeGate (X m c) (E m c) (G m c) (Wt m c)
      ∧ M (c.tc.loc main_arg0) = m (c.tc.loc main_arg0)
      ∧ M (c.tc.loc main_arg1) = m (c.tc.loc main_arg1)
      ∧ M (c.tc.loc main_arg2) = m (c.tc.loc main_arg2)
      ∧ M (c.tc.loc main_arg3) = m (c.tc.loc main_arg3) :=
  ⟨(h c _ (mem_uc main_v10 (by decide))).trans (final0 m ρ c),
   (h c _ (mem_uc main_v11_0 (by decide))).trans (final1 m ρ c),
   (h c _ (mem_uc main_v11_1 (by decide))).trans (final2 m ρ c),
   (h c _ (mem_uc main_v12_0 (by decide))).trans (final3 m ρ c),
   (h c _ (mem_uc main_v12_1 (by decide))).trans (final4 m ρ c),
   (h c _ (mem_uc main_v13 (by decide))).trans (final5 m ρ c),
   (h c _ (mem_uc main_v14 (by decide))).trans (final6 m ρ c),
   (h c _ (mem_uc main_arg0 (by decide))).trans (W14_main_arg0 m ρ c),
   (h c _ (mem_uc main_arg1 (by decide))).trans (W14_main_arg1 m ρ c),
   (h c _ (mem_uc main_arg2 (by decide))).trans (W14_main_arg2 m ρ c),
   (h c _ (mem_uc main_arg3 (by decide))).trans (W14_main_arg3 m ρ c)⟩

end Finals

end Cert.Proof.Proj
-- ==== Proof.Proj.Plain.lean ====
/-
  The prompt's projections in the reference: the same entries of the arguments.
-/
module

public import proofs.«01_k».proof.Proof.Proj.Finals
public import proofs.«01_k».proof.Proof.Gen.Reference5Ideal.Read

@[expose] public section

set_option maxRecDepth 16384

noncomputable section

namespace Cert.Proof.Proj

open Cert.Reference5Ideal Cert.Reference5Ideal.Gen Cert.Reference5Ideal.Read
open Idealize.ShloMosaic Idealize.ShloMosaic.TcCoe Idealize.SL.Sem

section Plain
variable (x0 : Vec Ideal S16384x4096 .f32) (x1 : Vec Ideal S16x4096 .f32) (x2 : Vec Ideal S4096 .f32) (x3 : Vec Ideal S4096x12296 .f32)

/-- A row of the 16400. -/
theorem joined (r : Fin 16400) (d : Fin 4096) : val_main_v0 (F := Ideal) x0 x1 (ix2 r d) = row x0 x1 r.val d := by
  unfold val_main_v0 row
  rw [if_pos r.isLt]
  pointwise

/-- Behind them the rows are zero, and so is their norm and every entry of it. -/
theorem norm_past (R : ℕ) (hR : ¬R < 16400) (g : EReal) (d : Fin 4096) : rowNorm (row x0 x1 R) g d = 0 := by
  unfold rowNorm
  rw [show row x0 x1 R d = 0 from if_neg hR, zero_mul, zero_mul]
theorem entry_past (R : ℕ) (hR : ¬R < 16400) (C : Fin 12296) : entry x0 x1 x2 x3 R C = 0 :=
  Finset.sum_eq_zero fun k _ => by rw [norm_past x0 x1 R hR, zero_mul]

theorem norm_plain (r : Fin 16400) (d : Fin 4096) : val_main_v13 (F := Ideal) x0 x1 x2 (ix2 r d) = rowNorm (row x0 x1 r.val) (x2 (ix1 d)) d := by
  have zero : val_main_cst (F := Ideal) (Shape.Idx.first h_S_) = 0 := by simp [val_main_cst_apply]
  have e : val_main_v9 (F := Ideal) x0 x1 (ix2 r d) = Ideal.rsqrt (Ideal.div (∑ k : Fin 4096, row x0 x1 r.val k * row x0 x1 r.val k)
      (Ideal.ofBits .f32 0x45800000#32) + Ideal.ofBits .f32 0x358637BD#32) := by
    rw [val_main_v9_apply, val_main_v8_apply, val_main_v7_apply, val_main_v5_apply, val_main_v3_apply, val_main_v2_apply, zero, zero_add]
    have e : idx_main_v3 (idx_main_v9 (ix2 r d)) = ix1 r := by funext a; fin_cases a; rfl
    rw [e]
    have e' : ∀ k, val_main_v1 (F := Ideal) x0 x1 (idx_main_v2 (ix1 r) k) = row x0 x1 r.val k * row x0 x1 r.val k := fun k => by
      rw [show idx_main_v2 (ix1 r) k = ix2 r k from by funext a; fin_cases a <;> rfl, val_main_v1_apply, joined]
      rfl
    simp only [e']
    rfl
  rw [val_main_v13_apply, val_main_v10_apply, e, joined]
  unfold rowNorm
  refine congrArg₂ (· * ·) rfl ?_
  rw [val_main_v12_apply, val_main_v11_apply]
  exact congrArg x2 (by funext a; fin_cases a; rfl)

theorem product_plain (r : Fin 16400) (C : Fin 12296) : val_main_v14 (F := Ideal) x0 x1 x2 x3 (ix2 r C) = entry x0 x1 x2 x3 r.val C := by
  rw [val_main_v14_apply]
  refine Finset.sum_congr rfl fun k _ => congrArg₂ (· * ·) ?_ ?_
  · exact (congrArg (val_main_v13 (F := Ideal) x0 x1 x2) (by funext a; fin_cases a <;> rfl)).trans (norm_plain x0 x1 x2 r k)
  · exact congrArg x3 (by funext a; fin_cases a <;> rfl)

theorem cols15 (r : Fin 16400) (n : Fin 2048) : val_main_v15 (F := Ideal) x0 x1 x2 x3 (ix2 r n) = entry x0 x1 x2 x3 r.val ⟨0 + n.val, by omega⟩ := by
  rw [val_main_v15_apply]
  refine (congrArg (val_main_v14 (F := Ideal) x0 x1 x2 x3) ?_).trans (product_plain x0 x1 x2 x3 r ⟨0 + n.val, by omega⟩)
  funext a; refine Fin.ext ?_
  fin_cases a
  · rfl
  · show _ = 0 + n.val
    first | rfl | exact (Nat.zero_add _).symm
theorem cols16 (r : Fin 16400) (n : Fin 2048) : val_main_v16 (F := Ideal) x0 x1 x2 x3 (ix2 r n) = entry x0 x1 x2 x3 r.val ⟨2048 + n.val, by omega⟩ := by
  rw [val_main_v16_apply]
  refine (congrArg (val_main_v14 (F := Ideal) x0 x1 x2 x3) ?_).trans (product_plain x0 x1 x2 x3 r ⟨2048 + n.val, by omega⟩)
  funext a; refine Fin.ext ?_
  fin_cases a
  · rfl
  · show _ = 2048 + n.val
    first | rfl | exact (Nat.zero_add _).symm
theorem cols17 (r : Fin 16400) (n : Fin 2048) : val_main_v17 (F := Ideal) x0 x1 x2 x3 (ix2 r n) = entry x0 x1 x2 x3 r.val ⟨4096 + n.val, by omega⟩ := by
  rw [val_main_v17_apply]
  refine (congrArg (val_main_v14 (F := Ideal) x0 x1 x2 x3) ?_).trans (product_plain x0 x1 x2 x3 r ⟨4096 + n.val, by omega⟩)
  funext a; refine Fin.ext ?_
  fin_cases a
  · rfl
  · show _ = 4096 + n.val
    first | rfl | exact (Nat.zero_add _).symm
theorem cols18 (r : Fin 16400) (n : Fin 6144) : val_main_v18 (F := Ideal) x0 x1 x2 x3 (ix2 r n) = entry x0 x1 x2 x3 r.val ⟨6144 + n.val, by omega⟩ := by
  rw [val_main_v18_apply]
  refine (congrArg (val_main_v14 (F := Ideal) x0 x1 x2 x3) ?_).trans (product_plain x0 x1 x2 x3 r ⟨6144 + n.val, by omega⟩)
  funext a; refine Fin.ext ?_
  fin_cases a
  · rfl
  · show _ = 6144 + n.val
    first | rfl | exact (Nat.zero_add _).symm
theorem cols19 (r : Fin 16400) (n : Fin 8) : val_main_v19 (F := Ideal) x0 x1 x2 x3 (ix2 r n) = entry x0 x1 x2 x3 r.val ⟨12288 + n.val, by omega⟩ := by
  rw [val_main_v19_apply]
  refine (congrArg (val_main_v14 (F := Ideal) x0 x1 x2 x3) ?_).trans (product_plain x0 x1 x2 x3 r ⟨12288 + n.val, by omega⟩)
  funext a; refine Fin.ext ?_
  fin_cases a
  · rfl
  · show _ = 12288 + n.val
    first | rfl | exact (Nat.zero_add _).symm

/-- Rows of zeros behind the 16400, and for the gates columns of zeros as well. -/
theorem rows_behind (u : Vec Ideal S16400x2048 .f32) (z : Vec Ideal S_ .f32) (R : Fin 16896) (n : Fin 2048) :
    pad S16896x2048 ![0, 0] ![496, 0] ![0, 0] u z pads_S16400x2048_S16896x2048_04960_000 h_S_ (ix2 R n)
      = if h : R.val < 16400 then u (ix2 ⟨R.val, h⟩ n) else z (Shape.Idx.first h_S_) := by
  pointwise
theorem rows_behind_wide (u : Vec Ideal S16400x6144 .f32) (z : Vec Ideal S_ .f32) (R : Fin 16896) (n : Fin 6144) :
    pad S16896x6144 ![0, 0] ![496, 0] ![0, 0] u z pads_S16400x6144_S16896x6144_04960_000 h_S_ (ix2 R n)
      = if h : R.val < 16400 then u (ix2 ⟨R.val, h⟩ n) else z (Shape.Idx.first h_S_) := by
  pointwise
theorem rows_behind_gate (u : Vec Ideal S16400x8 .f32) (z : Vec Ideal S_ .f32) (R : Fin 16896) (n : Fin 128) :
    pad S16896x128 ![0, 0] ![496, 120] ![0, 0] u z pads_S16400x8_S16896x128_04960_01200 h_S_ (ix2 R n)
      = if h : R.val < 16400 ∧ n.val < 8 then u (ix2 ⟨R.val, h.1⟩ ⟨n.val, h.2⟩) else z (Shape.Idx.first h_S_) := by
  pointwise

theorem plain0 : val_main_v21 (F := Ideal) x0 x1 x2 x3 = whole x0 x1 x2 x3 0 (by decide) := by
  funext y
  obtain ⟨R, C, rfl⟩ : ∃ (R : Fin 16896) (C : Fin 2048), y = ix2 R C := ⟨⟨(y 0).val, (y 0).isLt⟩, ⟨(y 1).val, (y 1).isLt⟩, by funext a; fin_cases a <;> rfl⟩
  refine Eq.trans (b := val_main_v20 (F := Ideal) x0 x1 x2 x3 (ix2 R C)) rfl ?_
  unfold val_main_v20
  rw [rows_behind]
  show _ = entry x0 x1 x2 x3 R.val ⟨0 + C.val, by omega⟩
  split
  · next h => exact cols15 x0 x1 x2 x3 ⟨R.val, h⟩ C
  · next h => exact pad_zero.trans (entry_past x0 x1 x2 x3 R.val h _).symm
theorem plain1 : val_main_v16 (F := Ideal) x0 x1 x2 x3 = wholeTop x0 x1 x2 x3 2048 (by decide) := by
  funext y
  obtain ⟨R, C, rfl⟩ : ∃ (R : Fin 16400) (C : Fin 2048), y = ix2 R C := ⟨⟨(y 0).val, (y 0).isLt⟩, ⟨(y 1).val, (y 1).isLt⟩, by funext a; fin_cases a <;> rfl⟩
  exact cols16 x0 x1 x2 x3 R C
theorem plain2 : val_main_v23 (F := Ideal) x0 x1 x2 x3 = whole x0 x1 x2 x3 2048 (by decide) := by
  funext y
  obtain ⟨R, C, rfl⟩ : ∃ (R : Fin 16896) (C : Fin 2048), y = ix2 R C := ⟨⟨(y 0).val, (y 0).isLt⟩, ⟨(y 1).val, (y 1).isLt⟩, by funext a; fin_cases a <;> rfl⟩
  refine Eq.trans (b := val_main_v22 (F := Ideal) x0 x1 x2 x3 (ix2 R C)) rfl ?_
  unfold val_main_v22
  rw [rows_behind]
  show _ = entry x0 x1 x2 x3 R.val ⟨2048 + C.val, by omega⟩
  split
  · next h => exact cols16 x0 x1 x2 x3 ⟨R.val, h⟩ C
  · next h => exact pad_zero.trans (entry_past x0 x1 x2 x3 R.val h _).symm
theorem plain3 : val_main_v17 (F := Ideal) x0 x1 x2 x3 = wholeTop x0 x1 x2 x3 4096 (by decide) := by
  funext y
  obtain ⟨R, C, rfl⟩ : ∃ (R : Fin 16400) (C : Fin 2048), y = ix2 R C := ⟨⟨(y 0).val, (y 0).isLt⟩, ⟨(y 1).val, (y 1).isLt⟩, by funext a; fin_cases a <;> rfl⟩
  exact cols17 x0 x1 x2 x3 R C
theorem plain4 : val_main_v25 (F := Ideal) x0 x1 x2 x3 = whole x0 x1 x2 x3 4096 (by decide) := by
  funext y
  obtain ⟨R, C, rfl⟩ : ∃ (R : Fin 16896) (C : Fin 2048), y = ix2 R C := ⟨⟨(y 0).val, (y 0).isLt⟩, ⟨(y 1).val, (y 1).isLt⟩, by funext a; fin_cases a <;> rfl⟩
  refine Eq.trans (b := val_main_v24 (F := Ideal) x0 x1 x2 x3 (ix2 R C)) rfl ?_
  unfold val_main_v24
  rw [rows_behind]
  show _ = entry x0 x1 x2 x3 R.val ⟨4096 + C.val, by omega⟩
  split
  · next h => exact cols17 x0 x1 x2 x3 ⟨R.val, h⟩ C
  · next h => exact pad_zero.trans (entry_past x0 x1 x2 x3 R.val h _).symm
theorem plain5 : val_main_v26 (F := Ideal) x0 x1 x2 x3 = wholeWide x0 x1 x2 x3 := by
  funext y
  obtain ⟨R, C, rfl⟩ : ∃ (R : Fin 16896) (C : Fin 6144), y = ix2 R C := ⟨⟨(y 0).val, (y 0).isLt⟩, ⟨(y 1).val, (y 1).isLt⟩, by funext a; fin_cases a <;> rfl⟩
  refine Eq.trans (b := val_main_v26 (F := Ideal) x0 x1 x2 x3 (ix2 R C)) rfl ?_
  unfold val_main_v26
  rw [rows_behind_wide]
  show _ = entry x0 x1 x2 x3 R.val ⟨6144 + C.val, by omega⟩
  split
  · next h => exact cols18 x0 x1 x2 x3 ⟨R.val, h⟩ C
  · next h => exact pad_zero.trans (entry_past x0 x1 x2 x3 R.val h _).symm
theorem plain6 : val_main_v27 (F := Ideal) x0 x1 x2 x3 = wholeGate x0 x1 x2 x3 := by
  funext y
  obtain ⟨R, C, rfl⟩ : ∃ (R : Fin 16896) (C : Fin 128), y = ix2 R C := ⟨⟨(y 0).val, (y 0).isLt⟩, ⟨(y 1).val, (y 1).isLt⟩, by funext a; fin_cases a <;> rfl⟩
  unfold val_main_v27
  rw [rows_behind_gate]
  show _ = if h : C.val < 8 then entry x0 x1 x2 x3 R.val ⟨12288 + C.val, by omega⟩ else 0
  by_cases hC : C.val < 8
  · rw [dif_pos hC]
    by_cases hR : R.val < 16400
    · rw [dif_pos ⟨hR, hC⟩]
      exact cols19 x0 x1 x2 x3 ⟨R.val, hR⟩ ⟨C.val, hC⟩
    · rw [dif_neg fun h => hR h.1]
      exact pad_zero.trans (entry_past x0 x1 x2 x3 R.val hR _).symm
  · rw [dif_neg hC, dif_neg fun h => hC h.2]
    exact pad_zero

end Plain

end Cert.Proof.Proj
-- ==== Proof.Proj.Both.lean ====
/-
  The prompt's projections have the same text in the kernel and in its idealization: the run is one run, over any floats.
-/
module

public import proofs.«01_k».proof.Proof.Proj.Segs
public import proofs.«01_k».proof.Proof.Gen.Kernel5
public import proofs.«01_k».proof.Defs

@[expose] public section

noncomputable section

namespace Cert.Proof.Proj

open Idealize.ShloMosaic Idealize.SL.Sem

variable {F : FTy → Type} [FloatOps F]

set_option maxHeartbeats 2000000 in
theorem bodies_same : Kernel5.defs₀ (F := F) = Kernel5Ideal.defs₀ (F := F) := by
  unfold Kernel5.defs₀ Kernel5Ideal.defs₀
  refine congrArg Defs.onTc ?_
  funext l a
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl
  | 8, (t, s) => rfl
  | 9, (t, s) => rfl

set_option maxHeartbeats 4000000 in
theorem defs_same : Kernel5.defs (F := F) = Kernel5Ideal.defs (F := F) :=
  congrArg (Pipeline.defs (Kernel5Ideal.pcfgs (F := F))) bodies_same

set_option maxHeartbeats 8000000 in
/-- The kernel's own frame, from the one run. -/
theorem framed : quiescent_Kernel5 := fun m ρ _ => by
  have h := frame (F := Bits) m ρ
  rw [← defs_same] at h
  exact h

end Cert.Proof.Proj

end
-- ==== Proof.ProjS.Regions.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The regions of the sample's projection, each set up at any buffer contents `V` it is entered with: its windows'
blocks, what its body leaves, its proof data and its body obligation.
-/

@[expose] public section

set_option maxRecDepth 16384

noncomputable section

namespace Cert.Proof.ProjS

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: the cast of the key columns. -/
section Region
variable (V : (c : Dev nD) → (b : Ref sig .tc) → Buf (Elt F) ((c : Thread nD τ).loc b))

def blkin0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight's row blocks do not tile its 12296 rows, but no block reached is cut: the buffer holds the block filled over anything. -/
def spare0 : (cfg0.win 0).block.Idx → Elt F (cfg0.win 0).elt := fun _ => Classical.choice inferInstance
def held0 (c : Dev nD) (t : Fin cfg0.N) : (cfg0.win 0).block.Idx → Elt F (cfg0.win 0).elt :=
  (cfg0.win 0).fill (cfg0.grid.coords t) spare0 (blkin0 V c 0 t)
theorem uncut0 : ∀ t : Fin cfg0.N, ∀ a, (cfg0.win 0).xsize (cfg0.grid.coords t) a = (cfg0.win 0).size a := by decide +kernel
theorem moved0 (t : Fin cfg0.N) (j : (cfg0.win 0).block.Idx) : (cfg0.win 0).moved (cfg0.grid.coords t) j = true :=
  ((cfg0.win 0).moved_iff _ j).mpr fun a => by rw [uncut0 t a]; exact (j a).isLt
theorem fill_any0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0 t j), dif_pos (moved0 t j)]
theorem before0_0_of {c : Dev nD} (dat : Dat τ (Elt F) Unit ℕ (UR sig nD τ) ℕ cfg0 c) (hA : dat.A 0 = V c (Pipeline.arrRef spec0 0))
    (hafter : ∀ t, dat.after 0 t = held0 V c t) (t : Fin cfg0.N) (d) : dat.before 0 t d = held0 V c t :=
  (dat.before_in_eq_fetched 0 rfl (fun _ => rfl)
      (fun t t' h => funext fun a => congrArg (fun n => Pipeline.Clip.of n ((cfg0.win 0).size a) (S12296x4096.size a)) (congrFun h a))
      (fun t => by rw [hafter]; unfold held0; rw [Pipeline.Window.cut_fill]; unfold Dat.blockOf blkin0; rw [hA]; try rfl) t d).trans
    (by unfold Dat.fetched held0; rw [fill_any0 t d spare0]; unfold Dat.blockOf blkin0; rw [hA]; try rfl)

abbrev r0_0 : Rect S1024x512 := Rect.unit (s := S1024x512) ![0, 0] S1024x512.size inb_S1024x512_S1024x512_0_0
abbrev r0_1 : Rect S512x1024 := Rect.unit (s := S512x1024) ![0, 0] S512x1024.size inb_S512x1024_S512x1024_0_0

def out0_1 (x0 : Vec F S1024x512 .f32) : Vec F S512x1024 .bf16 :=
  View.canon [⟨r0_1, k0_pay1 (View.ld x0 r0_0)⟩]

set_option maxHeartbeats 1000000 in
theorem triple0 (c : Dev nD) (E : Set ℕ) (i : grid0.Coords) (arg2 : Memref sig .tc .vmem S1024x512 .f32) (harg2 : arg2.IsWhole) (arg3 : Memref sig .tc .vmem S512x1024 .bf16) (harg3 : arg3.IsWhole)
    (x0 : Vec F S1024x512 .f32) (K : PUnit → sProp 𝕄) :
    iprop(owns c.tc arg2 fullShare x0 ∗ (∃ d, owns c.tc arg3 fullShare d)
        ∗ (iprop(owns c.tc arg2 fullShare x0 ∗ owns c.tc arg3 fullShare (out0_1 x0)) -∗ K ⟨⟩))
      ⊢ wp frame (wpE (defs₀ (F := F)) Variants.none c none) E (cc0_cast_cols_t i arg2 harg2 arg3 harg3) K := by
  simp only [cc0_cast_cols_t_eq_skeleton]; unfold cc0_cast_cols_t_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S512x1024.size (by rfl))

def dat0 (c : Dev nD) : Dat τ (Elt F) Unit ℕ (UR sig nD τ) ℕ cfg0 c where
  A w := V c (Pipeline.arrRef spec0 w)
  after w t := match w with
    | ⟨0, _⟩ => held0 V c t
    | ⟨1, _⟩ => out0_1 (held0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = held0 V c t := by dsimp only [dat0]
theorem after0_1 (c : Dev nD) (t : Fin cfg0.N) : (dat0 V c).after 1 t = out0_1 (held0 V c t) := by dsimp only [dat0]

theorem before0_0 (c : Dev nD) (t : Fin cfg0.N) (d) : (dat0 V c).before 0 t d = held0 V c t :=
  before0_0_of V (dat0 V c) (A_eq0 V c 0) (after0_0 V c) t d

theorem defs₀_row0 (t : Fin cfg0.N) :
    defs₀ (F := F) .tc cfg0.body (cfg0.bodyArgs t (cfg0.slots t)) = bodyAt0 t := by
  unfold defs₀; rw [Defs.onTc_tc]

theorem oblig0 (c : Dev nD) : BodyObligation (dat0 (F := F) V c) (defs₀ (F := F)) Variants.none () Set.univ := fun t => by
  rw [bigSep_W0, bigSep_W0, defs₀_row0]
  refine triple_restated (W := wp frame (wpE (defs₀ (F := F)) Variants.none c none) Set.univ (bodyAt0 t)) ?_ rfl .rfl fun _ => .rfl
  unfold bodyAt0
  simp only [before0_0]
  rw [show (dat0 V c).Φ t.succ = (dat0 V c).Φ t.castSucc from rfl,
    after0_0, after0_1]
  iintro ⟨HΦ, Ho, ⟨%d0, H0⟩, ⟨%d1, H1⟩⟩
  iapply (triple0 c Set.univ (grid0.coords t) _ _ _ _ (held0 V c t) _)
  isplitl [H0]; · iexact H0
  isplitl [H1]; · iexists _; iexact H1
  iintro ⟨H0, H1⟩
  iframe HΦ Ho H0
  iexact H1

end Region

/-! Region 1: the cast of the value columns. -/
section Region
variable (V : (c : Dev nD) → (b : Ref sig .tc) → Buf (Elt F) ((c : Thread nD τ).loc b))

def blkin1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight's row blocks do not tile its 12296 rows, but no block reached is cut: the buffer holds the block filled over anything. -/
def spare1 : (cfg1.win 0).block.Idx → Elt F (cfg1.win 0).elt := fun _ => Classical.choice inferInstance
def held1 (c : Dev nD) (t : Fin cfg1.N) : (cfg1.win 0).block.Idx → Elt F (cfg1.win 0).elt :=
  (cfg1.win 0).fill (cfg1.grid.coords t) spare1 (blkin1 V c 0 t)
theorem uncut1 : ∀ t : Fin cfg1.N, ∀ a, (cfg1.win 0).xsize (cfg1.grid.coords t) a = (cfg1.win 0).size a := by decide +kernel
theorem moved1 (t : Fin cfg1.N) (j : (cfg1.win 0).block.Idx) : (cfg1.win 0).moved (cfg1.grid.coords t) j = true :=
  ((cfg1.win 0).moved_iff _ j).mpr fun a => by rw [uncut1 t a]; exact (j a).isLt
theorem fill_any1 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1 t j), dif_pos (moved1 t j)]
theorem before1_0_of {c : Dev nD} (dat : Dat τ (Elt F) Unit ℕ (UR sig nD τ) ℕ cfg1 c) (hA : dat.A 0 = V c (Pipeline.arrRef spec1 0))
    (hafter : ∀ t, dat.after 0 t = held1 V c t) (t : Fin cfg1.N) (d) : dat.before 0 t d = held1 V c t :=
  (dat.before_in_eq_fetched 0 rfl (fun _ => rfl)
      (fun t t' h => funext fun a => congrArg (fun n => Pipeline.Clip.of n ((cfg1.win 0).size a) (S12296x4096.size a)) (congrFun h a))
      (fun t => by rw [hafter]; unfold held1; rw [Pipeline.Window.cut_fill]; unfold Dat.blockOf blkin1; rw [hA]; try rfl) t d).trans
    (by unfold Dat.fetched held1; rw [fill_any1 t d spare1]; unfold Dat.blockOf blkin1; rw [hA]; try rfl)

abbrev r1_0 : Rect S1024x512 := Rect.unit (s := S1024x512) ![0, 0] S1024x512.size inb_S1024x512_S1024x512_0_0
abbrev r1_1 : Rect S512x1024 := Rect.unit (s := S512x1024) ![0, 0] S512x1024.size inb_S512x1024_S512x1024_0_0

def out1_1 (x0 : Vec F S1024x512 .f32) : Vec F S512x1024 .bf16 :=
  View.canon [⟨r1_1, k1_pay1 (View.ld x0 r1_0)⟩]

set_option maxHeartbeats 1000000 in
theorem triple1 (c : Dev nD) (E : Set ℕ) (i : grid1.Coords) (arg2 : Memref sig .tc .vmem S1024x512 .f32) (harg2 : arg2.IsWhole) (arg3 : Memref sig .tc .vmem S512x1024 .bf16) (harg3 : arg3.IsWhole)
    (x0 : Vec F S1024x512 .f32) (K : PUnit → sProp 𝕄) :
    iprop(owns c.tc arg2 fullShare x0 ∗ (∃ d, owns c.tc arg3 fullShare d)
        ∗ (iprop(owns c.tc arg2 fullShare x0 ∗ owns c.tc arg3 fullShare (out1_1 x0)) -∗ K ⟨⟩))
      ⊢ wp frame (wpE (defs₀ (F := F)) Variants.none c none) E (cc1_cast_cols_t i arg2 harg2 arg3 harg3) K := by
  simp only [cc1_cast_cols_t_eq_skeleton]; unfold cc1_cast_cols_t_skel
  unfold owns
  iintro ⟨⟨%f0, %hf0, H0⟩, ⟨%d1, %f1, -, H1⟩, Hk⟩
  subst hf0
  sl_exec
  sl_step
  iapply Hk
  isplitl [H0]; · iexists f0; iframe H0; ipureintro; rfl
  iexists _; isplitr
  swap; · iexact H1
  ipureintro
  exact View.read_writes_eq_canon _ _ _ (View.cover_of_tiled _ S512x1024.size (by rfl))

def dat1 (c : Dev nD) : Dat τ (Elt F) Unit ℕ (UR sig nD τ) ℕ cfg1 c where
  A w := V c (Pipeline.arrRef spec1 w)
  after w t := match w with
    | ⟨0, _⟩ => held1 V c t
    | ⟨1, _⟩ => out1_1 (held1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = held1 V c t := by dsimp only [dat1]
theorem after1_1 (c : Dev nD) (t : Fin cfg1.N) : (dat1 V c).after 1 t = out1_1 (held1 V c t) := by dsimp only [dat1]

theorem before1_0 (c : Dev nD) (t : Fin cfg1.N) (d) : (dat1 V c).before 0 t d = held1 V c t :=
  before1_0_of V (dat1 V c) (A_eq1 V c 0) (after1_0 V c) t d

theorem defs₀_row1 (t : Fin cfg1.N) :
    defs₀ (F := F) .tc cfg1.body (cfg1.bodyArgs t (cfg1.slots t)) = bodyAt1 t := by
  unfold defs₀; rw [Defs.onTc_tc]

theorem oblig1 (c : Dev nD) : BodyObligation (dat1 (F := F) V c) (defs₀ (F := F)) Variants.none () Set.univ := fun t => by
  rw [bigSep_W1, bigSep_W1, defs₀_row1]
  refine triple_restated (W := wp frame (wpE (defs₀ (F := F)) Variants.none c none) Set.univ (bodyAt1 t)) ?_ rfl .rfl fun _ => .rfl
  unfold bodyAt1
  simp only [before1_0]
  rw [show (dat1 V c).Φ t.succ = (dat1 V c).Φ t.castSucc from rfl,
    after1_0, after1_1]
  iintro ⟨HΦ, Ho, ⟨%d0, H0⟩, ⟨%d1, H1⟩⟩
  iapply (triple1 c Set.univ (grid1.coords t) _ _ _ _ (held1 V c t) _)
  isplitl [H0]; · iexact H0
  isplitl [H1]; · iexists _; iexact H1
  iintro ⟨H0, H1⟩
  iframe HΦ Ho H0
  iexact H1

end Region

/-! Region 2: the norm. -/
section Region
variable (V : (c : Dev nD) → (b : Ref sig .tc) → Buf (Elt F) ((c : Thread nD τ).loc b))

def blkin2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S256x4096 := Rect.unit (s := S256x4096) ![0, 0] S256x4096.size inb_S256x4096_S256x4096_0_0
abbrev r2_1 : Rect S1x4096 := Rect.unit (s := S1x4096) ![0, 0] S1x4096.size inb_S1x4096_S1x4096_0_0

def out2_2 (x0 : Vec F S256x4096 .f32) (x1 : Vec F S1x4096 .f32) : Vec F S256x4096 .bf16 :=
  View.canon [⟨r2_0, k2_pay1 (View.ld x0 r2_0) (View.ld x1 r2_1)⟩]

set_option maxHeartbeats 1000000 in
theorem triple2 (c : Dev nD) (E : Set ℕ) (i : grid2.Coords) (arg1 : Memref sig .tc .vmem S256x4096 .f32) (harg1 : arg1.IsWhole) (arg2 : Memref sig .tc .vmem S1x4096 .f32) (harg2 : arg2.IsWhole) (arg3 : Memref sig .tc .vmem S256x4096 .bf16) (harg3 : arg3.IsWhole)
    (x0 : Vec F S256x4096 .f32) (x1 : Vec F S1x4096 .f32) (K : PUnit → sProp 𝕄) :
    iprop(owns c.tc arg1 fullShare x0 ∗ owns c.tc arg2 fullShare x1 ∗ (∃ d, owns c.tc arg3 fullShare d)
        ∗ (iprop(owns c.tc arg1 fullShare x0 ∗ owns c.tc arg2 fullShare x1 ∗ owns c.tc arg3 fullShare (out2_2 x0 x1)) -∗ K ⟨⟩))
      ⊢ wp frame (wpE (defs₀ (F := F)) Variants.none c none) E (cc2_rmsnorm i arg1 harg1 arg2 harg2 arg3 harg3) K := by
  simp only [cc2_rmsnorm_eq_skeleton]; unfold cc2_rmsnorm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; iframe H0; ipureintro; rfl
  isplitl [H1]; · iexists f1; iframe H1; ipureintro; rfl
  iexists _; isplitr
  swap; · iexact H2
  ipureintro
  exact View.read_writes_eq_canon _ _ _ (View.cover_of_tiled _ S256x4096.size (by rfl))

def dat2 (c : Dev nD) : Dat τ (Elt F) Unit ℕ (UR sig nD τ) ℕ cfg2 c where
  A w := V c (Pipeline.arrRef spec2 w)
  after w t := match w with
    | ⟨0, _⟩ => blkin2 V c 0 t
    | ⟨1, _⟩ => blkin2 V c 1 t
    | ⟨2, _⟩ => out2_2 (blkin2 V c 0 t) (blkin2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blkin2 V c 0 t := by dsimp only [dat2]
theorem after2_1 (c : Dev nD) (t : Fin cfg2.N) : (dat2 V c).after 1 t = blkin2 V c 1 t := by dsimp only [dat2]
theorem after2_2 (c : Dev nD) (t : Fin cfg2.N) : (dat2 V c).after 2 t = out2_2 (blkin2 V c 0 t) (blkin2 V c 1 t) := by dsimp only [dat2]

theorem before2_0 (c : Dev nD) (t : Fin cfg2.N) (d) : (dat2 V c).before 0 t d = blkin2 V c 0 t :=
  ((dat2 V c).before_in_eq_fetched 0 rfl (fun _ => rfl) (fun _ _ _ => rfl) (fun t => by rw [after2_0]; unfold Dat.blockOf blkin2; rw [A_eq2]) t d).trans
    (by unfold Dat.fetched Dat.blockOf blkin2; rw [A_eq2]; rfl)
theorem before2_1 (c : Dev nD) (t : Fin cfg2.N) (d) : (dat2 V c).before 1 t d = blkin2 V c 1 t :=
  ((dat2 V c).before_in_eq_fetched 1 rfl (fun _ => rfl) (fun _ _ _ => rfl) (fun t => by rw [after2_1]; unfold Dat.blockOf blkin2; rw [A_eq2]) t d).trans
    (by unfold Dat.fetched Dat.blockOf blkin2; rw [A_eq2]; rfl)

theorem defs₀_row2 (t : Fin cfg2.N) :
    defs₀ (F := F) .tc cfg2.body (cfg2.bodyArgs t (cfg2.slots t)) = bodyAt2 t := by
  unfold defs₀; rw [Defs.onTc_tc]

theorem oblig2 (c : Dev nD) : BodyObligation (dat2 (F := F) V c) (defs₀ (F := F)) Variants.none () Set.univ := fun t => by
  rw [bigSep_W2, bigSep_W2, defs₀_row2]
  refine triple_restated (W := wp frame (wpE (defs₀ (F := F)) Variants.none c none) Set.univ (bodyAt2 t)) ?_ rfl .rfl fun _ => .rfl
  unfold bodyAt2
  simp only [before2_0, before2_1]
  rw [show (dat2 V c).Φ t.succ = (dat2 V c).Φ t.castSucc from rfl,
    after2_0, after2_1, after2_2]
  iintro ⟨HΦ, Ho, ⟨%d0, H0⟩, ⟨%d1, H1⟩, ⟨%d2, H2⟩⟩
  iapply (triple2 c Set.univ (grid2.coords t) _ _ _ _ _ _ (blkin2 V c 0 t) (blkin2 V c 1 t) _)
  iframe H0 H1
  isplitl [H2]; · iexists _; iexact H2
  iintro ⟨H0, H1, H2⟩
  iframe HΦ Ho H0 H1
  iexact H2

end Region

/-! Region 3: the keys. -/
section Region
variable (V : (c : Dev nD) → (b : Ref sig .tc) → Buf (Elt F) ((c : Thread nD τ).loc b))

def blkin3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x4096 := Rect.unit (s := S1024x4096) ![0, 0] S1024x4096.size inb_S1024x4096_S1024x4096_0_0
abbrev r3_1 : Rect S4096x512 := Rect.unit (s := S4096x512) ![0, 0] S4096x512.size inb_S4096x512_S4096x512_0_0
abbrev r3_2 : Rect S1024x512 := Rect.unit (s := S1024x512) ![0, 0] S1024x512.size inb_S1024x512_S1024x512_0_0

def out3_2 (x0 : Vec F S1024x4096 .bf16) (x1 : Vec F S4096x512 .bf16) : Vec F S1024x512 .f32 :=
  View.canon [⟨r3_2, k3_pay1 (View.ld x0 r3_0) (View.ld x1 r3_1)⟩]

def out3_3 (x0 : Vec F S1024x4096 .bf16) (x1 : Vec F S4096x512 .bf16) : Vec F S1024x512 .bf16 :=
  View.canon [⟨r3_2, k3_pay2 (View.ld x0 r3_0) (View.ld x1 r3_1)⟩]

set_option maxHeartbeats 1000000 in
theorem triple3 (c : Dev nD) (E : Set ℕ) (i : grid3.Coords) (arg2 : Memref sig .tc .vmem S1024x4096 .bf16) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .bf16) (harg5 : arg5.IsWhole)
    (x0 : Vec F S1024x4096 .bf16) (x1 : Vec F S4096x512 .bf16) (K : PUnit → sProp 𝕄) :
    iprop(owns c.tc arg2 fullShare x0 ∗ owns c.tc arg3 fullShare x1 ∗ (∃ d, owns c.tc arg4 fullShare d) ∗ (∃ d, owns c.tc arg5 fullShare d)
        ∗ (iprop(owns c.tc arg2 fullShare x0 ∗ owns c.tc arg3 fullShare x1 ∗ owns c.tc arg4 fullShare (out3_2 x0 x1) ∗ owns c.tc arg5 fullShare (out3_3 x0 x1)) -∗ K ⟨⟩))
      ⊢ wp frame (wpE (defs₀ (F := F)) Variants.none c none) E (cc3_k_proj i arg2 harg2 arg3 harg3 arg4 harg4 arg5 harg5) K := by
  simp only [cc3_k_proj_eq_skeleton]; unfold cc3_k_proj_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]; · iexists f0; iframe H0; ipureintro; rfl
  isplitl [H1]; · iexists f1; iframe H1; ipureintro; rfl
  isplitl [H2]
  · iexists _; isplitr
    swap; · iexact H2
    ipureintro
    exact View.read_writes_eq_canon _ _ _ (View.cover_of_tiled _ S1024x512.size (by rfl))
  iexists _; isplitr
  swap; · iexact H3
  ipureintro
  exact View.read_writes_eq_canon _ _ _ (View.cover_of_tiled _ S1024x512.size (by rfl))

def dat3 (c : Dev nD) : Dat τ (Elt F) Unit ℕ (UR sig nD τ) ℕ cfg3 c where
  A w := V c (Pipeline.arrRef spec3 w)
  after w t := match w with
    | ⟨0, _⟩ => blkin3 V c 0 t
    | ⟨1, _⟩ => blkin3 V c 1 t
    | ⟨2, _⟩ => out3_2 (blkin3 V c 0 t) (blkin3 V c 1 t)
    | ⟨3, _⟩ => out3_3 (blkin3 V c 0 t) (blkin3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = blkin3 V c 0 t := by dsimp only [dat3]
theorem after3_1 (c : Dev nD) (t : Fin cfg3.N) : (dat3 V c).after 1 t = blkin3 V c 1 t := by dsimp only [dat3]
theorem after3_2 (c : Dev nD) (t : Fin cfg3.N) : (dat3 V c).after 2 t = out3_2 (blkin3 V c 0 t) (blkin3 V c 1 t) := by dsimp only [dat3]
theorem after3_3 (c : Dev nD) (t : Fin cfg3.N) : (dat3 V c).after 3 t = out3_3 (blkin3 V c 0 t) (blkin3 V c 1 t) := by dsimp only [dat3]

theorem before3_0 (c : Dev nD) (t : Fin cfg3.N) (d) : (dat3 V c).before 0 t d = blkin3 V c 0 t :=
  ((dat3 V c).before_in_eq_fetched 0 rfl (fun _ => rfl) (fun _ _ _ => rfl) (fun t => by rw [after3_0]; unfold Dat.blockOf blkin3; rw [A_eq3]) t d).trans
    (by unfold Dat.fetched Dat.blockOf blkin3; rw [A_eq3]; rfl)
theorem before3_1 (c : Dev nD) (t : Fin cfg3.N) (d) : (dat3 V c).before 1 t d = blkin3 V c 1 t :=
  ((dat3 V c).before_in_eq_fetched 1 rfl (fun _ => rfl) (fun _ _ _ => rfl) (fun t => by rw [after3_1]; unfold Dat.blockOf blkin3; rw [A_eq3]) t d).trans
    (by unfold Dat.fetched Dat.blockOf blkin3; rw [A_eq3]; rfl)

theorem defs₀_row3 (t : Fin cfg3.N) :
    defs₀ (F := F) .tc cfg3.body (cfg3.bodyArgs t (cfg3.slots t)) = bodyAt3 t := by
  unfold defs₀; rw [Defs.onTc_tc]

theorem oblig3 (c : Dev nD) : BodyObligation (dat3 (F := F) V c) (defs₀ (F := F)) Variants.none () Set.univ := fun t => by
  rw [bigSep_W3, bigSep_W3, defs₀_row3]
  refine triple_restated (W := wp frame (wpE (defs₀ (F := F)) Variants.none c none) Set.univ (bodyAt3 t)) ?_ rfl .rfl fun _ => .rfl
  unfold bodyAt3
  simp only [before3_0, before3_1]
  rw [show (dat3 V c).Φ t.succ = (dat3 V c).Φ t.castSucc from rfl,
    after3_0, after3_1, after3_2, after3_3]
  iintro ⟨HΦ, Ho, ⟨%d0, H0⟩, ⟨%d1, H1⟩, ⟨%d2, H2⟩, ⟨%d3, H3⟩⟩
  iapply (triple3 c Set.univ (grid3.coords t) _ _ _ _ _ _ _ _ (blkin3 V c 0 t) (blkin3 V c 1 t) _)
  iframe H0 H1
  isplitl [H2]; · iexists _; iexact H2
  isplitl [H3]; · iexists _; iexact H3
  iintro ⟨H0, H1, H2, H3⟩
  iframe HΦ Ho H0 H1 H2
  iexact H3

end Region

/-! Region 4: the values. -/
section Region
variable (V : (c : Dev nD) → (b : Ref sig .tc) → Buf (Elt F) ((c : Thread nD τ).loc b))

def blkin4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x4096 := Rect.unit (s := S1024x4096) ![0, 0] S1024x4096.size inb_S1024x4096_S1024x4096_0_0
abbrev r4_1 : Rect S4096x512 := Rect.unit (s := S4096x512) ![0, 0] S4096x512.size inb_S4096x512_S4096x512_0_0
abbrev r4_2 : Rect S1024x512 := Rect.unit (s := S1024x512) ![0, 0] S1024x512.size inb_S1024x512_S1024x512_0_0

def out4_2 (x0 : Vec F S1024x4096 .bf16) (x1 : Vec F S4096x512 .bf16) : Vec F S1024x512 .f32 :=
  View.canon [⟨r4_2, k4_pay1 (View.ld x0 r4_0) (View.ld x1 r4_1)⟩]

def out4_3 (x0 : Vec F S1024x4096 .bf16) (x1 : Vec F S4096x512 .bf16) : Vec F S1024x512 .bf16 :=
  View.canon [⟨r4_2, k4_pay2 (View.ld x0 r4_0) (View.ld x1 r4_1)⟩]

set_option maxHeartbeats 1000000 in
theorem triple4 (c : Dev nD) (E : Set ℕ) (i : grid4.Coords) (arg2 : Memref sig .tc .vmem S1024x4096 .bf16) (harg2 : arg2.IsWhole) (arg3 : Memref sig .tc .vmem S4096x512 .bf16) (harg3 : arg3.IsWhole) (arg4 : Memref sig .tc .vmem S1024x512 .f32) (harg4 : arg4.IsWhole) (arg5 : Memref sig .tc .vmem S1024x512 .bf16) (harg5 : arg5.IsWhole)
    (x0 : Vec F S1024x4096 .bf16) (x1 : Vec F S4096x512 .bf16) (K : PUnit → sProp 𝕄) :
    iprop(owns c.tc arg2 fullShare x0 ∗ owns c.tc arg3 fullShare x1 ∗ (∃ d, owns c.tc arg4 fullShare d) ∗ (∃ d, owns c.tc arg5 fullShare d)
        ∗ (iprop(owns c.tc arg2 fullShare x0 ∗ owns c.tc arg3 fullShare x1 ∗ owns c.tc arg4 fullShare (out4_2 x0 x1) ∗ owns c.tc arg5 fullShare (out4_3 x0 x1)) -∗ K ⟨⟩))
      ⊢ wp frame (wpE (defs₀ (F := F)) Variants.none c none) E (cc4_v_proj i arg2 harg2 arg3 harg3 arg4 harg4 arg5 harg5) K := by
  simp only [cc4_v_proj_eq_skeleton]; unfold cc4_v_proj_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]; · iexists f0; iframe H0; ipureintro; rfl
  isplitl [H1]; · iexists f1; iframe H1; ipureintro; rfl
  isplitl [H2]
  · iexists _; isplitr
    swap; · iexact H2
    ipureintro
    exact View.read_writes_eq_canon _ _ _ (View.cover_of_tiled _ S1024x512.size (by rfl))
  iexists _; isplitr
  swap; · iexact H3
  ipureintro
  exact View.read_writes_eq_canon _ _ _ (View.cover_of_tiled _ S1024x512.size (by rfl))

def dat4 (c : Dev nD) : Dat τ (Elt F) Unit ℕ (UR sig nD τ) ℕ cfg4 c where
  A w := V c (Pipeline.arrRef spec4 w)
  after w t := match w with
    | ⟨0, _⟩ => blkin4 V c 0 t
    | ⟨1, _⟩ => blkin4 V c 1 t
    | ⟨2, _⟩ => out4_2 (blkin4 V c 0 t) (blkin4 V c 1 t)
    | ⟨3, _⟩ => out4_3 (blkin4 V c 0 t) (blkin4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blkin4 V c 0 t := by dsimp only [dat4]
theorem after4_1 (c : Dev nD) (t : Fin cfg4.N) : (dat4 V c).after 1 t = blkin4 V c 1 t := by dsimp only [dat4]
theorem after4_2 (c : Dev nD) (t : Fin cfg4.N) : (dat4 V c).after 2 t = out4_2 (blkin4 V c 0 t) (blkin4 V c 1 t) := by dsimp only [dat4]
theorem after4_3 (c : Dev nD) (t : Fin cfg4.N) : (dat4 V c).after 3 t = out4_3 (blkin4 V c 0 t) (blkin4 V c 1 t) := by dsimp only [dat4]

theorem before4_0 (c : Dev nD) (t : Fin cfg4.N) (d) : (dat4 V c).before 0 t d = blkin4 V c 0 t :=
  ((dat4 V c).before_in_eq_fetched 0 rfl (fun _ => rfl) (fun _ _ _ => rfl) (fun t => by rw [after4_0]; unfold Dat.blockOf blkin4; rw [A_eq4]) t d).trans
    (by unfold Dat.fetched Dat.blockOf blkin4; rw [A_eq4]; rfl)
theorem before4_1 (c : Dev nD) (t : Fin cfg4.N) (d) : (dat4 V c).before 1 t d = blkin4 V c 1 t :=
  ((dat4 V c).before_in_eq_fetched 1 rfl (fun _ => rfl) (fun _ _ _ => rfl) (fun t => by rw [after4_1]; unfold Dat.blockOf blkin4; rw [A_eq4]) t d).trans
    (by unfold Dat.fetched Dat.blockOf blkin4; rw [A_eq4]; rfl)

theorem defs₀_row4 (t : Fin cfg4.N) :
    defs₀ (F := F) .tc cfg4.body (cfg4.bodyArgs t (cfg4.slots t)) = bodyAt4 t := by
  unfold defs₀; rw [Defs.onTc_tc]

theorem oblig4 (c : Dev nD) : BodyObligation (dat4 (F := F) V c) (defs₀ (F := F)) Variants.none () Set.univ := fun t => by
  rw [bigSep_W4, bigSep_W4, defs₀_row4]
  refine triple_restated (W := wp frame (wpE (defs₀ (F := F)) Variants.none c none) Set.univ (bodyAt4 t)) ?_ rfl .rfl fun _ => .rfl
  unfold bodyAt4
  simp only [before4_0, before4_1]
  rw [show (dat4 V c).Φ t.succ = (dat4 V c).Φ t.castSucc from rfl,
    after4_0, after4_1, after4_2, after4_3]
  iintro ⟨HΦ, Ho, ⟨%d0, H0⟩, ⟨%d1, H1⟩, ⟨%d2, H2⟩, ⟨%d3, H3⟩⟩
  iapply (triple4 c Set.univ (grid4.coords t) _ _ _ _ _ _ _ _ (blkin4 V c 0 t) (blkin4 V c 1 t) _)
  iframe H0 H1
  isplitl [H2]; · iexists _; iexact H2
  isplitl [H3]; · iexists _; iexact H3
  iintro ⟨H0, H1, H2, H3⟩
  iframe HΦ Ho H0 H1 H2
  iexact H3

end Region

end Cert.Proof.ProjS

end
-- ==== Proof.ProjS.Walk.lean ====
module

public import proofs.«01_k».proof.Proof.ProjS.Regions

/-!
The contents of every buffer at each boundary of the sample's projection: a fold through its regions and host lines.
-/

@[expose] public section

set_option maxRecDepth 16384

noncomputable section

namespace Cert.Proof.ProjS

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m (c.tc.loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m (c.tc.loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m (c.tc.loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m (c.tc.loc a) :=
  fun a ha => (W4_of m ρ c a (hostOps2_args a ha)).trans (W3_args m ρ c a ha)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m (c.tc.loc a) :=
  fun a ha => (W5_of m ρ c a (argsIn2 a ha)).trans (W4_args m ρ c a ha)
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m (c.tc.loc a) :=
  fun a ha => (W6_of m ρ c a (argsIn3 a ha)).trans (W5_args m ρ c a ha)
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
theorem W7_of (c : Dev nD) (r : Ref sig .tc) (h : ∀ w : Fin cfg4.W, Pipeline.arrRef spec4 w = r → (cfg4.win w).isOut = false) :
    W7 m ρ c (Proc.devRef .tc r) = W6 m ρ c (Proc.devRef .tc r) := by
  by_cases hw : ∃ w : Fin cfg4.W, Pipeline.arrRef spec4 w = r
  · obtain ⟨w, rfl⟩ := hw
    exact (W7_arr m ρ c w).trans (((dat4 (V6 m ρ) c).arrAt_in w (h w rfl) _).trans (A_eq4 (V6 m ρ) c w))
  · exact W7_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W7_args (c : Dev nD) : ∀ a ∈ argRefs, W7 m ρ c (Proc.devRef .tc a) = m (c.tc.loc a) :=
  fun a ha => (W7_of m ρ c a (argsIn4 a ha)).trans (W6_args m ρ c a ha)
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

end Cert.Proof.ProjS

end
-- ==== Proof.ProjS.Segs.lean ====
module

public import proofs.«01_k».proof.Proof.ProjS.Walk

/-!
The sample's projection, run: its segments, and every buffer at what the last leaves.
-/

@[expose] public section

set_option maxRecDepth 16384

noncomputable section

namespace Cert.Proof.ProjS

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W7_main_arg0 (c : Dev nD) : W7 m ρ c (Proc.devRef .tc main_arg0) = m (c.tc.loc main_arg0) :=
  W7_args m ρ c main_arg0 (by decide)
theorem W7_main_arg1 (c : Dev nD) : W7 m ρ c (Proc.devRef .tc main_arg1) = m (c.tc.loc main_arg1) :=
  W7_args m ρ c main_arg1 (by decide)
theorem W7_main_arg2 (c : Dev nD) : W7 m ρ c (Proc.devRef .tc main_arg2) = m (c.tc.loc main_arg2) :=
  W7_args m ρ c main_arg2 (by decide)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- A call as a segment: entered with the unscoped buffers at `W`, left with them at `W'`. -/
def regionOf (p : Fin 5) (hl : Pipeline.LaunchFacts (nD := nD) (τ := τ) cfgs p) (W W' : Dev nD → Valuation τ sig (Elt F))
    (hq : ∀ c w, (pdats m ρ p c).q w = fullShare) (ho : ∀ c t, (pdats m ρ p c).owed t = 0) (hΦ : ∀ c t, (pdats m ρ p c).Φ t = Pipeline.ΦA (cfgs p).spec c)
    (hA : ∀ c w, (pdats m ρ p c).A w = W c (Proc.devRef .tc (Pipeline.arrRef (cfgs p).spec w)))
    (hF : ∀ c w, (pdats m ρ p c).arrAt w (cfgs p).N = W' c (Proc.devRef .tc (Pipeline.arrRef (cfgs p).spec w)))
    (hr : ∀ c (b : Ref sig .tc), b ∉ Finset.univ.image (Pipeline.arrRef (cfgs p).spec) → W' c (Proc.devRef .tc b) = W c (Proc.devRef .tc b))
    (hc : ∀ c x, x ∈ (pdats m ρ p c).recorded 0) (hb : ∀ c, Pipeline.BodyObligationLoose (pdats m ρ p c) (defs₀ (F := F)) 𝒱₀ () Set.univ) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody := hb
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c (Proc.devRef .tc b)
  hentry c := by
    rw [Pipeline.ownSems0_none]
    have hsplit := Pipeline.arrays_of_unscopedBufs (p := p) (pcfgs (F := F)) adm (pdats m ρ) hl.win hl.arr_whole c
      ((pdats m ρ p c).share_full (hq c)) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%O, HO⟩; iexists O; isplitr; · ipureintro; exact fun _ _ => Or.inl (hc c _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c))
      (fun b => W c (Proc.devRef .tc b)) (fun b => W' c (Proc.devRef .tc b)) ((pdats m ρ p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c (Fin.last _)]
    icases HO with ⟨%O, -, HO⟩; iexists O; iexact HO

abbrev reg0 := regionOf m ρ 0 launch0 (W1 m ρ) (W2 m ρ) (fun _ _ => rfl) (fun _ _ => rfl) (fun _ _ => rfl) (A_eq0 (V1 m ρ)) (hF0 m ρ) (hrest0 m ρ)
  (fun _ _ => trivial) fun c => (oblig0 (V1 m ρ) c).loose
abbrev reg1 := regionOf m ρ 1 launch1 (W2 m ρ) (W3 m ρ) (fun _ _ => rfl) (fun _ _ => rfl) (fun _ _ => rfl) (A_eq1 (V2 m ρ)) (hF1 m ρ) (hrest1 m ρ)
  (fun _ _ => trivial) fun c => (oblig1 (V2 m ρ) c).loose
abbrev reg2 := regionOf m ρ 2 launch2 (W4 m ρ) (W5 m ρ) (fun _ _ => rfl) (fun _ _ => rfl) (fun _ _ => rfl) (A_eq2 (V4 m ρ)) (hF2 m ρ) (hrest2 m ρ)
  (fun _ _ => trivial) fun c => (oblig2 (V4 m ρ) c).loose
abbrev reg3 := regionOf m ρ 3 launch3 (W5 m ρ) (W6 m ρ) (fun _ _ => rfl) (fun _ _ => rfl) (fun _ _ => rfl) (A_eq3 (V5 m ρ)) (hF3 m ρ) (hrest3 m ρ)
  (fun _ _ => trivial) fun c => (oblig3 (V5 m ρ) c).loose
abbrev reg4 := regionOf m ρ 4 launch4 (W6 m ρ) (W7 m ρ) (fun _ _ => rfl) (fun _ _ => rfl) (fun _ _ => rfl) (A_eq4 (V6 m ρ)) (hF4 m ρ) (hrest4 m ρ)
  (fun _ _ => trivial) fun c => (oblig4 (V6 m ρ) c).loose
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .region (reg4 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every unscoped buffer ends at the last boundary's contents, and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m ρ c) ∗ R c)
        ⊢ iprop(Tₙ m ρ c ∗ ∃ O, owes (c : Thread nD τ) (0 : CellTallies nD τ sig Unit) O) from by
      iintro ⟨Hh, Hp, HO⟩
      isplitl [Hh Hp]
      · isplitl [Hh] <;> iassumption
      iexact HO)⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The arguments end as they began. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c)⟩, h.2⟩) (run m ρ)

end Cert.Proof.ProjS
-- ==== Proof.ProjS.Left.lean ====
/-
  The sample's key and value projections, over the extended reals: what each call leaves, and the results from the arguments.
-/
module

public import proofs.«01_k».proof.Proof.ProjS.Segs
public import Idealize.ShloMosaic.Lib.Pipeline.ValueKit

@[expose] public section

set_option maxRecDepth 16384

noncomputable section

namespace Cert.Proof.ProjS

open Cert.Kernel6Ideal Cert.Kernel6Ideal.Gen
open Idealize.ShloMosaic Idealize.ShloMosaic.TcCoe Idealize.SL.Sem
open Idealize.ShloMosaic.Pipeline (Dat Cfg Window)
open Idealize.ShloMosaic.Tactic Idealize.ShloMosaic.Rounds

/-- One row of the norm: the entry by the reciprocal root of the row's mean square, by the gain. -/
def rowNorm (x : Fin 4096 → EReal) (g : EReal) (d : Fin 4096) : EReal :=
  x d * Ideal.rsqrt (Ideal.div (∑ k : Fin 4096, x k * x k) (Ideal.ofBits .f32 0x45800000#32) + Ideal.ofBits .f32 0x358637BD#32) * g

/-- 2048 of the weight's columns, turned over. -/
def turned (o : Nat) (ho : o + 2048 ≤ 12296) (w : Vec Ideal S12296x4096 .f32) : Vec Ideal S4096x2048 .bf16 := fun y =>
  w (ix2 ⟨o + (y 1).val, by have h : (y 1).val < 2048 := (y 1).isLt; omega⟩ (y 0))
/-- The norm, row by row. -/
def normed (x : Vec Ideal S1024x4096 .f32) (g : Vec Ideal S1x4096 .f32) : Vec Ideal S1024x4096 .bf16 := fun y =>
  rowNorm (fun k => x (ix2 (y 0) k)) (g (ix2 0 (y 1))) (y 1)
/-- The product, in either format. -/
def product (a : Vec Ideal S1024x4096 .bf16) (b : Vec Ideal S4096x2048 .bf16) : Vec Ideal S1024x2048 .f32 := fun y =>
  ∑ k : Fin 4096, a (ix2 (y 0) k) * b (ix2 k (y 1))
def productB (a : Vec Ideal S1024x4096 .bf16) (b : Vec Ideal S4096x2048 .bf16) : Vec Ideal S1024x2048 .bf16 := fun y =>
  ∑ k : Fin 4096, a (ix2 (y 0) k) * b (ix2 k (y 1))

theorem cast_block0 (x : Vec Ideal S1024x512 .f32) (k : Fin 512) (n : Fin 1024) : out0_1 x (ix2 k n) = x (ix2 n k) := by
  frame_out
  pointwise [k0_pay1]
theorem cast_block1 (x : Vec Ideal S1024x512 .f32) (k : Fin 512) (n : Fin 1024) : out1_1 x (ix2 k n) = x (ix2 n k) := by
  frame_out
  pointwise [k1_pay1]
theorem norm_block (x : Vec Ideal S256x4096 .f32) (g : Vec Ideal S1x4096 .f32) (r : Fin 256) (d : Fin 4096) :
    out2_2 x g (ix2 r d) = rowNorm (fun k => x (ix2 r k)) (g (ix2 0 d)) d := by
  frame_out
  pointwise [k2_pay1]
  rfl
theorem product_block3_2 (a : Vec Ideal S1024x4096 .bf16) (b : Vec Ideal S4096x512 .bf16) (r : Fin 1024) (n : Fin 512) :
    out3_2 a b (ix2 r n) = ∑ k : Fin 4096, a (ix2 r k) * b (ix2 k n) := by
  frame_out
  pointwise [k3_pay1]
theorem product_block3_3 (a : Vec Ideal S1024x4096 .bf16) (b : Vec Ideal S4096x512 .bf16) (r : Fin 1024) (n : Fin 512) :
    out3_3 a b (ix2 r n) = ∑ k : Fin 4096, a (ix2 r k) * b (ix2 k n) := by
  frame_out
  pointwise [k3_pay2, k3_pay1]
theorem product_block4_2 (a : Vec Ideal S1024x4096 .bf16) (b : Vec Ideal S4096x512 .bf16) (r : Fin 1024) (n : Fin 512) :
    out4_2 a b (ix2 r n) = ∑ k : Fin 4096, a (ix2 r k) * b (ix2 k n) := by
  frame_out
  pointwise [k4_pay1]
theorem product_block4_3 (a : Vec Ideal S1024x4096 .bf16) (b : Vec Ideal S4096x512 .bf16) (r : Fin 1024) (n : Fin 512) :
    out4_3 a b (ix2 r n) = ∑ k : Fin 4096, a (ix2 r k) * b (ix2 k n) := by
  frame_out
  pointwise [k4_pay2, k4_pay1]

/-! ## The calls -/

section Calls
variable (V : (c : Dev nD) → (b : Ref sig .tc) → Buf (Elt Ideal) ((c : Thread nD τ).loc b)) (c : Dev nD)

theorem idx0 : ∀ t : Fin cfg0.N, win0_0.index t = ![2 + (grid0.coords t 1).val, (grid0.coords t 0).val] ∧ win0_1.index t = ![(grid0.coords t 0).val, (grid0.coords t 1).val] := (by decide +kernel : ∀ t : Fin grid0.N, _)
theorem lt00 (i : grid0.Coords) : (i 0).val < 8 := (i 0).isLt
theorem lt01 (i : grid0.Coords) : (i 1).val < 2 := (i 1).isLt
theorem cast_in0 (t : Fin cfg0.N) (j : Fin 1024) (k : Fin 512) : held0 V c t (ix2 j k)
    = V c main_v0 (ix2 ⟨1024 * (2 + (grid0.coords t 1).val) + j.val, by have := lt01 (grid0.coords t); omega⟩
        ⟨512 * (grid0.coords t 0).val + k.val, by have := lt00 (grid0.coords t); omega⟩ : S12296x4096.Idx) := by
  unfold held0 Pipeline.Window.fill
  rw [dif_pos (moved0 t _)]
  blk_simp [blkin0]
  blk_ext [idx0 t]
theorem cast_out0 (t : Fin cfg0.N) (k : Fin 512) (j : Fin 1024) : (win0_1.blk t).view.emb (ix2 k j)
    = (ix2 ⟨512 * (grid0.coords t 0).val + k.val, by have := lt00 (grid0.coords t); omega⟩
        ⟨1024 * (grid0.coords t 1).val + j.val, by have := lt01 (grid0.coords t); omega⟩ : S4096x2048.Idx) := by
  blk_ext [idx0 t]
theorem left0 : (dat0 V c).arrAt 1 cfg0.N = turned 2048 (by decide) (V c main_v0) := by
  refine (dat0 V c).arrAt_eq_of_covers 1 _ (by decide +kernel) fun t _ y => ?_
  blk_simp
  rw [after0_1]
  have hy : ∃ (r : Fin 512) (n : Fin 1024), y = ix2 r n :=
    ⟨⟨(y 0).val, (y 0).isLt⟩, ⟨(y 1).val, (y 1).isLt⟩, by funext a; fin_cases a <;> rfl⟩
  obtain ⟨r, n, rfl⟩ := hy
  refine ((cast_block0 _ r n).trans (cast_in0 V c t n r)).trans ?_
  refine Eq.trans ?_ (congrArg (turned 2048 (by decide) (V c main_v0)) (cast_out0 t r n)).symm
  exact congrArg (V c main_v0) (congrArg (fun q : Fin 12296 => (ix2 q _ : S12296x4096.Idx)) (Fin.ext (by
    show 1024 * (2 + (grid0.coords t 1).val) + n.val = 2048 + (1024 * (grid0.coords t 1).val + n.val); omega)))

theorem idx1 : ∀ t : Fin cfg1.N, win1_0.index t = ![4 + (grid1.coords t 1).val, (grid1.coords t 0).val] ∧ win1_1.index t = ![(grid1.coords t 0).val, (grid1.coords t 1).val] := (by decide +kernel : ∀ t : Fin grid1.N, _)
theorem lt10 (i : grid1.Coords) : (i 0).val < 8 := (i 0).isLt
theorem lt11 (i : grid1.Coords) : (i 1).val < 2 := (i 1).isLt
theorem cast_in1 (t : Fin cfg1.N) (j : Fin 1024) (k : Fin 512) : held1 V c t (ix2 j k)
    = V c main_v0 (ix2 ⟨1024 * (4 + (grid1.coords t 1).val) + j.val, by have := lt11 (grid1.coords t); omega⟩
        ⟨512 * (grid1.coords t 0).val + k.val, by have := lt10 (grid1.coords t); omega⟩ : S12296x4096.Idx) := by
  unfold held1 Pipeline.Window.fill
  rw [dif_pos (moved1 t _)]
  blk_simp [blkin1]
  blk_ext [idx1 t]
theorem cast_out1 (t : Fin cfg1.N) (k : Fin 512) (j : Fin 1024) : (win1_1.blk t).view.emb (ix2 k j)
    = (ix2 ⟨512 * (grid1.coords t 0).val + k.val, by have := lt10 (grid1.coords t); omega⟩
        ⟨1024 * (grid1.coords t 1).val + j.val, by have := lt11 (grid1.coords t); omega⟩ : S4096x2048.Idx) := by
  blk_ext [idx1 t]
theorem left1 : (dat1 V c).arrAt 1 cfg1.N = turned 4096 (by decide) (V c main_v0) := by
  refine (dat1 V c).arrAt_eq_of_covers 1 _ (by decide +kernel) fun t _ y => ?_
  blk_simp
  rw [after1_1]
  have hy : ∃ (r : Fin 512) (n : Fin 1024), y = ix2 r n :=
    ⟨⟨(y 0).val, (y 0).isLt⟩, ⟨(y 1).val, (y 1).isLt⟩, by funext a; fin_cases a <;> rfl⟩
  obtain ⟨r, n, rfl⟩ := hy
  refine ((cast_block1 _ r n).trans (cast_in1 V c t n r)).trans ?_
  refine Eq.trans ?_ (congrArg (turned 4096 (by decide) (V c main_v0)) (cast_out1 t r n)).symm
  exact congrArg (V c main_v0) (congrArg (fun q : Fin 12296 => (ix2 q _ : S12296x4096.Idx)) (Fin.ext (by
    show 1024 * (4 + (grid1.coords t 1).val) + n.val = 4096 + (1024 * (grid1.coords t 1).val + n.val); omega)))

theorem idx2 : ∀ t : Fin cfg2.N, win2_0.index t = ![(grid2.coords t 0).val, 0] ∧ win2_1.index t = ![0, 0] ∧ win2_2.index t = ![(grid2.coords t 0).val, 0] := (by decide +kernel : ∀ t : Fin grid2.N, _)
theorem lt2 (i : grid2.Coords) : (i 0).val < 4 := (i 0).isLt
theorem x_in (t : Fin cfg2.N) (r : Fin 256) (d : Fin 4096) : blkin2 V c 0 t (ix2 r d)
    = V c main_arg0 (ix2 ⟨256 * (grid2.coords t 0).val + r.val, by have := lt2 (grid2.coords t); omega⟩ d : S1024x4096.Idx) := by
  blk_simp [blkin2]
  blk_ext [idx2 t]
theorem g_in (t : Fin cfg2.N) (d : Fin 4096) : blkin2 V c 1 t (ix2 0 d) = V c main_v3 (ix2 0 d : S1x4096.Idx) := by
  blk_simp [blkin2]
  blk_ext [idx2 t]
theorem n_out (t : Fin cfg2.N) (r : Fin 256) (d : Fin 4096) : (win2_2.blk t).view.emb (ix2 r d)
    = (ix2 ⟨256 * (grid2.coords t 0).val + r.val, by have := lt2 (grid2.coords t); omega⟩ d : S1024x4096.Idx) := by
  blk_ext [idx2 t]
theorem left2 : (dat2 V c).arrAt 2 cfg2.N = normed (V c main_arg0) (V c main_v3) := by
  refine (dat2 V c).arrAt_eq_of_covers 2 _ (by decide +kernel) fun t _ y => ?_
  blk_simp
  rw [after2_2]
  have hy : ∃ (r : Fin 256) (n : Fin 4096), y = ix2 r n :=
    ⟨⟨(y 0).val, (y 0).isLt⟩, ⟨(y 1).val, (y 1).isLt⟩, by funext a; fin_cases a <;> rfl⟩
  obtain ⟨r, n, rfl⟩ := hy
  refine (norm_block _ _ r n).trans ?_
  rw [g_in]
  simp only [x_in]
  exact (congrArg (normed (V c main_arg0) (V c main_v3)) (n_out t r n)).symm

theorem idx3 : ∀ t : Fin cfg3.N, win3_0.index t = ![0, 0] ∧ win3_1.index t = ![0, (grid3.coords t 1).val] ∧ win3_2.index t = ![0, (grid3.coords t 1).val] ∧ win3_3.index t = ![0, (grid3.coords t 1).val] := (by decide +kernel : ∀ t : Fin grid3.N, _)
theorem lt31 (i : grid3.Coords) : (i 1).val < 4 := (i 1).isLt
theorem a_in3 (t : Fin cfg3.N) (r : Fin 1024) (k : Fin 4096) : blkin3 V c 0 t (ix2 r k) = V c main_v4 (ix2 r k : S1024x4096.Idx) := by
  blk_simp [blkin3]
  blk_ext [idx3 t]
theorem b_in3 (t : Fin cfg3.N) (k : Fin 4096) (n : Fin 512) : blkin3 V c 1 t (ix2 k n)
    = V c main_v1 (ix2 k ⟨512 * (grid3.coords t 1).val + n.val, by have := lt31 (grid3.coords t); omega⟩ : S4096x2048.Idx) := by
  blk_simp [blkin3]
  blk_ext [idx3 t]
theorem p_out3_2 (t : Fin cfg3.N) (r : Fin 1024) (n : Fin 512) : (win3_2.blk t).view.emb (ix2 r n)
    = (ix2 r ⟨512 * (grid3.coords t 1).val + n.val, by have := lt31 (grid3.coords t); omega⟩ : S1024x2048.Idx) := by
  blk_ext [idx3 t]
theorem left3_2 : (dat3 V c).arrAt 2 cfg3.N = product (V c main_v4) (V c main_v1) := by
  refine (dat3 V c).arrAt_eq_of_covers 2 _ (by decide +kernel) fun t _ y => ?_
  blk_simp
  rw [after3_2]
  have hy : ∃ (r : Fin 1024) (n : Fin 512), y = ix2 r n :=
    ⟨⟨(y 0).val, (y 0).isLt⟩, ⟨(y 1).val, (y 1).isLt⟩, by funext a; fin_cases a <;> rfl⟩
  obtain ⟨r, n, rfl⟩ := hy
  refine (product_block3_2 _ _ r n).trans ?_
  simp only [a_in3, b_in3]
  exact (congrArg (product (V c main_v4) (V c main_v1)) (p_out3_2 t r n)).symm

theorem p_out3_3 (t : Fin cfg3.N) (r : Fin 1024) (n : Fin 512) : (win3_3.blk t).view.emb (ix2 r n)
    = (ix2 r ⟨512 * (grid3.coords t 1).val + n.val, by have := lt31 (grid3.coords t); omega⟩ : S1024x2048.Idx) := by
  blk_ext [idx3 t]
theorem left3_3 : (dat3 V c).arrAt 3 cfg3.N = productB (V c main_v4) (V c main_v1) := by
  refine (dat3 V c).arrAt_eq_of_covers 3 _ (by decide +kernel) fun t _ y => ?_
  blk_simp
  rw [after3_3]
  have hy : ∃ (r : Fin 1024) (n : Fin 512), y = ix2 r n :=
    ⟨⟨(y 0).val, (y 0).isLt⟩, ⟨(y 1).val, (y 1).isLt⟩, by funext a; fin_cases a <;> rfl⟩
  obtain ⟨r, n, rfl⟩ := hy
  refine (product_block3_3 _ _ r n).trans ?_
  simp only [a_in3, b_in3]
  exact (congrArg (productB (V c main_v4) (V c main_v1)) (p_out3_3 t r n)).symm

theorem idx4 : ∀ t : Fin cfg4.N, win4_0.index t = ![0, 0] ∧ win4_1.index t = ![0, (grid4.coords t 1).val] ∧ win4_2.index t = ![0, (grid4.coords t 1).val] ∧ win4_3.index t = ![0, (grid4.coords t 1).val] := (by decide +kernel : ∀ t : Fin grid4.N, _)
theorem lt41 (i : grid4.Coords) : (i 1).val < 4 := (i 1).isLt
theorem a_in4 (t : Fin cfg4.N) (r : Fin 1024) (k : Fin 4096) : blkin4 V c 0 t (ix2 r k) = V c main_v4 (ix2 r k : S1024x4096.Idx) := by
  blk_simp [blkin4]
  blk_ext [idx4 t]
theorem b_in4 (t : Fin cfg4.N) (k : Fin 4096) (n : Fin 512) : blkin4 V c 1 t (ix2 k n)
    = V c main_v2 (ix2 k ⟨512 * (grid4.coords t 1).val + n.val, by have := lt41 (grid4.coords t); omega⟩ : S4096x2048.Idx) := by
  blk_simp [blkin4]
  blk_ext [idx4 t]
theorem p_out4_2 (t : Fin cfg4.N) (r : Fin 1024) (n : Fin 512) : (win4_2.blk t).view.emb (ix2 r n)
    = (ix2 r ⟨512 * (grid4.coords t 1).val + n.val, by have := lt41 (grid4.coords t); omega⟩ : S1024x2048.Idx) := by
  blk_ext [idx4 t]
theorem left4_2 : (dat4 V c).arrAt 2 cfg4.N = product (V c main_v4) (V c main_v2) := by
  refine (dat4 V c).arrAt_eq_of_covers 2 _ (by decide +kernel) fun t _ y => ?_
  blk_simp
  rw [after4_2]
  have hy : ∃ (r : Fin 1024) (n : Fin 512), y = ix2 r n :=
    ⟨⟨(y 0).val, (y 0).isLt⟩, ⟨(y 1).val, (y 1).isLt⟩, by funext a; fin_cases a <;> rfl⟩
  obtain ⟨r, n, rfl⟩ := hy
  refine (product_block4_2 _ _ r n).trans ?_
  simp only [a_in4, b_in4]
  exact (congrArg (product (V c main_v4) (V c main_v2)) (p_out4_2 t r n)).symm

theorem p_out4_3 (t : Fin cfg4.N) (r : Fin 1024) (n : Fin 512) : (win4_3.blk t).view.emb (ix2 r n)
    = (ix2 r ⟨512 * (grid4.coords t 1).val + n.val, by have := lt41 (grid4.coords t); omega⟩ : S1024x2048.Idx) := by
  blk_ext [idx4 t]
theorem left4_3 : (dat4 V c).arrAt 3 cfg4.N = productB (V c main_v4) (V c main_v2) := by
  refine (dat4 V c).arrAt_eq_of_covers 3 _ (by decide +kernel) fun t _ y => ?_
  blk_simp
  rw [after4_3]
  have hy : ∃ (r : Fin 1024) (n : Fin 512), y = ix2 r n :=
    ⟨⟨(y 0).val, (y 0).isLt⟩, ⟨(y 1).val, (y 1).isLt⟩, by funext a; fin_cases a <;> rfl⟩
  obtain ⟨r, n, rfl⟩ := hy
  refine (product_block4_3 _ _ r n).trans ?_
  simp only [a_in4, b_in4]
  exact (congrArg (productB (V c main_v4) (V c main_v2)) (p_out4_3 t r n)).symm

end Calls

/-! ## The results from the arguments -/

section Wholes
variable (x : Vec Ideal S1024x4096 .f32) (g : Vec Ideal S4096 .f32) (w : Vec Ideal S4096x12296 .f32)

/-- Row `R`, normalised, times column `C` of the weight. -/
def entry (R : Fin 1024) (C : Fin 12296) : EReal := ∑ k : Fin 4096, rowNorm (fun k => x (ix2 R k)) (g (ix1 k)) k * w (ix2 k C)
def whole (o : Nat) (ho : o + 2048 ≤ 12296) : Vec Ideal S1024x2048 .f32 := fun y =>
  entry x g w (y 0) ⟨o + (y 1).val, by have h : (y 1).val < 2048 := (y 1).isLt; omega⟩
def wholeB (o : Nat) (ho : o + 2048 ≤ 12296) : Vec Ideal S1024x2048 .bf16 := fun y =>
  entry x g w (y 0) ⟨o + (y 1).val, by have h : (y 1).val < 2048 := (y 1).isLt; omega⟩

/-- The gain as a row, and the weight turned. -/
abbrev gainRow : Vec Ideal S1x4096 .f32 := shapeCast S1x4096 g shapeCasts_S4096_S1x4096
abbrev weight : Vec Ideal S12296x4096 .f32 := transpose S12296x4096 [1, 0] w transposes_S4096x12296_S12296x4096_1_0
theorem gain_row (d : Fin 4096) : shapeCast S1x4096 g shapeCasts_S4096_S1x4096 (ix2 0 d) = g (ix1 d) := by
  pointwise
  blk_ext
theorem weight_at (C : Fin 12296) (k : Fin 4096) : transpose S12296x4096 [1, 0] w transposes_S4096x12296_S12296x4096_1_0 (ix2 C k) = w (ix2 k C) := by
  pointwise
theorem normed_at (R : Fin 1024) (k : Fin 4096) : normed x (gainRow g) (ix2 R k) = rowNorm (fun k => x (ix2 R k)) (g (ix1 k)) k :=
  congrArg (fun v => rowNorm (fun k => x (ix2 R k)) v k) (gain_row g k)
theorem product_whole (o : Nat) (ho : o + 2048 ≤ 12296) : product (normed x (gainRow g)) (turned o ho (weight w)) = whole x g w o ho := by
  funext y
  exact Finset.sum_congr rfl fun k _ => congrArg₂ (· * ·) (normed_at x g (y 0) k) (weight_at w _ k)
theorem product_wholeB (o : Nat) (ho : o + 2048 ≤ 12296) : productB (normed x (gainRow g)) (turned o ho (weight w)) = wholeB x g w o ho := by
  funext y
  exact Finset.sum_congr rfl fun k _ => congrArg₂ (· * ·) (normed_at x g (y 0) k) (weight_at w _ k)

end Wholes

section Finals
variable (m : (ℓ : Loc nD τ sig) → Buf (Elt Ideal) ℓ) (ρ : Dev nD → PrngReg) (c : Dev nD)

abbrev X : Vec Ideal S1024x4096 .f32 := m (c.tc.loc main_arg0)
abbrev G : Vec Ideal S4096 .f32 := m (c.tc.loc main_arg1)
abbrev Wt : Vec Ideal S4096x12296 .f32 := m (c.tc.loc main_arg2)

theorem turned1 : V1 m ρ c main_v0 = weight (Wt m c) := rfl
theorem turned2 : V2 m ρ c main_v0 = weight (Wt m c) := (W2_of m ρ c main_v0 (by decide)).trans (turned1 m ρ c)
theorem cast0 : V5 m ρ c main_v1 = turned 2048 (by decide) (weight (Wt m c)) :=
  (((W5_of m ρ c main_v1 (by decide)).trans (W4_of m ρ c main_v1 (by decide))).trans (W3_of m ρ c main_v1 (by decide))).trans ((W2_arr m ρ c 1).trans ((left0 (V1 m ρ) c).trans (congrArg (turned 2048 (by decide)) (turned1 m ρ c))))
theorem cast1 : V6 m ρ c main_v2 = turned 4096 (by decide) (weight (Wt m c)) :=
  (((W6_of m ρ c main_v2 (by decide)).trans (W5_of m ρ c main_v2 (by decide))).trans (W4_of m ρ c main_v2 (by decide))).trans ((W3_arr m ρ c 1).trans ((left1 (V2 m ρ) c).trans (congrArg (turned 4096 (by decide)) (turned2 m ρ c))))
theorem gain4 : V4 m ρ c main_v3 = gainRow (G m c) :=
  (show W4 m ρ c (Proc.devRef .tc main_v3) = gainRow (W3 m ρ c (Proc.devRef .tc main_arg1)) from rfl).trans (congrArg gainRow (W3_args m ρ c main_arg1 (by decide)))
theorem norm5 : V5 m ρ c main_v4 = normed (X m c) (gainRow (G m c)) := by
  refine (W5_arr m ρ c 2).trans ((left2 (V4 m ρ) c).trans ?_)
  rw [gain4 m ρ c]
  exact congrArg (fun x => normed x _) (W4_args m ρ c main_arg0 (by decide))
theorem norm6 : V6 m ρ c main_v4 = normed (X m c) (gainRow (G m c)) := (W6_of m ρ c main_v4 (by decide)).trans (norm5 m ρ c)
theorem final0 : W7 m ρ c (Proc.devRef .tc main_v5_0) = whole (X m c) (G m c) (Wt m c) 2048 (by decide) :=
  (W7_of m ρ c main_v5_0 (by decide)).trans <| (W6_arr m ρ c 2).trans ((left3_2 (V5 m ρ) c).trans
    ((congrArg₂ product (norm5 m ρ c) (cast0 m ρ c)).trans (product_whole (X m c) (G m c) (Wt m c) 2048 (by decide))))
theorem final1 : W7 m ρ c (Proc.devRef .tc main_v5_1) = wholeB (X m c) (G m c) (Wt m c) 2048 (by decide) :=
  (W7_of m ρ c main_v5_1 (by decide)).trans <| (W6_arr m ρ c 3).trans ((left3_3 (V5 m ρ) c).trans
    ((congrArg₂ productB (norm5 m ρ c) (cast0 m ρ c)).trans (product_wholeB (X m c) (G m c) (Wt m c) 2048 (by decide))))
theorem final2 : W7 m ρ c (Proc.devRef .tc main_v6_0) = whole (X m c) (G m c) (Wt m c) 4096 (by decide) :=
  (W7_arr m ρ c 2).trans ((left4_2 (V6 m ρ) c).trans
    ((congrArg₂ product (norm6 m ρ c) (cast1 m ρ c)).trans (product_whole (X m c) (G m c) (Wt m c) 4096 (by decide))))
theorem final3 : W7 m ρ c (Proc.devRef .tc main_v6_1) = wholeB (X m c) (G m c) (Wt m c) 4096 (by decide) :=
  (W7_arr m ρ c 3).trans ((left4_3 (V6 m ρ) c).trans
    ((congrArg₂ productB (norm6 m ρ c) (cast1 m ρ c)).trans (product_wholeB (X m c) (G m c) (Wt m c) 4096 (by decide))))

/-- The result arrays and the arguments, off the last boundary's contents. -/
theorem ends {M : (ℓ : Loc nD τ sig) → Buf (Elt Ideal) ℓ} (h : ∀ c : Dev nD, ∀ b ∈ Pipeline.ucRefs τ sig, M ((c : Thread nD τ).1, b) = W7 m ρ c b) :
    M (c.tc.loc main_v5_0) = whole (X m c) (G m c) (Wt m c) 2048 (by decide)
      ∧ M (c.tc.loc main_v5_1) = wholeB (X m c) (G m c) (Wt m c) 2048 (by decide)
      ∧ M (c.tc.loc main_v6_0) = whole (X m c) (G m c) (Wt m c) 4096 (by decide)
      ∧ M (c.tc.loc main_v6_1) = wholeB (X m c) (G m c) (Wt m c) 4096 (by decide)
      ∧ M (c.tc.loc main_arg0) = m (c.tc.loc main_arg0)
      ∧ M (c.tc.loc main_arg1) = m (c.tc.loc main_arg1)
      ∧ M (c.tc.loc main_arg2) = m (c.tc.loc main_arg2) :=
  ⟨(h c _ (mem_uc main_v5_0 (by decide))).trans (final0 m ρ c),
   (h c _ (mem_uc main_v5_1 (by decide))).trans (final1 m ρ c),
   (h c _ (mem_uc main_v6_0 (by decide))).trans (final2 m ρ c),
   (h c _ (mem_uc main_v6_1 (by decide))).trans (final3 m ρ c),
   (h c _ (mem_uc main_arg0 (by decide))).trans (W7_main_arg0 m ρ c),
   (h c _ (mem_uc main_arg1 (by decide))).trans (W7_main_arg1 m ρ c),
   (h c _ (mem_uc main_arg2 (by decide))).trans (W7_main_arg2 m ρ c)⟩

end Finals

end Cert.Proof.ProjS
-- ==== Proof.ProjS.Plain.lean ====
/-
  The sample's key and value projections in the reference: the same entries of the arguments.
-/
module

public import proofs.«01_k».proof.Proof.ProjS.Left
public import proofs.«01_k».proof.Proof.Gen.Reference6Ideal.Read

@[expose] public section

set_option maxRecDepth 16384

noncomputable section

namespace Cert.Proof.ProjS

open Cert.Reference6Ideal Cert.Reference6Ideal.Gen Cert.Reference6Ideal.Read
open Idealize.ShloMosaic Idealize.ShloMosaic.TcCoe Idealize.SL.Sem

section Plain
variable (x0 : Vec Ideal S1024x4096 .f32) (x1 : Vec Ideal S4096 .f32) (x2 : Vec Ideal S4096x12296 .f32)

theorem norm_plain (r : Fin 1024) (d : Fin 4096) : val_main_v12 (F := Ideal) x0 x1 (ix2 r d) = rowNorm (fun k => x0 (ix2 r k)) (x1 (ix1 d)) d := by
  have zero : val_main_cst (F := Ideal) (Shape.Idx.first h_S_) = 0 := by simp [val_main_cst_apply]
  have e : val_main_v8 (F := Ideal) x0 (ix2 r d) = Ideal.rsqrt (Ideal.div (∑ k : Fin 4096, x0 (ix2 r k) * x0 (ix2 r k))
      (Ideal.ofBits .f32 0x45800000#32) + Ideal.ofBits .f32 0x358637BD#32) := by
    rw [val_main_v8_apply, val_main_v7_apply, val_main_v6_apply, val_main_v4_apply, val_main_v2_apply, val_main_v1_apply, zero, zero_add]
    have e : idx_main_v2 (idx_main_v8 (ix2 r d)) = ix1 r := by funext a; fin_cases a; rfl
    rw [e]
    have e' : ∀ k, val_main_v0 (F := Ideal) x0 (idx_main_v1 (ix1 r) k) = x0 (ix2 r k) * x0 (ix2 r k) := fun k => by
      rw [show idx_main_v1 (ix1 r) k = ix2 r k from by funext a; fin_cases a <;> rfl, val_main_v0_apply]
      rfl
    simp only [e']
    rfl
  rw [val_main_v12_apply, val_main_v9_apply, e]
  unfold rowNorm
  refine congrArg₂ (· * ·) rfl ?_
  rw [val_main_v11_apply, val_main_v10_apply]
  exact congrArg x1 (by funext a; fin_cases a; rfl)

theorem product_plain (r : Fin 1024) (C : Fin 12296) : val_main_v13 (F := Ideal) x0 x1 x2 (ix2 r C) = entry x0 x1 x2 r C := by
  rw [val_main_v13_apply]
  refine Finset.sum_congr rfl fun k _ => congrArg₂ (· * ·) ?_ ?_
  · exact (congrArg (val_main_v12 (F := Ideal) x0 x1) (by funext a; fin_cases a <;> rfl)).trans (norm_plain x0 x1 r k)
  · exact congrArg x2 (by funext a; fin_cases a <;> rfl)

theorem plain0 : val_main_v14 (F := Ideal) x0 x1 x2 = whole x0 x1 x2 2048 (by decide) := by
  funext y
  obtain ⟨R, C, rfl⟩ : ∃ (R : Fin 1024) (C : Fin 2048), y = ix2 R C := ⟨⟨(y 0).val, (y 0).isLt⟩, ⟨(y 1).val, (y 1).isLt⟩, by funext a; fin_cases a <;> rfl⟩
  rw [val_main_v14_apply]
  refine (congrArg (val_main_v13 (F := Ideal) x0 x1 x2) ?_).trans (product_plain x0 x1 x2 R ⟨2048 + C.val, by omega⟩)
  funext a; fin_cases a <;> rfl
theorem plain1 : val_main_v16 (F := Ideal) x0 x1 x2 = wholeB x0 x1 x2 2048 (by decide) := plain0 x0 x1 x2
theorem plain2 : val_main_v15 (F := Ideal) x0 x1 x2 = whole x0 x1 x2 4096 (by decide) := by
  funext y
  obtain ⟨R, C, rfl⟩ : ∃ (R : Fin 1024) (C : Fin 2048), y = ix2 R C := ⟨⟨(y 0).val, (y 0).isLt⟩, ⟨(y 1).val, (y 1).isLt⟩, by funext a; fin_cases a <;> rfl⟩
  rw [val_main_v15_apply]
  refine (congrArg (val_main_v13 (F := Ideal) x0 x1 x2) ?_).trans (product_plain x0 x1 x2 R ⟨4096 + C.val, by omega⟩)
  funext a; fin_cases a <;> rfl
theorem plain3 : val_main_v17 (F := Ideal) x0 x1 x2 = wholeB x0 x1 x2 4096 (by decide) := plain2 x0 x1 x2

end Plain

end Cert.Proof.ProjS
-- ==== Proof.ProjS.Both.lean ====
/-
  The sample's projections have the same text in the kernel and in its idealization: the run is one run, over any floats.
-/
module

public import proofs.«01_k».proof.Proof.ProjS.Segs
public import proofs.«01_k».proof.Proof.Gen.Kernel6
public import proofs.«01_k».proof.Defs

@[expose] public section

noncomputable section

namespace Cert.Proof.ProjS

open Idealize.ShloMosaic Idealize.SL.Sem

variable {F : FTy → Type} [FloatOps F]

set_option maxHeartbeats 2000000 in
theorem bodies_same : Kernel6.defs₀ (F := F) = Kernel6Ideal.defs₀ (F := F) := by
  unfold Kernel6.defs₀ Kernel6Ideal.defs₀
  refine congrArg Defs.onTc ?_
  funext l a
  match l, a with
  | 0, (t, s) => rfl
  | 1, (t, s) => rfl
  | 2, (t, s) => rfl
  | 3, (t, s) => rfl
  | 4, (t, s) => rfl

theorem defs_same : Kernel6.defs (F := F) = Kernel6Ideal.defs (F := F) :=
  congrArg (Pipeline.defs (Kernel6Ideal.pcfgs (F := F))) bodies_same

/-- The kernel's own frame, from the one run. -/
theorem framed : quiescent_Kernel6 := fun m ρ _ => by
  have h := frame (F := Bits) m ρ
  rw [← defs_same] at h
  exact h

end Cert.Proof.ProjS

end
-- ==== Proof.UpS.Blocks.lean ====
/-
  The sample's up-projection over the extended reals: what each of the four calls leaves in its result arrays, from the
  arrays it is entered with.
-/
module

public import proofs.«01_k».proof.Proof.Gen.Kernel7Ideal.Frame
public import Idealize.ShloMosaic.Lib.Pipeline.ValueKit

@[expose] public section

set_option maxRecDepth 4096

noncomputable section

namespace Cert.Proof.UpS

open Cert.Kernel7Ideal Cert.Kernel7Ideal.Gen
open Idealize.ShloMosaic Idealize.ShloMosaic.TcCoe Idealize.SL.Sem
open Idealize.ShloMosaic.Pipeline (Dat)

/-! ## A column -/

/-- A column of a sequence, its two earlier rows first. -/
def line (s : Fin 2 → EReal) (u : Fin 32 → EReal) (q : Fin 34) : EReal :=
  if h : q.val < 2 then s ⟨q.val, h⟩ else u ⟨q.val - 2, by omega⟩
/-- The short convolution's row `r`. -/
def conv (k : Fin 3 → EReal) (e : Fin 34 → EReal) (r : Fin 32) : EReal :=
  e ⟨r.val, by omega⟩ * k 0 + e ⟨r.val + 1, by omega⟩ * k 1 + e ⟨r.val + 2, by omega⟩ * k 2
/-- The gate's swish by the value. -/
def gated (a b : EReal) : EReal := Ideal.div a (1 + Ideal.exp (0 - a)) * b

/-! ## The arrays -/

/-- The first half of the columns, and the second. -/
def gateCols (w : Vec Ideal S4096x22016 .f32) : Vec Ideal S4096x11008 .bf16 := fun y =>
  w (ix2 (y 0) ⟨(y 1).val, by have h1 : (y 1).val < 11008 := (y 1).isLt; omega⟩)
def valCols (w : Vec Ideal S4096x22016 .f32) : Vec Ideal S4096x11008 .bf16 := fun y =>
  w (ix2 (y 0) ⟨11008 + (y 1).val, by have h1 : (y 1).val < 11008 := (y 1).isLt; omega⟩)

/-- One row of the norm: the entry by the reciprocal root of the row's mean square, by the gain. -/
def rowNorm (x : Fin 4096 → EReal) (g : EReal) (d : Fin 4096) : EReal :=
  x d * Ideal.rsqrt (Ideal.div (∑ k : Fin 4096, x k * x k) (Ideal.ofBits .f32 0x45800000#32) + Ideal.ofBits .f32 0x358637BD#32) * g
/-- The norm, row by row. -/
def normed (x : Vec Ideal S1024x4096 .f32) (g : Vec Ideal S1x4096 .f32) : Vec Ideal S1024x4096 .bf16 := fun y =>
  rowNorm (fun d => x (ix2 (y 0) d)) (g (ix2 0 (y 1))) (y 1)

/-- The convolution of column `C` of sequence `b`, at row `r`: two rows of state, then the product's rows. -/
def convAt (X : Vec Ideal S1024x4096 .bf16) (s : Fin 2 → EReal) (w : Fin 4096 → EReal) (k : Fin 3 → EReal) (b r : Fin 32) : EReal :=
  conv k (line s (fun r => ∑ j : Fin 4096, X (ix2 ⟨b.val * 32 + r.val, by omega⟩ j) * w j)) r
/-- The activation at row `r` of sequence `b`. -/
def actAt (X : Vec Ideal S1024x4096 .bf16) (S : Vec Ideal S32x2x22016 .f32) (WG WV : Vec Ideal S4096x11008 .bf16) (CG CV : Vec Ideal S3x11008 .f32)
    (b r : Fin 32) (C : Fin 11008) : EReal :=
  gated (convAt X (fun p => S (ix3 b p ⟨C.val, by omega⟩)) (fun j => WG (ix2 j C)) (fun j => CG (ix2 j C)) b r)
    (convAt X (fun p => S (ix3 b p ⟨11008 + C.val, by omega⟩)) (fun j => WV (ix2 j C)) (fun j => CV (ix2 j C)) b r)
/-- The activation. -/
def acts (X : Vec Ideal S1024x4096 .bf16) (S : Vec Ideal S32x2x22016 .f32) (WG WV : Vec Ideal S4096x11008 .bf16) (CG CV : Vec Ideal S3x11008 .f32) :
    Vec Ideal S1024x11008 .bf16 := fun y =>
  actAt X S WG WV CG CV ⟨(y 0).val / 32, by have h0 : (y 0).val < 1024 := (y 0).isLt; omega⟩ ⟨(y 0).val % 32, Nat.mod_lt _ (by decide)⟩ (y 1)
/-- Each sequence's last two rows of the product. -/
def tails (X : Vec Ideal S1024x4096 .bf16) (W : Vec Ideal S4096x11008 .bf16) : Vec Ideal S32x2x11008 .f32 := fun y =>
  ∑ k : Fin 4096, X (ix2 ⟨(y 0).val * 32 + (30 + (y 1).val), by have h0 : (y 0).val < 32 := (y 0).isLt; have h1 : (y 1).val < 2 := (y 1).isLt; omega⟩ k) * W (ix2 k (y 2))

theorem acts_at (X S WG WV CG CV) (b r : Fin 32) (C : Fin 11008) : acts X S WG WV CG CV (ix2 ⟨b.val * 32 + r.val, by omega⟩ C) = actAt X S WG WV CG CV b r C := by
  have e1 : (⟨(b.val * 32 + r.val) / 32, by omega⟩ : Fin 32) = b := Fin.ext (by show (b.val * 32 + r.val) / 32 = _; omega)
  have e2 : (⟨(b.val * 32 + r.val) % 32, Nat.mod_lt _ (by decide)⟩ : Fin 32) = r := Fin.ext (by show (b.val * 32 + r.val) % 32 = _; omega)
  show actAt X S WG WV CG CV ⟨(b.val * 32 + r.val) / 32, _⟩ ⟨(b.val * 32 + r.val) % 32, _⟩ C = _
  rw [e1, e2]

/-! ## The blocks -/

theorem cast_gate (x : Vec Ideal S128x11008 .f32) (k : Fin 128) (n : Fin 11008) : out0_1 x (ix2 k n) = x (ix2 k n) := by
  frame_out
  pointwise [k0_pay1]
theorem cast_val (x : Vec Ideal S128x11008 .f32) (k : Fin 128) (n : Fin 11008) : out1_1 x (ix2 k n) = x (ix2 k n) := by
  frame_out
  pointwise [k1_pay1]
theorem norm_block (x : Vec Ideal S256x4096 .f32) (g : Vec Ideal S1x4096 .f32) (r : Fin 256) (d : Fin 4096) :
    out2_2 x g (ix2 r d) = rowNorm (fun k => x (ix2 r k)) (g (ix2 0 d)) d := by
  frame_out
  pointwise [k2_pay1]
  rfl

theorem scratch (g : Vec Ideal S32x2x256 .f32) (u : Vec Ideal S32x32x256 .f32) (b : Fin 32) (q : Fin 34) (n : Fin 256) (y : S32x40x256.Idx)
    (h0 : (y 0).val = b.val) (h1 : (y 1).val = 6 + q.val) (h2 : (y 2).val = n.val) :
    View.canon (Val := Elt Ideal) [⟨Rect.unit ![0, 8, 0] ![32, 32, 256] inb_S32x40x256_S32x32x256_0_8_0, u⟩,
      ⟨Rect.unit ![0, 6, 0] ![32, 2, 256] inb_S32x40x256_S32x2x256_0_6_0, g⟩] y
      = line (fun p => g (ix3 b p n)) (fun r => u (ix3 b r n)) q := by
  unfold line
  split
  · next h =>
    rw [View.canon_cons_of_not_mem]
    · rw [show y = (Rect.unit ![0, 6, 0] ![32, 2, 256] inb_S32x40x256_S32x2x256_0_6_0).emb (ix3 b ⟨q.val, h⟩ n) from
        funext fun a => Fin.ext (by fin_cases a <;> simp [ix3, h0, h1, h2])]
      exact View.canon_cons_emb _ _ _ _
    · rw [Rect.mem_set_unit]; intro hm
      have := (hm 1).1
      simp at this
      omega
  · next h =>
    rw [show y = (Rect.unit ![0, 8, 0] ![32, 32, 256] inb_S32x40x256_S32x32x256_0_8_0).emb (ix3 b ⟨q.val - 2, by omega⟩ n) from
        funext fun a => Fin.ext (by fin_cases a <;> simp [ix3, h0, h1, h2]; omega)]
    exact View.canon_cons_emb _ _ _ _

theorem prod_a (x : Vec Ideal S1024x4096 .bf16) (w : Vec Ideal S4096x256 .bf16) (b r : Fin 32) (n : Fin 256) :
    k3_pay5 x w (ix3 b r n) = ∑ k : Fin 4096, x (ix2 ⟨b.val * 32 + r.val, by omega⟩ k) * w (ix2 k n) := by
  pointwise [k3_pay5, k3_pay3]
theorem prod_b (x : Vec Ideal S1024x4096 .bf16) (w : Vec Ideal S4096x256 .bf16) (b r : Fin 32) (n : Fin 256) :
    k3_pay8 (k3_pay7 x w) (ix3 b r n) = ∑ k : Fin 4096, x (ix2 ⟨b.val * 32 + r.val, by omega⟩ k) * w (ix2 k n) := by
  pointwise [k3_pay8, k3_pay7, k3_pay3]
theorem kept_a (s : Vec Ideal S32x2x256 .f32) (b : Fin 32) (p : Fin 2) (n : Fin 256) : k3_pay4 s (ix3 b p n) = s (ix3 b p n) := by
  pointwise [k3_pay4]
theorem kept_b (s : Vec Ideal S32x2x256 .f32) (b : Fin 32) (p : Fin 2) (n : Fin 256) : k3_pay6 s (ix3 b p n) = s (ix3 b p n) := by
  pointwise [k3_pay6]

theorem taps (e0 e1 e2 f0 f1 f2 : FVec Ideal S32x32x256 .f32) (k0 k1 k2 l0 l1 l2 : Vec Ideal S1x256 .f32) (b r : Fin 32) (n : Fin 256) :
    k3_pay11 (k3_pay9 e0 k0 e1 k1 e2 k2) (k3_pay10 f0 l0) f1 l1 f2 l2 (ix3 b r n)
      = gated (e0 (ix3 b r n) * k0 (ix2 0 n) + e1 (ix3 b r n) * k1 (ix2 0 n) + e2 (ix3 b r n) * k2 (ix2 0 n))
        (f0 (ix3 b r n) * l0 (ix2 0 n) + f1 (ix3 b r n) * l1 (ix2 0 n) + f2 (ix3 b r n) * l2 (ix2 0 n)) := by
  pointwise [k3_pay11, k3_pay9, k3_pay10]
  rfl

theorem sliced (o : Nat) (ho : o < 32) (v : FVec Ideal S32x32x256 .f32) (h : S32x32x256.Slices ![o, 0, 0] S1x32x256) (x : S32x256.Idx) :
    truncf .bf16 (shapeCast S32x256 (extractStridedSlice S1x32x256 ![o, 0, 0] v h) shapeCasts_S1x32x256_S32x256) bitsLt_bf16_f32 x
      = v (ix3 ⟨o, ho⟩ (x 0) (x 1)) := by
  pointwise

theorem sliced_at (o : Nat) (ho : o < 32) (v : FVec Ideal S32x32x256 .f32) (h : S32x32x256.Slices ![o, 0, 0] S1x32x256) (x : S32x256.Idx) (b r : Fin 32) (n : Fin 256)
    (hb : b.val * 32 + r.val = 32 * o + (x 0).val) (hn : n.val = (x 1).val) :
    truncf .bf16 (shapeCast S32x256 (extractStridedSlice S1x32x256 ![o, 0, 0] v h) shapeCasts_S1x32x256_S32x256) bitsLt_bf16_f32 x = v (ix3 b r n) := by
  have h0 : (x 0).val < 32 := (x 0).isLt
  refine (sliced o ho v h x).trans (congrArg v ?_)
  rw [show (⟨o, ho⟩ : Fin 32) = b from Fin.ext (by show o = b.val; omega), show (x 0 : Fin 32) = r from Fin.ext (by omega),
    show (x 1 : Fin 256) = n from Fin.ext hn.symm]

/-- A load of the scratch's rows from row `6 + o` on. -/
theorem loaded (g : Vec Ideal S32x2x256 .f32) (u : Vec Ideal S32x32x256 .f32) (v : View sig .tc .vmem S32x40x256 .f32) (o L : ℕ) (inb) (b : Fin 32) (r : Fin L) (q : Fin 34) (n : Fin 256)
    (hq : q.val + 6 = o + r.val) :
    v.readCov (Val := Elt Ideal) [⟨Rect.unit ![0, 8, 0] ![32, 32, 256] inb_S32x40x256_S32x32x256_0_8_0, u⟩,
      ⟨Rect.unit ![0, 6, 0] ![32, 2, 256] inb_S32x40x256_S32x2x256_0_6_0, g⟩]
      (Rect.unit (s := S32x40x256) ![0, o, 0] ![32, L, 256] inb).toLoadRect (ix3 b r n)
      = line (fun p => g (ix3 b p n)) (fun r => u (ix3 b r n)) q := by
  rw [View.readCov_eq_canon']
  refine scratch g u b q n _ ?_ ?_ ?_
  · show 0 + 1 * b.val = b.val; omega
  · show o + 1 * r.val = 6 + q.val; omega
  · show 0 + 1 * n.val = n.val; omega

section Point
variable (v v' : View sig .tc .vmem S32x40x256 .f32) (x : Vec Ideal S1024x4096 .bf16) (sg sv : Vec Ideal S32x2x256 .f32)
  (wg wv : Vec Ideal S4096x256 .bf16) (cg cv : Vec Ideal S3x256 .f32) (b r : Fin 32) (n : Fin 256)

abbrev rd (v : View sig .tc .vmem S32x40x256 .f32) (g : Vec Ideal S32x2x256 .f32) (u : Vec Ideal S32x32x256 .f32) (o : ℕ)
    (inb : ∀ a : Fin 3, (![0, o, 0] : Fin 3 → ℕ) a + (![32, 32, 256] : Fin 3 → ℕ) a ≤ S32x40x256.size a) : Vec Ideal S32x32x256 .f32 :=
  v.readCov (Val := Elt Ideal) [⟨Rect.unit ![0, 8, 0] ![32, 32, 256] inb_S32x40x256_S32x32x256_0_8_0, u⟩,
    ⟨Rect.unit ![0, 6, 0] ![32, 2, 256] inb_S32x40x256_S32x2x256_0_6_0, g⟩] (Rect.unit (s := S32x40x256) ![0, o, 0] ![32, 32, 256] inb).toLoadRect

theorem row_of (k : Vec Ideal S3x256 .f32) (j : Fin 3) (inb : ∀ a : Fin 2, (![j.val, 0] : Fin 2 → ℕ) a + (![1, 256] : Fin 2 → ℕ) a ≤ S3x256.size a) : View.ld k (Rect.unit (s := S3x256) ![j.val, 0] ![1, 256] inb) (ix2 0 n) = k (ix2 j n) :=
  congrArg k (funext fun a => Fin.ext (by fin_cases a <;> simp [ix2]))

theorem line_a (q) : line (fun p => k3_pay4 sg (ix3 b p n)) (fun r => k3_pay5 x wg (ix3 b r n)) q = line (fun p => sg (ix3 b p n))
    (fun r => ∑ k : Fin 4096, x (ix2 ⟨b.val * 32 + r.val, by omega⟩ k) * wg (ix2 k n)) q := by simp only [kept_a, prod_a]
theorem line_b (q) : line (fun p => k3_pay6 sv (ix3 b p n)) (fun r => k3_pay8 (k3_pay7 x wv) (ix3 b r n)) q = line (fun p => sv (ix3 b p n))
    (fun r => ∑ k : Fin 4096, x (ix2 ⟨b.val * 32 + r.val, by omega⟩ k) * wv (ix2 k n)) q := by simp only [kept_b, prod_b]

theorem point_at : k3_pay11
      (k3_pay9 (rd v (k3_pay4 sg) (k3_pay5 x wg) 6 inb_S32x40x256_S32x32x256_0_6_0) (View.ld cg (Rect.unit ![0, 0] ![1, 256] inb_S3x256_S1x256_0_0))
        (rd v (k3_pay4 sg) (k3_pay5 x wg) 7 inb_S32x40x256_S32x32x256_0_7_0) (View.ld cg (Rect.unit ![1, 0] ![1, 256] inb_S3x256_S1x256_1_0))
        (rd v (k3_pay4 sg) (k3_pay5 x wg) 8 inb_S32x40x256_S32x32x256_0_8_0) (View.ld cg (Rect.unit ![2, 0] ![1, 256] inb_S3x256_S1x256_2_0)))
      (k3_pay10 (rd v' (k3_pay6 sv) (k3_pay8 (k3_pay7 x wv)) 6 inb_S32x40x256_S32x32x256_0_6_0) (View.ld cv (Rect.unit ![0, 0] ![1, 256] inb_S3x256_S1x256_0_0)))
      (rd v' (k3_pay6 sv) (k3_pay8 (k3_pay7 x wv)) 7 inb_S32x40x256_S32x32x256_0_7_0) (View.ld cv (Rect.unit ![1, 0] ![1, 256] inb_S3x256_S1x256_1_0))
      (rd v' (k3_pay6 sv) (k3_pay8 (k3_pay7 x wv)) 8 inb_S32x40x256_S32x32x256_0_8_0) (View.ld cv (Rect.unit ![2, 0] ![1, 256] inb_S3x256_S1x256_2_0)) (ix3 b r n)
    = gated (conv (fun j => cg (ix2 j n)) (line (fun p => sg (ix3 b p n)) (fun r => ∑ k : Fin 4096, x (ix2 ⟨b.val * 32 + r.val, by omega⟩ k) * wg (ix2 k n))) r)
        (conv (fun j => cv (ix2 j n)) (line (fun p => sv (ix3 b p n)) (fun r => ∑ k : Fin 4096, x (ix2 ⟨b.val * 32 + r.val, by omega⟩ k) * wv (ix2 k n))) r) := by
  refine (taps _ _ _ _ _ _ _ _ _ _ _ _ b r n).trans ?_
  unfold conv
  refine congrArg₂ gated (congrArg₂ (· + ·) (congrArg₂ (· + ·) ?_ ?_) ?_) (congrArg₂ (· + ·) (congrArg₂ (· + ·) ?_ ?_) ?_)
  · exact congrArg₂ (· * ·) ((loaded _ _ v 6 32 _ b r ⟨r.val, by omega⟩ n (Nat.add_comm _ _)).trans (line_a x sg wg b n _)) (row_of n cg 0 _)
  · exact congrArg₂ (· * ·) ((loaded _ _ v 7 32 _ b r ⟨r.val + 1, by omega⟩ n (by show r.val + 1 + 6 = 7 + r.val; omega)).trans (line_a x sg wg b n _)) (row_of n cg 1 _)
  · exact congrArg₂ (· * ·) ((loaded _ _ v 8 32 _ b r ⟨r.val + 2, by omega⟩ n (by show r.val + 2 + 6 = 8 + r.val; omega)).trans (line_a x sg wg b n _)) (row_of n cg 2 _)
  · exact congrArg₂ (· * ·) ((loaded _ _ v' 6 32 _ b r ⟨r.val, by omega⟩ n (Nat.add_comm _ _)).trans (line_b x sv wv b n _)) (row_of n cv 0 _)
  · exact congrArg₂ (· * ·) ((loaded _ _ v' 7 32 _ b r ⟨r.val + 1, by omega⟩ n (by show r.val + 1 + 6 = 7 + r.val; omega)).trans (line_b x sv wv b n _)) (row_of n cv 1 _)
  · exact congrArg₂ (· * ·) ((loaded _ _ v' 8 32 _ b r ⟨r.val + 2, by omega⟩ n (by show r.val + 2 + 6 = 8 + r.val; omega)).trans (line_b x sv wv b n _)) (row_of n cv 2 _)

end Point

section Calls
variable (V : (c : Dev nD) → (b : Ref sig .tc) → Buf (Elt Ideal) ((c : Thread nD τ).loc b)) (c : Dev nD)

/-! The seven blocks a point is given. -/

abbrev bx (t : Fin cfg3.N) : Vec Ideal S1024x4096 .bf16 := iblk3 V c 0 t
abbrev bsg (t : Fin cfg3.N) : Vec Ideal S32x2x256 .f32 := iblk3 V c 1 t
abbrev bsv (t : Fin cfg3.N) : Vec Ideal S32x2x256 .f32 := iblk3 V c 2 t
abbrev bwg (t : Fin cfg3.N) : Vec Ideal S4096x256 .bf16 := iblk3 V c 3 t
abbrev bwv (t : Fin cfg3.N) : Vec Ideal S4096x256 .bf16 := iblk3 V c 4 t
abbrev bcg (t : Fin cfg3.N) : Vec Ideal S3x256 .f32 := iblk3 V c 5 t
abbrev bcv (t : Fin cfg3.N) : Vec Ideal S3x256 .f32 := iblk3 V c 6 t

set_option maxHeartbeats 2000000 in
theorem act_block (t : Fin cfg3.N) (b r : Fin 32) (n : Fin 256) : (outsAt3 V c t).1 (ix2 ⟨b.val * 32 + r.val, by omega⟩ n)
    = gated (conv (fun j => bcg V c t (ix2 j n)) (line (fun p => bsg V c t (ix3 b p n))
          (fun r => ∑ k : Fin 4096, bx V c t (ix2 ⟨b.val * 32 + r.val, by omega⟩ k) * bwg V c t (ix2 k n))) r)
        (conv (fun j => bcv V c t (ix2 j n)) (line (fun p => bsv V c t (ix3 b p n))
          (fun r => ∑ k : Fin 4096, bx V c t (ix2 ⟨b.val * 32 + r.val, by omega⟩ k) * bwv V c t (ix2 k n))) r) := by
  unfold outsAt3
  dsimp only
  frame_out
  canon_tiles x h
  all_goals
    refine (sliced_at _ (by decide) _ (by decide) x b r n (by simpa [ix2] using h0) (by simpa [ix2] using h1)).trans ?_
    exact point_at _ _ _ _ _ _ _ _ _ b r n

theorem tail_a (t : Fin cfg3.N) (b : Fin 32) (p : Fin 2) (n : Fin 256) : (outsAt3 V c t).2.1 (ix3 b p n)
    = ∑ k : Fin 4096, bx V c t (ix2 ⟨b.val * 32 + (30 + p.val), by omega⟩ k) * bwg V c t (ix2 k n) := by
  frame_out
  refine (loaded _ _ _ 38 2 _ b p ⟨32 + p.val, by omega⟩ n (by show 32 + p.val + 6 = _; omega)).trans ?_
  unfold line
  rw [dif_neg (by show ¬ 32 + p.val < 2; omega)]
  refine (prod_a _ _ b _ n).trans (Finset.sum_congr rfl fun k _ => congrArg₂ (· * ·) ?_ rfl)
  exact congrArg (fun R : Fin 1024 => bx V c t (ix2 R k)) (Fin.ext (by show b.val * 32 + (32 + p.val - 2) = b.val * 32 + (30 + p.val); omega))

theorem tail_b (t : Fin cfg3.N) (b : Fin 32) (p : Fin 2) (n : Fin 256) : (outsAt3 V c t).2.2 (ix3 b p n)
    = ∑ k : Fin 4096, bx V c t (ix2 ⟨b.val * 32 + (30 + p.val), by omega⟩ k) * bwv V c t (ix2 k n) := by
  frame_out
  refine (loaded _ _ _ 38 2 _ b p ⟨32 + p.val, by omega⟩ n (by show 32 + p.val + 6 = _; omega)).trans ?_
  unfold line
  rw [dif_neg (by show ¬ 32 + p.val < 2; omega)]
  refine (prod_b _ _ b _ n).trans (Finset.sum_congr rfl fun k _ => congrArg₂ (· * ·) ?_ rfl)
  exact congrArg (fun R : Fin 1024 => bx V c t (ix2 R k)) (Fin.ext (by show b.val * 32 + (32 + p.val - 2) = b.val * 32 + (30 + p.val); omega))

/-! ## Where the blocks lie -/

theorem idx0 : ∀ t : Fin cfg0.N, win0_0.index t = ![(grid0.coords t 0).val, 0] ∧ win0_1.index t = ![(grid0.coords t 0).val, 0] := (by decide +kernel : ∀ t : Fin grid0.N, _)
theorem idx1 : ∀ t : Fin cfg1.N, win1_0.index t = ![(grid1.coords t 0).val, 1] ∧ win1_1.index t = ![(grid1.coords t 0).val, 0] := (by decide +kernel : ∀ t : Fin grid1.N, _)
theorem idx2 : ∀ t : Fin cfg2.N, win2_0.index t = ![(grid2.coords t 0).val, 0]
    ∧ win2_1.index t = ![0, 0] ∧ win2_2.index t = ![(grid2.coords t 0).val, 0] := (by decide +kernel : ∀ t : Fin grid2.N, _)
theorem idx3 : ∀ t : Fin cfg3.N, win3_0.index t = ![0, 0] ∧ win3_1.index t = ![0, 0, (grid3.coords t 0).val] ∧ win3_2.index t = ![0, 0, 43 + (grid3.coords t 0).val]
    ∧ win3_3.index t = ![0, (grid3.coords t 0).val] ∧ win3_4.index t = ![0, (grid3.coords t 0).val] ∧ win3_5.index t = ![0, (grid3.coords t 0).val]
    ∧ win3_6.index t = ![0, (grid3.coords t 0).val] ∧ win3_7.index t = ![0, (grid3.coords t 0).val] ∧ win3_8.index t = ![0, 0, (grid3.coords t 0).val]
    ∧ win3_9.index t = ![0, 0, (grid3.coords t 0).val] := (by decide +kernel : ∀ t : Fin grid3.N, _)

theorem lt0 (i : grid0.Coords) : (i 0).val < 32 := (i 0).isLt
theorem lt1 (i : grid1.Coords) : (i 0).val < 32 := (i 0).isLt
theorem lt2 (i : grid2.Coords) : (i 0).val < 4 := (i 0).isLt
theorem lt3 (i : grid3.Coords) : (i 0).val < 43 := (i 0).isLt

/-! ## The weights' halves -/

theorem left_gate : (dat0 V c).arrAt 1 cfg0.N = gateCols (V c main_arg2) := by
  refine (dat0 V c).arrAt_eq_of_covers 1 _ (by decide +kernel) fun t _ y => ?_
  blk_simp
  rw [after0_1]
  obtain ⟨k, n, rfl⟩ : ∃ (k : Fin 128) (n : Fin 11008), y = ix2 k n := ⟨⟨(y 0).val, (y 0).isLt⟩, ⟨(y 1).val, (y 1).isLt⟩, by funext a; fin_cases a <;> rfl⟩
  have e1 : iblk0 V c 0 t (ix2 k n) = V c main_arg2 (ix2 ⟨128 * (grid0.coords t 0).val + k.val, by have := lt0 (grid0.coords t); omega⟩ ⟨n.val, by omega⟩ : S4096x22016.Idx) := by
    blk_simp [iblk0]
    blk_ext [idx0 t]
  have e2 : (win0_1.blk t).view.emb (ix2 k n) = (ix2 ⟨128 * (grid0.coords t 0).val + k.val, by have := lt0 (grid0.coords t); omega⟩ n : S4096x11008.Idx) := by
    blk_ext [idx0 t]
  exact ((cast_gate _ k n).trans e1).trans (congrArg (gateCols (V c main_arg2)) e2).symm

theorem left_val : (dat1 V c).arrAt 1 cfg1.N = valCols (V c main_arg2) := by
  refine (dat1 V c).arrAt_eq_of_covers 1 _ (by decide +kernel) fun t _ y => ?_
  blk_simp
  rw [after1_1]
  obtain ⟨k, n, rfl⟩ : ∃ (k : Fin 128) (n : Fin 11008), y = ix2 k n := ⟨⟨(y 0).val, (y 0).isLt⟩, ⟨(y 1).val, (y 1).isLt⟩, by funext a; fin_cases a <;> rfl⟩
  have e1 : iblk1 V c 0 t (ix2 k n) = V c main_arg2 (ix2 ⟨128 * (grid1.coords t 0).val + k.val, by have := lt1 (grid1.coords t); omega⟩ ⟨11008 + n.val, by omega⟩ : S4096x22016.Idx) := by
    blk_simp [iblk1]
    blk_ext [idx1 t]
  have e2 : (win1_1.blk t).view.emb (ix2 k n) = (ix2 ⟨128 * (grid1.coords t 0).val + k.val, by have := lt1 (grid1.coords t); omega⟩ n : S4096x11008.Idx) := by
    blk_ext [idx1 t]
  exact ((cast_val _ k n).trans e1).trans (congrArg (valCols (V c main_arg2)) e2).symm

theorem left_normed : (dat2 V c).arrAt 2 cfg2.N = normed (V c main_arg0) (V c main_v4) := by
  refine (dat2 V c).arrAt_eq_of_covers 2 _ (by decide +kernel) fun t _ y => ?_
  blk_simp
  rw [after2_2]
  obtain ⟨r, d, rfl⟩ : ∃ (r : Fin 256) (d : Fin 4096), y = ix2 r d := ⟨⟨(y 0).val, (y 0).isLt⟩, ⟨(y 1).val, (y 1).isLt⟩, by funext a; fin_cases a <;> rfl⟩
  have e0 : ∀ k, iblk2 V c 0 t (ix2 r k) = V c main_arg0 (ix2 ⟨256 * (grid2.coords t 0).val + r.val, by have := lt2 (grid2.coords t); omega⟩ k : S1024x4096.Idx) := by
    intro k
    blk_simp [iblk2]
    blk_ext [idx2 t]
  have e1 : iblk2 V c 1 t (ix2 0 d) = V c main_v4 (ix2 0 d : S1x4096.Idx) := by
    blk_simp [iblk2]
    blk_ext [idx2 t]
  have e2 : (win2_2.blk t).view.emb (ix2 r d) = (ix2 ⟨256 * (grid2.coords t 0).val + r.val, by have := lt2 (grid2.coords t); omega⟩ d : S1024x4096.Idx) := by
    blk_ext [idx2 t]
  refine (norm_block _ _ r d).trans ?_
  rw [e1]
  simp only [e0]
  exact (congrArg (normed (V c main_arg0) (V c main_v4)) e2).symm

/-! ## The up-projection -/

section Ups
variable (t : Fin cfg3.N) (n : Fin 256)

/-- The point's columns. -/
def colOf : Fin 11008 := ⟨256 * (grid3.coords t 0).val + n.val, by have := lt3 (grid3.coords t); omega⟩

theorem bx_at (r : Fin 1024) (k : Fin 4096) : bx V c t (ix2 r k) = V c main_v5 (ix2 r k : S1024x4096.Idx) := by
  blk_simp [bx, iblk3]
  blk_ext [idx3 t]
theorem bsg_at (b : Fin 32) (p : Fin 2) : bsg V c t (ix3 b p n) = V c main_arg4 (ix3 b p ⟨(colOf t n).val, by omega⟩ : S32x2x22016.Idx) := by
  blk_simp [bsg, iblk3, colOf]
  blk_ext [idx3 t]
theorem bsv_at (b : Fin 32) (p : Fin 2) : bsv V c t (ix3 b p n) = V c main_arg4 (ix3 b p ⟨11008 + (colOf t n).val, by omega⟩ : S32x2x22016.Idx) := by
  blk_simp [bsv, iblk3, colOf]
  blk_ext [idx3 t]
theorem bwg_at (k : Fin 4096) : bwg V c t (ix2 k n) = V c main_v0 (ix2 k (colOf t n) : S4096x11008.Idx) := by
  blk_simp [bwg, iblk3, colOf]
  blk_ext [idx3 t]
theorem bwv_at (k : Fin 4096) : bwv V c t (ix2 k n) = V c main_v1 (ix2 k (colOf t n) : S4096x11008.Idx) := by
  blk_simp [bwv, iblk3, colOf]
  blk_ext [idx3 t]
theorem bcg_at (j : Fin 3) : bcg V c t (ix2 j n) = V c main_v2 (ix2 j (colOf t n) : S3x11008.Idx) := by
  blk_simp [bcg, iblk3, colOf]
  blk_ext [idx3 t]
theorem bcv_at (j : Fin 3) : bcv V c t (ix2 j n) = V c main_v3 (ix2 j (colOf t n) : S3x11008.Idx) := by
  blk_simp [bcv, iblk3, colOf]
  blk_ext [idx3 t]
theorem act_out (r : Fin 1024) : (win3_7.blk t).view.emb (ix2 r n) = (ix2 r (colOf t n) : S1024x11008.Idx) := by
  blk_ext [idx3 t, colOf]
theorem tailG_out (b : Fin 32) (p : Fin 2) : (win3_8.blk t).view.emb (ix3 b p n) = (ix3 b p (colOf t n) : S32x2x11008.Idx) := by
  blk_ext [idx3 t, colOf]
theorem tailV_out (b : Fin 32) (p : Fin 2) : (win3_9.blk t).view.emb (ix3 b p n) = (ix3 b p (colOf t n) : S32x2x11008.Idx) := by
  blk_ext [idx3 t, colOf]
end Ups

theorem left_acts : (dat3 V c).arrAt 7 cfg3.N = acts (V c main_v5) (V c main_arg4) (V c main_v0) (V c main_v1) (V c main_v2) (V c main_v3) := by
  refine (dat3 V c).arrAt_eq_of_covers 7 _ (by decide +kernel) fun t _ y => ?_
  blk_simp
  rw [after3_7]
  obtain ⟨R, n, rfl⟩ : ∃ (R : Fin 1024) (n : Fin 256), y = ix2 R n := ⟨⟨(y 0).val, (y 0).isLt⟩, ⟨(y 1).val, (y 1).isLt⟩, by funext a; fin_cases a <;> rfl⟩
  obtain ⟨b, r, rfl⟩ : ∃ b r : Fin 32, R = ⟨b.val * 32 + r.val, by omega⟩ := ⟨⟨R.val / 32, by omega⟩, ⟨R.val % 32, by omega⟩, Fin.ext (by show R.val = R.val / 32 * 32 + R.val % 32; omega)⟩
  refine (act_block V c t b r n).trans ?_
  simp only [bx_at, bsg_at, bsv_at, bwg_at, bwv_at, bcg_at, bcv_at]
  refine Eq.trans ?_ (congrArg (acts (V c main_v5) (V c main_arg4) (V c main_v0) (V c main_v1) (V c main_v2) (V c main_v3)) (act_out t n _)).symm
  exact (acts_at _ _ _ _ _ _ b r (colOf t n)).symm

theorem left_tailG : (dat3 V c).arrAt 8 cfg3.N = tails (V c main_v5) (V c main_v0) := by
  refine (dat3 V c).arrAt_eq_of_covers 8 _ (by decide +kernel) fun t _ y => ?_
  blk_simp
  rw [after3_8]
  obtain ⟨b, p, n, rfl⟩ : ∃ (b : Fin 32) (p : Fin 2) (n : Fin 256), y = ix3 b p n :=
    ⟨⟨(y 0).val, (y 0).isLt⟩, ⟨(y 1).val, (y 1).isLt⟩, ⟨(y 2).val, (y 2).isLt⟩, by funext a; fin_cases a <;> rfl⟩
  refine (tail_a V c t b p n).trans ?_
  simp only [bx_at, bwg_at]
  exact (congrArg (tails (V c main_v5) (V c main_v0)) (tailG_out t n b p)).symm

theorem left_tailV : (dat3 V c).arrAt 9 cfg3.N = tails (V c main_v5) (V c main_v1) := by
  refine (dat3 V c).arrAt_eq_of_covers 9 _ (by decide +kernel) fun t _ y => ?_
  blk_simp
  rw [after3_9]
  obtain ⟨b, p, n, rfl⟩ : ∃ (b : Fin 32) (p : Fin 2) (n : Fin 256), y = ix3 b p n :=
    ⟨⟨(y 0).val, (y 0).isLt⟩, ⟨(y 1).val, (y 1).isLt⟩, ⟨(y 2).val, (y 2).isLt⟩, by funext a; fin_cases a <;> rfl⟩
  refine (tail_b V c t b p n).trans ?_
  simp only [bx_at, bwv_at]
  exact (congrArg (tails (V c main_v5) (V c main_v1)) (tailV_out t n b p)).symm

end Calls

end Cert.Proof.UpS
-- ==== Proof.UpS.Run.lean ====
/-
  The sample's up-projection, run: the four calls one after the other, every buffer at what the last leaves, and the two
  result arrays from the arguments.
-/
module

public import proofs.«01_k».proof.Proof.UpS.Blocks

@[expose] public section

set_option maxRecDepth 1024

noncomputable section

namespace Cert.Proof.UpS

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

set_option backward.isDefEq.respectTransparency.types false in
/-- Every unscoped buffer ends at the last boundary's contents, and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Run

section Whole
variable (h : Vec Ideal S1024x4096 .f32) (g : Vec Ideal S4096 .f32) (w : Vec Ideal S4096x22016 .f32) (cw : Vec Ideal S3x22016 .f32) (s : Vec Ideal S32x2x22016 .f32)

/-- The normed rows. -/
def normRows : Vec Ideal S1024x4096 .bf16 := fun y => rowNorm (fun d => h (ix2 (y 0) d)) (g (ix1 (y 1))) (y 1)
/-- The convolution's taps at the first half of the columns, and at the second. -/
def gateTaps : Vec Ideal S3x11008 .f32 := fun y => cw (ix2 (y 0) ⟨(y 1).val, by have h1 : (y 1).val < 11008 := (y 1).isLt; omega⟩)
def valTaps : Vec Ideal S3x11008 .f32 := fun y => cw (ix2 (y 0) ⟨11008 + (y 1).val, by have h1 : (y 1).val < 11008 := (y 1).isLt; omega⟩)

/-- The activation from the arguments. -/
def wholeAct : Vec Ideal S1024x11008 .bf16 := acts (normRows h g) s (gateCols w) (valCols w) (gateTaps cw) (valTaps cw)
/-- Each sequence's last two rows from the arguments. -/
def wholeRows : Vec Ideal S32x2x22016 .f32 := fun y =>
  ∑ k : Fin 4096, normRows h g (ix2 ⟨(y 0).val * 32 + (30 + (y 1).val), by have h0 : (y 0).val < 32 := (y 0).isLt; have h1 : (y 1).val < 2 := (y 1).isLt; omega⟩ k) * w (ix2 k (y 2))

theorem normed_rows : normed h (shapeCast S1x4096 g shapeCasts_S4096_S1x4096) = normRows h g := by
  have e : ∀ d : Fin 4096, shapeCast S1x4096 g shapeCasts_S4096_S1x4096 (ix2 0 d) = g (ix1 d) := fun d => by
    pointwise
    blk_ext
  funext y
  exact congrArg (fun a => rowNorm (fun d => h (ix2 (y 0) d)) a (y 1)) (e (y 1))

theorem gate_taps : extractStridedSlice S3x11008 ![0, 0] cw slices_S3x22016_S3x11008_0_0 = gateTaps cw := by
  funext y
  obtain ⟨j, C, rfl⟩ : ∃ (j : Fin 3) (C : Fin 11008), y = ix2 j C := ⟨⟨(y 0).val, (y 0).isLt⟩, ⟨(y 1).val, (y 1).isLt⟩, by funext a; fin_cases a <;> rfl⟩
  pointwise
  rfl
theorem val_taps : extractStridedSlice S3x11008 ![0, 11008] cw slices_S3x22016_S3x11008_0_11008 = valTaps cw := by
  funext y
  obtain ⟨j, C, rfl⟩ : ∃ (j : Fin 3) (C : Fin 11008), y = ix2 j C := ⟨⟨(y 0).val, (y 0).isLt⟩, ⟨(y 1).val, (y 1).isLt⟩, by funext a; fin_cases a <;> rfl⟩
  pointwise
  rfl

theorem rows_joined : concatenate S32x2x22016 2 [⟨S32x2x11008, tails (normRows h g) (gateCols w)⟩, ⟨S32x2x11008, tails (normRows h g) (valCols w)⟩]
    concatenates_S32x2x11008_S32x2x11008_S32x2x22016_d2 = wholeRows h g w := by
  funext y
  obtain ⟨b, p, C, rfl⟩ : ∃ (b : Fin 32) (p : Fin 2) (C : Fin 22016), y = ix3 b p C :=
    ⟨⟨(y 0).val, (y 0).isLt⟩, ⟨(y 1).val, (y 1).isLt⟩, ⟨(y 2).val, (y 2).isLt⟩, by funext a; fin_cases a <;> rfl⟩
  pointwise
  split
  · rfl
  · refine Finset.sum_congr rfl fun k _ => congrArg (normRows h g (ix2 ⟨b.val * 32 + (30 + p.val), by omega⟩ k) * ·) ?_
    exact congrArg (fun C : Fin 22016 => w (ix2 k C)) (Fin.ext (by show 11008 + (C.val - 11008) = C.val; omega))

end Whole

section Result
variable (m : (ℓ : Loc nD τ sig) → Buf (Elt Ideal) ℓ) (ρ : Dev nD → PrngReg) (c : Dev nD)

theorem at_norm : V4 m ρ c main_v5 = normRows (m (c.tc.loc main_arg0)) (m (c.tc.loc main_arg1)) := by
  refine (W4_arr m ρ c 2).trans ((left_normed (V3 m ρ) c).trans ?_)
  have e : V3 m ρ c main_v4 = shapeCast S1x4096 (m (c.tc.loc main_arg1) : Vec Ideal S4096 .f32) shapeCasts_S4096_S1x4096 := by
    refine Eq.trans (b := shapeCast S1x4096 (W2 m ρ c (Proc.devRef .tc main_arg1) : Vec Ideal S4096 .f32) shapeCasts_S4096_S1x4096) rfl ?_
    exact congrArg (fun g : Vec Ideal S4096 .f32 => shapeCast S1x4096 g shapeCasts_S4096_S1x4096) (W2_args m ρ c main_arg1 (by decide))
  rw [e]
  exact (congrArg (fun x => normed x _) (W3_args m ρ c main_arg0 (by decide))).trans (normed_rows _ _)

theorem at_gate : V4 m ρ c main_v0 = gateCols (m (c.tc.loc main_arg2)) :=
  (W4_of m ρ c main_v0 (by decide)).trans <| (W3_of m ρ c main_v0 (by decide)).trans <| (W2_of m ρ c main_v0 (by decide)).trans <|
    (W1_arr m ρ c 1).trans (left_gate (V0 m ρ) c)
theorem at_val : V4 m ρ c main_v1 = valCols (m (c.tc.loc main_arg2)) :=
  (W4_of m ρ c main_v1 (by decide)).trans <| (W3_of m ρ c main_v1 (by decide)).trans <| (W2_arr m ρ c 1).trans <| (left_val (V1 m ρ) c).trans <|
    congrArg valCols (W1_args m ρ c main_arg2 (by decide))
theorem at_gate_taps : V4 m ρ c main_v2 = gateTaps (m (c.tc.loc main_arg3)) := by
  refine (W4_of m ρ c main_v2 (by decide)).trans <| Eq.trans
    (b := extractStridedSlice S3x11008 ![0, 0] (W2 m ρ c (Proc.devRef .tc main_arg3) : Vec Ideal S3x22016 .f32) slices_S3x22016_S3x11008_0_0) rfl ?_
  exact (gate_taps _).trans (congrArg gateTaps (W2_args m ρ c main_arg3 (by decide)))
theorem at_val_taps : V4 m ρ c main_v3 = valTaps (m (c.tc.loc main_arg3)) := by
  refine (W4_of m ρ c main_v3 (by decide)).trans <| Eq.trans
    (b := extractStridedSlice S3x11008 ![0, 11008] (W2 m ρ c (Proc.devRef .tc main_arg3) : Vec Ideal S3x22016 .f32) slices_S3x22016_S3x11008_0_11008) rfl ?_
  exact (val_taps _).trans (congrArg valTaps (W2_args m ρ c main_arg3 (by decide)))

theorem final_act : W6 m ρ c (Proc.devRef .tc main_v6_0) = wholeAct (m (c.tc.loc main_arg0)) (m (c.tc.loc main_arg1))
    (m (c.tc.loc main_arg2)) (m (c.tc.loc main_arg3)) (m (c.tc.loc main_arg4)) := by
  refine (W6_of m ρ c main_v6_0 (by decide)).trans ((W5_arr m ρ c 7).trans ((left_acts (V4 m ρ) c).trans ?_))
  rw [at_norm, at_gate, at_val, at_gate_taps, at_val_taps]
  exact congrArg (fun s => acts _ s _ _ _ _) (W4_args m ρ c main_arg4 (by decide))

theorem final_rows : W6 m ρ c (Proc.devRef .tc main_v7) = wholeRows (m (c.tc.loc main_arg0)) (m (c.tc.loc main_arg1))
    (m (c.tc.loc main_arg2)) := by
  have e1 : W5 m ρ c (Proc.devRef .tc main_v6_1) = tails (normRows (m (c.tc.loc main_arg0)) (m (c.tc.loc main_arg1)))
      (gateCols (m (c.tc.loc main_arg2))) := by
    refine (W5_arr m ρ c 8).trans ((left_tailG (V4 m ρ) c).trans ?_)
    rw [at_norm, at_gate]
  have e2 : W5 m ρ c (Proc.devRef .tc main_v6_2) = tails (normRows (m (c.tc.loc main_arg0)) (m (c.tc.loc main_arg1)))
      (valCols (m (c.tc.loc main_arg2))) := by
    refine (W5_arr m ρ c 9).trans ((left_tailV (V4 m ρ) c).trans ?_)
    rw [at_norm, at_val]
  refine Eq.trans (b := concatenate S32x2x22016 2 [⟨S32x2x11008, (W5 m ρ c (Proc.devRef .tc main_v6_1) : Vec Ideal S32x2x11008 .f32)⟩,
    ⟨S32x2x11008, (W5 m ρ c (Proc.devRef .tc main_v6_2) : Vec Ideal S32x2x11008 .f32)⟩] concatenates_S32x2x11008_S32x2x11008_S32x2x22016_d2) rfl ?_
  rw [e1, e2]
  exact rows_joined _ _ _

/-- The result arrays and the arguments, off the last boundary's contents. -/
theorem ends {M : (ℓ : Loc nD τ sig) → Buf (Elt Ideal) ℓ} (h : ∀ c : Dev nD, ∀ b ∈ Pipeline.ucRefs τ sig, M ((c : Thread nD τ).1, b) = W6 m ρ c b) (c : Dev nD) :
    M (c.tc.loc main_v6_0) = wholeAct (m (c.tc.loc main_arg0)) (m (c.tc.loc main_arg1))
        (m (c.tc.loc main_arg2)) (m (c.tc.loc main_arg3)) (m (c.tc.loc main_arg4))
      ∧ M (c.tc.loc main_v7) = wholeRows (m (c.tc.loc main_arg0)) (m (c.tc.loc main_arg1)) (m (c.tc.loc main_arg2))
      ∧ M (c.tc.loc main_arg0) = m (c.tc.loc main_arg0)
      ∧ M (c.tc.loc main_arg1) = m (c.tc.loc main_arg1)
      ∧ M (c.tc.loc main_arg2) = m (c.tc.loc main_arg2)
      ∧ M (c.tc.loc main_arg3) = m (c.tc.loc main_arg3)
      ∧ M (c.tc.loc main_arg4) = m (c.tc.loc main_arg4) :=
  ⟨(h c _ (mem_uc main_v6_0 (by decide))).trans (final_act m ρ c),
   (h c _ (mem_uc main_v7 (by decide))).trans (final_rows m ρ c),
   (h c _ (mem_uc main_arg0 (by decide))).trans (W6_main_arg0 m ρ c),
   (h c _ (mem_uc main_arg1 (by decide))).trans (W6_main_arg1 m ρ c),
   (h c _ (mem_uc main_arg2 (by decide))).trans (W6_main_arg2 m ρ c),
   (h c _ (mem_uc main_arg3 (by decide))).trans (W6_main_arg3 m ρ c),
   (h c _ (mem_uc main_arg4 (by decide))).trans (W6_main_arg4 m ρ c)⟩

end Result

end Cert.Proof.UpS
-- ==== Proof.UpS.Plain.lean ====
/-
  The sample's up-projection in the reference: the same activation and the same last rows of the arguments.
-/
module

public import proofs.«01_k».proof.Proof.UpS.Run
public import proofs.«01_k».proof.Proof.Gen.Reference7Ideal.Run
public import proofs.«01_k».proof.Proof.Gen.Reference7Ideal.Read
public import Idealize.ShloMosaic.Lib.IdealHost

@[expose] public section

set_option maxRecDepth 16384

noncomputable section

namespace Cert.Proof.UpS

open Cert.Reference7Ideal Cert.Reference7Ideal.Gen Cert.Reference7Ideal.Read
open Idealize.ShloMosaic Idealize.ShloMosaic.TcCoe Idealize.SL.Sem

theorem exp_nonneg (x : EReal) : 0 ≤ Ideal.exp x := by
  induction x using EReal.rec with
  | bot => exact le_refl (0 : EReal)
  | top => exact (le_top : (0 : EReal) ≤ ⊤)
  | coe x => exact EReal.coe_nonneg.mpr (Real.exp_pos x).le

section Plain
variable (x0 : Vec Ideal S1024x4096 .f32) (x1 : Vec Ideal S4096 .f32) (x2 : Vec Ideal S4096x22016 .f32) (x3 : Vec Ideal S3x22016 .f32)
  (x4 : Vec Ideal S32x2x22016 .f32)

theorem norm_at (r : Fin 1024) (d : Fin 4096) : val_main_v12 (F := Ideal) x0 x1 (ix2 r d) = normRows x0 x1 (ix2 r d) := by
  have zero : val_main_cst (F := Ideal) (Shape.Idx.first h_S_) = 0 := by simp [val_main_cst_apply]
  have e : val_main_v8 (F := Ideal) x0 (ix2 r d) = Ideal.rsqrt (Ideal.div (∑ k : Fin 4096, x0 (ix2 r k) * x0 (ix2 r k)) (Ideal.ofBits .f32 0x45800000#32)
      + Ideal.ofBits .f32 0x358637BD#32) := by
    rw [val_main_v8_apply, val_main_v7_apply, val_main_v6_apply, val_main_v4_apply, val_main_v2_apply, val_main_v1_apply, zero, zero_add]
    have e : idx_main_v2 (idx_main_v8 (ix2 r d)) = ix1 r := by funext a; fin_cases a; rfl
    rw [e]
    have e' : ∀ k, idx_main_v1 (ix1 r) k = ix2 r k := fun k => by funext a; fin_cases a <;> rfl
    simp only [e']
    rfl
  rw [val_main_v12_apply, val_main_v9_apply, e]
  refine congrArg₂ (· * ·) rfl ?_
  rw [val_main_v11_apply, val_main_v10_apply]
  exact congrArg x1 (by funext a; fin_cases a; rfl)

theorem prod_at (r : Fin 1024) (C : Fin 22016) : val_main_v13 (F := Ideal) x0 x1 x2 (ix2 r C)
    = ∑ d : Fin 4096, normRows x0 x1 (ix2 r d) * x2 (ix2 d C) := by
  rw [val_main_v13_apply]
  refine Finset.sum_congr rfl fun d _ => congrArg₂ (· * ·) ?_ ?_
  · exact (congrArg (val_main_v12 (F := Ideal) x0 x1) (by funext a; fin_cases a <;> rfl)).trans (norm_at x0 x1 r d)
  · exact congrArg x2 (by funext a; fin_cases a <;> rfl)

theorem rows_at (b r : Fin 32) (C : Fin 22016) : val_main_v14 (F := Ideal) x0 x1 x2 (ix3 b r C)
    = ∑ d : Fin 4096, normRows x0 x1 (ix2 ⟨b.val * 32 + r.val, by omega⟩ d) * x2 (ix2 d C) := by
  rw [val_main_v14_apply]
  refine (congrArg (val_main_v13 (F := Ideal) x0 x1 x2) (a₂ := ix2 ⟨b.val * 32 + r.val, by omega⟩ C) ?_).trans (prod_at x0 x1 x2 _ C)
  funext a; fin_cases a
  exacts [Fin.ext (by show ((b.val * 32 + r.val) * 22016 + C.val) / 22016 = b.val * 32 + r.val; omega),
    Fin.ext (by show ((b.val * 32 + r.val) * 22016 + C.val) % 22016 = C.val; omega)]

/-- The two rows of state and the product. -/
theorem joined (z : Vec Ideal S32x2x22016 .f32) (u : Vec Ideal S32x32x22016 .f32) (b : Fin 32) (q : Fin 34) (C : Fin 22016) :
    concatenate S32x34x22016 1 [⟨S32x2x22016, z⟩, ⟨S32x32x22016, u⟩] concatenates_S32x2x22016_S32x32x22016_S32x34x22016_d1 (ix3 b q C)
      = line (fun p => z (ix3 b p C)) (fun r => u (ix3 b r C)) q := by
  unfold line
  pointwise

theorem ext_at (b : Fin 32) (q : Fin 34) (C : Fin 22016) : val_main_v15 (F := Ideal) x0 x1 x2 x4 (ix3 b q C)
    = line (fun p => x4 (ix3 b p C)) (fun r => ∑ d : Fin 4096, normRows x0 x1 (ix2 ⟨b.val * 32 + r.val, by omega⟩ d) * x2 (ix2 d C)) q := by
  unfold val_main_v15
  rw [joined]
  simp only [rows_at]

theorem tap0 (b r : Fin 32) (C : Fin 22016) : val_main_v20 (F := Ideal) x3 (ix3 b r C) = x3 (ix2 0 C) := by
  rw [val_main_v20_apply, val_main_v19_apply, val_main_v18_apply, val_main_v17_apply]
  exact congrArg x3 (by funext a; fin_cases a; exacts [rfl, Fin.ext (Nat.mod_eq_of_lt C.isLt)])
theorem tap1 (b r : Fin 32) (C : Fin 22016) : val_main_v26 (F := Ideal) x3 (ix3 b r C) = x3 (ix2 1 C) := by
  rw [val_main_v26_apply, val_main_v25_apply, val_main_v24_apply, val_main_v23_apply]
  exact congrArg x3 (by funext a; fin_cases a; exacts [rfl, Fin.ext (Nat.mod_eq_of_lt C.isLt)])
theorem tap2 (b r : Fin 32) (C : Fin 22016) : val_main_v33 (F := Ideal) x3 (ix3 b r C) = x3 (ix2 2 C) := by
  rw [val_main_v33_apply, val_main_v32_apply, val_main_v31_apply, val_main_v30_apply]
  exact congrArg x3 (by funext a; fin_cases a; exacts [rfl, Fin.ext (Nat.mod_eq_of_lt C.isLt)])

theorem conv_sum (b r : Fin 32) (C : Fin 22016) : val_main_v35 (F := Ideal) x0 x1 x2 x3 x4 (ix3 b r C)
    = convAt (normRows x0 x1) (fun p => x4 (ix3 b p C)) (fun j => x2 (ix2 j C)) (fun j => x3 (ix2 j C)) b r := by
  rw [val_main_v35_apply, val_main_v28_apply, val_main_v21_apply, val_main_v27_apply, val_main_v34_apply, tap0, tap1, tap2,
    val_main_v16_apply, val_main_v22_apply, val_main_v29_apply,
    show idx_main_v16 (ix3 b r C) = ix3 b ⟨r.val, by omega⟩ C from by funext a; fin_cases a <;> rfl,
    show idx_main_v22 (ix3 b r C) = ix3 b ⟨r.val + 1, by omega⟩ C from by
      funext a; fin_cases a
      exacts [rfl, Fin.ext (Nat.add_comm 1 r.val), rfl],
    show idx_main_v29 (ix3 b r C) = ix3 b ⟨r.val + 2, by omega⟩ C from by
      funext a; fin_cases a
      exacts [rfl, Fin.ext (Nat.add_comm 2 r.val), rfl], ext_at, ext_at, ext_at]
  rfl

theorem gate_at (b r : Fin 32) (C : Fin 11008) : val_main_v36 (F := Ideal) x0 x1 x2 x3 x4 (ix3 b r C)
    = convAt (normRows x0 x1) (fun p => x4 (ix3 b p ⟨C.val, by omega⟩)) (fun j => gateCols x2 (ix2 j C)) (fun j => gateTaps x3 (ix2 j C)) b r := by
  rw [val_main_v36_apply, show idx_main_v36 (ix3 b r C) = ix3 b r ⟨C.val, by omega⟩ from by funext a; fin_cases a <;> rfl, conv_sum]
  rfl
theorem val_at (b r : Fin 32) (C : Fin 11008) : val_main_v37 (F := Ideal) x0 x1 x2 x3 x4 (ix3 b r C)
    = convAt (normRows x0 x1) (fun p => x4 (ix3 b p ⟨11008 + C.val, by omega⟩)) (fun j => valCols x2 (ix2 j C)) (fun j => valTaps x3 (ix2 j C)) b r := by
  rw [val_main_v37_apply, show idx_main_v37 (ix3 b r C) = ix3 b r ⟨11008 + C.val, by omega⟩ from by funext a; fin_cases a <;> rfl, conv_sum]
  rfl

theorem silu_mul (a b : EReal) : a * Ideal.div (Ideal.ofBits .f32 0x3F800000#32) (Ideal.ofBits .f32 0x3F800000#32 + Ideal.exp (-a)) * b = gated a b := by
  unfold gated
  have h : (1 : EReal) + Ideal.exp (-a) ≠ 0 := fun e => by
    have h1 : (1 : EReal) ≤ 1 + Ideal.exp (-a) := le_add_of_nonneg_right (exp_nonneg _)
    rw [e] at h1; exact absurd h1 (by simp)
  rw [Ideal.ofBits_one_f32, Ideal.mul_one_div h, zero_sub]

/-- The reference's activation is `wholeAct`. -/
theorem plain_act : val_main_v41 (F := Ideal) x0 x1 x2 x3 x4 = wholeAct x0 x1 x2 x3 x4 := by
  funext y
  obtain ⟨R, C, rfl⟩ : ∃ (R : Fin 1024) (C : Fin 11008), y = ix2 R C := ⟨⟨(y 0).val, (y 0).isLt⟩, ⟨(y 1).val, (y 1).isLt⟩, by funext a; fin_cases a <;> rfl⟩
  obtain ⟨b, r, rfl⟩ : ∃ b r : Fin 32, R = ⟨b.val * 32 + r.val, by omega⟩ := ⟨⟨R.val / 32, by omega⟩, ⟨R.val % 32, by omega⟩, Fin.ext (by show R.val = R.val / 32 * 32 + R.val % 32; omega)⟩
  have e : val_main_v41 (F := Ideal) x0 x1 x2 x3 x4 (ix2 ⟨b.val * 32 + r.val, by omega⟩ C) = val_main_v36 (F := Ideal) x0 x1 x2 x3 x4 (ix3 b r C)
      * Ideal.div (Ideal.ofBits .f32 0x3F800000#32) (Ideal.ofBits .f32 0x3F800000#32 + Ideal.exp (-(val_main_v36 (F := Ideal) x0 x1 x2 x3 x4 (ix3 b r C))))
      * val_main_v37 (F := Ideal) x0 x1 x2 x3 x4 (ix3 b r C) := by
    rw [val_main_v41_apply, show idx_main_v41 (ix2 ⟨b.val * 32 + r.val, by omega⟩ C) = ix3 b r C from by
        funext a; fin_cases a
        exacts [Fin.ext (by show ((b.val * 32 + r.val) * 11008 + C.val) / 352256 = b.val; omega),
          Fin.ext (by show ((b.val * 32 + r.val) * 11008 + C.val) / 11008 % 32 = r.val; omega),
          Fin.ext (by show ((b.val * 32 + r.val) * 11008 + C.val) % 11008 = C.val; omega)],
      val_main_v40_apply, val_main_v39_apply, val_main_v38_apply, val_main_call0_v5_apply, val_main_call0_v4_apply, val_main_call0_v3_apply,
      val_main_call0_v2_apply, val_main_call0_v1_apply, val_main_call0_v0_apply, val_main_call0_cst_apply, val_main_call0_cst_0_apply]
    rfl
  rw [e, silu_mul, gate_at, val_at]
  unfold wholeAct
  rw [acts_at]
  rfl

/-- The reference's last rows are `wholeRows`. -/
theorem plain_rows : val_main_v42 (F := Ideal) x0 x1 x2 x4 = wholeRows x0 x1 x2 := by
  funext y
  obtain ⟨b, p, C, rfl⟩ : ∃ (b : Fin 32) (p : Fin 2) (C : Fin 22016), y = ix3 b p C :=
    ⟨⟨(y 0).val, (y 0).isLt⟩, ⟨(y 1).val, (y 1).isLt⟩, ⟨(y 2).val, (y 2).isLt⟩, by funext a; fin_cases a <;> rfl⟩
  rw [val_main_v42_apply, show idx_main_v42 (ix3 b p C) = ix3 b ⟨32 + p.val, by omega⟩ C from by funext a; fin_cases a <;> rfl, ext_at]
  unfold line
  rw [dif_neg (by show ¬ 32 + p.val < 2; omega)]
  refine Finset.sum_congr rfl fun k _ => congrArg (· * x2 (ix2 k C)) ?_
  exact congrArg (fun R : Fin 1024 => normRows x0 x1 (ix2 R k)) (Fin.ext (by show b.val * 32 + (32 + p.val - 2) = b.val * 32 + (30 + p.val); omega))

end Plain

end Cert.Proof.UpS
-- ==== Proof.Out.Run.lean ====
/-
  The prompt's output projection: the run. The last block of the prompt overhangs its array, and what its buffer holds
  past the array's end reaches no entry of the result: those rows are masked (`same`).
-/
module

public import proofs.«01_k».proof.Proof.Proj.Blocks
public import proofs.«01_k».proof.Proof.Gen.Kernel8Ideal.Frame
public import proofs.«01_k».proof.Proof.Gen.Kernel8Ideal.Skeleton
public import proofs.«01_k».proof.Proof.Gen.Kernel8
public import proofs.«01_k».proof.Defs

@[expose] public section

set_option maxRecDepth 16384

noncomputable section

namespace Cert.Proof.Out

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

theorem row_word (i r : Nat) (hi : i < 11) (hr : r < 1536) :
    IntOp.cmpi .slt (IntOp.addi (Scalar.muli (BitVec.ofNat 32 i) 1536#32) (BitVec.ofNat 32 r)) 16400#32 = BitVec.ofBool (decide (i * 1536 + r < 16400)) := by
  have e : IntOp.addi (Scalar.muli (BitVec.ofNat 32 i) 1536#32) (BitVec.ofNat 32 r) = BitVec.ofNat 32 (i * 1536 + r) := by
    show BitVec.ofNat 32 i * BitVec.ofNat 32 1536 + BitVec.ofNat 32 r = _
    rw [← BitVec.ofNat_mul, ← BitVec.ofNat_add]
  rw [e]
  exact WordCmp.cmpi_slt_ofNat (by omega) (by omega)

/-- The result reads the prompt's block in its rows before the 16400th. -/
theorem same (i : grid0.Coords) (a : Vec F S1536x2048 .bf16) (u : Vec F S2048x512 .bf16) (b : Vec F S1536x2048 .bf16) (v : Vec F S2048x512 .bf16)
    (e p : Vec F S16x512 .f32) (X Y : Vec F S1520x512 .f32)
    (h : ∀ (r : Fin 1520) (n : Fin 512), (i 0).val * 1536 + (16 + r.val) < 16400 → X (ix2 r n) = Y (ix2 r n)) :
    k0_pay1 i a u b v e p X = k0_pay1 i a u b v e p Y := by
  dsimp only [k0_pay1]
  refine congrArg (addf · _) ?_
  funext y
  obtain ⟨r, n, rfl⟩ : ∃ (r : Fin 1536) (n : Fin 512), y = ix2 r n :=
    ⟨⟨(y 0).val, (y 0).isLt⟩, ⟨(y 1).val, (y 1).isLt⟩, by funext a; fin_cases a <;> rfl⟩
  pointwise
  rw [row_word _ _ (i 0).isLt r.isLt]
  simp only [Proj.pick]
  by_cases h1 : (i 0).val * 1536 + r.val < 16400
  · rw [if_pos h1, if_pos h1]
    by_cases h2 : r.val < 16
    · rw [dif_pos h2, dif_pos h2]
    · rw [dif_neg h2, dif_neg h2]
      exact h ⟨r.val - 16, _⟩ n (by show (i 0).val * 1536 + (16 + (r.val - 16)) < 16400; omega)
  · rw [if_neg h1, if_neg h1]

abbrev r0 : Rect S1536x2048 := Rect.unit (s := S1536x2048) ![0, 0] S1536x2048.size inb_S1536x2048_S1536x2048_0_0
abbrev r2 : Rect S2048x512 := Rect.unit (s := S2048x512) ![0, 0] S2048x512.size inb_S2048x512_S2048x512_0_0
abbrev r4 : Rect S1536x512 := Rect.unit (s := S1536x512) ![0, 0] S1520x512.size inb_S1536x512_S1520x512_0_0
abbrev r5 : Rect S16x512 := Rect.unit (s := S16x512) ![0, 0] S16x512.size inb_S16x512_S16x512_0_0
abbrev r7 : Rect S1536x512 := Rect.unit (s := S1536x512) ![0, 0] S1536x512.size inb_S1536x512_S1536x512_0_0

/-- What the body leaves in the result's block. -/
def out (i : grid0.Coords) (x0 x1 : Vec F S1536x2048 .bf16) (x2 x3 : Vec F S2048x512 .bf16) (x4 : Vec F S1536x512 .f32) (x5 x6 : Vec F S16x512 .f32) : Vec F S1536x512 .f32 :=
  View.canon [⟨r7, k0_pay1 i (View.ld x0 r0) (View.ld x2 r2) (View.ld x1 r0) (View.ld x3 r2) (View.ld x6 r5) (View.ld x5 r5) (View.ld x4 r4)⟩]

/-- The prompt's rows its block's transfer moves. -/
theorem reach : ∀ t : Fin grid0.N, min 1536 (16384 - 1536 * (grid0.coords t 0).val) ≤ win0_4.xsize (grid0.coords t) 0 ∧ 512 ≤ win0_4.xsize (grid0.coords t) 1 := by
  decide +kernel

theorem inside (t : Fin grid0.N) (j : S1536x512.Idx) (h : 1536 * (grid0.coords t 0).val + (j 0).val < 16384) : win0_4.moved (grid0.coords t) j = true :=
  (win0_4.moved_iff _ _).mpr fun a => match a with
    | 0 => by have h0 : (j 0).val < 1536 := (j 0).isLt; have := (reach t).1; omega
    | 1 => by have h1 : (j 1).val < 512 := (j 1).isLt; have := (reach t).2; omega

/-- Nothing past the prompt's end reaches the result. -/
theorem no_tail (t : Fin grid0.N) (x0 x1 : Vec F S1536x2048 .bf16) (x2 x3 : Vec F S2048x512 .bf16) (d d' : Vec F S1536x512 .f32) (X : (win0_4.xblock (grid0.coords t)).Idx → Elt F .f32)
    (x5 x6 : Vec F S16x512 .f32) : out (grid0.coords t) x0 x1 x2 x3 (win0_4.fill (grid0.coords t) d X) x5 x6 = out (grid0.coords t) x0 x1 x2 x3 (win0_4.fill (grid0.coords t) d' X) x5 x6 := by
  unfold out
  rw [same _ _ _ _ _ _ _ _ _ fun r n h => ?_]
  show win0_4.fill (grid0.coords t) d X (r4.toLoadRect.idx (ix2 r n)) = win0_4.fill (grid0.coords t) d' X (r4.toLoadRect.idx (ix2 r n))
  have e : win0_4.moved (grid0.coords t) (r4.toLoadRect.idx (ix2 r n)) = true := inside t _ (by
    show 1536 * (grid0.coords t 0).val + (0 + 1 * r.val) < 16384
    omega)
  unfold Window.fill
  rw [dif_pos e, dif_pos e]

set_option maxHeartbeats 1000000 in
theorem body_run (c : Dev nD) (E : Set ℕ) (i : grid0.Coords) (arg2 : Memref sig .tc .vmem S1536x2048 .bf16) (harg2 : arg2.IsWhole) (arg3 : Memref sig .tc .vmem S1536x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1536x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S1536x512 .f32) (harg9 : arg9.IsWhole)
    (x0 x1 : Vec F S1536x2048 .bf16) (x2 x3 : Vec F S2048x512 .bf16) (x4 : Vec F S1536x512 .f32) (x5 x6 : Vec F S16x512 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ (∃ d, owns c.tc arg9 fullShare d)
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare (out i x0 x1 x2 x3 x4 x5 x6)) -∗ K ⟨⟩))
      ⊢ wp frame (wpE (defs₀ (F := F)) Variants.none c none) E (cc0_out_proj i arg2 harg2 arg3 harg3 arg4 harg4 arg5 harg5 arg6 harg6 arg7 harg7 arg8 harg8 arg9 harg9) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  iexists _; isplitr
  swap; · iexact H7
  ipureintro
  exact View.read_writes_eq_canon _ _ _ (View.cover_of_tiled _ S1536x512.size (by rfl))

variable (m : (ℓ : Loc nD τ sig) → Buf (Elt F) ℓ) (ρ : Dev nD → PrngReg)

/-- The prompt's block, and zero past the prompt's end. -/
def xs (c : Dev nD) (t : Fin cfg0.N) : Vec F S1536x512 .f32 := win0_4.fill (grid0.coords t) (fun _ => Scalar.ofBits .f32 0#32) (iblk m c 4 t)

def left (c : Dev nD) (t : Fin cfg0.N) : Vec F S1536x512 .f32 :=
  out (grid0.coords t) (iblk m c 0 t) (iblk m c 1 t) (iblk m c 2 t) (iblk m c 3 t) (xs m c t) (iblk m c 5 t) (iblk m c 6 t)

def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xs m c t
    | ⟨5, _⟩ => iblk m c 5 t
    | ⟨6, _⟩ => iblk m c 6 t
    | ⟨7, _⟩ => left m c t
  Φ _ := Pipeline.ΦA spec0 c
  q w := Pipeline.shareOf spec0 w
  owed _ := 0

theorem pdat_A (c : Dev nD) (w : Fin cfg0.W) : (pdat m 0 c).A w = V m c (Pipeline.arrRef spec0 w) := by dsimp only [pdat]

theorem after0 (c : Dev nD) (t : Fin cfg0.N) : (pdat m 0 c).after 0 t = iblk m c 0 t := by dsimp only [pdat]
theorem after1 (c : Dev nD) (t : Fin cfg0.N) : (pdat m 0 c).after 1 t = iblk m c 1 t := by dsimp only [pdat]
theorem after2 (c : Dev nD) (t : Fin cfg0.N) : (pdat m 0 c).after 2 t = iblk m c 2 t := by dsimp only [pdat]
theorem after3 (c : Dev nD) (t : Fin cfg0.N) : (pdat m 0 c).after 3 t = iblk m c 3 t := by dsimp only [pdat]
theorem after4 (c : Dev nD) (t : Fin cfg0.N) : (pdat m 0 c).after 4 t = xs m c t := by dsimp only [pdat]
theorem after5 (c : Dev nD) (t : Fin cfg0.N) : (pdat m 0 c).after 5 t = iblk m c 5 t := by dsimp only [pdat]
theorem after6 (c : Dev nD) (t : Fin cfg0.N) : (pdat m 0 c).after 6 t = iblk m c 6 t := by dsimp only [pdat]
theorem after7 (c : Dev nD) (t : Fin cfg0.N) : (pdat m 0 c).after 7 t = left m c t := by dsimp only [pdat]

theorem before4 (c : Dev nD) (t : Fin cfg0.N) (d) : (pdat m 0 c).before 4 t d = win0_4.fill (grid0.coords t) d (iblk m c 4 t) := by
  unfold Dat.before; rw [if_pos (fetch0_4 t)]; rfl

theorem table_row (t : Fin cfg0.N) : defs₀ (F := F) .tc cfg0.body (cfg0.bodyArgs t (cfg0.slots t)) = bodyAt0 t := by
  unfold defs₀; rw [Defs.onTc_tc]

theorem obligation (c : Dev nD) : BodyObligationLoose (pdat (F := F) m 0 c) (defs₀ (F := F)) Variants.none () Set.univ := fun t => by
  rw [bigSep_W0, bigSep_W0, table_row]
  refine triple_restated (W := wp frame (wpE (defs₀ (F := F)) Variants.none c none) Set.univ (bodyAt0 t)) ?_ rfl .rfl fun _ => .rfl
  unfold bodyAt0
  simp only [before4, before0_0_of m (pdat m 0 c) (pdat_A m c 0) (after0 m c), before0_1_of m (pdat m 0 c) (pdat_A m c 1) (after1 m c), before0_2_of m (pdat m 0 c) (pdat_A m c 2) (after2 m c),
    before0_3_of m (pdat m 0 c) (pdat_A m c 3) (after3 m c), before0_5_of m (pdat m 0 c) (pdat_A m c 5) (after5 m c), before0_6_of m (pdat m 0 c) (pdat_A m c 6) (after6 m c)]
  rw [show (pdat m 0 c).Φ t.succ = (pdat m 0 c).Φ t.castSucc from rfl, after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid0.coords t) _ _ _ _ _ _ _ _ _ _ _ _ _ _ _ _ (iblk m c 0 t) (iblk m c 1 t) (iblk m c 2 t) (iblk m c 3 t) (win0_4.fill (grid0.coords t) d4 (iblk m c 4 t)) (iblk m c 5 t) (iblk m c 6 t) _)
  iframe H0 H1 H2 H3 H4 H5 H6
  isplitl [H7]; · iexists _; iexact H7
  rw [no_tail t _ _ _ _ d4 (fun _ => Scalar.ofBits .f32 0#32)]
  iintro ⟨H0, H1, H2, H3, H4, H5, H6, H7⟩
  iframe HΦ Ho H0 H1 H2 H3
  isplitl [H4]
  · iexists d4
    unfold xs
    rw [win0_4.cut_fill]
    iexact H4
  iframe H5 H6
  iexact H7

set_option backward.isDefEq.respectTransparency.types false in
theorem run : θ_run defs (onTc (τ := τ) (main (F := F))) ⟨m, fun _ => 0, ρ⟩
    (fun r => Pipeline.FramePost cfgs (pdat m) 0 (V m) r ∧ r.2.sem = fun _ => 0) :=
  Pipeline.θ_run_frame_shared (Q' := _) cfgs (pdat m) (0 : Fin 1) launch₀0 defs₀ Variants.none m ρ main
    (hbody := obligation m) (hq := fun _ _ _ => rfl)
    (howed := fun _ _ => rfl) (V := V m) (hmain := hmain m Variants.none) (hA := pdat_A m) (hΦ := fun _ _ => rfl)

/-- The run leaves the arguments as launched. -/
theorem args (c : Dev nD) (r : PUnit × MemSt nD τ sig (Elt F)) (h : Pipeline.FramePost cfgs (pdat m) 0 (V m) r) :
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  ⟨((h c).1 0).trans (((pdat m 0 c).arrAt_in 0 rfl _).trans (V_main_arg0 m c)),
    ((h c).1 1).trans (((pdat m 0 c).arrAt_in 1 rfl _).trans (V_main_arg1 m c)),
    ((h c).2 main_arg2 (Pipeline.mem_restRefs_of main_arg2 (by decide) (by decide))).trans (V_main_arg2 m c),
    ((h c).1 5).trans (((pdat m 0 c).arrAt_in 5 rfl _).trans (V_main_arg3 m c)),
    ((h c).1 6).trans (((pdat m 0 c).arrAt_in 6 rfl _).trans (V_main_arg4 m c))⟩

/-! The kernel and its idealization have the same text, and so the same run. -/

set_option maxHeartbeats 2000000 in
theorem bodies_same : Kernel8.defs₀ (F := F) = defs₀ (F := F) := by
  unfold Kernel8.defs₀ defs₀
  refine congrArg Defs.onTc (funext fun l => funext fun a => ?_)
  match l, a with
  | 0, (t, s) => rfl

theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) ∧ r.2.sem = fun _ => 0) :=
  (θ_run defs _ _).mono (fun r h => ⟨fun c => args m c r h.1, h.2⟩) (run m ρ)

set_option maxHeartbeats 4000000 in
theorem defs_same : Kernel8.defs (F := F) = defs (F := F) := congrArg (Pipeline.defs (pcfgs (F := F))) bodies_same

set_option maxHeartbeats 8000000 in
theorem framed : quiescent_Kernel8 := fun m ρ _ => by
  have h := frame (F := Bits) m ρ
  rw [← defs_same] at h
  exact h

end Cert.Proof.Out

end
-- ==== Proof.Out.Value.lean ====
/-
  The prompt's output projection over the extended reals: what the kernel leaves, entry by entry, and the same entries
  in the reference.
-/
module

public import proofs.«01_k».proof.Proof.Out.Run
public import proofs.«01_k».proof.Proof.Gen.Reference8Ideal.Read

@[expose] public section

set_option maxRecDepth 16384

noncomputable section

namespace Cert.Proof.Out

open Cert.Kernel8Ideal Cert.Kernel8Ideal.Gen
open Idealize.ShloMosaic Idealize.ShloMosaic.TcCoe Idealize.SL.Sem
open Idealize.ShloMosaic.Pipeline (Dat Window)

/-- Row `R` of the prompt behind its 16 first rows, and zero past its end. -/
def row (x : Vec Ideal S16384x4096 .f32) (e : Vec Ideal S16x4096 .f32) (R : Nat) (C : Fin 4096) : EReal :=
  if h : R < 16400 then (if h' : R < 16 then e (ix2 ⟨R, h'⟩ C) else x (ix2 ⟨R - 16, by omega⟩ C)) else 0

/-- The prompt's rows and, added to them, the two halves' products with the weight's two halves. -/
def whole (a b : Vec Ideal S16896x2048 .bf16) (w : Vec Ideal S4096x4096 .bf16) (x : Vec Ideal S16384x4096 .f32) (e : Vec Ideal S16x4096 .f32) :
    Vec Ideal S16896x4096 .f32 := fun y => row x e (y 0).val (y 1)
  + (∑ k : Fin 2048, a (ix2 (y 0) k) * w (ix2 ⟨k.val, by omega⟩ (y 1)) + ∑ k : Fin 2048, b (ix2 (y 0) k) * w (ix2 ⟨2048 + k.val, by omega⟩ (y 1)))

theorem block (i : grid0.Coords) (x0 x1 : Vec Ideal S1536x2048 .bf16) (x2 x3 : Vec Ideal S2048x512 .bf16) (x4 : Vec Ideal S1536x512 .f32) (x5 x6 : Vec Ideal S16x512 .f32)
    (r : Fin 1536) (n : Fin 512) : out i x0 x1 x2 x3 x4 x5 x6 (ix2 r n) = (if (i 0).val * 1536 + r.val < 16400 then
      (if h : r.val < 16 then (if (i 0).val = 0 then x6 (ix2 ⟨r.val, h⟩ n) else x5 (ix2 ⟨r.val, h⟩ n)) else x4 (ix2 ⟨r.val - 16, by omega⟩ n)) else 0)
      + (∑ k : Fin 2048, x0 (ix2 r k) * x2 (ix2 k n) + ∑ k : Fin 2048, x1 (ix2 r k) * x3 (ix2 k n)) := by
  frame_out
  pointwise [k0_pay1]
  rw [row_word _ _ (i 0).isLt r.isLt, Proj.first_word _ (by have h : (i 0).val < 11 := (i 0).isLt; omega)]
  simp only [Proj.pick]

variable (m : (ℓ : Loc nD τ sig) → Buf (Elt Ideal) ℓ) (ρ : Dev nD → PrngReg) (c : Dev nD)

theorem idx : ∀ t : Fin cfg0.N, win0_0.index t = ![(grid0.coords t 0).val, 0] ∧ win0_1.index t = ![(grid0.coords t 0).val, 0]
    ∧ win0_2.index t = ![0, (grid0.coords t 1).val] ∧ win0_3.index t = ![1, (grid0.coords t 1).val]
    ∧ win0_4.index t = ![(grid0.coords t 0).val, (grid0.coords t 1).val] ∧ win0_5.index t = ![min 1023 (96 * (grid0.coords t 0).val - 1), (grid0.coords t 1).val]
    ∧ win0_6.index t = ![0, (grid0.coords t 1).val] ∧ win0_7.index t = ![(grid0.coords t 0).val, (grid0.coords t 1).val] :=
  (by decide +kernel : ∀ t : Fin grid0.N, _)
theorem lt0 (i : grid0.Coords) : (i 0).val < 11 := (i 0).isLt
theorem lt1 (i : grid0.Coords) : (i 1).val < 8 := (i 1).isLt

theorem in0 (t : Fin cfg0.N) (r : Fin 1536) (k : Fin 2048) : iblk m c 0 t (ix2 r k)
    = V m c main_arg0 (ix2 ⟨1536 * (grid0.coords t 0).val + r.val, by have := lt0 (grid0.coords t); omega⟩ k : S16896x2048.Idx) := by
  blk_simp [iblk]
  blk_ext [idx t]
theorem in1 (t : Fin cfg0.N) (r : Fin 1536) (k : Fin 2048) : iblk m c 1 t (ix2 r k)
    = V m c main_arg1 (ix2 ⟨1536 * (grid0.coords t 0).val + r.val, by have := lt0 (grid0.coords t); omega⟩ k : S16896x2048.Idx) := by
  blk_simp [iblk]
  blk_ext [idx t]
theorem in2 (t : Fin cfg0.N) (k : Fin 2048) (n : Fin 512) : iblk m c 2 t (ix2 k n)
    = V m c main_v0 (ix2 ⟨k.val, by omega⟩ ⟨512 * (grid0.coords t 1).val + n.val, by have := lt1 (grid0.coords t); omega⟩ : S4096x4096.Idx) := by
  blk_simp [iblk]
  blk_ext [idx t]
theorem in3 (t : Fin cfg0.N) (k : Fin 2048) (n : Fin 512) : iblk m c 3 t (ix2 k n)
    = V m c main_v0 (ix2 ⟨2048 + k.val, by omega⟩ ⟨512 * (grid0.coords t 1).val + n.val, by have := lt1 (grid0.coords t); omega⟩ : S4096x4096.Idx) := by
  blk_simp [iblk]
  blk_ext [idx t]
theorem in4 (t : Fin cfg0.N) (r : Fin 1536) (n : Fin 512) (h : 1536 * (grid0.coords t 0).val + r.val < 16384) : xs m c t (ix2 r n)
    = V m c main_arg3 (ix2 ⟨1536 * (grid0.coords t 0).val + r.val, h⟩ ⟨512 * (grid0.coords t 1).val + n.val, by have := lt1 (grid0.coords t); omega⟩ : S16384x4096.Idx) := by
  unfold xs Window.fill
  rw [dif_pos (inside t (ix2 r n) h)]
  blk_simp [iblk]
  blk_ext [idx t]
theorem in5 (t : Fin cfg0.N) (r : Fin 16) (n : Fin 512) : iblk m c 5 t (ix2 r n)
    = V m c main_arg3 (ix2 ⟨16 * min 1023 (96 * (grid0.coords t 0).val - 1) + r.val, by omega⟩ ⟨512 * (grid0.coords t 1).val + n.val, by have := lt1 (grid0.coords t); omega⟩ : S16384x4096.Idx) := by
  blk_simp [iblk]
  blk_ext [idx t]
theorem in6 (t : Fin cfg0.N) (r : Fin 16) (n : Fin 512) : iblk m c 6 t (ix2 r n)
    = V m c main_arg4 (ix2 r ⟨512 * (grid0.coords t 1).val + n.val, by have := lt1 (grid0.coords t); omega⟩ : S16x4096.Idx) := by
  blk_simp [iblk]
  blk_ext [idx t]
theorem out7 (t : Fin cfg0.N) (r : Fin 1536) (n : Fin 512) : (win0_7.blk t).view.emb (ix2 r n)
    = (ix2 ⟨1536 * (grid0.coords t 0).val + r.val, by have := lt0 (grid0.coords t); omega⟩ ⟨512 * (grid0.coords t 1).val + n.val, by have := lt1 (grid0.coords t); omega⟩ : S16896x4096.Idx) := by
  blk_ext [idx t]

theorem rows_read (t : Fin cfg0.N) (r : Fin 1536) (n : Fin 512) : (if (grid0.coords t 0).val * 1536 + r.val < 16400 then
      (if h : r.val < 16 then (if (grid0.coords t 0).val = 0 then iblk m c 6 t (ix2 ⟨r.val, h⟩ n) else iblk m c 5 t (ix2 ⟨r.val, h⟩ n)) else xs m c t (ix2 ⟨r.val - 16, by omega⟩ n)) else (0 : EReal))
    = row (V m c main_arg3) (V m c main_arg4) (1536 * (grid0.coords t 0).val + r.val) ⟨512 * (grid0.coords t 1).val + n.val, by have := lt1 (grid0.coords t); omega⟩ := by
  have hi := lt0 (grid0.coords t)
  unfold row
  by_cases h1 : (grid0.coords t 0).val * 1536 + r.val < 16400
  · rw [if_pos h1, dif_pos (show 1536 * (grid0.coords t 0).val + r.val < 16400 by omega)]
    by_cases h2 : r.val < 16
    · rw [dif_pos h2]
      by_cases h3 : (grid0.coords t 0).val = 0
      · rw [if_pos h3, dif_pos (by omega), in6]
        exact congrArg (fun q : Fin 16 => V m c main_arg4 (ix2 q _ : S16x4096.Idx)) (Fin.ext (by show r.val = 1536 * (grid0.coords t 0).val + r.val; omega))
      · rw [if_neg h3, dif_neg (by omega), in5]
        exact congrArg (fun q : Fin 16384 => V m c main_arg3 (ix2 q _ : S16384x4096.Idx)) (Fin.ext (by show 16 * min 1023 (96 * (grid0.coords t 0).val - 1) + r.val = 1536 * (grid0.coords t 0).val + r.val - 16; omega))
    · rw [dif_neg h2, dif_neg (show ¬1536 * (grid0.coords t 0).val + r.val < 16 by omega), in4 m c t _ n (by show 1536 * (grid0.coords t 0).val + (r.val - 16) < 16384; omega)]
      exact congrArg (fun q : Fin 16384 => V m c main_arg3 (ix2 q _ : S16384x4096.Idx)) (Fin.ext (by show 1536 * (grid0.coords t 0).val + (r.val - 16) = 1536 * (grid0.coords t 0).val + r.val - 16; omega))
  · rw [if_neg h1, dif_neg (by omega)]

theorem leaves : (pdat m 0 c).arrAt 7 cfg0.N = whole (V m c main_arg0) (V m c main_arg1) (V m c main_v0) (V m c main_arg3) (V m c main_arg4) := by
  refine (pdat m 0 c).arrAt_eq_of_covers 7 _ (by decide +kernel) fun t _ y => ?_
  blk_simp
  rw [after7]
  obtain ⟨r, n, rfl⟩ : ∃ (r : Fin 1536) (n : Fin 512), y = ix2 r n :=
    ⟨⟨(y 0).val, (y 0).isLt⟩, ⟨(y 1).val, (y 1).isLt⟩, by funext a; fin_cases a <;> rfl⟩
  refine (block _ _ _ _ _ _ _ _ r n).trans ?_
  rw [rows_read]
  simp only [in0, in1, in2, in3]
  exact (congrArg (whole (V m c main_arg0) (V m c main_arg1) (V m c main_v0) (V m c main_arg3) (V m c main_arg4)) (out7 t r n)).symm

/-- The weight, converted, is itself. -/
theorem weight : V m c main_v0 = m (c.tc.loc main_arg2) := by
  unfold V
  simp only [hostOps0, StableHlo.after_cons, StableHlo.after_nil]
  rfl

/-- What a run leaves. -/
theorem ends (r : PUnit × MemSt nD τ sig (Elt Ideal)) (h : Pipeline.FramePost cfgs (pdat m) 0 (V m) r) :
    r.2.mem (c.tc.loc main_v1) = whole (m (c.tc.loc main_arg0)) (m (c.tc.loc main_arg1)) (m (c.tc.loc main_arg2))
      (m (c.tc.loc main_arg3)) (m (c.tc.loc main_arg4)) := by
  refine ((h c).1 7).trans ((leaves m c).trans ?_)
  rw [V_main_arg0, V_main_arg1, V_main_arg3, V_main_arg4, weight]

/-! ## The reference -/

section Plain
open Cert.Reference8Ideal.Read
variable (a b : Vec Ideal S16896x2048 .bf16) (w : Vec Ideal S4096x4096 .f32) (x : Vec Ideal S16384x4096 .f32) (e : Vec Ideal S16x4096 .f32)

theorem rows_plain (r : Fin 16896) (n : Fin 4096) : val_main_v1 (F := Ideal) x e (ix2 r n) = row x e r.val n := by
  unfold val_main_v1 val_main_v0 row
  pointwise [val_main_call0_v0, val_main_c]
  rw [show FloatOps.sitofp (F := Ideal) .f32 0#32 = 0 from by simp [FloatOps.sitofp]]

theorem halves (r : Fin 16896) (q : Fin 4096) : val_main_v3 (F := Ideal) a b (ix2 r q) = if h : q.val < 2048 then a (ix2 r ⟨q.val, h⟩) else b (ix2 r ⟨q.val - 2048, by omega⟩) := by
  rw [val_main_v3_apply]
  unfold val_main_v2
  pointwise

theorem plain : val_main_v5 (F := Ideal) a b w x e = whole a b w x e := by
  funext y
  obtain ⟨r, n, rfl⟩ : ∃ (r : Fin 16896) (n : Fin 4096), y = ix2 r n :=
    ⟨⟨(y 0).val, (y 0).isLt⟩, ⟨(y 1).val, (y 1).isLt⟩, by funext a; fin_cases a <;> rfl⟩
  rw [val_main_v5_apply, rows_plain, val_main_v4_apply]
  refine congrArg (row x e r.val n + ·) ?_
  refine (Fin.sum_univ_add (a := 2048) (b := 2048) _).trans (congrArg₂ (· + ·) (Finset.sum_congr rfl fun k _ => congrArg₂ (· * ·) ?_ ?_) (Finset.sum_congr rfl fun k _ => congrArg₂ (· * ·) ?_ ?_))
  · refine (congrArg (val_main_v3 (F := Ideal) a b) (by funext a; fin_cases a <;> rfl)).trans ((halves a b r (Fin.castAdd 2048 k)).trans ?_)
    exact dif_pos k.isLt
  · exact congrArg w (by funext a; fin_cases a <;> rfl)
  · refine (congrArg (val_main_v3 (F := Ideal) a b) (by funext a; fin_cases a <;> rfl)).trans ((halves a b r (Fin.natAdd 2048 k)).trans ?_)
    refine (dif_neg (by show ¬2048 + k.val < 2048; omega)).trans ?_
    exact congrArg (fun q : Fin 2048 => b (ix2 r q)) (Fin.ext (Nat.add_sub_cancel_left 2048 k.val))
  · exact congrArg w (by funext a; fin_cases a <;> rfl)

end Plain

end Cert.Proof.Out

end
-- ==== Proof.lean ====
module

public import proofs.«01_k».proof.Proof.Gen.ReferenceIdeal.Run
public import proofs.«01_k».proof.Proof.Gen.ReferenceIdeal.Read
public import proofs.«01_k».proof.Proof.SbBits.Frame
public import proofs.«01_k».proof.Proof.SbIdeal.Frame
public import proofs.«01_k».proof.Proof.SbVal.Plain
public import proofs.«01_k».proof.Proof.Down.Plain
public import proofs.«01_k».proof.Proof.Up.Plain
public import proofs.«01_k».proof.Proof.Up.Both
public import proofs.«01_k».proof.Proof.DownS.Plain
public import proofs.«01_k».proof.Proof.Proj.Plain
public import proofs.«01_k».proof.Proof.Proj.Both
public import proofs.«01_k».proof.Proof.ProjS.Plain
public import proofs.«01_k».proof.Proof.ProjS.Both
public import proofs.«01_k».proof.Proof.UpS.Plain
public import proofs.«01_k».proof.Proof.Out.Value
public import proofs.«01_k».proof.Proof.Gen.Kernel8
public import proofs.«01_k».proof.Proof.Gen.Kernel8.Launch
public import proofs.«01_k».proof.Proof.Gen.Kernel8.Skeleton
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel7
public import proofs.«01_k».proof.Proof.Gen.Kernel7.Launch
public import proofs.«01_k».proof.Proof.Gen.Kernel7.Skeleton
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4.Launch
public import proofs.«01_k».proof.Proof.Gen.Kernel4.Skeleton
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Launch
public import proofs.«01_k».proof.Proof.Gen.Kernel5.Skeleton
public import proofs.«01_k».proof.Proof.Gen.Kernel5.Points
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Launch
public import proofs.«01_k».proof.Proof.Gen.Kernel6.Skeleton
public import proofs.«01_k».proof.Proof.Gen.Kernel6.Points
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Lib.Quiescent
public import Idealize.ShloMosaic.Adequacy
public import Idealize.ShloMosaic.Init

@[expose] public section

noncomputable section

namespace Cert.Proof

open Idealize.ShloMosaic Idealize.SL.Sem

/-- Both programs leave the arguments' stick-breaking attention, head by head normalized. -/
theorem equal [KernelIdeal.Facts] [ReferenceIdeal.Facts] : algebraic_KernelIdeal_ReferenceIdeal := by
  intro m g m' g' _ hin
  refine ⟨_, (θ_run KernelIdeal.defs _ _).mono (fun r h c => ⟨(h.1 c).1.trans (SbVal.final m c), (h.1 c).2⟩) (SbIdeal.run_all m g), ?_⟩
  refine (θ_run ReferenceIdeal.defs _ _).mono (fun r h c => ⟨(h c).1.trans ?_, (h c).2⟩) (ReferenceIdeal.Value.run (F := Ideal) m' g')
  rw [ReferenceIdeal.Read.val_main_v46_eq, (hin c).1, (hin c).2.1, (hin c).2.2.1, (hin c).2.2.2]
  exact SbVal.plain _ _ _ _

/-- Both programs leave the final norm of the residual plus the down-projection. -/
theorem equal2 [Kernel2Ideal.Facts] [Reference2Ideal.Facts] : algebraic_Kernel2Ideal_Reference2Ideal := by
  intro m g m' g' _ hin
  refine ⟨_, (θ_run Kernel2Ideal.defs _ _).mono (fun r h c => Down.ends m g h.1 c) (Down.run m g), ?_⟩
  refine (θ_run Reference2Ideal.defs _ _).mono (fun r h c => ⟨(h c).1.trans ?_, (h c).2⟩) (Reference2Ideal.Value.run (F := Ideal) m' g')
  rw [Reference2Ideal.Read.val_main_v18_eq, (hin c).1, (hin c).2.1, (hin c).2.2.1, (hin c).2.2.2]
  exact Down.plain _ _ _ _

/-- Both programs leave the gated convolution of the normed up-projection, and the last two rows of the projection. -/
theorem equal3 [Kernel3Ideal.Facts] [Reference3Ideal.Facts] : algebraic_Kernel3Ideal_Reference3Ideal := by
  intro m g m' g' _ hin
  refine ⟨_, _, (θ_run Kernel3Ideal.defs _ _).mono (fun r h c => (h.1 c).elim fun γ hγ => Up.ends m g c γ hγ) (Up.run m g (Up.said m g)), ?_⟩
  refine (θ_run Reference3Ideal.defs _ _).mono (fun r h c => ⟨(h c).1.trans ?_, (h c).2.1.trans ?_, (h c).2.2⟩)
    (Reference3Ideal.Value.run (F := Ideal) m' g')
  · rw [Reference3Ideal.Read.val_main_v40_eq, (hin c).1, (hin c).2.1, (hin c).2.2.1, (hin c).2.2.2]
    exact Up.plain_act _ _ _ _
  · rw [Reference3Ideal.Read.val_main_v42_eq, (hin c).1, (hin c).2.1, (hin c).2.2.1]
    exact Up.plain_rows _ _ _

/-- The same of the sample's rows. -/
theorem equal4 [Kernel4Ideal.Facts] [Reference4Ideal.Facts] : algebraic_Kernel4Ideal_Reference4Ideal := by
  intro m g m' g' _ hin
  refine ⟨_, (θ_run Kernel4Ideal.defs _ _).mono (fun r h c => DownS.ends m g h.1 c) (DownS.run m g), ?_⟩
  refine (θ_run Reference4Ideal.defs _ _).mono (fun r h c => ⟨(h c).1.trans ?_, (h c).2⟩) (Reference4Ideal.Value.run (F := Ideal) m' g')
  rw [Reference4Ideal.Read.val_main_v15_eq, (hin c).1, (hin c).2.1, (hin c).2.2.1, (hin c).2.2.2]
  exact DownS.plain _ _ _ _

/-- Both programs leave the norm of the prompt's rows times the columns of the weight: queries, keys, values, the recurrent part's and its gates. -/
theorem equal5 [Kernel5Ideal.Facts] [Reference5Ideal.Facts] : algebraic_Kernel5Ideal_Reference5Ideal := by
  intro m g m' g' _ hin
  refine ⟨_, _, _, _, _, _, _, (θ_run Kernel5Ideal.defs _ _).mono (fun r h c => Proj.ends m g c h.1) (Proj.run m g), ?_⟩
  refine (θ_run Reference5Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Reference5Ideal.Value.run (F := Ideal) m' g')
  · rw [Reference5Ideal.Read.val_main_v21_eq, (hin c).1, (hin c).2.1, (hin c).2.2.1, (hin c).2.2.2]
    exact Proj.plain0 _ _ _ _
  · rw [Reference5Ideal.Read.val_main_v16_eq, (hin c).1, (hin c).2.1, (hin c).2.2.1, (hin c).2.2.2]
    exact Proj.plain1 _ _ _ _
  · rw [Reference5Ideal.Read.val_main_v23_eq, (hin c).1, (hin c).2.1, (hin c).2.2.1, (hin c).2.2.2]
    exact Proj.plain2 _ _ _ _
  · rw [Reference5Ideal.Read.val_main_v17_eq, (hin c).1, (hin c).2.1, (hin c).2.2.1, (hin c).2.2.2]
    exact Proj.plain3 _ _ _ _
  · rw [Reference5Ideal.Read.val_main_v25_eq, (hin c).1, (hin c).2.1, (hin c).2.2.1, (hin c).2.2.2]
    exact Proj.plain4 _ _ _ _
  · rw [Reference5Ideal.Read.val_main_v26_eq, (hin c).1, (hin c).2.1, (hin c).2.2.1, (hin c).2.2.2]
    exact Proj.plain5 _ _ _ _
  · rw [Reference5Ideal.Read.val_main_v27_eq, (hin c).1, (hin c).2.1, (hin c).2.2.1, (hin c).2.2.2]
    exact Proj.plain6 _ _ _ _

/-- Both programs leave the norm of the sample's rows times the keys' and the values' columns. -/
theorem equal6 [Kernel6Ideal.Facts] [Reference6Ideal.Facts] : algebraic_Kernel6Ideal_Reference6Ideal := by
  intro m g m' g' _ hin
  refine ⟨_, _, _, _, (θ_run Kernel6Ideal.defs _ _).mono (fun r h c => ProjS.ends m g c h.1) (ProjS.run m g), ?_⟩
  refine (θ_run Reference6Ideal.defs _ _).mono (fun r h c => ⟨(h c).1.trans ?_, (h c).2.1.trans ?_, (h c).2.2.1.trans ?_, (h c).2.2.2.1.trans ?_, (h c).2.2.2.2⟩)
    (Reference6Ideal.Value.run (F := Ideal) m' g')
  · rw [Reference6Ideal.Read.val_main_v14_eq, (hin c).1, (hin c).2.1, (hin c).2.2]
    exact ProjS.plain0 _ _ _
  · rw [Reference6Ideal.Read.val_main_v16_eq, (hin c).1, (hin c).2.1, (hin c).2.2]
    exact ProjS.plain1 _ _ _
  · rw [Reference6Ideal.Read.val_main_v15_eq, (hin c).1, (hin c).2.1, (hin c).2.2]
    exact ProjS.plain2 _ _ _
  · rw [Reference6Ideal.Read.val_main_v17_eq, (hin c).1, (hin c).2.1, (hin c).2.2]
    exact ProjS.plain3 _ _ _

/-- Both programs leave the gated convolution of the sample's normed up-projection, and the last two rows of each of its sequences' projections. -/
theorem equal7 [Kernel7Ideal.Facts] [Reference7Ideal.Facts] : algebraic_Kernel7Ideal_Reference7Ideal := by
  intro m g m' g' _ hin
  refine ⟨_, _, (θ_run Kernel7Ideal.defs _ _).mono (fun r h c => UpS.ends m g h.1 c) (UpS.run m g), ?_⟩
  refine (θ_run Reference7Ideal.defs _ _).mono (fun r h c => ⟨(h c).1.trans ?_, (h c).2.1.trans ?_, (h c).2.2⟩)
    (Reference7Ideal.Value.run (F := Ideal) m' g')
  · rw [Reference7Ideal.Read.val_main_v41_eq, (hin c).1, (hin c).2.1, (hin c).2.2.1, (hin c).2.2.2.1, (hin c).2.2.2.2]
    exact UpS.plain_act _ _ _ _ _
  · rw [Reference7Ideal.Read.val_main_v42_eq, (hin c).1, (hin c).2.1, (hin c).2.2.1, (hin c).2.2.2.2]
    exact UpS.plain_rows _ _ _ _

/-- Both programs leave the prompt's rows plus the two attentions' rows times the weight. -/
theorem equal8 [Kernel8Ideal.Facts] [Reference8Ideal.Facts] : algebraic_Kernel8Ideal_Reference8Ideal := by
  intro m g m' g' _ hin
  refine ⟨_, (θ_run Kernel8Ideal.defs _ _).mono (fun r h c => ⟨Out.ends m c r h.1, Out.args m c r h.1⟩) (Out.run m g), ?_⟩
  refine (θ_run Reference8Ideal.defs _ _).mono (fun r h c => ⟨(h c).1.trans ?_, (h c).2⟩) (Reference8Ideal.Value.run (F := Ideal) m' g')
  rw [Reference8Ideal.Read.val_main_v5_eq, (hin c).1, (hin c).2.1, (hin c).2.2.1, (hin c).2.2.2.1, (hin c).2.2.2.2]
  exact Out.plain _ _ _ _ _

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  fun m ρ _ => SbBits.framed m ρ,
  fun m ρ _ => SbIdeal.framed m ρ,
  fun m ρ _ => (θ_run ReferenceIdeal.defs _ _).mono (fun r h => ⟨fun c => (h c).2, sem_eq_zero_of_no_sems (by decide) r.2⟩)
    (ReferenceIdeal.Value.run (F := Ideal) m ρ),
  fun m ρ _ => Kernel2.Gen.frame m ρ,
  fun m ρ _ => Kernel2Ideal.Gen.frame m ρ,
  fun m ρ _ => (θ_run Reference2Ideal.defs _ _).mono (fun r h => ⟨fun c => (h c).2, sem_eq_zero_of_no_sems (by decide) r.2⟩)
    (Reference2Ideal.Value.run (F := Ideal) m ρ),
  Up.framed,
  fun m ρ _ => Up.frame m ρ,
  fun m ρ _ => (θ_run Reference3Ideal.defs _ _).mono (fun r h => ⟨fun c => (h c).2.2, sem_eq_zero_of_no_sems (by decide) r.2⟩)
    (Reference3Ideal.Value.run (F := Ideal) m ρ),
  fun m ρ _ => Kernel4.Gen.frame m ρ,
  fun m ρ _ => Kernel4Ideal.Gen.frame m ρ,
  fun m ρ _ => (θ_run Reference4Ideal.defs _ _).mono (fun r h => ⟨fun c => (h c).2, sem_eq_zero_of_no_sems (by decide) r.2⟩)
    (Reference4Ideal.Value.run (F := Ideal) m ρ),
  Proj.framed,
  fun m ρ _ => Proj.frame m ρ,
  fun m ρ _ => (θ_run Reference5Ideal.defs _ _).mono (fun r h => ⟨fun c => (h c).2.2.2.2.2.2.2, sem_eq_zero_of_no_sems (by decide) r.2⟩)
    (Reference5Ideal.Value.run (F := Ideal) m ρ),
  ProjS.framed,
  fun m ρ _ => ProjS.frame m ρ,
  fun m ρ _ => (θ_run Reference6Ideal.defs _ _).mono (fun r h => ⟨fun c => (h c).2.2.2.2, sem_eq_zero_of_no_sems (by decide) r.2⟩)
    (Reference6Ideal.Value.run (F := Ideal) m ρ),
  fun m ρ _ => Kernel7.Gen.frame m ρ,
  fun m ρ _ => Kernel7Ideal.Gen.frame m ρ,
  fun m ρ _ => (θ_run Reference7Ideal.defs _ _).mono (fun r h => ⟨fun c => (h c).2.2, sem_eq_zero_of_no_sems (by decide) r.2⟩)
    (Reference7Ideal.Value.run (F := Ideal) m ρ),
  Out.framed,
  fun m ρ _ => Out.frame m ρ,
  fun m ρ _ => (θ_run Reference8Ideal.defs _ _).mono (fun r h => ⟨fun c => (h c).2, sem_eq_zero_of_no_sems (by decide) r.2⟩)
    (Reference8Ideal.Value.run (F := Ideal) m ρ),
  IdealRules.named_const.statement KernelIdeal.κ "dead" .f32 0xC2F00000#32 ⊥ rfl,
  equal,
  trivial,
  equal2,
  trivial,
  equal3,
  trivial,
  equal4,
  trivial,
  equal5,
  trivial,
  equal6,
  trivial,
  equal7,
  trivial,
  equal8⟩

end Cert.Proof

end
